-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)) (v4 : (c : Dev Cert.Kernel2Ideal.nD) → Buf (Elt Ideal) ((c.tc : Thread Cert.Kernel2Ideal.nD Cert.Kernel2Ideal.τ).loc Cert.Kernel2Ideal.main_v15_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_v15_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v75) = v2 c
          ∧ r.2.mem ((c.tc : Thread Cert.Reference2Ideal.nD Cert.Reference2Ideal.τ).loc Cert.Reference2Ideal.main_v81) = v3 c
          ∧ r.2.mem ((c.tc : Thread Cert.Reference2Ideal.nD Cert.Reference2Ideal.τ).loc Cert.Reference2Ideal.main_v90) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v64) = v1 c
          ∧ r.2.mem ((c.tc : Thread Cert.Reference4Ideal.nD Cert.Reference4Ideal.τ).loc Cert.Reference4Ideal.main_v67) = v2 c
          ∧ r.2.mem ((c.tc : Thread Cert.Reference4Ideal.nD Cert.Reference4Ideal.τ).loc Cert.Reference4Ideal.main_v68) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_logits_finite : Cert.Pre_logits_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_logits_finite (hKernelIdeal := hKernelIdeal) (hReferenceIdeal := hReferenceIdeal) (hPre_logits_finite := hPre_logits_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_logits_finite.lean ====
abbrev S16384x512 : Shape := ⟨2, ![16384, 512]⟩
abbrev S1x8x15x31 : Shape := ⟨4, ![1, 8, 15, 31]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1x8x15x31 : S_.BroadcastsInDim S1x8x15x31 (![] : Fin 0 → Fin S1x8x15x31.rank)
  reducesTo_S1x8x15x31_S_d0_1_2_3 : S1x8x15x31.ReducesTo [0, 1, 2, 3] S_

variable [Facts]

def fn_part1 {F : FTy → Type} [FloatOps F] (main_arg3 : FVec F S1x8x15x31 .f32) (main_v12 : IVec S_ 1) (main_v14 : IVec S1x8x15x31 1) (main_v15 : FVec F S1x8x15x31 .f32) : IVec S_ 1 :=
  let main_v16 : IVec S1x8x15x31 1 := cmpf .olt main_arg3 main_v15
  let main_v17 : IVec S1x8x15x31 1 := andi main_v14 main_v16
  let main_c_6 : IVec S_ 1 := constantI S_ 1 1#1
  let main_v18 : IVec S_ 1 := (fun x v => Host.reduce IntOp.andi x v reducesTo_S1x8x15x31_S_d0_1_2_3 h_S_) main_v17 main_c_6
  let main_v19 : IVec S_ 1 := andi main_v12 main_v18
  main_v19

def fn {F : FTy → Type} [FloatOps F] (main_arg0 : FVec F S16384x512 .bf16) (main_arg1 : FVec F S16384x512 .bf16) (main_arg2 : FVec F S16384x512 .bf16) (main_arg3 : FVec F S1x8x15x31 .f32) : IVec S_ 1 :=
  let main_cst : FVec F S_ .bf16 := constant S_ .bf16 0xFF80#16
  let main_v0 : FVec F S16384x512 .bf16 := broadcastInDim S16384x512 ![] bcast_S_S16384x512 main_cst
  let main_v1 : IVec S16384x512 1 := cmpf .ogt main_arg0 main_v0
  let main_cst_0 : FVec F S_ .bf16 := constant S_ .bf16 0x7F80#16
  let main_v2 : FVec F S16384x512 .bf16 := broadcastInDim S16384x512 ![] bcast_S_S16384x512 main_cst_0
  let main_v3 : IVec S16384x512 1 := cmpf .olt main_arg0 main_v2
  let main_v4 : IVec S16384x512 1 := andi main_v1 main_v3
  let main_c : IVec S_ 1 := constantI S_ 1 1#1
  let main_v5 : IVec S_ 1 := (fun x v => Host.reduce IntOp.andi x v reducesTo_S16384x512_S_d0_1 h_S_) main_v4 main_c
  let main_cst_1 : FVec F S_ .bf16 := constant S_ .bf16 0xFF80#16
  let main_v6 : FVec F S16384x512 .bf16 := broadcastInDim S16384x512 ![] bcast_S_S16384x512 main_cst_1
  let main_v7 : IVec S16384x512 1 := cmpf .ogt main_arg1 main_v6
  let main_cst_2 : FVec F S_ .bf16 := constant S_ .bf16 0x7F80#16
  let main_v8 : FVec F S16384x512 .bf16 := broadcastInDim S16384x512 ![] bcast_S_S16384x512 main_cst_2
  let main_v9 : IVec S16384x512 1 := cmpf .olt main_arg1 main_v8
  let main_v10 : IVec S16384x512 1 := andi main_v7 main_v9
  let main_c_3 : IVec S_ 1 := constantI S_ 1 1#1
  let main_v11 : IVec S_ 1 := (fun x v => Host.reduce IntOp.andi x v reducesTo_S16384x512_S_d0_1 h_S_) main_v10 main_c_3
  let main_v12 : IVec S_ 1 := andi main_v5 main_v11
  let main_cst_4 : FVec F S_ .f32 := constant S_ .f32 0xFF800000#32
  let main_v13 : FVec F S1x8x15x31 .f32 := broadcastInDim S1x8x15x31 ![] bcast_S_S1x8x15x31 main_cst_4
  let main_v14 : IVec S1x8x15x31 1 := cmpf .ogt main_arg3 main_v13
  let main_cst_5 : FVec F S_ .f32 := constant S_ .f32 0x7F800000#32
  let main_v15 : FVec F S1x8x15x31 .f32 := broadcastInDim S1x8x15x31 ![] bcast_S_S1x8x15x31 main_cst_5
  fn_part1 (F := F) main_arg3 main_v12 main_v14 main_v15
-- ==== Kernel.lean ====
abbrev S16384x512 : Shape := ⟨2, ![16384, 512]⟩
abbrev S1x8x15x31 : Shape := ⟨4, ![1, 8, 15, 31]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S8x8x1 : Shape := ⟨3, ![8, 8, 1]⟩
abbrev S8x8x8x31 : Shape := ⟨4, ![8, 8, 8, 31]⟩
abbrev S64x64x1 : Shape := ⟨3, ![64, 64, 1]⟩
abbrev S8x8x8x64x64 : Shape := ⟨5, ![8, 8, 8, 64, 64]⟩
abbrev S8x8x64x8x64 : Shape := ⟨5, ![8, 8, 64, 8, 64]⟩
abbrev S1x1x64x1x64 : Shape := ⟨5, ![1, 1, 64, 1, 64]⟩
abbrev S8x512x512 : Shape := ⟨3, ![8, 512, 512]⟩
abbrev S256x64x512 : Shape := ⟨3, ![256, 64, 512]⟩
abbrev S8x64x512 : Shape := ⟨3, ![8, 64, 512]⟩
abbrev S24x64x512 : Shape := ⟨3, ![24, 64, 512]⟩
abbrev S64x256 : Shape := ⟨2, ![64, 256]⟩
abbrev S512x512 : Shape := ⟨2, ![512, 512]⟩
abbrev S1x64x512 : Shape := ⟨3, ![1, 64, 512]⟩
abbrev S64x512 : Shape := ⟨2, ![64, 512]⟩
abbrev S256x256 : Shape := ⟨2, ![256, 256]⟩
abbrev S512x256 : Shape := ⟨2, ![512, 256]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩

abbrev nBuf : Space → Nat
  | .hbm => 93
  | .vmem => 19
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S1x8x15x31, .f32⟩
  | .hbm, ⟨4, _⟩ => ⟨S8x15x31, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S1x64, .i32⟩
  | .hbm, ⟨19, _⟩ => ⟨S64x1, .i32⟩
  | .hbm, ⟨20, _⟩ => ⟨S64x64, .i32⟩
  | .hbm, ⟨21, _⟩ => ⟨S64x64, .i32⟩
  | .hbm, ⟨22, _⟩ => ⟨S64x64, .i1⟩
  | .hbm, ⟨23, _⟩ => ⟨S1x64, .i32⟩
  | .hbm, ⟨24, _⟩ => ⟨S64x1, .i32⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S64x64, .i32⟩
  | .hbm, ⟨29, _⟩ => ⟨S64x64, .i32⟩
  | .hbm, ⟨30, _⟩ => ⟨S64x64, .i1⟩
  | .hbm, ⟨31, _⟩ => ⟨S64x64, .i1⟩
  | .hbm, ⟨32, _⟩ => ⟨S1x64, .i32⟩
  | .hbm, ⟨33, _⟩ => ⟨S64x1, .i32⟩
  | .hbm, ⟨34, _⟩ => ⟨S64x64, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S8, .i32⟩
  | .hbm, ⟨45, _⟩ => ⟨S1x8, .i32⟩
  | .hbm, ⟨46, _⟩ => ⟨S_, .i32⟩
  | .hbm, ⟨47, _⟩ => ⟨S1x8, .i32⟩
  | .hbm, ⟨48, _⟩ => ⟨S1x8, .i32⟩
  | .hbm, ⟨49, _⟩ => ⟨S8, .i32⟩
  | .hbm, ⟨50, _⟩ => ⟨S8x1, .i32⟩
  | .hbm, ⟨51, _⟩ => ⟨S8x8, .i32⟩
  | .hbm, ⟨52, _⟩ => ⟨S8x8, .i32⟩
  | .hbm, ⟨53, _⟩ => ⟨S8x8, .i32⟩
  | .hbm, ⟨54, _⟩ => ⟨S_, .i32⟩
  | .hbm, ⟨55, _⟩ => ⟨S8x8, .i32⟩
  | .hbm, ⟨56, _⟩ => ⟨S8x8, .i1⟩
  | .hbm, ⟨57, _⟩ => ⟨S_, .i32⟩
  | .hbm, ⟨58, _⟩ => ⟨S8x8, .i32⟩
  | .hbm, ⟨59, _⟩ => ⟨S8x8, .i32⟩
  | .hbm, ⟨60, _⟩ => ⟨S8x8, .i32⟩
  | .hbm, ⟨61, _⟩ => ⟨S8x8x1, .i32⟩
  | .hbm, ⟨62, _⟩ => ⟨S8x8x8x31, .f32⟩
  | .hbm, ⟨63, _⟩ => ⟨S8x8x8x31, .f32⟩
  | .hbm, ⟨64, _⟩ => ⟨S_, .i32⟩
  | .hbm, ⟨65, _⟩ => ⟨S64x64, .i32⟩
  | .hbm, ⟨66, _⟩ => ⟨S64x64, .i1⟩
  | .hbm, ⟨67, _⟩ => ⟨S_, .i32⟩
  | .hbm, ⟨68, _⟩ => ⟨S64x64, .i32⟩
  | .hbm, ⟨69, _⟩ => ⟨S64x64, .i32⟩
  | .hbm, ⟨70, _⟩ => ⟨S64x64, .i32⟩
  | .hbm, ⟨71, _⟩ => ⟨S64x64x1, .i32⟩
  | .hbm, ⟨72, _⟩ => ⟨S8x8x8x64x64, .f32⟩
  | .hbm, ⟨73, _⟩ => ⟨S_, .f32⟩
  | .hbm, ⟨74, _⟩ => ⟨S_, .f32⟩
  | .hbm, ⟨75, _⟩ => ⟨S8x8x8x64x64, .i1⟩
  | .hbm, ⟨76, _⟩ => ⟨S8x8x8x64x64, .f32⟩
  | .hbm, ⟨77, _⟩ => ⟨S8x8x8x64x64, .f32⟩
  | .hbm, ⟨78, _⟩ => ⟨S8x8x64x8x64, .f32⟩
  | .hbm, ⟨79, _⟩ => ⟨S_, .f32⟩
  | .hbm, ⟨80, _⟩ => ⟨S_, .f32⟩
  | .hbm, ⟨81, _⟩ => ⟨S64x64, .f32⟩
  | .hbm, ⟨82, _⟩ => ⟨S64x64, .f32⟩
  | .hbm, ⟨83, _⟩ => ⟨S64x64, .f32⟩
  | .hbm, ⟨84, _⟩ => ⟨S1x1x64x1x64, .f32⟩
  | .hbm, ⟨85, _⟩ => ⟨S1x1x64x1x64, .f32⟩
  | .hbm, ⟨86, _⟩ => ⟨S8x8x64x8x64, .f32⟩
  | .hbm, ⟨87, _⟩ => ⟨S8x8x64x8x64, .f32⟩
  | .hbm, ⟨88, _⟩ => ⟨S8x512x512, .f32⟩
  | .hbm, ⟨89, _⟩ => ⟨S256x64x512, .bf16⟩
  | .hbm, ⟨90, _⟩ => ⟨S256x64x512, .bf16⟩
  | .hbm, ⟨91, _⟩ => ⟨S256x64x512, .bf16⟩
  | .hbm, ⟨92, _⟩ => ⟨S256x64x512, .bf16⟩
  | .local _ .vmem, ⟨0, _⟩ => ⟨S8x64x512, .bf16⟩
  | .local _ .vmem, ⟨1, _⟩ => ⟨S8x64x512, .bf16⟩
  | .local _ .vmem, ⟨2, _⟩ => ⟨S8x64x512, .bf16⟩
  | .local _ .vmem, ⟨3, _⟩ => ⟨S8x64x512, .bf16⟩
  | .local _ .vmem, ⟨4, _⟩ => ⟨S8x64x512, .bf16⟩
  | .local _ .vmem, ⟨5, _⟩ => ⟨S8x64x512, .bf16⟩
  | .local _ .vmem, ⟨6, _⟩ => ⟨S8x64x512, .bf16⟩
  | .local _ .vmem, ⟨7, _⟩ => ⟨S8x64x512, .bf16⟩
  | .local _ .vmem, ⟨8, _⟩ => ⟨S8x64x512, .bf16⟩
  | .local _ .vmem, ⟨9, _⟩ => ⟨S8x64x512, .bf16⟩
  | .local _ .vmem, ⟨10, _⟩ => ⟨S8x64x512, .bf16⟩
  | .local _ .vmem, ⟨11, _⟩ => ⟨S8x64x512, .bf16⟩
  | .local _ .vmem, ⟨12, _⟩ => ⟨S8x64x512, .bf16⟩
  | .local _ .vmem, ⟨13, _⟩ => ⟨S8x64x512, .bf16⟩
  | .local _ .vmem, ⟨14, _⟩ => ⟨S8x512x512, .f32⟩
  | .local _ .vmem, ⟨15, _⟩ => ⟨S8x64x512, .bf16⟩
  | .local _ .vmem, ⟨16, _⟩ => ⟨S8x64x512, .bf16⟩
  | .local _ .vmem, ⟨17, _⟩ => ⟨S24x64x512, .bf16⟩
  | .local _ .vmem, ⟨18, _⟩ => ⟨S24x64x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_call1_v0 : Ref sig .tc := ⟨.hbm, 41, rfl⟩
abbrev main_call1_v1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_cst_11 : Ref sig .tc := ⟨.hbm, 80, rfl⟩
abbrev main_call3_v0 : Ref sig .tc := ⟨.hbm, 81, rfl⟩
abbrev main_call3_v1 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def k0_off1 (i : grid0.Coords) (c0_i32_37 : BitVec 32) : Fin 3 → Nat :=
  let c248_i32 : BitVec 32 := 248#32
  let c0_i32_38 : BitVec 32 := 0#32
  let arg0 : BitVec 32 := BitVec.ofNat 32 (i 0).val
  let c8_i32 : BitVec 32 := 8#32
  let v55 : BitVec 32 := Scalar.muli arg0 c8_i32
  let v56 : BitVec 32 := Scalar.addi v55 c0_i32_37
  let c4_i32 : BitVec 32 := 4#32
  let v57 : BitVec 32 := Scalar.subi v56 c4_i32
  let v58 : BitVec 32 := Scalar.maxsi c0_i32_38 v57
  let v59 : BitVec 32 := Scalar.minsi c248_i32 v58
  let c1_i32_39 : BitVec 32 := 1#32
  let v60 : BitVec 32 := Scalar.subi arg0 c1_i32_39
  let c8_i32_40 : BitVec 32 := 8#32
  let v61 : BitVec 32 := Scalar.muli v60 c8_i32_40
  let v62 : BitVec 32 := Scalar.subi v59 v61
  let v64 : Index := Scalar.indexCast v62
  let c0_41 : Index := 0#32
  let c0_42 : Index := 0#32
  ![v64.toNat, 0, 0]
def k0_off2 (i : grid0.Coords) (c0_i32_37 : BitVec 32) : Fin 3 → Nat :=
  let arg0 : BitVec 32 := BitVec.ofNat 32 (i 0).val
  let c8_i32 : BitVec 32 := 8#32
  let v55 : BitVec 32 := Scalar.muli arg0 c8_i32
  let v56 : BitVec 32 := Scalar.addi v55 c0_i32_37
  let c248_i32 : BitVec 32 := 248#32
  let c0_i32_38 : BitVec 32 := 0#32
  let c4_i32 : BitVec 32 := 4#32
  let v57 : BitVec 32 := Scalar.subi v56 c4_i32
  let v58 : BitVec 32 := Scalar.maxsi c0_i32_38 v57
  let v59 : BitVec 32 := Scalar.minsi c248_i32 v58
  let v63 : BitVec 32 := Scalar.subi v56 v59
  let v92 : Index := Scalar.indexCast v63
  let c0_54 : Index := 0#32
  let c0_55 : Index := 0#32
  ![v92.toNat, 0, 0]
def k0_off3 (i : grid0.Coords) (c0_i32_37 : BitVec 32) : Fin 3 → Nat :=
  let arg0 : BitVec 32 := BitVec.ofNat 32 (i 0).val
  let c8_i32 : BitVec 32 := 8#32
  let v55 : BitVec 32 := Scalar.muli arg0 c8_i32
  let v56 : BitVec 32 := Scalar.addi v55 c0_i32_37
  let c248_i32 : BitVec 32 := 248#32
  let c0_i32_38 : BitVec 32 := 0#32
  let c4_i32 : BitVec 32 := 4#32
  let v57 : BitVec 32 := Scalar.subi v56 c4_i32
  let v58 : BitVec 32 := Scalar.maxsi c0_i32_38 v57
  let v59 : BitVec 32 := Scalar.minsi c248_i32 v58
  let v63 : BitVec 32 := Scalar.subi v56 v59
  let v156 : Index := Scalar.indexCast v63
  let c256 : Index := 256#32
  let c0_78 : Index := 0#32
  ![v156.toNat, 256, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x512 : Shape := ⟨2, ![16384, 512]⟩
abbrev S1x8x15x31 : Shape := ⟨4, ![1, 8, 15, 31]⟩
abbrev S8x15x31 : Shape := ⟨3, ![8, 15, 31]⟩
abbrev S256x64x8x64 : Shape := ⟨4, ![256, 64, 8, 64]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x8x1x1 : Shape := ⟨4, ![256, 8, 1, 1]⟩
abbrev S1x1x64x16 : Shape := ⟨4, ![1, 1, 64, 16]⟩
abbrev S256x8x64x16 : Shape := ⟨4, ![256, 8, 64, 16]⟩
abbrev S256x8x64x16x1 : Shape := ⟨5, ![256, 8, 64, 16, 1]⟩
abbrev S256x8x64x16x2 : Shape := ⟨5, ![256, 8, 64, 16, 2]⟩
abbrev S256x8x64x16x8x64 : Shape := ⟨6, ![256, 8, 64, 16, 8, 64]⟩
abbrev S256x1x8x1 : Shape := ⟨4, ![256, 1, 8, 1]⟩
abbrev S1x64x1x16 : Shape := ⟨4, ![1, 64, 1, 16]⟩
abbrev S256x64x8x16 : Shape := ⟨4, ![256, 64, 8, 16]⟩
abbrev S256x64x8x16x1 : Shape := ⟨5, ![256, 64, 8, 16, 1]⟩
abbrev S256x64x8x16x2 : Shape := ⟨5, ![256, 64, 8, 16, 2]⟩
abbrev S8x256x64x8x16 : Shape := ⟨5, ![8, 256, 64, 8, 16]⟩
abbrev S8x256x64x128 : Shape := ⟨4, ![8, 256, 64, 128]⟩
abbrev S8x256x64 : Shape := ⟨3, ![8, 256, 64]⟩
abbrev S8x256x64x1 : Shape := ⟨4, ![8, 256, 64, 1]⟩
abbrev S256x64x512 : Shape := ⟨3, ![256, 64, 512]⟩

abbrev nBuf : Space → Nat
  | .hbm => 146
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S1x8x15x31, .f32⟩
  | 4 => ⟨S8x15x31, .f32⟩
  | 5 => ⟨S16384x512, .f32⟩
  | 6 => ⟨S256x64x8x64, .f32⟩
  | 7 => ⟨S16384x512, .f32⟩
  | 8 => ⟨S256x64x8x64, .f32⟩
  | 9 => ⟨S16384x512, .f32⟩
  | 10 => ⟨S256x64x8x64, .f32⟩
  | 11 => ⟨S64, .i32⟩
  | 12 => ⟨S_, .i32⟩
  | 13 => ⟨S64, .i32⟩
  | 14 => ⟨S64, .i32⟩
  | 15 => ⟨S_, .i32⟩
  | 16 => ⟨S_, .i32⟩
  | 17 => ⟨S_, .i32⟩
  | 18 => ⟨S64, .i32⟩
  | 19 => ⟨S64, .i32⟩
  | 20 => ⟨S_, .i32⟩
  | 21 => ⟨S64, .i32⟩
  | 22 => ⟨S64, .i32⟩
  | 23 => ⟨S64x1, .i32⟩
  | 24 => ⟨S16, .i32⟩
  | 25 => ⟨S1x16, .i32⟩
  | 26 => ⟨S64x16, .i32⟩
  | 27 => ⟨S64x16, .i32⟩
  | 28 => ⟨S64x16, .i32⟩
  | 29 => ⟨S64x1, .i32⟩
  | 30 => ⟨S64x16, .i32⟩
  | 31 => ⟨S64x16, .i32⟩
  | 32 => ⟨S_, .i32⟩
  | 33 => ⟨S64x16, .i32⟩
  | 34 => ⟨S64x16, .i32⟩
  | 35 => ⟨S256, .i32⟩
  | 36 => ⟨S_, .i32⟩
  | 37 => ⟨S256, .i32⟩
  | 38 => ⟨S256, .i32⟩
  | 39 => ⟨S_, .i32⟩
  | 40 => ⟨S_, .i32⟩
  | 41 => ⟨S_, .i32⟩
  | 42 => ⟨S256, .i32⟩
  | 43 => ⟨S256, .i32⟩
  | 44 => ⟨S_, .i32⟩
  | 45 => ⟨S256, .i32⟩
  | 46 => ⟨S256, .i32⟩
  | 47 => ⟨S256x1, .i32⟩
  | 48 => ⟨S8, .i32⟩
  | 49 => ⟨S1x8, .i32⟩
  | 50 => ⟨S256x8, .i32⟩
  | 51 => ⟨S256x8, .i32⟩
  | 52 => ⟨S256x8, .i32⟩
  | 53 => ⟨S256x1, .i32⟩
  | 54 => ⟨S256x8, .i32⟩
  | 55 => ⟨S256x8, .i32⟩
  | 56 => ⟨S_, .i32⟩
  | 57 => ⟨S256x8, .i32⟩
  | 58 => ⟨S256x8, .i32⟩
  | 59 => ⟨S256x8x1x1, .i32⟩
  | 60 => ⟨S1x1x64x16, .i32⟩
  | 61 => ⟨S_, .i32⟩
  | 62 => ⟨S256x8x1x1, .i32⟩
  | 63 => ⟨S256x8x1x1, .i1⟩
  | 64 => ⟨S_, .i32⟩
  | 65 => ⟨S256x8x1x1, .i32⟩
  | 66 => ⟨S256x8x1x1, .i32⟩
  | 67 => ⟨S256x8x1x1, .i32⟩
  | 68 => ⟨S_, .i32⟩
  | 69 => ⟨S1x1x64x16, .i32⟩
  | 70 => ⟨S1x1x64x16, .i1⟩
  | 71 => ⟨S_, .i32⟩
  | 72 => ⟨S1x1x64x16, .i32⟩
  | 73 => ⟨S1x1x64x16, .i32⟩
  | 74 => ⟨S1x1x64x16, .i32⟩
  | 75 => ⟨S256x8x64x16, .i32⟩
  | 76 => ⟨S256x8x64x16, .i32⟩
  | 77 => ⟨S256x8x64x16x1, .i32⟩
  | 78 => ⟨S256x8x64x16x1, .i32⟩
  | 79 => ⟨S256x8x64x16x2, .i32⟩
  | 80 => ⟨S256x8x64x16x8x64, .f32⟩
  | 81 => ⟨S256x8x1x1, .i32⟩
  | 82 => ⟨S1x1x64x16, .i32⟩
  | 83 => ⟨S_, .i32⟩
  | 84 => ⟨S256x8x1x1, .i32⟩
  | 85 => ⟨S256x8x1x1, .i1⟩
  | 86 => ⟨S_, .i32⟩
  | 87 => ⟨S256x8x1x1, .i32⟩
  | 88 => ⟨S256x8x1x1, .i32⟩
  | 89 => ⟨S256x8x1x1, .i32⟩
  | 90 => ⟨S_, .i32⟩
  | 91 => ⟨S1x1x64x16, .i32⟩
  | 92 => ⟨S1x1x64x16, .i1⟩
  | 93 => ⟨S_, .i32⟩
  | 94 => ⟨S1x1x64x16, .i32⟩
  | 95 => ⟨S1x1x64x16, .i32⟩
  | 96 => ⟨S1x1x64x16, .i32⟩
  | 97 => ⟨S256x8x64x16, .i32⟩
  | 98 => ⟨S256x8x64x16, .i32⟩
  | 99 => ⟨S256x8x64x16x1, .i32⟩
  | 100 => ⟨S256x8x64x16x1, .i32⟩
  | 101 => ⟨S256x8x64x16x2, .i32⟩
  | 102 => ⟨S256x8x64x16x8x64, .f32⟩
  | 103 => ⟨S256x1x8x1, .i32⟩
  | 104 => ⟨S1x64x1x16, .i32⟩
  | 105 => ⟨S_, .i32⟩
  | 106 => ⟨S256x1x8x1, .i32⟩
  | 107 => ⟨S256x1x8x1, .i1⟩
  | 108 => ⟨S_, .i32⟩
  | 109 => ⟨S256x1x8x1, .i32⟩
  | 110 => ⟨S256x1x8x1, .i32⟩
  | 111 => ⟨S256x1x8x1, .i32⟩
  | 112 => ⟨S_, .i32⟩
  | 113 => ⟨S1x64x1x16, .i32⟩
  | 114 => ⟨S1x64x1x16, .i1⟩
  | 115 => ⟨S_, .i32⟩
  | 116 => ⟨S1x64x1x16, .i32⟩
  | 117 => ⟨S1x64x1x16, .i32⟩
  | 118 => ⟨S1x64x1x16, .i32⟩
  | 119 => ⟨S256x64x8x16, .i32⟩
  | 120 => ⟨S256x64x8x16, .i32⟩
  | 121 => ⟨S256x64x8x16x1, .i32⟩
  | 122 => ⟨S256x64x8x16x1, .i32⟩
  | 123 => ⟨S256x64x8x16x2, .i32⟩
  | 124 => ⟨S8x256x64x8x16, .f32⟩
  | 125 => ⟨S8x256x64x8x16, .f32⟩
  | 126 => ⟨S8x256x64x8x16, .f32⟩
  | 127 => ⟨S8x256x64x128, .f32⟩
  | _ => ⟨S16384x512, .bf16⟩

abbrev hbmTy0_1 (i : Nat) : BufTy := match i % 128 with
  | 0 => ⟨S_, .f32⟩
  | 1 => ⟨S8x256x64, .f32⟩
  | 2 => ⟨S_, .f32⟩
  | 3 => ⟨S8x256x64, .f32⟩
  | 4 => ⟨S8x256x64, .f32⟩
  | 5 => ⟨S8x256x64x1, .f32⟩
  | 6 => ⟨S8x256x64x128, .f32⟩
  | 7 => ⟨S8x256x64x128, .f32⟩
  | 8 => ⟨S8x256x64x128, .f32⟩
  | 9 => ⟨S_, .f32⟩
  | 10 => ⟨S8x256x64, .f32⟩
  | 11 => ⟨S8x256x64x1, .f32⟩
  | 12 => ⟨S8x256x64x128, .f32⟩
  | 13 => ⟨S8x256x64x128, .f32⟩
  | 14 => ⟨S8x256x64x8x16, .f32⟩
  | 15 => ⟨S256x64x8x64, .f32⟩
  | 16 => ⟨S256x64x512, .f32⟩
  | 17 => ⟨S256x64x512, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst : Ref sig .tc := ⟨.hbm, 128, rfl⟩
abbrev main_v94 : Ref sig .tc := ⟨.hbm, 129, rfl⟩
abbrev main_cst_19 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_20 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩

abbrev nD : Nat := 1
abbrev τ : Topo := Topo.v7x

variable {F : FTy → Type} [FloatOps F]
-- ==== Kernel2.lean ====
abbrev S1x16384x1024 : Shape := ⟨3, ![1, 16384, 1024]⟩
abbrev S1x1024x4608 : Shape := ⟨3, ![1, 1024, 4608]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S16384x1024 : Shape := ⟨2, ![16384, 1024]⟩
abbrev S1024x4608 : Shape := ⟨2, ![1024, 4608]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S512x1024 : Shape := ⟨2, ![512, 1024]⟩
abbrev S16384x512 : Shape := ⟨2, ![16384, 512]⟩
abbrev S512x512 : Shape := ⟨2, ![512, 512]⟩
abbrev S1024x512 : Shape := ⟨2, ![1024, 512]⟩
abbrev S512x1 : Shape := ⟨2, ![512, 1]⟩
abbrev S1024x1024 : Shape := ⟨2, ![1024, 1024]⟩
abbrev S1x128x128 : Shape := ⟨3, ![1, 128, 128]⟩
abbrev S128x128 : Shape := ⟨2, ![128, 128]⟩

abbrev nBuf : Space → Nat
  | .hbm => 27
  | .vmem => 18
  | .smem => 0
  | _ => 0

abbrev bufTy : (tb : Table) → Fin (tcTables nBuf tb) → BufTy
  | .hbm, ⟨0, _⟩ => ⟨S1x16384x1024, .f32⟩
  | .hbm, ⟨1, _⟩ => ⟨S1x1024x4608, .f32⟩
  | .hbm, ⟨2, _⟩ => ⟨S1x512, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S1x512x1024, .f32⟩
  | .hbm, ⟨7, _⟩ => ⟨S16384x1024, .f32⟩
  | .hbm, ⟨8, _⟩ => ⟨S1024x4608, .f32⟩
  | .hbm, ⟨9, _⟩ => ⟨S1024x4608, .bf16⟩
  | .hbm, ⟨10, _⟩ => ⟨S512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S4x128x128, .f32⟩
  | .hbm, ⟨15, _⟩ => ⟨S4x128x128, .bf16⟩
  | .hbm, ⟨16, _⟩ => ⟨S4x128, .f32⟩
  | .hbm, ⟨17, _⟩ => ⟨S128x4, .f32⟩
  | .hbm, ⟨18, _⟩ => ⟨S128x4x128, .f32⟩
  | .hbm, ⟨19, _⟩ => ⟨S128x512, .f32⟩
  | .hbm, ⟨20, _⟩ => ⟨S512x1024, .f32⟩
  | .hbm, ⟨21, _⟩ => ⟨S512x1024, .bf16⟩
  | .hbm, ⟨22, _⟩ => ⟨S16384x512, .bf16⟩
  | .hbm, ⟨23, _⟩ => ⟨S16384x512, .bf16⟩
  | .hbm, ⟨24, _⟩ => ⟨S16384x512, .bf16⟩
  | .hbm, ⟨25, _⟩ => ⟨S16384x1024, .f32⟩
  | .hbm, ⟨26, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x4608, .bf16⟩
  | .local _ .vmem, ⟨3, _⟩ => ⟨S1x512, .f32⟩
  | .local _ .vmem, ⟨4, _⟩ => ⟨S1x512, .f32⟩
  | .local _ .vmem, ⟨5, _⟩ => ⟨S4x128x128, .bf16⟩
  | .local _ .vmem, ⟨6, _⟩ => ⟨S128x512, .f32⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S1x16384x1024 : Shape := ⟨3, ![1, 16384, 1024]⟩
abbrev S1x1024x4608 : Shape := ⟨3, ![1, 1024, 4608]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S16384x1024 : Shape := ⟨2, ![16384, 1024]⟩
abbrev S1024x4608 : Shape := ⟨2, ![1024, 4608]⟩
abbrev S16384x4608 : Shape := ⟨2, ![16384, 4608]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S512 : Shape := ⟨1, ![512]⟩
abbrev S128x128x4x128 : Shape := ⟨4, ![128, 128, 4, 128]⟩
abbrev S4x128x128 : Shape := ⟨3, ![4, 128, 128]⟩
abbrev S4x128x128x128 : Shape := ⟨4, ![4, 128, 128, 128]⟩
abbrev S4x128 : Shape := ⟨2, ![4, 128]⟩
abbrev S128x4 : Shape := ⟨2, ![128, 4]⟩
abbrev S1x128x4x1 : Shape := ⟨4, ![1, 128, 4, 1]⟩
abbrev S512x1024 : Shape := ⟨2, ![512, 1024]⟩

abbrev nBuf : Space → Nat
  | .hbm => 116
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024x4608, .f32⟩
  | .hbm, ⟨2, _⟩ => ⟨S1x512, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S1x512x1024, .f32⟩
  | .hbm, ⟨7, _⟩ => ⟨S16384x1024, .f32⟩
  | .hbm, ⟨8, _⟩ => ⟨S1024x4608, .f32⟩
  | .hbm, ⟨9, _⟩ => ⟨S16384x4608, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x1024, .f32⟩
  | .hbm, ⟨16, _⟩ => ⟨S16384x1024, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x512, .f32⟩
  | .hbm, ⟨71, _⟩ => ⟨S16384x512, .f32⟩
  | .hbm, ⟨72, _⟩ => ⟨S512, .f32⟩
  | .hbm, ⟨73, _⟩ => ⟨S1x512, .f32⟩
  | .hbm, ⟨74, _⟩ => ⟨S16384x512, .f32⟩
  | .hbm, ⟨75, _⟩ => ⟨S16384x512, .f32⟩
  | .hbm, ⟨76, _⟩ => ⟨S512, .f32⟩
  | .hbm, ⟨77, _⟩ => ⟨S1x512, .f32⟩
  | .hbm, ⟨78, _⟩ => ⟨S16384x512, .f32⟩
  | .hbm, ⟨79, _⟩ => ⟨S16384x512, .f32⟩
  | .hbm, ⟨80, _⟩ => ⟨S128x128x4x128, .f32⟩
  | .hbm, ⟨81, _⟩ => ⟨S4x128x128, .f32⟩
  | .hbm, ⟨82, _⟩ => ⟨S4x128x128x128, .f32⟩
  | .hbm, ⟨83, _⟩ => ⟨S128x128x4x128, .f32⟩
  | .hbm, ⟨84, _⟩ => ⟨S4x128, .f32⟩
  | .hbm, ⟨85, _⟩ => ⟨S128x4, .f32⟩
  | .hbm, ⟨86, _⟩ => ⟨S1x128x4x1, .f32⟩
  | .hbm, ⟨87, _⟩ => ⟨S128x128x4x128, .f32⟩
  | .hbm, ⟨88, _⟩ => ⟨S128x128x4x128, .f32⟩
  | .hbm, ⟨89, _⟩ => ⟨S16384x512, .f32⟩
  | .hbm, ⟨90, _⟩ => ⟨S16384x512, .f32⟩
  | .hbm, ⟨91, _⟩ => ⟨S_, .f32⟩
  | .hbm, ⟨92, _⟩ => ⟨S16384x512, .f32⟩
  | .hbm, ⟨93, _⟩ => ⟨S16384x512, .f32⟩
  | .hbm, ⟨94, _⟩ => ⟨S16384x512, .bf16⟩
  | .hbm, ⟨95, _⟩ => ⟨S16384x512, .bf16⟩
  | .hbm, ⟨96, _⟩ => ⟨S16384x512, .bf16⟩
  | .hbm, ⟨97, _⟩ => ⟨S16384x1024, .f32⟩
  | .hbm, ⟨98, _⟩ => ⟨S16384x1024, .f32⟩
  | .hbm, ⟨99, _⟩ => ⟨S_, .f32⟩
  | .hbm, ⟨100, _⟩ => ⟨S16384x1024, .f32⟩
  | .hbm, ⟨101, _⟩ => ⟨S16384x1024, .f32⟩
  | .hbm, ⟨102, _⟩ => ⟨S_, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S16384x1024, .f32⟩
  | .hbm, ⟨107, _⟩ => ⟨S_, .f32⟩
  | .hbm, ⟨108, _⟩ => ⟨S16384x1024, .f32⟩
  | .hbm, ⟨109, _⟩ => ⟨S16384x1024, .f32⟩
  | .hbm, ⟨110, _⟩ => ⟨S_, .f32⟩
  | .hbm, ⟨111, _⟩ => ⟨S16384x1024, .f32⟩
  | .hbm, ⟨112, _⟩ => ⟨S16384x1024, .f32⟩
  | .hbm, ⟨113, _⟩ => ⟨S512x1024, .f32⟩
  | .hbm, ⟨114, _⟩ => ⟨S16384x1024, .f32⟩
  | .hbm, ⟨115, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_12 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_13 : Ref sig .tc := ⟨.hbm, 99, rfl⟩
abbrev main_v78 : Ref sig .tc := ⟨.hbm, 100, rfl⟩
abbrev main_v79 : Ref sig .tc := ⟨.hbm, 101, rfl⟩
abbrev main_cst_14 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_15 : Ref sig .tc := ⟨.hbm, 107, rfl⟩
abbrev main_v84 : Ref sig .tc := ⟨.hbm, 108, rfl⟩
abbrev main_v85 : Ref sig .tc := ⟨.hbm, 109, rfl⟩
abbrev main_cst_16 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩

abbrev nD : Nat := 1
abbrev τ : Topo := Topo.v7x

variable {F : FTy → Type} [FloatOps F]
-- ==== Kernel3.lean ====
abbrev S1x16384x1024 : Shape := ⟨3, ![1, 16384, 1024]⟩
abbrev S16384x512 : Shape := ⟨2, ![16384, 512]⟩
abbrev S16384x1024 : Shape := ⟨2, ![16384, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩
abbrev S1024x16384 : Shape := ⟨2, ![1024, 16384]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 19
  | .vmem => 16
  | .smem => 0
  | _ => 0

abbrev bufTy : (tb : Table) → Fin (tcTables nBuf tb) → BufTy
  | .hbm, ⟨0, _⟩ => ⟨S1x16384x1024, .f32⟩
  | .hbm, ⟨1, _⟩ => ⟨S16384x512, .bf16⟩
  | .hbm, ⟨2, _⟩ => ⟨S16384x1024, .f32⟩
  | .hbm, ⟨3, _⟩ => ⟨S16384x1024, .f32⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S512x1024, .f32⟩
  | .hbm, ⟨10, _⟩ => ⟨S512x1024, .bf16⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x16384, .f32⟩
  | .hbm, ⟨18, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S1x16384x1024 : Shape := ⟨3, ![1, 16384, 1024]⟩
abbrev S16384x512 : Shape := ⟨2, ![16384, 512]⟩
abbrev S16384x1024 : Shape := ⟨2, ![16384, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x16384 : Shape := ⟨2, ![1024, 16384]⟩

abbrev nBuf : Space → Nat
  | .hbm => 51
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x512, .bf16⟩
  | .hbm, ⟨2, _⟩ => ⟨S16384x1024, .f32⟩
  | .hbm, ⟨3, _⟩ => ⟨S16384x1024, .f32⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S16384x512, .f32⟩
  | .hbm, ⟨9, _⟩ => ⟨S512x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S1024x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S1024x16384, .f32⟩
  | .hbm, ⟨50, _⟩ => ⟨S1024x16384, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel4.lean ====
abbrev S1024x16384 : Shape := ⟨2, ![1024, 16384]⟩
abbrev S2048x1024 : Shape := ⟨2, ![2048, 1024]⟩
abbrev S1x128x128 : Shape := ⟨3, ![1, 128, 128]⟩
abbrev S128x128 : Shape := ⟨2, ![128, 128]⟩
abbrev S128x1024x128 : Shape := ⟨3, ![128, 1024, 128]⟩
abbrev S128x128x128 : Shape := ⟨3, ![128, 128, 128]⟩
abbrev S8x128x16384 : Shape := ⟨3, ![8, 128, 16384]⟩
abbrev S1024x512 : Shape := ⟨2, ![1024, 512]⟩
abbrev S4x1024x128 : Shape := ⟨3, ![4, 1024, 128]⟩
abbrev S4x128x128 : Shape := ⟨3, ![4, 128, 128]⟩
abbrev S8x128x512 : Shape := ⟨3, ![8, 128, 512]⟩
abbrev S2048x512 : Shape := ⟨2, ![2048, 512]⟩
abbrev S128x512 : Shape := ⟨2, ![128, 512]⟩
abbrev S1x128x512 : Shape := ⟨3, ![1, 128, 512]⟩
abbrev S1x8x128 : Shape := ⟨3, ![1, 8, 128]⟩
abbrev S8x128 : Shape := ⟨2, ![8, 128]⟩

abbrev nBuf : Space → Nat
  | .hbm => 12
  | .vmem => 15
  | .smem => 0
  | _ => 0

abbrev bufTy : (tb : Table) → Fin (tcTables nBuf tb) → BufTy
  | .hbm, ⟨0, _⟩ => ⟨S1024x16384, .bf16⟩
  | .hbm, ⟨1, _⟩ => ⟨S2048x1024, .bf16⟩
  | .hbm, ⟨2, _⟩ => ⟨S1x128x128, .f32⟩
  | .hbm, ⟨3, _⟩ => ⟨S1x128x128, .f32⟩
  | .hbm, ⟨4, _⟩ => ⟨S128x128, .f32⟩
  | .hbm, ⟨5, _⟩ => ⟨S128x128, .bf16⟩
  | .hbm, ⟨6, _⟩ => ⟨S128x128, .f32⟩
  | .hbm, ⟨7, _⟩ => ⟨S128x128, .bf16⟩
  | .hbm, ⟨8, _⟩ => ⟨S128x1024x128, .f32⟩
  | .hbm, ⟨9, _⟩ => ⟨S128x1024x128, .f32⟩
  | .hbm, ⟨10, _⟩ => ⟨S128x128x128, .f32⟩
  | .hbm, ⟨11, _⟩ => ⟨S8x128x16384, .f32⟩
  | .local _ .vmem, ⟨0, _⟩ => ⟨S1024x512, .bf16⟩
  | .local _ .vmem, ⟨1, _⟩ => ⟨S1024x512, .bf16⟩
  | .local _ .vmem, ⟨2, _⟩ => ⟨S2048x1024, .bf16⟩
  | .local _ .vmem, ⟨3, _⟩ => ⟨S128x128, .bf16⟩
  | .local _ .vmem, ⟨4, _⟩ => ⟨S128x128, .bf16⟩
  | .local _ .vmem, ⟨5, _⟩ => ⟨S4x1024x128, .f32⟩
  | .local _ .vmem, ⟨6, _⟩ => ⟨S4x1024x128, .f32⟩
  | .local _ .vmem, ⟨7, _⟩ => ⟨S4x1024x128, .f32⟩
  | .local _ .vmem, ⟨8, _⟩ => ⟨S4x1024x128, .f32⟩
  | .local _ .vmem, ⟨9, _⟩ => ⟨S4x128x128, .f32⟩
  | .local _ .vmem, ⟨10, _⟩ => ⟨S4x128x128, .f32⟩
  | .local _ .vmem, ⟨11, _⟩ => ⟨S8x128x512, .f32⟩
  | .local _ .vmem, ⟨12, _⟩ => ⟨S8x128x512, .f32⟩
  | .local _ .vmem, ⟨13, _⟩ => ⟨S4x1024x128, .f32⟩
  | .local _ .vmem, ⟨14, _⟩ => ⟨S4x1024x128, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v348 : BitVec 32 := Scalar.addi c0_i32 c4_i32
  let c1_i32 : BitVec 32 := 1#32
  ⟨c0_i32, v348, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v349 : Index := Scalar.indexCast arg11
  let c0_261 : Index := 0#32
  let c0_262 : Index := 0#32
  ![v349.toNat, 0, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v352 : Index := Scalar.indexCast arg11
  let c8 : Index := 8#32
  let c0_263 : Index := 0#32
  ![v352.toNat, 8, 0]
def k0_off3 (k0_t1 : Fin k0_t1_loop.trips) : Fin 3 → Nat :=
  let c0_i32 : BitVec 32 := 0#32
  let c1_i32 : BitVec 32 := 1#32
  let arg11 : BitVec 32 := Scf.iv c0_i32 c1_i32 k0_t1
  let v355 : Index := Scalar.indexCast arg11
  let c16 : Index := 16#32
  let c0_264 : Index := 0#32
  ![v355.toNat, 16, 0]
def k0_off4 (k0_t1 : Fin k0_t1_loop.trips) : Fin 3 → Nat :=
  let c0_i32 : BitVec 32 := 0#32
  let c1_i32 : BitVec 32 := 1#32
  let arg11 : BitVec 32 := Scf.iv c0_i32 c1_i32 k0_t1
  let v358 : Index := Scalar.indexCast arg11
  let c24 : Index := 24#32
  let c0_265 : Index := 0#32
  ![v358.toNat, 24, 0]
def k0_off5 (k0_t1 : Fin k0_t1_loop.trips) : Fin 3 → Nat :=
  let c0_i32 : BitVec 32 := 0#32
  let c1_i32 : BitVec 32 := 1#32
  let arg11 : BitVec 32 := Scf.iv c0_i32 c1_i32 k0_t1
  let v361 : Index := Scalar.indexCast arg11
  let c32 : Index := 32#32
  let c0_266 : Index := 0#32
  ![v361.toNat, 32, 0]
def k0_off6 (k0_t1 : Fin k0_t1_loop.trips) : Fin 3 → Nat :=
  let c0_i32 : BitVec 32 := 0#32
  let c1_i32 : BitVec 32 := 1#32
  let arg11 : BitVec 32 := Scf.iv c0_i32 c1_i32 k0_t1
  let v364 : Index := Scalar.indexCast arg11
  let c40 : Index := 40#32
  let c0_267 : Index := 0#32
  ![v364.toNat, 40, 0]
def k0_off7 (k0_t1 : Fin k0_t1_loop.trips) : Fin 3 → Nat :=
  let c0_i32 : BitVec 32 := 0#32
  let c1_i32 : BitVec 32 := 1#32
  let arg11 : BitVec 32 := Scf.iv c0_i32 c1_i32 k0_t1
  let v367 : Index := Scalar.indexCast arg11
  let c48 : Index := 48#32
  let c0_268 : Index := 0#32
  ![v367.toNat, 48, 0]
def k0_off8 (k0_t1 : Fin k0_t1_loop.trips) : Fin 3 → Nat :=
  let c0_i32 : BitVec 32 := 0#32
  let c1_i32 : BitVec 32 := 1#32
  let arg11 : BitVec 32 := Scf.iv c0_i32 c1_i32 k0_t1
  let v370 : Index := Scalar.indexCast arg11
  let c56 : Index := 56#32
  let c0_269 : Index := 0#32
  ![v370.toNat, 56, 0]
def k0_off9 (k0_t1 : Fin k0_t1_loop.trips) : Fin 3 → Nat :=
  let c0_i32 : BitVec 32 := 0#32
  let c1_i32 : BitVec 32 := 1#32
  let arg11 : BitVec 32 := Scf.iv c0_i32 c1_i32 k0_t1
  let v373 : Index := Scalar.indexCast arg11
  let c64 : Index := 64#32
  let c0_270 : Index := 0#32
  ![v373.toNat, 64, 0]
def k0_off10 (k0_t1 : Fin k0_t1_loop.trips) : Fin 3 → Nat :=
  let c0_i32 : BitVec 32 := 0#32
  let c1_i32 : BitVec 32 := 1#32
  let arg11 : BitVec 32 := Scf.iv c0_i32 c1_i32 k0_t1
  let v376 : Index := Scalar.indexCast arg11
  let c72 : Index := 72#32
  let c0_271 : Index := 0#32
  ![v376.toNat, 72, 0]
def k0_off11 (k0_t1 : Fin k0_t1_loop.trips) : Fin 3 → Nat :=
  let c0_i32 : BitVec 32 := 0#32
  let c1_i32 : BitVec 32 := 1#32
  let arg11 : BitVec 32 := Scf.iv c0_i32 c1_i32 k0_t1
  let v379 : Index := Scalar.indexCast arg11
  let c80 : Index := 80#32
  let c0_272 : Index := 0#32
  ![v379.toNat, 80, 0]
def k0_off12 (k0_t1 : Fin k0_t1_loop.trips) : Fin 3 → Nat :=
  let c0_i32 : BitVec 32 := 0#32
  let c1_i32 : BitVec 32 := 1#32
  let arg11 : BitVec 32 := Scf.iv c0_i32 c1_i32 k0_t1
  let v382 : Index := Scalar.indexCast arg11
  let c88 : Index := 88#32
  let c0_273 : Index := 0#32
  ![v382.toNat, 88, 0]
def k0_off13 (k0_t1 : Fin k0_t1_loop.trips) : Fin 3 → Nat :=
  let c0_i32 : BitVec 32 := 0#32
  let c1_i32 : BitVec 32 := 1#32
  let arg11 : BitVec 32 := Scf.iv c0_i32 c1_i32 k0_t1
  let v385 : Index := Scalar.indexCast arg11
  let c96 : Index := 96#32
  let c0_274 : Index := 0#32
  ![v385.toNat, 96, 0]
def k0_off14 (k0_t1 : Fin k0_t1_loop.trips) : Fin 3 → Nat :=
  let c0_i32 : BitVec 32 := 0#32
  let c1_i32 : BitVec 32 := 1#32
  let arg11 : BitVec 32 := Scf.iv c0_i32 c1_i32 k0_t1
  let v388 : Index := Scalar.indexCast arg11
  let c104 : Index := 104#32
  let c0_275 : Index := 0#32
  ![v388.toNat, 104, 0]
def k0_off15 (k0_t1 : Fin k0_t1_loop.trips) : Fin 3 → Nat :=
  let c0_i32 : BitVec 32 := 0#32
  let c1_i32 : BitVec 32 := 1#32
  let arg11 : BitVec 32 := Scf.iv c0_i32 c1_i32 k0_t1
  let v391 : Index := Scalar.indexCast arg11
  let c112 : Index := 112#32
  let c0_276 : Index := 0#32
  ![v391.toNat, 112, 0]
def k0_off16 (k0_t1 : Fin k0_t1_loop.trips) : Fin 3 → Nat :=
  let c0_i32 : BitVec 32 := 0#32
  let c1_i32 : BitVec 32 := 1#32
  let arg11 : BitVec 32 := Scf.iv c0_i32 c1_i32 k0_t1
  let v394 : Index := Scalar.indexCast arg11
  let c120 : Index := 120#32
  let c0_277 : Index := 0#32
  ![v394.toNat, 120, 0]
def k0_off17 (k0_t1 : Fin k0_t1_loop.trips) : Fin 3 → Nat :=
  let c0_i32 : BitVec 32 := 0#32
  let c1_i32 : BitVec 32 := 1#32
  let arg11 : BitVec 32 := Scf.iv c0_i32 c1_i32 k0_t1
  let v397 : Index := Scalar.indexCast arg11
  let c128 : Index := 128#32
  let c0_278 : Index := 0#32
  ![v397.toNat, 128, 0]
def k0_off18 (k0_t1 : Fin k0_t1_loop.trips) : Fin 3 → Nat :=
  let c0_i32 : BitVec 32 := 0#32
  let c1_i32 : BitVec 32 := 1#32
  let arg11 : BitVec 32 := Scf.iv c0_i32 c1_i32 k0_t1
  let v400 : Index := Scalar.indexCast arg11
  let c136 : Index := 136#32
  let c0_279 : Index := 0#32
  ![v400.toNat, 136, 0]
def k0_off19 (k0_t1 : Fin k0_t1_loop.trips) : Fin 3 → Nat :=
  let c0_i32 : BitVec 32 := 0#32
  let c1_i32 : BitVec 32 := 1#32
  let arg11 : BitVec 32 := Scf.iv c0_i32 c1_i32 k0_t1
  let v403 : Index := Scalar.indexCast arg11
  let c144 : Index := 144#32
  let c0_280 : Index := 0#32
  ![v403.toNat, 144, 0]
def k0_off20 (k0_t1 : Fin k0_t1_loop.trips) : Fin 3 → Nat :=
  let c0_i32 : BitVec 32 := 0#32
  let c1_i32 : BitVec 32 := 1#32
  let arg11 : BitVec 32 := Scf.iv c0_i32 c1_i32 k0_t1
  let v406 : Index := Scalar.indexCast arg11
  let c152 : Index := 152#32
  let c0_281 : Index := 0#32
  ![v406.toNat, 152, 0]
def k0_off21 (k0_t1 : Fin k0_t1_loop.trips) : Fin 3 → Nat :=
  let c0_i32 : BitVec 32 := 0#32
  let c1_i32 : BitVec 32 := 1#32
  let arg11 : BitVec 32 := Scf.iv c0_i32 c1_i32 k0_t1
  let v409 : Index := Scalar.indexCast arg11
  let c160 : Index := 160#32
  let c0_282 : Index := 0#32
  ![v409.toNat, 160, 0]
def k0_off22 (k0_t1 : Fin k0_t1_loop.trips) : Fin 3 → Nat :=
  let c0_i32 : BitVec 32 := 0#32
  let c1_i32 : BitVec 32 := 1#32
  let arg11 : BitVec 32 := Scf.iv c0_i32 c1_i32 k0_t1
  let v412 : Index := Scalar.indexCast arg11
  let c168 : Index := 168#32
  let c0_283 : Index := 0#32
  ![v412.toNat, 168, 0]
def k0_off23 (k0_t1 : Fin k0_t1_loop.trips) : Fin 3 → Nat :=
  let c0_i32 : BitVec 32 := 0#32
  let c1_i32 : BitVec 32 := 1#32
  let arg11 : BitVec 32 := Scf.iv c0_i32 c1_i32 k0_t1
  let v415 : Index := Scalar.indexCast arg11
  let c176 : Index := 176#32
  let c0_284 : Index := 0#32
  ![v415.toNat, 176, 0]
def k0_off24 (k0_t1 : Fin k0_t1_loop.trips) : Fin 3 → Nat :=
  let c0_i32 : BitVec 32 := 0#32
  let c1_i32 : BitVec 32 := 1#32
  let arg11 : BitVec 32 := Scf.iv c0_i32 c1_i32 k0_t1
  let v418 : Index := Scalar.indexCast arg11
  let c184 : Index := 184#32
  let c0_285 : Index := 0#32
  ![v418.toNat, 184, 0]
def k0_off25 (k0_t1 : Fin k0_t1_loop.trips) : Fin 3 → Nat :=
  let c0_i32 : BitVec 32 := 0#32
  let c1_i32 : BitVec 32 := 1#32
  let arg11 : BitVec 32 := Scf.iv c0_i32 c1_i32 k0_t1
  let v421 : Index := Scalar.indexCast arg11
  let c192 : Index := 192#32
  let c0_286 : Index := 0#32
  ![v421.toNat, 192, 0]
def k0_off26 (k0_t1 : Fin k0_t1_loop.trips) : Fin 3 → Nat :=
  let c0_i32 : BitVec 32 := 0#32
  let c1_i32 : BitVec 32 := 1#32
  let arg11 : BitVec 32 := Scf.iv c0_i32 c1_i32 k0_t1
  let v424 : Index := Scalar.indexCast arg11
  let c200 : Index := 200#32
  let c0_287 : Index := 0#32
  ![v424.toNat, 200, 0]
def k0_off27 (k0_t1 : Fin k0_t1_loop.trips) : Fin 3 → Nat :=
  let c0_i32 : BitVec 32 := 0#32
  let c1_i32 : BitVec 32 := 1#32
  let arg11 : BitVec 32 := Scf.iv c0_i32 c1_i32 k0_t1
  let v427 : Index := Scalar.indexCast arg11
  let c208 : Index := 208#32
  let c0_288 : Index := 0#32
  ![v427.toNat, 208, 0]
def k0_off28 (k0_t1 : Fin k0_t1_loop.trips) : Fin 3 → Nat :=
  let c0_i32 : BitVec 32 := 0#32
  let c1_i32 : BitVec 32 := 1#32
  let arg11 : BitVec 32 := Scf.iv c0_i32 c1_i32 k0_t1
  let v430 : Index := Scalar.indexCast arg11
  let c216 : Index := 216#32
  let c0_289 : Index := 0#32
  ![v430.toNat, 216, 0]
def k0_off29 (k0_t1 : Fin k0_t1_loop.trips) : Fin 3 → Nat :=
  let c0_i32 : BitVec 32 := 0#32
  let c1_i32 : BitVec 32 := 1#32
  let arg11 : BitVec 32 := Scf.iv c0_i32 c1_i32 k0_t1
  let v433 : Index := Scalar.indexCast arg11
  let c224 : Index := 224#32
  let c0_290 : Index := 0#32
  ![v433.toNat, 224, 0]
def k0_off30 (k0_t1 : Fin k0_t1_loop.trips) : Fin 3 → Nat :=
  let c0_i32 : BitVec 32 := 0#32
  let c1_i32 : BitVec 32 := 1#32
  let arg11 : BitVec 32 := Scf.iv c0_i32 c1_i32 k0_t1
  let v436 : Index := Scalar.indexCast arg11
  let c232 : Index := 232#32
  let c0_291 : Index := 0#32
  ![v436.toNat, 232, 0]
def k0_off31 (k0_t1 : Fin k0_t1_loop.trips) : Fin 3 → Nat :=
  let c0_i32 : BitVec 32 := 0#32
  let c1_i32 : BitVec 32 := 1#32
  let arg11 : BitVec 32 := Scf.iv c0_i32 c1_i32 k0_t1
  let v439 : Index := Scalar.indexCast arg11
  let c240 : Index := 240#32
  let c0_292 : Index := 0#32
  ![v439.toNat, 240, 0]
def k0_off32 (k0_t1 : Fin k0_t1_loop.trips) : Fin 3 → Nat :=
  let c0_i32 : BitVec 32 := 0#32
  let c1_i32 : BitVec 32 := 1#32
  let arg11 : BitVec 32 := Scf.iv c0_i32 c1_i32 k0_t1
  let v442 : Index := Scalar.indexCast arg11
  let c248 : Index := 248#32
  let c0_293 : Index := 0#32
  ![v442.toNat, 248, 0]
def k0_off33 (k0_t1 : Fin k0_t1_loop.trips) : Fin 3 → Nat :=
  let c0_i32 : BitVec 32 := 0#32
  let c1_i32 : BitVec 32 := 1#32
  let arg11 : BitVec 32 := Scf.iv c0_i32 c1_i32 k0_t1
  let v445 : Index := Scalar.indexCast arg11
  let c256 : Index := 256#32
  let c0_294 : Index := 0#32
  ![v445.toNat, 256, 0]
def k0_off34 (k0_t1 : Fin k0_t1_loop.trips) : Fin 3 → Nat :=
  let c0_i32 : BitVec 32 := 0#32
  let c1_i32 : BitVec 32 := 1#32
  let arg11 : BitVec 32 := Scf.iv c0_i32 c1_i32 k0_t1
  let v448 : Index := Scalar.indexCast arg11
  let c264 : Index := 264#32
  let c0_295 : Index := 0#32
  ![v448.toNat, 264, 0]
def k0_off35 (k0_t1 : Fin k0_t1_loop.trips) : Fin 3 → Nat :=
  let c0_i32 : BitVec 32 := 0#32
  let c1_i32 : BitVec 32 := 1#32
  let arg11 : BitVec 32 := Scf.iv c0_i32 c1_i32 k0_t1
  let v451 : Index := Scalar.indexCast arg11
  let c272 : Index := 272#32
  let c0_296 : Index := 0#32
  ![v451.toNat, 272, 0]
def k0_off36 (k0_t1 : Fin k0_t1_loop.trips) : Fin 3 → Nat :=
  let c0_i32 : BitVec 32 := 0#32
  let c1_i32 : BitVec 32 := 1#32
  let arg11 : BitVec 32 := Scf.iv c0_i32 c1_i32 k0_t1
  let v454 : Index := Scalar.indexCast arg11
  let c280 : Index := 280#32
  let c0_297 : Index := 0#32
  ![v454.toNat, 280, 0]
def k0_off37 (k0_t1 : Fin k0_t1_loop.trips) : Fin 3 → Nat :=
  let c0_i32 : BitVec 32 := 0#32
  let c1_i32 : BitVec 32 := 1#32
  let arg11 : BitVec 32 := Scf.iv c0_i32 c1_i32 k0_t1
  let v457 : Index := Scalar.indexCast arg11
  let c288 : Index := 288#32
  let c0_298 : Index := 0#32
  ![v457.toNat, 288, 0]
def k0_off38 (k0_t1 : Fin k0_t1_loop.trips) : Fin 3 → Nat :=
  let c0_i32 : BitVec 32 := 0#32
  let c1_i32 : BitVec 32 := 1#32
  let arg11 : BitVec 32 := Scf.iv c0_i32 c1_i32 k0_t1
  let v460 : Index := Scalar.indexCast arg11
  let c296 : Index := 296#32
  let c0_299 : Index := 0#32
  ![v460.toNat, 296, 0]
def k0_off39 (k0_t1 : Fin k0_t1_loop.trips) : Fin 3 → Nat :=
  let c0_i32 : BitVec 32 := 0#32
  let c1_i32 : BitVec 32 := 1#32
  let arg11 : BitVec 32 := Scf.iv c0_i32 c1_i32 k0_t1
  let v463 : Index := Scalar.indexCast arg11
  let c304 : Index := 304#32
  let c0_300 : Index := 0#32
  ![v463.toNat, 304, 0]
def k0_off40 (k0_t1 : Fin k0_t1_loop.trips) : Fin 3 → Nat :=
  let c0_i32 : BitVec 32 := 0#32
  let c1_i32 : BitVec 32 := 1#32
  let arg11 : BitVec 32 := Scf.iv c0_i32 c1_i32 k0_t1
  let v466 : Index := Scalar.indexCast arg11
  let c312 : Index := 312#32
  let c0_301 : Index := 0#32
  ![v466.toNat, 312, 0]
def k0_off41 (k0_t1 : Fin k0_t1_loop.trips) : Fin 3 → Nat :=
  let c0_i32 : BitVec 32 := 0#32
  let c1_i32 : BitVec 32 := 1#32
  let arg11 : BitVec 32 := Scf.iv c0_i32 c1_i32 k0_t1
  let v469 : Index := Scalar.indexCast arg11
  let c320 : Index := 320#32
  let c0_302 : Index := 0#32
  ![v469.toNat, 320, 0]
def k0_off42 (k0_t1 : Fin k0_t1_loop.trips) : Fin 3 → Nat :=
  let c0_i32 : BitVec 32 := 0#32
  let c1_i32 : BitVec 32 := 1#32
  let arg11 : BitVec 32 := Scf.iv c0_i32 c1_i32 k0_t1
  let v472 : Index := Scalar.indexCast arg11
  let c328 : Index := 328#32
  let c0_303 : Index := 0#32
  ![v472.toNat, 328, 0]
def k0_off43 (k0_t1 : Fin k0_t1_loop.trips) : Fin 3 → Nat :=
  let c0_i32 : BitVec 32 := 0#32
  let c1_i32 : BitVec 32 := 1#32
  let arg11 : BitVec 32 := Scf.iv c0_i32 c1_i32 k0_t1
  let v475 : Index := Scalar.indexCast arg11
  let c336 : Index := 336#32
  let c0_304 : Index := 0#32
  ![v475.toNat, 336, 0]
def k0_off44 (k0_t1 : Fin k0_t1_loop.trips) : Fin 3 → Nat :=
  let c0_i32 : BitVec 32 := 0#32
  let c1_i32 : BitVec 32 := 1#32
  let arg11 : BitVec 32 := Scf.iv c0_i32 c1_i32 k0_t1
  let v478 : Index := Scalar.indexCast arg11
  let c344 : Index := 344#32
  let c0_305 : Index := 0#32
  ![v478.toNat, 344, 0]
def k0_off45 (k0_t1 : Fin k0_t1_loop.trips) : Fin 3 → Nat :=
  let c0_i32 : BitVec 32 := 0#32
  let c1_i32 : BitVec 32 := 1#32
  let arg11 : BitVec 32 := Scf.iv c0_i32 c1_i32 k0_t1
  let v481 : Index := Scalar.indexCast arg11
  let c352 : Index := 352#32
  let c0_306 : Index := 0#32
  ![v481.toNat, 352, 0]
def k0_off46 (k0_t1 : Fin k0_t1_loop.trips) : Fin 3 → Nat :=
  let c0_i32 : BitVec 32 := 0#32
  let c1_i32 : BitVec 32 := 1#32
  let arg11 : BitVec 32 := Scf.iv c0_i32 c1_i32 k0_t1
  let v484 : Index := Scalar.indexCast arg11
  let c360 : Index := 360#32
  let c0_307 : Index := 0#32
  ![v484.toNat, 360, 0]
def k0_off47 (k0_t1 : Fin k0_t1_loop.trips) : Fin 3 → Nat :=
  let c0_i32 : BitVec 32 := 0#32
  let c1_i32 : BitVec 32 := 1#32
  let arg11 : BitVec 32 := Scf.iv c0_i32 c1_i32 k0_t1
  let v487 : Index := Scalar.indexCast arg11
  let c368 : Index := 368#32
  let c0_308 : Index := 0#32
  ![v487.toNat, 368, 0]
def k0_off48 (k0_t1 : Fin k0_t1_loop.trips) : Fin 3 → Nat :=
  let c0_i32 : BitVec 32 := 0#32
  let c1_i32 : BitVec 32 := 1#32
  let arg11 : BitVec 32 := Scf.iv c0_i32 c1_i32 k0_t1
  let v490 : Index := Scalar.indexCast arg11
  let c376 : Index := 376#32
  let c0_309 : Index := 0#32
  ![v490.toNat, 376, 0]
def k0_off49 (k0_t1 : Fin k0_t1_loop.trips) : Fin 3 → Nat :=
  let c0_i32 : BitVec 32 := 0#32
  let c1_i32 : BitVec 32 := 1#32
  let arg11 : BitVec 32 := Scf.iv c0_i32 c1_i32 k0_t1
  let v493 : Index := Scalar.indexCast arg11
  let c384 : Index := 384#32
  let c0_310 : Index := 0#32
  ![v493.toNat, 384, 0]
def k0_off50 (k0_t1 : Fin k0_t1_loop.trips) : Fin 3 → Nat :=
  let c0_i32 : BitVec 32 := 0#32
  let c1_i32 : BitVec 32 := 1#32
  let arg11 : BitVec 32 := Scf.iv c0_i32 c1_i32 k0_t1
  let v496 : Index := Scalar.indexCast arg11
  let c392 : Index := 392#32
  let c0_311 : Index := 0#32
  ![v496.toNat, 392, 0]
def k0_off51 (k0_t1 : Fin k0_t1_loop.trips) : Fin 3 → Nat :=
  let c0_i32 : BitVec 32 := 0#32
  let c1_i32 : BitVec 32 := 1#32
  let arg11 : BitVec 32 := Scf.iv c0_i32 c1_i32 k0_t1
  let v499 : Index := Scalar.indexCast arg11
  let c400 : Index := 400#32
  let c0_312 : Index := 0#32
  ![v499.toNat, 400, 0]
def k0_off52 (k0_t1 : Fin k0_t1_loop.trips) : Fin 3 → Nat :=
  let c0_i32 : BitVec 32 := 0#32
  let c1_i32 : BitVec 32 := 1#32
  let arg11 : BitVec 32 := Scf.iv c0_i32 c1_i32 k0_t1
  let v502 : Index := Scalar.indexCast arg11
  let c408 : Index := 408#32
  let c0_313 : Index := 0#32
  ![v502.toNat, 408, 0]
def k0_off53 (k0_t1 : Fin k0_t1_loop.trips) : Fin 3 → Nat :=
  let c0_i32 : BitVec 32 := 0#32
  let c1_i32 : BitVec 32 := 1#32
  let arg11 : BitVec 32 := Scf.iv c0_i32 c1_i32 k0_t1
  let v505 : Index := Scalar.indexCast arg11
  let c416 : Index := 416#32
  let c0_314 : Index := 0#32
  ![v505.toNat, 416, 0]
def k0_off54 (k0_t1 : Fin k0_t1_loop.trips) : Fin 3 → Nat :=
  let c0_i32 : BitVec 32 := 0#32
  let c1_i32 : BitVec 32 := 1#32
  let arg11 : BitVec 32 := Scf.iv c0_i32 c1_i32 k0_t1
  let v508 : Index := Scalar.indexCast arg11
  let c424 : Index := 424#32
  let c0_315 : Index := 0#32
  ![v508.toNat, 424, 0]
def k0_off55 (k0_t1 : Fin k0_t1_loop.trips) : Fin 3 → Nat :=
  let c0_i32 : BitVec 32 := 0#32
  let c1_i32 : BitVec 32 := 1#32
  let arg11 : BitVec 32 := Scf.iv c0_i32 c1_i32 k0_t1
  let v511 : Index := Scalar.indexCast arg11
  let c432 : Index := 432#32
  let c0_316 : Index := 0#32
  ![v511.toNat, 432, 0]
def k0_off56 (k0_t1 : Fin k0_t1_loop.trips) : Fin 3 → Nat :=
  let c0_i32 : BitVec 32 := 0#32
  let c1_i32 : BitVec 32 := 1#32
  let arg11 : BitVec 32 := Scf.iv c0_i32 c1_i32 k0_t1
  let v514 : Index := Scalar.indexCast arg11
  let c440 : Index := 440#32
  let c0_317 : Index := 0#32
  ![v514.toNat, 440, 0]
def k0_off57 (k0_t1 : Fin k0_t1_loop.trips) : Fin 3 → Nat :=
  let c0_i32 : BitVec 32 := 0#32
  let c1_i32 : BitVec 32 := 1#32
  let arg11 : BitVec 32 := Scf.iv c0_i32 c1_i32 k0_t1
  let v517 : Index := Scalar.indexCast arg11
  let c448 : Index := 448#32
  let c0_318 : Index := 0#32
  ![v517.toNat, 448, 0]
def k0_off58 (k0_t1 : Fin k0_t1_loop.trips) : Fin 3 → Nat :=
  let c0_i32 : BitVec 32 := 0#32
  let c1_i32 : BitVec 32 := 1#32
  let arg11 : BitVec 32 := Scf.iv c0_i32 c1_i32 k0_t1
  let v520 : Index := Scalar.indexCast arg11
  let c456 : Index := 456#32
  let c0_319 : Index := 0#32
  ![v520.toNat, 456, 0]
def k0_off59 (k0_t1 : Fin k0_t1_loop.trips) : Fin 3 → Nat :=
  let c0_i32 : BitVec 32 := 0#32
  let c1_i32 : BitVec 32 := 1#32
  let arg11 : BitVec 32 := Scf.iv c0_i32 c1_i32 k0_t1
  let v523 : Index := Scalar.indexCast arg11
  let c464 : Index := 464#32
  let c0_320 : Index := 0#32
  ![v523.toNat, 464, 0]
def k0_off60 (k0_t1 : Fin k0_t1_loop.trips) : Fin 3 → Nat :=
  let c0_i32 : BitVec 32 := 0#32
  let c1_i32 : BitVec 32 := 1#32
  let arg11 : BitVec 32 := Scf.iv c0_i32 c1_i32 k0_t1
  let v526 : Index := Scalar.indexCast arg11
  let c472 : Index := 472#32
  let c0_321 : Index := 0#32
  ![v526.toNat, 472, 0]
def k0_off61 (k0_t1 : Fin k0_t1_loop.trips) : Fin 3 → Nat :=
  let c0_i32 : BitVec 32 := 0#32
  let c1_i32 : BitVec 32 := 1#32
  let arg11 : BitVec 32 := Scf.iv c0_i32 c1_i32 k0_t1
  let v529 : Index := Scalar.indexCast arg11
  let c480 : Index := 480#32
  let c0_322 : Index := 0#32
  ![v529.toNat, 480, 0]
def k0_off62 (k0_t1 : Fin k0_t1_loop.trips) : Fin 3 → Nat :=
  let c0_i32 : BitVec 32 := 0#32
  let c1_i32 : BitVec 32 := 1#32
  let arg11 : BitVec 32 := Scf.iv c0_i32 c1_i32 k0_t1
  let v532 : Index := Scalar.indexCast arg11
  let c488 : Index := 488#32
  let c0_323 : Index := 0#32
  ![v532.toNat, 488, 0]
def k0_off63 (k0_t1 : Fin k0_t1_loop.trips) : Fin 3 → Nat :=
  let c0_i32 : BitVec 32 := 0#32
  let c1_i32 : BitVec 32 := 1#32
  let arg11 : BitVec 32 := Scf.iv c0_i32 c1_i32 k0_t1
  let v535 : Index := Scalar.indexCast arg11
  let c496 : Index := 496#32
  let c0_324 : Index := 0#32
  ![v535.toNat, 496, 0]
def k0_off64 (k0_t1 : Fin k0_t1_loop.trips) : Fin 3 → Nat :=
  let c0_i32 : BitVec 32 := 0#32
  let c1_i32 : BitVec 32 := 1#32
  let arg11 : BitVec 32 := Scf.iv c0_i32 c1_i32 k0_t1
  let v538 : Index := Scalar.indexCast arg11
  let c504 : Index := 504#32
  let c0_325 : Index := 0#32
  ![v538.toNat, 504, 0]
def k0_off65 (k0_t1 : Fin k0_t1_loop.trips) : Fin 3 → Nat :=
  let c0_i32 : BitVec 32 := 0#32
  let c1_i32 : BitVec 32 := 1#32
  let arg11 : BitVec 32 := Scf.iv c0_i32 c1_i32 k0_t1
  let v541 : Index := Scalar.indexCast arg11
  let c512 : Index := 512#32
  let c0_326 : Index := 0#32
  ![v541.toNat, 512, 0]
def k0_off66 (k0_t1 : Fin k0_t1_loop.trips) : Fin 3 → Nat :=
  let c0_i32 : BitVec 32 := 0#32
  let c1_i32 : BitVec 32 := 1#32
  let arg11 : BitVec 32 := Scf.iv c0_i32 c1_i32 k0_t1
  let v544 : Index := Scalar.indexCast arg11
  let c520 : Index := 520#32
  let c0_327 : Index := 0#32
  ![v544.toNat, 520, 0]
def k0_off67 (k0_t1 : Fin k0_t1_loop.trips) : Fin 3 → Nat :=
  let c0_i32 : BitVec 32 := 0#32
  let c1_i32 : BitVec 32 := 1#32
  let arg11 : BitVec 32 := Scf.iv c0_i32 c1_i32 k0_t1
  let v547 : Index := Scalar.indexCast arg11
  let c528 : Index := 528#32
  let c0_328 : Index := 0#32
  ![v547.toNat, 528, 0]
def k0_off68 (k0_t1 : Fin k0_t1_loop.trips) : Fin 3 → Nat :=
  let c0_i32 : BitVec 32 := 0#32
  let c1_i32 : BitVec 32 := 1#32
  let arg11 : BitVec 32 := Scf.iv c0_i32 c1_i32 k0_t1
  let v550 : Index := Scalar.indexCast arg11
  let c536 : Index := 536#32
  let c0_329 : Index := 0#32
  ![v550.toNat, 536, 0]
def k0_off69 (k0_t1 : Fin k0_t1_loop.trips) : Fin 3 → Nat :=
  let c0_i32 : BitVec 32 := 0#32
  let c1_i32 : BitVec 32 := 1#32
  let arg11 : BitVec 32 := Scf.iv c0_i32 c1_i32 k0_t1
  let v553 : Index := Scalar.indexCast arg11
  let c544 : Index := 544#32
  let c0_330 : Index := 0#32
  ![v553.toNat, 544, 0]
def k0_off70 (k0_t1 : Fin k0_t1_loop.trips) : Fin 3 → Nat :=
  let c0_i32 : BitVec 32 := 0#32
  let c1_i32 : BitVec 32 := 1#32
  let arg11 : BitVec 32 := Scf.iv c0_i32 c1_i32 k0_t1
  let v556 : Index := Scalar.indexCast arg11
  let c552 : Index := 552#32
  let c0_331 : Index := 0#32
  ![v556.toNat, 552, 0]
def k0_off71 (k0_t1 : Fin k0_t1_loop.trips) : Fin 3 → Nat :=
  let c0_i32 : BitVec 32 := 0#32
  let c1_i32 : BitVec 32 := 1#32
  let arg11 : BitVec 32 := Scf.iv c0_i32 c1_i32 k0_t1
  let v559 : Index := Scalar.indexCast arg11
  let c560 : Index := 560#32
  let c0_332 : Index := 0#32
  ![v559.toNat, 560, 0]
def k0_off72 (k0_t1 : Fin k0_t1_loop.trips) : Fin 3 → Nat :=
  let c0_i32 : BitVec 32 := 0#32
  let c1_i32 : BitVec 32 := 1#32
  let arg11 : BitVec 32 := Scf.iv c0_i32 c1_i32 k0_t1
  let v562 : Index := Scalar.indexCast arg11
  let c568 : Index := 568#32
  let c0_333 : Index := 0#32
  ![v562.toNat, 568, 0]
def k0_off73 (k0_t1 : Fin k0_t1_loop.trips) : Fin 3 → Nat :=
  let c0_i32 : BitVec 32 := 0#32
  let c1_i32 : BitVec 32 := 1#32
  let arg11 : BitVec 32 := Scf.iv c0_i32 c1_i32 k0_t1
  let v565 : Index := Scalar.indexCast arg11
  let c576 : Index := 576#32
  let c0_334 : Index := 0#32
  ![v565.toNat, 576, 0]
def k0_off74 (k0_t1 : Fin k0_t1_loop.trips) : Fin 3 → Nat :=
  let c0_i32 : BitVec 32 := 0#32
  let c1_i32 : BitVec 32 := 1#32
  let arg11 : BitVec 32 := Scf.iv c0_i32 c1_i32 k0_t1
  let v568 : Index := Scalar.indexCast arg11
  let c584 : Index := 584#32
  let c0_335 : Index := 0#32
  ![v568.toNat, 584, 0]
def k0_off75 (k0_t1 : Fin k0_t1_loop.trips) : Fin 3 → Nat :=
  let c0_i32 : BitVec 32 := 0#32
  let c1_i32 : BitVec 32 := 1#32
  let arg11 : BitVec 32 := Scf.iv c0_i32 c1_i32 k0_t1
  let v571 : Index := Scalar.indexCast arg11
  let c592 : Index := 592#32
  let c0_336 : Index := 0#32
  ![v571.toNat, 592, 0]
def k0_off76 (k0_t1 : Fin k0_t1_loop.trips) : Fin 3 → Nat :=
  let c0_i32 : BitVec 32 := 0#32
  let c1_i32 : BitVec 32 := 1#32
  let arg11 : BitVec 32 := Scf.iv c0_i32 c1_i32 k0_t1
  let v574 : Index := Scalar.indexCast arg11
  let c600 : Index := 600#32
  let c0_337 : Index := 0#32
  ![v574.toNat, 600, 0]
def k0_off77 (k0_t1 : Fin k0_t1_loop.trips) : Fin 3 → Nat :=
  let c0_i32 : BitVec 32 := 0#32
  let c1_i32 : BitVec 32 := 1#32
  let arg11 : BitVec 32 := Scf.iv c0_i32 c1_i32 k0_t1
  let v577 : Index := Scalar.indexCast arg11
  let c608 : Index := 608#32
  let c0_338 : Index := 0#32
  ![v577.toNat, 608, 0]
def k0_off78 (k0_t1 : Fin k0_t1_loop.trips) : Fin 3 → Nat :=
  let c0_i32 : BitVec 32 := 0#32
  let c1_i32 : BitVec 32 := 1#32
  let arg11 : BitVec 32 := Scf.iv c0_i32 c1_i32 k0_t1
  let v580 : Index := Scalar.indexCast arg11
  let c616 : Index := 616#32
  let c0_339 : Index := 0#32
  ![v580.toNat, 616, 0]
def k0_off79 (k0_t1 : Fin k0_t1_loop.trips) : Fin 3 → Nat :=
  let c0_i32 : BitVec 32 := 0#32
  let c1_i32 : BitVec 32 := 1#32
  let arg11 : BitVec 32 := Scf.iv c0_i32 c1_i32 k0_t1
  let v583 : Index := Scalar.indexCast arg11
  let c624 : Index := 624#32
  let c0_340 : Index := 0#32
  ![v583.toNat, 624, 0]
def k0_off80 (k0_t1 : Fin k0_t1_loop.trips) : Fin 3 → Nat :=
  let c0_i32 : BitVec 32 := 0#32
  let c1_i32 : BitVec 32 := 1#32
  let arg11 : BitVec 32 := Scf.iv c0_i32 c1_i32 k0_t1
  let v586 : Index := Scalar.indexCast arg11
  let c632 : Index := 632#32
  let c0_341 : Index := 0#32
  ![v586.toNat, 632, 0]
def k0_off81 (k0_t1 : Fin k0_t1_loop.trips) : Fin 3 → Nat :=
  let c0_i32 : BitVec 32 := 0#32
  let c1_i32 : BitVec 32 := 1#32
  let arg11 : BitVec 32 := Scf.iv c0_i32 c1_i32 k0_t1
  let v589 : Index := Scalar.indexCast arg11
  let c640 : Index := 640#32
  let c0_342 : Index := 0#32
  ![v589.toNat, 640, 0]
def k0_off82 (k0_t1 : Fin k0_t1_loop.trips) : Fin 3 → Nat :=
  let c0_i32 : BitVec 32 := 0#32
  let c1_i32 : BitVec 32 := 1#32
  let arg11 : BitVec 32 := Scf.iv c0_i32 c1_i32 k0_t1
  let v592 : Index := Scalar.indexCast arg11
  let c648 : Index := 648#32
  let c0_343 : Index := 0#32
  ![v592.toNat, 648, 0]
def k0_off83 (k0_t1 : Fin k0_t1_loop.trips) : Fin 3 → Nat :=
  let c0_i32 : BitVec 32 := 0#32
  let c1_i32 : BitVec 32 := 1#32
  let arg11 : BitVec 32 := Scf.iv c0_i32 c1_i32 k0_t1
  let v595 : Index := Scalar.indexCast arg11
  let c656 : Index := 656#32
  let c0_344 : Index := 0#32
  ![v595.toNat, 656, 0]
def k0_off84 (k0_t1 : Fin k0_t1_loop.trips) : Fin 3 → Nat :=
  let c0_i32 : BitVec 32 := 0#32
  let c1_i32 : BitVec 32 := 1#32
  let arg11 : BitVec 32 := Scf.iv c0_i32 c1_i32 k0_t1
  let v598 : Index := Scalar.indexCast arg11
  let c664 : Index := 664#32
  let c0_345 : Index := 0#32
  ![v598.toNat, 664, 0]
def k0_off85 (k0_t1 : Fin k0_t1_loop.trips) : Fin 3 → Nat :=
  let c0_i32 : BitVec 32 := 0#32
  let c1_i32 : BitVec 32 := 1#32
  let arg11 : BitVec 32 := Scf.iv c0_i32 c1_i32 k0_t1
  let v601 : Index := Scalar.indexCast arg11
  let c672 : Index := 672#32
  let c0_346 : Index := 0#32
  ![v601.toNat, 672, 0]
def k0_off86 (k0_t1 : Fin k0_t1_loop.trips) : Fin 3 → Nat :=
  let c0_i32 : BitVec 32 := 0#32
  let c1_i32 : BitVec 32 := 1#32
  let arg11 : BitVec 32 := Scf.iv c0_i32 c1_i32 k0_t1
  let v604 : Index := Scalar.indexCast arg11
  let c680 : Index := 680#32
  let c0_347 : Index := 0#32
  ![v604.toNat, 680, 0]
def k0_off87 (k0_t1 : Fin k0_t1_loop.trips) : Fin 3 → Nat :=
  let c0_i32 : BitVec 32 := 0#32
  let c1_i32 : BitVec 32 := 1#32
  let arg11 : BitVec 32 := Scf.iv c0_i32 c1_i32 k0_t1
  let v607 : Index := Scalar.indexCast arg11
  let c688 : Index := 688#32
  let c0_348 : Index := 0#32
  ![v607.toNat, 688, 0]
def k0_off88 (k0_t1 : Fin k0_t1_loop.trips) : Fin 3 → Nat :=
  let c0_i32 : BitVec 32 := 0#32
  let c1_i32 : BitVec 32 := 1#32
  let arg11 : BitVec 32 := Scf.iv c0_i32 c1_i32 k0_t1
  let v610 : Index := Scalar.indexCast arg11
  let c696 : Index := 696#32
  let c0_349 : Index := 0#32
  ![v610.toNat, 696, 0]
def k0_off89 (k0_t1 : Fin k0_t1_loop.trips) : Fin 3 → Nat :=
  let c0_i32 : BitVec 32 := 0#32
  let c1_i32 : BitVec 32 := 1#32
  let arg11 : BitVec 32 := Scf.iv c0_i32 c1_i32 k0_t1
  let v613 : Index := Scalar.indexCast arg11
  let c704 : Index := 704#32
  let c0_350 : Index := 0#32
  ![v613.toNat, 704, 0]
def k0_off90 (k0_t1 : Fin k0_t1_loop.trips) : Fin 3 → Nat :=
  let c0_i32 : BitVec 32 := 0#32
  let c1_i32 : BitVec 32 := 1#32
  let arg11 : BitVec 32 := Scf.iv c0_i32 c1_i32 k0_t1
  let v616 : Index := Scalar.indexCast arg11
  let c712 : Index := 712#32
  let c0_351 : Index := 0#32
  ![v616.toNat, 712, 0]
def k0_off91 (k0_t1 : Fin k0_t1_loop.trips) : Fin 3 → Nat :=
  let c0_i32 : BitVec 32 := 0#32
  let c1_i32 : BitVec 32 := 1#32
  let arg11 : BitVec 32 := Scf.iv c0_i32 c1_i32 k0_t1
  let v619 : Index := Scalar.indexCast arg11
  let c720 : Index := 720#32
  let c0_352 : Index := 0#32
  ![v619.toNat, 720, 0]
def k0_off92 (k0_t1 : Fin k0_t1_loop.trips) : Fin 3 → Nat :=
  let c0_i32 : BitVec 32 := 0#32
  let c1_i32 : BitVec 32 := 1#32
  let arg11 : BitVec 32 := Scf.iv c0_i32 c1_i32 k0_t1
  let v622 : Index := Scalar.indexCast arg11
  let c728 : Index := 728#32
  let c0_353 : Index := 0#32
  ![v622.toNat, 728, 0]
def k0_off93 (k0_t1 : Fin k0_t1_loop.trips) : Fin 3 → Nat :=
  let c0_i32 : BitVec 32 := 0#32
  let c1_i32 : BitVec 32 := 1#32
  let arg11 : BitVec 32 := Scf.iv c0_i32 c1_i32 k0_t1
  let v625 : Index := Scalar.indexCast arg11
  let c736 : Index := 736#32
  let c0_354 : Index := 0#32
  ![v625.toNat, 736, 0]
def k0_off94 (k0_t1 : Fin k0_t1_loop.trips) : Fin 3 → Nat :=
  let c0_i32 : BitVec 32 := 0#32
  let c1_i32 : BitVec 32 := 1#32
  let arg11 : BitVec 32 := Scf.iv c0_i32 c1_i32 k0_t1
  let v628 : Index := Scalar.indexCast arg11
  let c744 : Index := 744#32
  let c0_355 : Index := 0#32
  ![v628.toNat, 744, 0]
def k0_off95 (k0_t1 : Fin k0_t1_loop.trips) : Fin 3 → Nat :=
  let c0_i32 : BitVec 32 := 0#32
  let c1_i32 : BitVec 32 := 1#32
  let arg11 : BitVec 32 := Scf.iv c0_i32 c1_i32 k0_t1
  let v631 : Index := Scalar.indexCast arg11
  let c752 : Index := 752#32
  let c0_356 : Index := 0#32
  ![v631.toNat, 752, 0]
def k0_off96 (k0_t1 : Fin k0_t1_loop.trips) : Fin 3 → Nat :=
  let c0_i32 : BitVec 32 := 0#32
  let c1_i32 : BitVec 32 := 1#32
  let arg11 : BitVec 32 := Scf.iv c0_i32 c1_i32 k0_t1
  let v634 : Index := Scalar.indexCast arg11
  let c760 : Index := 760#32
  let c0_357 : Index := 0#32
  ![v634.toNat, 760, 0]
def k0_off97 (k0_t1 : Fin k0_t1_loop.trips) : Fin 3 → Nat :=
  let c0_i32 : BitVec 32 := 0#32
  let c1_i32 : BitVec 32 := 1#32
  let arg11 : BitVec 32 := Scf.iv c0_i32 c1_i32 k0_t1
  let v637 : Index := Scalar.indexCast arg11
  let c768 : Index := 768#32
  let c0_358 : Index := 0#32
  ![v637.toNat, 768, 0]
def k0_off98 (k0_t1 : Fin k0_t1_loop.trips) : Fin 3 → Nat :=
  let c0_i32 : BitVec 32 := 0#32
  let c1_i32 : BitVec 32 := 1#32
  let arg11 : BitVec 32 := Scf.iv c0_i32 c1_i32 k0_t1
  let v640 : Index := Scalar.indexCast arg11
  let c776 : Index := 776#32
  let c0_359 : Index := 0#32
  ![v640.toNat, 776, 0]
def k0_off99 (k0_t1 : Fin k0_t1_loop.trips) : Fin 3 → Nat :=
  let c0_i32 : BitVec 32 := 0#32
  let c1_i32 : BitVec 32 := 1#32
  let arg11 : BitVec 32 := Scf.iv c0_i32 c1_i32 k0_t1
  let v643 : Index := Scalar.indexCast arg11
  let c784 : Index := 784#32
  let c0_360 : Index := 0#32
  ![v643.toNat, 784, 0]
def k0_off100 (k0_t1 : Fin k0_t1_loop.trips) : Fin 3 → Nat :=
  let c0_i32 : BitVec 32 := 0#32
  let c1_i32 : BitVec 32 := 1#32
  let arg11 : BitVec 32 := Scf.iv c0_i32 c1_i32 k0_t1
  let v646 : Index := Scalar.indexCast arg11
  let c792 : Index := 792#32
  let c0_361 : Index := 0#32
  ![v646.toNat, 792, 0]
def k0_off101 (k0_t1 : Fin k0_t1_loop.trips) : Fin 3 → Nat :=
  let c0_i32 : BitVec 32 := 0#32
  let c1_i32 : BitVec 32 := 1#32
  let arg11 : BitVec 32 := Scf.iv c0_i32 c1_i32 k0_t1
  let v649 : Index := Scalar.indexCast arg11
  let c800 : Index := 800#32
  let c0_362 : Index := 0#32
  ![v649.toNat, 800, 0]
def k0_off102 (k0_t1 : Fin k0_t1_loop.trips) : Fin 3 → Nat :=
  let c0_i32 : BitVec 32 := 0#32
  let c1_i32 : BitVec 32 := 1#32
  let arg11 : BitVec 32 := Scf.iv c0_i32 c1_i32 k0_t1
  let v652 : Index := Scalar.indexCast arg11
  let c808 : Index := 808#32
  let c0_363 : Index := 0#32
  ![v652.toNat, 808, 0]
def k0_off103 (k0_t1 : Fin k0_t1_loop.trips) : Fin 3 → Nat :=
  let c0_i32 : BitVec 32 := 0#32
  let c1_i32 : BitVec 32 := 1#32
  let arg11 : BitVec 32 := Scf.iv c0_i32 c1_i32 k0_t1
  let v655 : Index := Scalar.indexCast arg11
  let c816 : Index := 816#32
  let c0_364 : Index := 0#32
  ![v655.toNat, 816, 0]
def k0_off104 (k0_t1 : Fin k0_t1_loop.trips) : Fin 3 → Nat :=
  let c0_i32 : BitVec 32 := 0#32
  let c1_i32 : BitVec 32 := 1#32
  let arg11 : BitVec 32 := Scf.iv c0_i32 c1_i32 k0_t1
  let v658 : Index := Scalar.indexCast arg11
  let c824 : Index := 824#32
  let c0_365 : Index := 0#32
  ![v658.toNat, 824, 0]
def k0_off105 (k0_t1 : Fin k0_t1_loop.trips) : Fin 3 → Nat :=
  let c0_i32 : BitVec 32 := 0#32
  let c1_i32 : BitVec 32 := 1#32
  let arg11 : BitVec 32 := Scf.iv c0_i32 c1_i32 k0_t1
  let v661 : Index := Scalar.indexCast arg11
  let c832 : Index := 832#32
  let c0_366 : Index := 0#32
  ![v661.toNat, 832, 0]
def k0_off106 (k0_t1 : Fin k0_t1_loop.trips) : Fin 3 → Nat :=
  let c0_i32 : BitVec 32 := 0#32
  let c1_i32 : BitVec 32 := 1#32
  let arg11 : BitVec 32 := Scf.iv c0_i32 c1_i32 k0_t1
  let v664 : Index := Scalar.indexCast arg11
  let c840 : Index := 840#32
  let c0_367 : Index := 0#32
  ![v664.toNat, 840, 0]
def k0_off107 (k0_t1 : Fin k0_t1_loop.trips) : Fin 3 → Nat :=
  let c0_i32 : BitVec 32 := 0#32
  let c1_i32 : BitVec 32 := 1#32
  let arg11 : BitVec 32 := Scf.iv c0_i32 c1_i32 k0_t1
  let v667 : Index := Scalar.indexCast arg11
  let c848 : Index := 848#32
  let c0_368 : Index := 0#32
  ![v667.toNat, 848, 0]
def k0_off108 (k0_t1 : Fin k0_t1_loop.trips) : Fin 3 → Nat :=
  let c0_i32 : BitVec 32 := 0#32
  let c1_i32 : BitVec 32 := 1#32
  let arg11 : BitVec 32 := Scf.iv c0_i32 c1_i32 k0_t1
  let v670 : Index := Scalar.indexCast arg11
  let c856 : Index := 856#32
  let c0_369 : Index := 0#32
  ![v670.toNat, 856, 0]
def k0_off109 (k0_t1 : Fin k0_t1_loop.trips) : Fin 3 → Nat :=
  let c0_i32 : BitVec 32 := 0#32
  let c1_i32 : BitVec 32 := 1#32
  let arg11 : BitVec 32 := Scf.iv c0_i32 c1_i32 k0_t1
  let v673 : Index := Scalar.indexCast arg11
  let c864 : Index := 864#32
  let c0_370 : Index := 0#32
  ![v673.toNat, 864, 0]
def k0_off110 (k0_t1 : Fin k0_t1_loop.trips) : Fin 3 → Nat :=
  let c0_i32 : BitVec 32 := 0#32
  let c1_i32 : BitVec 32 := 1#32
  let arg11 : BitVec 32 := Scf.iv c0_i32 c1_i32 k0_t1
  let v676 : Index := Scalar.indexCast arg11
  let c872 : Index := 872#32
  let c0_371 : Index := 0#32
  ![v676.toNat, 872, 0]
def k0_off111 (k0_t1 : Fin k0_t1_loop.trips) : Fin 3 → Nat :=
  let c0_i32 : BitVec 32 := 0#32
  let c1_i32 : BitVec 32 := 1#32
  let arg11 : BitVec 32 := Scf.iv c0_i32 c1_i32 k0_t1
  let v679 : Index := Scalar.indexCast arg11
  let c880 : Index := 880#32
  let c0_372 : Index := 0#32
  ![v679.toNat, 880, 0]
def k0_off112 (k0_t1 : Fin k0_t1_loop.trips) : Fin 3 → Nat :=
  let c0_i32 : BitVec 32 := 0#32
  let c1_i32 : BitVec 32 := 1#32
  let arg11 : BitVec 32 := Scf.iv c0_i32 c1_i32 k0_t1
  let v682 : Index := Scalar.indexCast arg11
  let c888 : Index := 888#32
  let c0_373 : Index := 0#32
  ![v682.toNat, 888, 0]
def k0_off113 (k0_t1 : Fin k0_t1_loop.trips) : Fin 3 → Nat :=
  let c0_i32 : BitVec 32 := 0#32
  let c1_i32 : BitVec 32 := 1#32
  let arg11 : BitVec 32 := Scf.iv c0_i32 c1_i32 k0_t1
  let v685 : Index := Scalar.indexCast arg11
  let c896 : Index := 896#32
  let c0_374 : Index := 0#32
  ![v685.toNat, 896, 0]
def k0_off114 (k0_t1 : Fin k0_t1_loop.trips) : Fin 3 → Nat :=
  let c0_i32 : BitVec 32 := 0#32
  let c1_i32 : BitVec 32 := 1#32
  let arg11 : BitVec 32 := Scf.iv c0_i32 c1_i32 k0_t1
  let v688 : Index := Scalar.indexCast arg11
  let c904 : Index := 904#32
  let c0_375 : Index := 0#32
  ![v688.toNat, 904, 0]
def k0_off115 (k0_t1 : Fin k0_t1_loop.trips) : Fin 3 → Nat :=
  let c0_i32 : BitVec 32 := 0#32
  let c1_i32 : BitVec 32 := 1#32
  let arg11 : BitVec 32 := Scf.iv c0_i32 c1_i32 k0_t1
  let v691 : Index := Scalar.indexCast arg11
  let c912 : Index := 912#32
  let c0_376 : Index := 0#32
  ![v691.toNat, 912, 0]
def k0_off116 (k0_t1 : Fin k0_t1_loop.trips) : Fin 3 → Nat :=
  let c0_i32 : BitVec 32 := 0#32
  let c1_i32 : BitVec 32 := 1#32
  let arg11 : BitVec 32 := Scf.iv c0_i32 c1_i32 k0_t1
  let v694 : Index := Scalar.indexCast arg11
  let c920 : Index := 920#32
  let c0_377 : Index := 0#32
  ![v694.toNat, 920, 0]
def k0_off117 (k0_t1 : Fin k0_t1_loop.trips) : Fin 3 → Nat :=
  let c0_i32 : BitVec 32 := 0#32
  let c1_i32 : BitVec 32 := 1#32
  let arg11 : BitVec 32 := Scf.iv c0_i32 c1_i32 k0_t1
  let v697 : Index := Scalar.indexCast arg11
  let c928 : Index := 928#32
  let c0_378 : Index := 0#32
  ![v697.toNat, 928, 0]
def k0_off118 (k0_t1 : Fin k0_t1_loop.trips) : Fin 3 → Nat :=
  let c0_i32 : BitVec 32 := 0#32
  let c1_i32 : BitVec 32 := 1#32
  let arg11 : BitVec 32 := Scf.iv c0_i32 c1_i32 k0_t1
  let v700 : Index := Scalar.indexCast arg11
  let c936 : Index := 936#32
  let c0_379 : Index := 0#32
  ![v700.toNat, 936, 0]
def k0_off119 (k0_t1 : Fin k0_t1_loop.trips) : Fin 3 → Nat :=
  let c0_i32 : BitVec 32 := 0#32
  let c1_i32 : BitVec 32 := 1#32
  let arg11 : BitVec 32 := Scf.iv c0_i32 c1_i32 k0_t1
  let v703 : Index := Scalar.indexCast arg11
  let c944 : Index := 944#32
  let c0_380 : Index := 0#32
  ![v703.toNat, 944, 0]
def k0_off120 (k0_t1 : Fin k0_t1_loop.trips) : Fin 3 → Nat :=
  let c0_i32 : BitVec 32 := 0#32
  let c1_i32 : BitVec 32 := 1#32
  let arg11 : BitVec 32 := Scf.iv c0_i32 c1_i32 k0_t1
  let v706 : Index := Scalar.indexCast arg11
  let c952 : Index := 952#32
  let c0_381 : Index := 0#32
  ![v706.toNat, 952, 0]
def k0_off121 (k0_t1 : Fin k0_t1_loop.trips) : Fin 3 → Nat :=
  let c0_i32 : BitVec 32 := 0#32
  let c1_i32 : BitVec 32 := 1#32
  let arg11 : BitVec 32 := Scf.iv c0_i32 c1_i32 k0_t1
  let v709 : Index := Scalar.indexCast arg11
  let c960 : Index := 960#32
  let c0_382 : Index := 0#32
  ![v709.toNat, 960, 0]
def k0_off122 (k0_t1 : Fin k0_t1_loop.trips) : Fin 3 → Nat :=
  let c0_i32 : BitVec 32 := 0#32
  let c1_i32 : BitVec 32 := 1#32
  let arg11 : BitVec 32 := Scf.iv c0_i32 c1_i32 k0_t1
  let v712 : Index := Scalar.indexCast arg11
  let c968 : Index := 968#32
  let c0_383 : Index := 0#32
  ![v712.toNat, 968, 0]
def k0_off123 (k0_t1 : Fin k0_t1_loop.trips) : Fin 3 → Nat :=
  let c0_i32 : BitVec 32 := 0#32
  let c1_i32 : BitVec 32 := 1#32
  let arg11 : BitVec 32 := Scf.iv c0_i32 c1_i32 k0_t1
  let v715 : Index := Scalar.indexCast arg11
  let c976 : Index := 976#32
  let c0_384 : Index := 0#32
  ![v715.toNat, 976, 0]
def k0_off124 (k0_t1 : Fin k0_t1_loop.trips) : Fin 3 → Nat :=
  let c0_i32 : BitVec 32 := 0#32
  let c1_i32 : BitVec 32 := 1#32
  let arg11 : BitVec 32 := Scf.iv c0_i32 c1_i32 k0_t1
  let v718 : Index := Scalar.indexCast arg11
  let c984 : Index := 984#32
  let c0_385 : Index := 0#32
  ![v718.toNat, 984, 0]
def k0_off125 (k0_t1 : Fin k0_t1_loop.trips) : Fin 3 → Nat :=
  let c0_i32 : BitVec 32 := 0#32
  let c1_i32 : BitVec 32 := 1#32
  let arg11 : BitVec 32 := Scf.iv c0_i32 c1_i32 k0_t1
  let v721 : Index := Scalar.indexCast arg11
  let c992 : Index := 992#32
  let c0_386 : Index := 0#32
  ![v721.toNat, 992, 0]
def k0_off126 (k0_t1 : Fin k0_t1_loop.trips) : Fin 3 → Nat :=
  let c0_i32 : BitVec 32 := 0#32
  let c1_i32 : BitVec 32 := 1#32
  let arg11 : BitVec 32 := Scf.iv c0_i32 c1_i32 k0_t1
  let v724 : Index := Scalar.indexCast arg11
  let c1000 : Index := 1000#32
  let c0_387 : Index := 0#32
  ![v724.toNat, 1000, 0]
def k0_off127 (k0_t1 : Fin k0_t1_loop.trips) : Fin 3 → Nat :=
  let c0_i32 : BitVec 32 := 0#32
  let c1_i32 : BitVec 32 := 1#32
  let arg11 : BitVec 32 := Scf.iv c0_i32 c1_i32 k0_t1
  let v727 : Index := Scalar.indexCast arg11
  let c1008 : Index := 1008#32
  let c0_388 : Index := 0#32
  ![v727.toNat, 1008, 0]
def k0_off128 (k0_t1 : Fin k0_t1_loop.trips) : Fin 3 → Nat :=
  let c0_i32 : BitVec 32 := 0#32
  let c1_i32 : BitVec 32 := 1#32
  let arg11 : BitVec 32 := Scf.iv c0_i32 c1_i32 k0_t1
  let v730 : Index := Scalar.indexCast arg11
  let c1016 : Index := 1016#32
  let c0_389 : Index := 0#32
  ![v730.toNat, 1016, 0]
def k0_off129 (k0_t1 : Fin k0_t1_loop.trips) : Fin 3 → Nat :=
  let c0_i32 : BitVec 32 := 0#32
  let c1_i32 : BitVec 32 := 1#32
  let arg11 : BitVec 32 := Scf.iv c0_i32 c1_i32 k0_t1
  let v5776 : Index := Scalar.indexCast arg11
  let c0_649 : Index := 0#32
  let c0_650 : Index := 0#32
  ![v5776.toNat, 0, 0]
def k0_off130 (k0_t1 : Fin k0_t1_loop.trips) : Fin 3 → Nat :=
  let c0_i32 : BitVec 32 := 0#32
  let c1_i32 : BitVec 32 := 1#32
  let arg11 : BitVec 32 := Scf.iv c0_i32 c1_i32 k0_t1
  let v5829 : Index := Scalar.indexCast arg11
  let c8_652 : Index := 8#32
  let c0_653 : Index := 0#32
  ![v5829.toNat, 8, 0]
def k0_off131 (k0_t1 : Fin k0_t1_loop.trips) : Fin 3 → Nat :=
  let c0_i32 : BitVec 32 := 0#32
  let c1_i32 : BitVec 32 := 1#32
  let arg11 : BitVec 32 := Scf.iv c0_i32 c1_i32 k0_t1
  let v5882 : Index := Scalar.indexCast arg11
  let c16_655 : Index := 16#32
  let c0_656 : Index := 0#32
  ![v5882.toNat, 16, 0]
def k0_off132 (k0_t1 : Fin k0_t1_loop.trips) : Fin 3 → Nat :=
  let c0_i32 : BitVec 32 := 0#32
  let c1_i32 : BitVec 32 := 1#32
  let arg11 : BitVec 32 := Scf.iv c0_i32 c1_i32 k0_t1
  let v5935 : Index := Scalar.indexCast arg11
  let c24_658 : Index := 24#32
  let c0_659 : Index := 0#32
  ![v5935.toNat, 24, 0]
def k0_off133 (k0_t1 : Fin k0_t1_loop.trips) : Fin 3 → Nat :=
  let c0_i32 : BitVec 32 := 0#32
  let c1_i32 : BitVec 32 := 1#32
  let arg11 : BitVec 32 := Scf.iv c0_i32 c1_i32 k0_t1
  let v5988 : Index := Scalar.indexCast arg11
  let c32_661 : Index := 32#32
  let c0_662 : Index := 0#32
  ![v5988.toNat, 32, 0]
def k0_off134 (k0_t1 : Fin k0_t1_loop.trips) : Fin 3 → Nat :=
  let c0_i32 : BitVec 32 := 0#32
  let c1_i32 : BitVec 32 := 1#32
  let arg11 : BitVec 32 := Scf.iv c0_i32 c1_i32 k0_t1
  let v6041 : Index := Scalar.indexCast arg11
  let c40_664 : Index := 40#32
  let c0_665 : Index := 0#32
  ![v6041.toNat, 40, 0]
def k0_off135 (k0_t1 : Fin k0_t1_loop.trips) : Fin 3 → Nat :=
  let c0_i32 : BitVec 32 := 0#32
  let c1_i32 : BitVec 32 := 1#32
  let arg11 : BitVec 32 := Scf.iv c0_i32 c1_i32 k0_t1
  let v6094 : Index := Scalar.indexCast arg11
  let c48_667 : Index := 48#32
  let c0_668 : Index := 0#32
  ![v6094.toNat, 48, 0]
def k0_off136 (k0_t1 : Fin k0_t1_loop.trips) : Fin 3 → Nat :=
  let c0_i32 : BitVec 32 := 0#32
  let c1_i32 : BitVec 32 := 1#32
  let arg11 : BitVec 32 := Scf.iv c0_i32 c1_i32 k0_t1
  let v6147 : Index := Scalar.indexCast arg11
  let c56_670 : Index := 56#32
  let c0_671 : Index := 0#32
  ![v6147.toNat, 56, 0]
def k0_off137 (k0_t1 : Fin k0_t1_loop.trips) : Fin 3 → Nat :=
  let c0_i32 : BitVec 32 := 0#32
  let c1_i32 : BitVec 32 := 1#32
  let arg11 : BitVec 32 := Scf.iv c0_i32 c1_i32 k0_t1
  let v6200 : Index := Scalar.indexCast arg11
  let c64_673 : Index := 64#32
  let c0_674 : Index := 0#32
  ![v6200.toNat, 64, 0]
def k0_off138 (k0_t1 : Fin k0_t1_loop.trips) : Fin 3 → Nat :=
  let c0_i32 : BitVec 32 := 0#32
  let c1_i32 : BitVec 32 := 1#32
  let arg11 : BitVec 32 := Scf.iv c0_i32 c1_i32 k0_t1
  let v6253 : Index := Scalar.indexCast arg11
  let c72_676 : Index := 72#32
  let c0_677 : Index := 0#32
  ![v6253.toNat, 72, 0]
def k0_off139 (k0_t1 : Fin k0_t1_loop.trips) : Fin 3 → Nat :=
  let c0_i32 : BitVec 32 := 0#32
  let c1_i32 : BitVec 32 := 1#32
  let arg11 : BitVec 32 := Scf.iv c0_i32 c1_i32 k0_t1
  let v6306 : Index := Scalar.indexCast arg11
  let c80_679 : Index := 80#32
  let c0_680 : Index := 0#32
  ![v6306.toNat, 80, 0]
def k0_off140 (k0_t1 : Fin k0_t1_loop.trips) : Fin 3 → Nat :=
  let c0_i32 : BitVec 32 := 0#32
  let c1_i32 : BitVec 32 := 1#32
  let arg11 : BitVec 32 := Scf.iv c0_i32 c1_i32 k0_t1
  let v6359 : Index := Scalar.indexCast arg11
  let c88_682 : Index := 88#32
  let c0_683 : Index := 0#32
  ![v6359.toNat, 88, 0]
def k0_off141 (k0_t1 : Fin k0_t1_loop.trips) : Fin 3 → Nat :=
  let c0_i32 : BitVec 32 := 0#32
  let c1_i32 : BitVec 32 := 1#32
  let arg11 : BitVec 32 := Scf.iv c0_i32 c1_i32 k0_t1
  let v6412 : Index := Scalar.indexCast arg11
  let c96_685 : Index := 96#32
  let c0_686 : Index := 0#32
  ![v6412.toNat, 96, 0]
def k0_off142 (k0_t1 : Fin k0_t1_loop.trips) : Fin 3 → Nat :=
  let c0_i32 : BitVec 32 := 0#32
  let c1_i32 : BitVec 32 := 1#32
  let arg11 : BitVec 32 := Scf.iv c0_i32 c1_i32 k0_t1
  let v6465 : Index := Scalar.indexCast arg11
  let c104_688 : Index := 104#32
  let c0_689 : Index := 0#32
  ![v6465.toNat, 104, 0]
def k0_off143 (k0_t1 : Fin k0_t1_loop.trips) : Fin 3 → Nat :=
  let c0_i32 : BitVec 32 := 0#32
  let c1_i32 : BitVec 32 := 1#32
  let arg11 : BitVec 32 := Scf.iv c0_i32 c1_i32 k0_t1
  let v6518 : Index := Scalar.indexCast arg11
  let c112_691 : Index := 112#32
  let c0_692 : Index := 0#32
  ![v6518.toNat, 112, 0]
def k0_off144 (k0_t1 : Fin k0_t1_loop.trips) : Fin 3 → Nat :=
  let c0_i32 : BitVec 32 := 0#32
  let c1_i32 : BitVec 32 := 1#32
  let arg11 : BitVec 32 := Scf.iv c0_i32 c1_i32 k0_t1
  let v6571 : Index := Scalar.indexCast arg11
  let c120_694 : Index := 120#32
  let c0_695 : Index := 0#32
  ![v6571.toNat, 120, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S1024x16384 : Shape := ⟨2, ![1024, 16384]⟩
abbrev S2048x1024 : Shape := ⟨2, ![2048, 1024]⟩
abbrev S1x128x128 : Shape := ⟨3, ![1, 128, 128]⟩
abbrev S16384x1024 : Shape := ⟨2, ![16384, 1024]⟩
abbrev S1024x2048 : Shape := ⟨2, ![1024, 2048]⟩
abbrev S16384x2048 : Shape := ⟨2, ![16384, 2048]⟩
abbrev S16384x8x256 : Shape := ⟨3, ![16384, 8, 256]⟩
abbrev S16384x8x128 : Shape := ⟨3, ![16384, 8, 128]⟩
abbrev S128x128 : Shape := ⟨2, ![128, 128]⟩
abbrev S16384x8x16 : Shape := ⟨3, ![16384, 8, 16]⟩
abbrev S16384x8x16x1 : Shape := ⟨4, ![16384, 8, 16, 1]⟩
abbrev S16384x8x1x16 : Shape := ⟨4, ![16384, 8, 1, 16]⟩
abbrev S16384x8x16x16 : Shape := ⟨4, ![16384, 8, 16, 16]⟩
abbrev S16384x8x15 : Shape := ⟨3, ![16384, 8, 15]⟩
abbrev S16384x8x1 : Shape := ⟨3, ![16384, 8, 1]⟩
abbrev S_ : Shape := ⟨0, ![]⟩
abbrev S16384x8 : Shape := ⟨2, ![16384, 8]⟩
abbrev S16384x8x1x1 : Shape := ⟨4, ![16384, 8, 1, 1]⟩
abbrev S16384x8x128x1 : Shape := ⟨4, ![16384, 8, 128, 1]⟩
abbrev S16384x8x128x16 : Shape := ⟨4, ![16384, 8, 128, 16]⟩
abbrev S128x128x8x128 : Shape := ⟨4, ![128, 128, 8, 128]⟩
abbrev S128x1024x128 : Shape := ⟨3, ![128, 1024, 128]⟩
abbrev S128x128x8x16 : Shape := ⟨4, ![128, 128, 8, 16]⟩
abbrev S128x16x8x128 : Shape := ⟨4, ![128, 16, 8, 128]⟩
abbrev S128x128x128 : Shape := ⟨3, ![128, 128, 128]⟩
abbrev S8x128x16384 : Shape := ⟨3, ![8, 128, 16384]⟩

abbrev nBuf : Space → Nat
  | .hbm => 92
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S2048x1024, .bf16⟩
  | .hbm, ⟨2, _⟩ => ⟨S1x128x128, .f32⟩
  | .hbm, ⟨3, _⟩ => ⟨S1x128x128, .f32⟩
  | .hbm, ⟨4, _⟩ => ⟨S1024x16384, .f32⟩
  | .hbm, ⟨5, _⟩ => ⟨S16384x1024, .f32⟩
  | .hbm, ⟨6, _⟩ => ⟨S2048x1024, .f32⟩
  | .hbm, ⟨7, _⟩ => ⟨S1024x2048, .f32⟩
  | .hbm, ⟨8, _⟩ => ⟨S16384x2048, .f32⟩
  | .hbm, ⟨9, _⟩ => ⟨S16384x8x256, .f32⟩
  | .hbm, ⟨10, _⟩ => ⟨S16384x8x128, .f32⟩
  | .hbm, ⟨11, _⟩ => ⟨S128x128, .f32⟩
  | .hbm, ⟨12, _⟩ => ⟨S16384x8x128, .f32⟩
  | .hbm, ⟨13, _⟩ => ⟨S16384x8x128, .f32⟩
  | .hbm, ⟨14, _⟩ => ⟨S128x128, .f32⟩
  | .hbm, ⟨15, _⟩ => ⟨S16384x8x128, .f32⟩
  | .hbm, ⟨16, _⟩ => ⟨S16384x8x16, .f32⟩
  | .hbm, ⟨17, _⟩ => ⟨S16384x8x16, .i32⟩
  | .hbm, ⟨18, _⟩ => ⟨S16384x8x16, .f32⟩
  | .hbm, ⟨19, _⟩ => ⟨S16384x8x16, .i32⟩
  | .hbm, ⟨20, _⟩ => ⟨S16384x8x16x1, .f32⟩
  | .hbm, ⟨21, _⟩ => ⟨S16384x8x1x16, .f32⟩
  | .hbm, ⟨22, _⟩ => ⟨S16384x8x16x16, .f32⟩
  | .hbm, ⟨23, _⟩ => ⟨S16384x8x16x16, .f32⟩
  | .hbm, ⟨24, _⟩ => ⟨S16384x8x16x16, .f32⟩
  | .hbm, ⟨25, _⟩ => ⟨S16384x8x256, .f32⟩
  | .hbm, ⟨26, _⟩ => ⟨S16384x8x16, .f32⟩
  | .hbm, ⟨27, _⟩ => ⟨S16384x8x16, .i32⟩
  | .hbm, ⟨28, _⟩ => ⟨S16384x8x15, .f32⟩
  | .hbm, ⟨29, _⟩ => ⟨S16384x8x1, .f32⟩
  | .hbm, ⟨30, _⟩ => ⟨S16384x8x15, .f32⟩
  | .hbm, ⟨31, _⟩ => ⟨S16384x8x15, .f32⟩
  | .hbm, ⟨32, _⟩ => ⟨S16384x8x15, .f32⟩
  | .hbm, ⟨33, _⟩ => ⟨S_, .f32⟩
  | .hbm, ⟨34, _⟩ => ⟨S16384x8, .f32⟩
  | .hbm, ⟨35, _⟩ => ⟨S16384x8x1, .f32⟩
  | .hbm, ⟨36, _⟩ => ⟨S_, .f32⟩
  | .hbm, ⟨37, _⟩ => ⟨S16384x8x1, .f32⟩
  | .hbm, ⟨38, _⟩ => ⟨S16384x8x1, .f32⟩
  | .hbm, ⟨39, _⟩ => ⟨S16384x8x1, .f32⟩
  | .hbm, ⟨40, _⟩ => ⟨S16384x8x128, .f32⟩
  | .hbm, ⟨41, _⟩ => ⟨S16384x8x128, .f32⟩
  | .hbm, ⟨42, _⟩ => ⟨S16384x8x128, .f32⟩
  | .hbm, ⟨43, _⟩ => ⟨S_, .f32⟩
  | .hbm, ⟨44, _⟩ => ⟨S16384x8x1, .f32⟩
  | .hbm, ⟨45, _⟩ => ⟨S16384x8x1, .f32⟩
  | .hbm, ⟨46, _⟩ => ⟨S16384x8x128, .f32⟩
  | .hbm, ⟨47, _⟩ => ⟨S16384x8x128, .f32⟩
  | .hbm, ⟨48, _⟩ => ⟨S16384x8x1, .f32⟩
  | .hbm, ⟨49, _⟩ => ⟨S16384x8x16, .f32⟩
  | .hbm, ⟨50, _⟩ => ⟨S16384x8x16, .f32⟩
  | .hbm, ⟨51, _⟩ => ⟨S16384x8x16, .f32⟩
  | .hbm, ⟨52, _⟩ => ⟨S16384x8x16x1, .f32⟩
  | .hbm, ⟨53, _⟩ => ⟨S16384x8x1x16, .f32⟩
  | .hbm, ⟨54, _⟩ => ⟨S16384x8x16x16, .f32⟩
  | .hbm, ⟨55, _⟩ => ⟨S16384x8x16x16, .f32⟩
  | .hbm, ⟨56, _⟩ => ⟨S16384x8x16x16, .f32⟩
  | .hbm, ⟨57, _⟩ => ⟨S16384x8x1, .f32⟩
  | .hbm, ⟨58, _⟩ => ⟨S16384x8x1x1, .f32⟩
  | .hbm, ⟨59, _⟩ => ⟨S16384x8x16x16, .f32⟩
  | .hbm, ⟨60, _⟩ => ⟨S16384x8x16x16, .i1⟩
  | .hbm, ⟨61, _⟩ => ⟨S16384x8x16x1, .f32⟩
  | .hbm, ⟨62, _⟩ => ⟨S_, .f32⟩
  | .hbm, ⟨63, _⟩ => ⟨S_, .f32⟩
  | .hbm, ⟨64, _⟩ => ⟨S16384x8x16x16, .f32⟩
  | .hbm, ⟨65, _⟩ => ⟨S16384x8x16x16, .f32⟩
  | .hbm, ⟨66, _⟩ => ⟨S16384x8x16x16, .f32⟩
  | .hbm, ⟨67, _⟩ => ⟨S_, .f32⟩
  | .hbm, ⟨68, _⟩ => ⟨S16384x8x16, .f32⟩
  | .hbm, ⟨69, _⟩ => ⟨S16384x8x128x1, .f32⟩
  | .hbm, ⟨70, _⟩ => ⟨S16384x8x1x16, .f32⟩
  | .hbm, ⟨71, _⟩ => ⟨S16384x8x128x16, .f32⟩
  | .hbm, ⟨72, _⟩ => ⟨S16384x8x128x16, .f32⟩
  | .hbm, ⟨73, _⟩ => ⟨S16384x8x128x16, .i1⟩
  | .hbm, ⟨74, _⟩ => ⟨S16384x8x1x16, .f32⟩
  | .hbm, ⟨75, _⟩ => ⟨S_, .f32⟩
  | .hbm, ⟨76, _⟩ => ⟨S_, .f32⟩
  | .hbm, ⟨77, _⟩ => ⟨S16384x8x128x16, .f32⟩
  | .hbm, ⟨78, _⟩ => ⟨S16384x8x128x16, .f32⟩
  | .hbm, ⟨79, _⟩ => ⟨S16384x8x128x16, .f32⟩
  | .hbm, ⟨80, _⟩ => ⟨S_, .f32⟩
  | .hbm, ⟨81, _⟩ => ⟨S16384x8x128, .f32⟩
  | .hbm, ⟨82, _⟩ => ⟨S128x128x8x128, .f32⟩
  | .hbm, ⟨83, _⟩ => ⟨S128x128x8x128, .f32⟩
  | .hbm, ⟨84, _⟩ => ⟨S128x1024x128, .f32⟩
  | .hbm, ⟨85, _⟩ => ⟨S128x128x8x128, .f32⟩
  | .hbm, ⟨86, _⟩ => ⟨S128x128x8x128, .f32⟩
  | .hbm, ⟨87, _⟩ => ⟨S128x1024x128, .f32⟩
  | .hbm, ⟨88, _⟩ => ⟨S128x128x8x16, .f32⟩
  | .hbm, ⟨89, _⟩ => ⟨S128x16x8x128, .f32⟩
  | .hbm, ⟨90, _⟩ => ⟨S128x128x128, .f32⟩
  | .hbm, ⟨91, _⟩ => ⟨S8x128x16384, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_values : Ref sig .tc := ⟨.hbm, 16, rfl⟩
abbrev main_indices : Ref sig .tc := ⟨.hbm, 17, rfl⟩
abbrev main_values_0 : Ref sig .tc := ⟨.hbm, 18, rfl⟩
abbrev main_indices_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_values_2 : Ref sig .tc := ⟨.hbm, 26, rfl⟩
abbrev main_indices_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Proof.NatOff.lean ====
/- The offsets that the attention kernel computes from the grid point, in closed form. -/
module

public import proofs.«01_k».proof.Proof.Gen.KernelIdeal.Skeleton
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

/-- The first key row of query row `8 * n + r`: `r - 4` kept within `0 … 248`. -/
def rowStart (n r : Nat) : Nat := min (8 * n + r - 4) 248

theorem off1_eq (i : grid0.Coords) (r : Fin 8) :
    k0_off1 i (BitVec.ofNat 32 r.val) = ![min (8 * (i 0).val + r.val - 4) 248 + 8 - 8 * (i 0).val, 0, 0] := by
  have key : ∀ n : Fin 32, ∀ r : Fin 8,
      (Scalar.indexCast (Scalar.subi (Scalar.minsi 248#32 (Scalar.maxsi 0#32 (Scalar.subi (Scalar.addi (Scalar.muli (BitVec.ofNat 32 n.val) 8#32) (BitVec.ofNat 32 r.val)) 4#32)))
        (Scalar.muli (Scalar.subi (BitVec.ofNat 32 n.val) 1#32) 8#32))).toNat = min (8 * n.val + r.val - 4) 248 + 8 - 8 * n.val := by
    decide +kernel
  exact congrArg (fun x => ![x, 0, 0]) (key (i 0) r)

theorem off2_eq (i : grid0.Coords) (r : Fin 8) :
    k0_off2 i (BitVec.ofNat 32 r.val) = ![8 * (i 0).val + r.val - min (8 * (i 0).val + r.val - 4) 248, 0, 0] := by
  have key : ∀ n : Fin 32, ∀ r : Fin 8,
      (Scalar.indexCast (Scalar.subi (Scalar.addi (Scalar.muli (BitVec.ofNat 32 n.val) 8#32) (BitVec.ofNat 32 r.val)) (Scalar.minsi 248#32 (Scalar.maxsi 0#32 (Scalar.subi (Scalar.addi (Scalar.muli (BitVec.ofNat 32 n.val) 8#32) (BitVec.ofNat 32 r.val)) 4#32))))).toNat
        = 8 * n.val + r.val - min (8 * n.val + r.val - 4) 248 := by
    decide +kernel
  exact congrArg (fun x => ![x, 0, 0]) (key (i 0) r)

theorem off3_eq (i : grid0.Coords) (r : Fin 8) :
    k0_off3 i (BitVec.ofNat 32 r.val) = ![8 * (i 0).val + r.val - min (8 * (i 0).val + r.val - 4) 248, 256, 0] :=
  congrArg (fun x : Fin 3 → Nat => ![x 0, 256, 0]) (off2_eq i r)

instance (i : grid0.Coords) : ClosedOff (k0_off1 i 0#32) := ⟨![min (8 * (i 0).val + 0 - 4) 248 + 8 - 8 * (i 0).val, 0, 0], off1_eq i 0⟩
instance (i : grid0.Coords) : ClosedOff (k0_off1 i 1#32) := ⟨![min (8 * (i 0).val + 1 - 4) 248 + 8 - 8 * (i 0).val, 0, 0], off1_eq i 1⟩
instance (i : grid0.Coords) : ClosedOff (k0_off1 i 2#32) := ⟨![min (8 * (i 0).val + 2 - 4) 248 + 8 - 8 * (i 0).val, 0, 0], off1_eq i 2⟩
instance (i : grid0.Coords) : ClosedOff (k0_off1 i 3#32) := ⟨![min (8 * (i 0).val + 3 - 4) 248 + 8 - 8 * (i 0).val, 0, 0], off1_eq i 3⟩
instance (i : grid0.Coords) : ClosedOff (k0_off1 i 4#32) := ⟨![min (8 * (i 0).val + 4 - 4) 248 + 8 - 8 * (i 0).val, 0, 0], off1_eq i 4⟩
instance (i : grid0.Coords) : ClosedOff (k0_off1 i 5#32) := ⟨![min (8 * (i 0).val + 5 - 4) 248 + 8 - 8 * (i 0).val, 0, 0], off1_eq i 5⟩
instance (i : grid0.Coords) : ClosedOff (k0_off1 i 6#32) := ⟨![min (8 * (i 0).val + 6 - 4) 248 + 8 - 8 * (i 0).val, 0, 0], off1_eq i 6⟩
instance (i : grid0.Coords) : ClosedOff (k0_off1 i 7#32) := ⟨![min (8 * (i 0).val + 7 - 4) 248 + 8 - 8 * (i 0).val, 0, 0], off1_eq i 7⟩

end Cert.KernelIdeal.Body

end
-- ==== Proof.NatRow.lean ====
/- One row of the attention kernel's output, as a function of what the body loads for it: the query row, the eight
   key rows and value rows of its window, and the two blocks of the bias table. -/
module

public import proofs.«01_k».proof.Proof.NatOff
public import proofs.«01_k».proof.Proof.Gen.KernelIdeal.Frame
public import Idealize.ShloMosaic.Lib.Pipeline.Value
public import Idealize.ShloMosaic.Lib.Writes

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-- The query channels of the group's head `h` (each lane's head is `k0_pay8`), the other heads' set to zero. -/
def headOnly (h : BitVec 32) (q : FVec F S64x256 .bf16) : FVec F S64x256 .bf16 :=
  select (cmpi .eq k0_pay8 (broadcast S64x256 h)) q (broadcast S64x256 (Scalar.ofBits .bf16 0x0000#16))

/-- The group's four heads stacked: 64 rows of queries for each. -/
def headStack (q : FVec F S64x256 .bf16) : FVec F S256x256 .bf16 :=
  concatenate S256x256 0 [⟨S64x256, headOnly 0#32 q⟩, ⟨S64x256, headOnly 1#32 q⟩, ⟨S64x256, headOnly 2#32 q⟩, ⟨S64x256, headOnly 3#32 q⟩]
    concatenates_S64x256_S64x256_S64x256_S64x256_S256x256_d0

/-- The logits of a group: queries against keys, plus the bias block. -/
def grpLogits (q : FVec F S64x256 .bf16) (k : FVec F S512x256 .bf16) (b : Vec F S1x256x512 .f32) : FVec F S256x512 .f32 :=
  addf (matmul dot_S256x256_S512x256_S256x512_1_1_0_0_n_n none (headStack q) k (constant S256x512 .f32 0x00000000#32))
    (shapeCast S256x512 b shapeCasts_S1x256x512_S256x512)

/-- The exponentials of the logits less their row maximum. -/
def grpExp (L : FVec F S256x512 .f32) : FVec F S256x512 .f32 :=
  exp (subf L (broadcastTo S256x512 (shapeCast S256x1 (multiReduction .maximumf [1] S256 L 0xFF800000#32 reduces_S256x512_S256 (.inl rfl) rfl)
    shapeCasts_S256_S256x1) broadcasts_S256x1_S256x512))

/-- The reciprocal of each row's sum. -/
def grpInv (p : FVec F S256x512 .f32) : FVec F S256x1 .f32 :=
  divf (broadcast S256x1 (Scalar.ofBits .f32 0x3F800000#32))
    (shapeCast S256x1 (multiReduction .add [1] S256 p 0x00000000#32 reduces_S256x512_S256 (.inl rfl) rfl) shapeCasts_S256_S256x1)

/-- The values weighted by the exponentials, times the reciprocal of their sum. -/
def grpMix (p : FVec F S256x512 .f32) (v : FVec F S512x256 .bf16) : FVec F S256x256 .f32 :=
  mulf (matmul dot_S256x512_S512x256_S256x256_1_0_0_1_n_n none (truncf .bf16 p bitsLt_bf16_f32) v (constant S256x256 .f32 0x00000000#32))
    (broadcastTo S256x256 (grpInv p) broadcasts_S256x1_S256x256)

/-- Head `h`'s rows of the mix on that head's lanes, zero on the others. -/
def headPart (h : BitVec 32) (r : FVec F S64x256 .f32) : FVec F S64x256 .f32 :=
  select (cmpi .eq k0_pay8 (broadcast S64x256 h)) r (broadcast S64x256 (Scalar.ofBits .f32 0x00000000#32))

/-- The four heads put back side by side. -/
def grpJoin (r : FVec F S256x256 .f32) : FVec F S64x256 .bf16 :=
  truncf .bf16
    (addf (addf (addf (addf (broadcast S64x256 (Scalar.ofBits .f32 0x00000000#32))
      (headPart 0#32 (extractStridedSlice S64x256 ![0, 0] r slices_S256x256_o0_0_S64x256)))
      (headPart 1#32 (extractStridedSlice S64x256 ![64, 0] r slices_S256x256_o64_0_S64x256)))
      (headPart 2#32 (extractStridedSlice S64x256 ![128, 0] r slices_S256x256_o128_0_S64x256)))
      (headPart 3#32 (extractStridedSlice S64x256 ![192, 0] r slices_S256x256_o192_0_S64x256))) bitsLt_bf16_f32

/-- A group of four heads: its queries, keys, values and bias block to its output channels. -/
def grpOut (q : FVec F S64x256 .bf16) (k v : FVec F S512x256 .bf16) (b : Vec F S1x256x512 .f32) : FVec F S64x256 .bf16 :=
  grpJoin (grpMix (grpExp (grpLogits q k b)) v)

/-- One output row. -/
def rowFn (q : Vec F S1x64x512 .bf16) (k v : Vec F S8x64x512 .bf16) (b0 b1 : Vec F S1x256x512 .f32) : FVec F S1x64x512 .bf16 :=
  shapeCast S1x64x512
    (concatenate S64x512 1
      [⟨S64x256, grpOut (extractStridedSlice S64x256 ![0, 0] (shapeCast S64x512 q shapeCasts_S1x64x512_S64x512) slices_S64x512_o0_0_S64x256)
          (extractStridedSlice S512x256 ![0, 0] (shapeCast S512x512 k shapeCasts_S8x64x512_S512x512) slices_S512x512_o0_0_S512x256)
          (extractStridedSlice S512x256 ![0, 0] (shapeCast S512x512 v shapeCasts_S8x64x512_S512x512) slices_S512x512_o0_0_S512x256) b0⟩,
       ⟨S64x256, grpOut (extractStridedSlice S64x256 ![0, 256] (shapeCast S64x512 q shapeCasts_S1x64x512_S64x512) slices_S64x512_o0_256_S64x256)
          (extractStridedSlice S512x256 ![0, 256] (shapeCast S512x512 k shapeCasts_S8x64x512_S512x512) slices_S512x512_o0_256_S512x256)
          (extractStridedSlice S512x256 ![0, 256] (shapeCast S512x512 v shapeCasts_S8x64x512_S512x512) slices_S512x512_o0_256_S512x256) b1⟩]
      concatenates_S64x256_S64x256_S64x512_d1) shapeCasts_S64x512_S1x64x512

/-- The window scratch: the previous block of rows, this one and the next, stacked. -/
def stack3 (a b c : Vec F S8x64x512 .bf16) : Vec F S24x64x512 .bf16 :=
  View.canon [⟨Rect.unit ![16, 0, 0] S8x64x512.size inb_S24x64x512_S8x64x512_16_0_0, k0_pay4 c⟩,
    ⟨Rect.unit ![8, 0, 0] S8x64x512.size inb_S24x64x512_S8x64x512_8_0_0, k0_pay3 b⟩,
    ⟨Rect.unit ![0, 0, 0] S8x64x512.size inb_S24x64x512_S8x64x512_0_0_0, k0_pay2 a⟩]

/-- The eight rows of the window of query row `r` of block `i`, out of the stacked rows. -/
def winOf (i : grid0.Coords) (r : Fin 8) (a b c : Vec F S8x64x512 .bf16) : Vec F S8x64x512 .bf16 :=
  View.ld (stack3 a b c) (Rect.unit (s := S24x64x512) (k0_off1 i (BitVec.ofNat 32 r.val)) S8x64x512.size (k0_off1_inb i r))

theorem rowInb (r : Fin 8) : ∀ a, (![r.val, 0, 0] : Fin 3 → Nat) a + S1x64x512.size a ≤ S8x64x512.size a := by
  revert r; decide +kernel

/-- Row `r` of block `i`, from the input blocks. -/
def natRow (i : grid0.Coords) (r : Fin 8) (x0 x1 x2 x3 x4 x5 x6 : Vec F S8x64x512 .bf16) (x7 : Vec F S8x512x512 .f32) : FVec F S1x64x512 .bf16 :=
  rowFn (View.ld x0 (Rect.unit ![r.val, 0, 0] S1x64x512.size (rowInb r))) (winOf i r x1 x2 x3) (winOf i r x4 x5 x6)
    (View.ld x7 (Rect.unit (s := S8x512x512) (k0_off2 i (BitVec.ofNat 32 r.val)) S1x256x512.size (k0_off2_inb i r)))
    (View.ld x7 (Rect.unit (s := S8x512x512) (k0_off3 i (BitVec.ofNat 32 r.val)) S1x256x512.size (k0_off3_inb i r)))

/-- The output block: its eight rows, the last one written first in the list. -/
def natOut (i : grid0.Coords) (x0 x1 x2 x3 x4 x5 x6 : Vec F S8x64x512 .bf16) (x7 : Vec F S8x512x512 .f32) : Vec F S8x64x512 .bf16 :=
  View.canon [⟨Rect.unit ![7, 0, 0] S1x64x512.size inb_S8x64x512_S1x64x512_7_0_0, natRow i 7 x0 x1 x2 x3 x4 x5 x6 x7⟩,
    ⟨Rect.unit ![6, 0, 0] S1x64x512.size inb_S8x64x512_S1x64x512_6_0_0, natRow i 6 x0 x1 x2 x3 x4 x5 x6 x7⟩,
    ⟨Rect.unit ![5, 0, 0] S1x64x512.size inb_S8x64x512_S1x64x512_5_0_0, natRow i 5 x0 x1 x2 x3 x4 x5 x6 x7⟩,
    ⟨Rect.unit ![4, 0, 0] S1x64x512.size inb_S8x64x512_S1x64x512_4_0_0, natRow i 4 x0 x1 x2 x3 x4 x5 x6 x7⟩,
    ⟨Rect.unit ![3, 0, 0] S1x64x512.size inb_S8x64x512_S1x64x512_3_0_0, natRow i 3 x0 x1 x2 x3 x4 x5 x6 x7⟩,
    ⟨Rect.unit ![2, 0, 0] S1x64x512.size inb_S8x64x512_S1x64x512_2_0_0, natRow i 2 x0 x1 x2 x3 x4 x5 x6 x7⟩,
    ⟨Rect.unit ![1, 0, 0] S1x64x512.size inb_S8x64x512_S1x64x512_1_0_0, natRow i 1 x0 x1 x2 x3 x4 x5 x6 x7⟩,
    ⟨Rect.unit ![0, 0, 0] S1x64x512.size inb_S8x64x512_S1x64x512_0_0_0, natRow i 0 x0 x1 x2 x3 x4 x5 x6 x7⟩]

theorem natOut_cover {e : EltTy} {Val : EltTy → Type} (p7 p6 p5 p4 p3 p2 p1 p0 : S1x64x512.Idx → Val e) (y : S8x64x512.Idx) :
    ∃ p ∈ ([⟨Rect.unit ![7, 0, 0] S1x64x512.size inb_S8x64x512_S1x64x512_7_0_0, p7⟩,
      ⟨Rect.unit ![6, 0, 0] S1x64x512.size inb_S8x64x512_S1x64x512_6_0_0, p6⟩,
      ⟨Rect.unit ![5, 0, 0] S1x64x512.size inb_S8x64x512_S1x64x512_5_0_0, p5⟩,
      ⟨Rect.unit ![4, 0, 0] S1x64x512.size inb_S8x64x512_S1x64x512_4_0_0, p4⟩,
      ⟨Rect.unit ![3, 0, 0] S1x64x512.size inb_S8x64x512_S1x64x512_3_0_0, p3⟩,
      ⟨Rect.unit ![2, 0, 0] S1x64x512.size inb_S8x64x512_S1x64x512_2_0_0, p2⟩,
      ⟨Rect.unit ![1, 0, 0] S1x64x512.size inb_S8x64x512_S1x64x512_1_0_0, p1⟩,
      ⟨Rect.unit ![0, 0, 0] S1x64x512.size inb_S8x64x512_S1x64x512_0_0_0, p0⟩] : List (View.Piece Val S8x64x512 e)), y ∈ p.1.set :=
  View.cover_of_tiled _ ![1, 64, 512] (by rfl) y

/-- What the body's loads give, from memrefs that hold the blocks, is the row. -/
theorem rowRaw_eq (i : grid0.Coords) (r : Fin 8)
    (arg1 : Memref sig .tc .vmem S8x64x512 .bf16) (harg1 : arg1.IsWhole) (arg2 : Memref sig .tc .vmem S8x64x512 .bf16) (harg2 : arg2.IsWhole) (arg3 : Memref sig .tc .vmem S8x64x512 .bf16) (harg3 : arg3.IsWhole) (arg4 : Memref sig .tc .vmem S8x64x512 .bf16) (harg4 : arg4.IsWhole) (arg5 : Memref sig .tc .vmem S8x64x512 .bf16) (harg5 : arg5.IsWhole) (arg6 : Memref sig .tc .vmem S8x64x512 .bf16) (harg6 : arg6.IsWhole) (arg7 : Memref sig .tc .vmem S8x64x512 .bf16) (harg7 : arg7.IsWhole) (arg8 : Memref sig .tc .vmem S8x512x512 .f32) (harg8 : arg8.IsWhole) (arg10 arg11 : Memref sig .tc .vmem S24x64x512 .bf16)
    (x0 x1 x2 x3 x4 x5 x6 : Vec F S8x64x512 .bf16) (x7 : Vec F S8x512x512 .f32)
    (h0 : ∀ a, (![r.val, 0, 0] : Fin 3 → Nat) a + S1x64x512.size a ≤ S8x64x512.size a) :
    rowFn (View.readAt (Elt F) arg1.view (Rect.unit (s := S8x64x512) ![r.val, 0, 0] S1x64x512.size h0).toLoadRect (harg1.unread x0))
      (View.readAt (Elt F) arg10.view (Rect.unit (s := S24x64x512) (k0_off1 i (BitVec.ofNat 32 r.val)) S8x64x512.size (k0_off1_inb i r)).toLoadRect
        (arg10.view.writes (Elt F) arg10.view.junk
          [⟨Rect.unit ![16, 0, 0] S8x64x512.size inb_S24x64x512_S8x64x512_16_0_0, k0_pay4 (View.readAt (Elt F) arg4.view (Rect.unit (s := S8x64x512) ![0, 0, 0] S8x64x512.size inb_S8x64x512_S8x64x512_0_0_0).toLoadRect (harg4.unread x3))⟩,
           ⟨Rect.unit ![8, 0, 0] S8x64x512.size inb_S24x64x512_S8x64x512_8_0_0, k0_pay3 (View.readAt (Elt F) arg3.view (Rect.unit (s := S8x64x512) ![0, 0, 0] S8x64x512.size inb_S8x64x512_S8x64x512_0_0_0).toLoadRect (harg3.unread x2))⟩,
           ⟨Rect.unit ![0, 0, 0] S8x64x512.size inb_S24x64x512_S8x64x512_0_0_0, k0_pay2 (View.readAt (Elt F) arg2.view (Rect.unit (s := S8x64x512) ![0, 0, 0] S8x64x512.size inb_S8x64x512_S8x64x512_0_0_0).toLoadRect (harg2.unread x1))⟩]))
      (View.readAt (Elt F) arg11.view (Rect.unit (s := S24x64x512) (k0_off1 i (BitVec.ofNat 32 r.val)) S8x64x512.size (k0_off1_inb i r)).toLoadRect
        (arg11.view.writes (Elt F) arg11.view.junk
          [⟨Rect.unit ![16, 0, 0] S8x64x512.size inb_S24x64x512_S8x64x512_16_0_0, k0_pay4 (View.readAt (Elt F) arg7.view (Rect.unit (s := S8x64x512) ![0, 0, 0] S8x64x512.size inb_S8x64x512_S8x64x512_0_0_0).toLoadRect (harg7.unread x6))⟩,
           ⟨Rect.unit ![8, 0, 0] S8x64x512.size inb_S24x64x512_S8x64x512_8_0_0, k0_pay3 (View.readAt (Elt F) arg6.view (Rect.unit (s := S8x64x512) ![0, 0, 0] S8x64x512.size inb_S8x64x512_S8x64x512_0_0_0).toLoadRect (harg6.unread x5))⟩,
           ⟨Rect.unit ![0, 0, 0] S8x64x512.size inb_S24x64x512_S8x64x512_0_0_0, k0_pay2 (View.readAt (Elt F) arg5.view (Rect.unit (s := S8x64x512) ![0, 0, 0] S8x64x512.size inb_S8x64x512_S8x64x512_0_0_0).toLoadRect (harg5.unread x4))⟩]))
      (View.readAt (Elt F) arg8.view (Rect.unit (s := S8x512x512) (k0_off2 i (BitVec.ofNat 32 r.val)) S1x256x512.size (k0_off2_inb i r)).toLoadRect (harg8.unread x7))
      (View.readAt (Elt F) arg8.view (Rect.unit (s := S8x512x512) (k0_off3 i (BitVec.ofNat 32 r.val)) S1x256x512.size (k0_off3_inb i r)).toLoadRect (harg8.unread x7))
      = natRow i r x0 x1 x2 x3 x4 x5 x6 x7 := by
  have e0 : ∀ (m : Memref sig .tc .vmem S8x64x512 .bf16) (hm : m.IsWhole) (x : Vec F S8x64x512 .bf16),
      View.readAt (Elt F) m.view (Rect.unit (s := S8x64x512) ![0, 0, 0] S8x64x512.size inb_S8x64x512_S8x64x512_0_0_0).toLoadRect (hm.unread x) = x := by
    intro m hm x
    rw [View.readAt_eq_ld, hm.read_unread]
    exact View.ld_unit_zero (by decide +kernel) _ x
  rw [e0, e0, e0, e0, e0, e0, View.readAt_writes_junk_eq_canon, View.readAt_writes_junk_eq_canon, View.readAt_eq_ld, View.readAt_eq_ld, View.readAt_eq_ld,
    harg1.read_unread, harg8.read_unread]
  rfl

end Cert.KernelIdeal.Body

end
-- ==== Proof.NatBody.lean ====
module

public import proofs.«01_k».proof.Proof.Gen.KernelIdeal.Frame
public import proofs.«01_k».proof.Proof.NatRow
public import proofs.«01_k».proof.Proof.Gen.KernelIdeal.Skeleton
public import Idealize.ShloMosaic.Lib.Writes

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Eight row pieces with the same payloads leave the same contents. -/
theorem canon8 {p0 q0 p1 q1 p2 q2 p3 q3 p4 q4 p5 q5 p6 q6 p7 q7 : S1x64x512.Idx → Elt F .bf16} (h7 : p7 = q7) (h6 : p6 = q6) (h5 : p5 = q5) (h4 : p4 = q4) (h3 : p3 = q3) (h2 : p2 = q2) (h1 : p1 = q1) (h0 : p0 = q0) :
    View.canon (Val := Elt F) (s := S8x64x512) [⟨Rect.unit ![7, 0, 0] S1x64x512.size inb_S8x64x512_S1x64x512_7_0_0, p7⟩, ⟨Rect.unit ![6, 0, 0] S1x64x512.size inb_S8x64x512_S1x64x512_6_0_0, p6⟩, ⟨Rect.unit ![5, 0, 0] S1x64x512.size inb_S8x64x512_S1x64x512_5_0_0, p5⟩, ⟨Rect.unit ![4, 0, 0] S1x64x512.size inb_S8x64x512_S1x64x512_4_0_0, p4⟩, ⟨Rect.unit ![3, 0, 0] S1x64x512.size inb_S8x64x512_S1x64x512_3_0_0, p3⟩, ⟨Rect.unit ![2, 0, 0] S1x64x512.size inb_S8x64x512_S1x64x512_2_0_0, p2⟩, ⟨Rect.unit ![1, 0, 0] S1x64x512.size inb_S8x64x512_S1x64x512_1_0_0, p1⟩, ⟨Rect.unit ![0, 0, 0] S1x64x512.size inb_S8x64x512_S1x64x512_0_0_0, p0⟩] =
    View.canon (Val := Elt F) (s := S8x64x512) [⟨Rect.unit ![7, 0, 0] S1x64x512.size inb_S8x64x512_S1x64x512_7_0_0, q7⟩, ⟨Rect.unit ![6, 0, 0] S1x64x512.size inb_S8x64x512_S1x64x512_6_0_0, q6⟩, ⟨Rect.unit ![5, 0, 0] S1x64x512.size inb_S8x64x512_S1x64x512_5_0_0, q5⟩, ⟨Rect.unit ![4, 0, 0] S1x64x512.size inb_S8x64x512_S1x64x512_4_0_0, q4⟩, ⟨Rect.unit ![3, 0, 0] S1x64x512.size inb_S8x64x512_S1x64x512_3_0_0, q3⟩, ⟨Rect.unit ![2, 0, 0] S1x64x512.size inb_S8x64x512_S1x64x512_2_0_0, q2⟩, ⟨Rect.unit ![1, 0, 0] S1x64x512.size inb_S8x64x512_S1x64x512_1_0_0, q1⟩, ⟨Rect.unit ![0, 0, 0] S1x64x512.size inb_S8x64x512_S1x64x512_0_0_0, q0⟩] := by
  subst h0 h1 h2 h3 h4 h5 h6 h7; rfl

-- (the run's proof term is large: checking it walks past the default budget)
set_option maxHeartbeats 1156000 in
/-- The body's triple: on whole staging memrefs — the inputs' at their contents,
    the output's at anything —
    the body runs to the continuation holding the inputs' as they were, the output's at its eight rows, the scratch at some contents: the printed functions are their skeletons (`Gen.*_eq_skeleton`),
    which `sl_exec` runs (Lib/Exec.lean). -/
theorem kernelRun0_A (c : Dev nD) (i : grid0.Coords) (arg1 : Memref sig .tc .vmem S8x64x512 .bf16) (harg1 : arg1.IsWhole) (arg2 : Memref sig .tc .vmem S8x64x512 .bf16) (harg2 : arg2.IsWhole) (arg3 : Memref sig .tc .vmem S8x64x512 .bf16) (harg3 : arg3.IsWhole) (arg4 : Memref sig .tc .vmem S8x64x512 .bf16) (harg4 : arg4.IsWhole) (arg5 : Memref sig .tc .vmem S8x64x512 .bf16) (harg5 : arg5.IsWhole) (arg6 : Memref sig .tc .vmem S8x64x512 .bf16) (harg6 : arg6.IsWhole) (arg7 : Memref sig .tc .vmem S8x64x512 .bf16) (harg7 : arg7.IsWhole) (arg8 : Memref sig .tc .vmem S8x512x512 .f32) (harg8 : arg8.IsWhole) (arg9 : Memref sig .tc .vmem S8x64x512 .bf16) (harg9 : arg9.IsWhole) (arg10 : Memref sig .tc .vmem S24x64x512 .bf16) (harg10 : arg10.IsWhole) (arg11 : Memref sig .tc .vmem S24x64x512 .bf16) (harg11 : arg11.IsWhole)
    (x0 : Vec F S8x64x512 .bf16) (x1 : Vec F S8x64x512 .bf16) (x2 : Vec F S8x64x512 .bf16) (x3 : Vec F S8x64x512 .bf16) (x4 : Vec F S8x64x512 .bf16) (x5 : Vec F S8x64x512 .bf16) (x6 : Vec F S8x64x512 .bf16) (x7 : Vec F S8x512x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (natOut i x0 x1 x2 x3 x4 x5 x6 x7) ∗ (∃ d, owns (c : Thread nD τ) arg10 fullShare d) ∗ (∃ d, owns (c : Thread nD τ) arg11 fullShare d)) -∗ K ⟨⟩))
          ⊢ wp frame (wpE (defs₀ (F := F)) Variants.none c none) E (cc0_natten i arg1 harg1 arg2 harg2 arg3 harg3 arg4 harg4 arg5 harg5 arg6 harg6 arg7 harg7 arg8 harg8 arg9 harg9 arg10 harg10 arg11 harg11) K := by
    intro E K
    simp only [cc0_natten_eq_skeleton]; unfold cc0_natten_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      refine (View.read_writes_eq_canon _ _ _ (natOut_cover _ _ _ _ _ _ _ _)).trans (canon8 ?_ ?_ ?_ ?_ ?_ ?_ ?_ ?_)
      · exact (rowRaw_eq i 7 arg1 harg1 arg2 harg2 arg3 harg3 arg4 harg4 arg5 harg5 arg6 harg6 arg7 harg7 arg8 harg8 arg10 arg11 x0 x1 x2 x3 x4 x5 x6 x7 (rowInb 7))
      · exact (rowRaw_eq i 6 arg1 harg1 arg2 harg2 arg3 harg3 arg4 harg4 arg5 harg5 arg6 harg6 arg7 harg7 arg8 harg8 arg10 arg11 x0 x1 x2 x3 x4 x5 x6 x7 (rowInb 6))
      · exact (rowRaw_eq i 5 arg1 harg1 arg2 harg2 arg3 harg3 arg4 harg4 arg5 harg5 arg6 harg6 arg7 harg7 arg8 harg8 arg10 arg11 x0 x1 x2 x3 x4 x5 x6 x7 (rowInb 5))
      · exact (rowRaw_eq i 4 arg1 harg1 arg2 harg2 arg3 harg3 arg4 harg4 arg5 harg5 arg6 harg6 arg7 harg7 arg8 harg8 arg10 arg11 x0 x1 x2 x3 x4 x5 x6 x7 (rowInb 4))
      · exact (rowRaw_eq i 3 arg1 harg1 arg2 harg2 arg3 harg3 arg4 harg4 arg5 harg5 arg6 harg6 arg7 harg7 arg8 harg8 arg10 arg11 x0 x1 x2 x3 x4 x5 x6 x7 (rowInb 3))
      · exact (rowRaw_eq i 2 arg1 harg1 arg2 harg2 arg3 harg3 arg4 harg4 arg5 harg5 arg6 harg6 arg7 harg7 arg8 harg8 arg10 arg11 x0 x1 x2 x3 x4 x5 x6 x7 (rowInb 2))
      · exact (rowRaw_eq i 1 arg1 harg1 arg2 harg2 arg3 harg3 arg4 harg4 arg5 harg5 arg6 harg6 arg7 harg7 arg8 harg8 arg10 arg11 x0 x1 x2 x3 x4 x5 x6 x7 (rowInb 1))
      · exact (rowRaw_eq i 0 arg1 harg1 arg2 harg2 arg3 harg3 arg4 harg4 arg5 harg5 arg6 harg6 arg7 harg7 arg8 harg8 arg10 arg11 x0 x1 x2 x3 x4 x5 x6 x7 (rowInb 0))
    isplitl [HS0]
    · iexists _, _; isplitr; swap; · iexact HS0
      ipureintro; rfl
    iexists _, _; isplitr; swap; · iexact HS1
    ipureintro; rfl

end Cert.KernelIdeal.Body

end
-- ==== Proof.NatFrame.lean ====
/- The attention kernel's run: what each buffer holds point by point, the body obligation, the launch, and the frames. -/
module

public import proofs.«01_k».proof.Proof.NatBody
public import Idealize.ShloMosaic.Lib.Claim

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output's buffer at point `t`. -/
def outAt (c : Dev nD) (t : Fin cfg0.N) : Vec F S8x64x512 .bf16 :=
  natOut (grid0.coords t) (iblk m c 0 t) (iblk m c 1 t) (iblk m c 2 t) (iblk m c 3 t) (iblk m c 4 t) (iblk m c 5 t) (iblk m c 6 t) (iblk m c 7 t)

/-- The proof data of the pipeline on core `c`: each input's buffer at its block, the output's at its eight rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, phi_eq]
  unfold outAt
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array as the proof data say, and every semaphore counter at zero. -/
theorem run_quiet : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The frame, at any arithmetic: the arguments unchanged and the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.KernelIdeal.Body

end
-- ==== Proof.NatSame.lean ====
/- The frame of the kernel at bit patterns, from the idealized kernel's run: the two programs have the same text. -/
module

public import proofs.«01_k».proof.Defs
public import proofs.«01_k».proof.Proof.Gen.Kernel
public import proofs.«01_k».proof.Proof.NatFrame

@[expose] public section

set_option maxRecDepth 16384

noncomputable section

namespace Cert.Proof

open Idealize.ShloMosaic Idealize.SL.Sem

attribute [local instance] Cert.Kernel.Gen.facts Cert.KernelIdeal.Gen.facts

set_option maxHeartbeats 2000000 in
set_option backward.isDefEq.respectTransparency false in
/-- The two bodies are one. -/
theorem body_same : @Cert.Kernel.cc0_natten Bits _ _ = @Cert.KernelIdeal.cc0_natten Bits _ _ := rfl

set_option maxHeartbeats 2000000 in
set_option backward.isDefEq.respectTransparency false in
theorem table_same : @Cert.Kernel.defs₀ Bits _ _ = @Cert.KernelIdeal.defs₀ Bits _ _ := by
  refine congrArg Defs.onTc (funext fun l => ?_)
  match l with
  | 0 => funext a; exact congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _

set_option maxHeartbeats 2000000 in
set_option backward.isDefEq.respectTransparency false in
theorem defs_same : @Cert.Kernel.defs Bits _ _ = @Cert.KernelIdeal.defs Bits _ _ :=
  congrArg (Pipeline.defs (Cert.KernelIdeal.pcfgs (F := Bits))) table_same

set_option maxHeartbeats 2000000 in
set_option backward.isDefEq.respectTransparency false in
/-- The kernel's frame. -/
theorem frame_kernel : Cert.quiescent_Kernel (hKernel := Cert.Kernel.Gen.facts) := by
  intro m ρ _
  rw [defs_same]
  exact (θ_run Cert.KernelIdeal.defs _ _).mono (fun _ h => h) (Cert.KernelIdeal.Body.frame_any (F := Bits) m ρ)

end Cert.Proof

end
-- ==== Proof.NatRowVal.lean ====
/- The row of the attention kernel's output over the extended reals, element by element. -/
module

public import proofs.«01_k».proof.Proof.NatRow
public import Idealize.ShloMosaic.Lib.Pointwise
public import Idealize.ShloMosaic.PureOps.Ideal.Laws

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

theorem ofBits_neg_inf : Ideal.ofBits FTy.f32 4286578688#32 = ⊥ := by
  simp [Ideal.ofBits, Ideal.ieee]

/-- The head of a lane. -/
theorem laneHead (w : Fin 64) (c : Fin 256) : k0_pay8 (ix2 w c) = BitVec.ofNat 32 (c.val / 64) := by
  pointwise [k0_pay8]
  revert c
  decide +kernel

theorem headOnly_apply (h : Fin 4) (q : FVec Ideal S64x256 .bf16) (w : Fin 64) (c : Fin 256) :
    headOnly (F := Ideal) (BitVec.ofNat 32 h.val) q (ix2 w c) = if c.val / 64 = h.val then q (ix2 w c) else 0 := by
  unfold headOnly
  pointwise [laneHead]
  have e : IntOp.cmpi CmpIPredicate.eq (BitVec.ofNat 32 (c.val / 64)) (BitVec.ofNat 32 h.val) = if c.val / 64 = h.val then 1#1 else 0#1 := by
    revert h c; decide +kernel
  rw [e]
  split <;> rfl

theorem headStack_apply (q : FVec Ideal S64x256 .bf16) (r c : Fin 256) :
    headStack q (ix2 r c) = if c.val / 64 = r.val / 64 then q (ix2 ⟨r.val % 64, by omega⟩ c) else 0 := by
  have h0 := fun w => headOnly_apply 0 q w c
  have h1 := fun w => headOnly_apply 1 q w c
  have h2 := fun w => headOnly_apply 2 q w c
  have h3 := fun w => headOnly_apply 3 q w c
  simp only [Fin.val_zero, Fin.val_one, Fin.val_two, show ((3 : Fin 4).val) = 3 from rfl] at h0 h1 h2 h3
  unfold headStack
  pointwise []
  simp only [h0, h1, h2, h3]
  have hr := r.isLt
  have e : r.val / 64 = 0 ∨ r.val / 64 = 1 ∨ r.val / 64 = 2 ∨ r.val / 64 = 3 := by omega
  rcases e with h | h | h | h
  · rw [dif_pos (by omega), h, show (⟨r.val, by omega⟩ : Fin 64) = ⟨r.val % 64, by omega⟩ from Fin.ext (by dsimp only; omega)]
  · rw [dif_neg (by omega), dif_pos (by omega), h, show (⟨r.val - 64, by omega⟩ : Fin 64) = ⟨r.val % 64, by omega⟩ from Fin.ext (by dsimp only; omega)]
  · rw [dif_neg (by omega), dif_neg (by omega), dif_pos (by omega), h, show (⟨r.val - 64 - 64, by omega⟩ : Fin 64) = ⟨r.val % 64, by omega⟩ from Fin.ext (by dsimp only; omega)]
  · rw [dif_neg (by omega), dif_neg (by omega), dif_neg (by omega), h, show (⟨r.val - 64 - 64 - 64, by omega⟩ : Fin 64) = ⟨r.val % 64, by omega⟩ from Fin.ext (by dsimp only; omega)]

theorem grpLogits_apply (q : FVec Ideal S64x256 .bf16) (k : FVec Ideal S512x256 .bf16) (b : Vec Ideal S1x256x512 .f32) (r : Fin 256) (j : Fin 512) :
    grpLogits q k b (ix2 r j) = (∑ c : Fin 256, headStack q (ix2 r c) * k (ix2 j c)) + b (ix3 0 r j) := by
  unfold grpLogits
  pointwise []

theorem grpExp_apply (L : FVec Ideal S256x512 .f32) (r : Fin 256) (j : Fin 512) :
    grpExp L (ix2 r j) = Ideal.exp (L (ix2 r j) - Finset.univ.fold max ⊥ (fun k : Fin 512 => L (ix2 r k))) := by
  unfold grpExp
  pointwise []
  rw [show Ideal.ofBits FTy.f32 4286578688#32 = ⊥ from ofBits_neg_inf]

theorem grpInv_apply (p : FVec Ideal S256x512 .f32) (r : Fin 256) :
    grpInv p (ix2 r 0) = Ideal.div 1 (∑ k : Fin 512, p (ix2 r k)) := by
  unfold grpInv
  pointwise []
  trace_state

theorem grpMix_apply (p : FVec Ideal S256x512 .f32) (v : FVec Ideal S512x256 .bf16) (r : Fin 256) (c : Fin 256) :
    grpMix p v (ix2 r c) = (∑ j : Fin 512, p (ix2 r j) * v (ix2 j c)) * grpInv p (ix2 r 0) := by
  unfold grpMix
  pointwise []

theorem grpJoin_apply (r : FVec Ideal S256x256 .f32) (w : Fin 64) (c : Fin 256) :
    grpJoin r (ix2 w c) = r (ix2 ⟨c.val / 64 * 64 + w.val, by omega⟩ c) := by
  unfold grpJoin headPart
  pointwise [laneHead]
  have e : ∀ n : Fin 4, IntOp.cmpi CmpIPredicate.eq (BitVec.ofNat 32 (c.val / 64)) (BitVec.ofNat 32 n.val) = if c.val / 64 = n.val then 1#1 else 0#1 := by
    revert c; decide +kernel
  have e0 := e 0
  have e1 := e 1
  have e2 := e 2
  have e3 := e 3
  simp only [Fin.val_zero, Fin.val_one, Fin.val_two, show ((3 : Fin 4).val) = 3 from rfl] at e0 e1 e2 e3
  rw [e0, e1, e2, e3]
  have hc := c.isLt
  have : c.val / 64 = 0 ∨ c.val / 64 = 1 ∨ c.val / 64 = 2 ∨ c.val / 64 = 3 := by omega
  rcases this with h | h | h | h <;> simp [h, Scalar.select]

/-- The kernel's softmax-weighted mean of `v` under the logits `L`: the exponentials weigh the values first, and one
    reciprocal scales the sum. -/
def softMix (L v : Fin 512 → EReal) : EReal :=
  (∑ j, Ideal.exp (L j - Finset.univ.fold max ⊥ L) * v j) * Ideal.div 1 (∑ j, Ideal.exp (L j - Finset.univ.fold max ⊥ L))

/-- A sum over a group's 256 lanes of which only head `h`'s count. -/
theorem sum_head (h : Fin 4) (f g : Fin 256 → EReal) :
    (∑ c : Fin 256, (if c.val / 64 = h.val then f c else 0) * g c)
      = ∑ e : Fin 64, f ⟨h.val * 64 + e.val, by omega⟩ * g ⟨h.val * 64 + e.val, by omega⟩ := by
  simp only [ite_mul, zero_mul]
  rw [← Finset.sum_filter]
  symm
  refine Finset.sum_bij (fun e _ => ⟨h.val * 64 + e.val, by omega⟩) ?_ ?_ ?_ ?_
  · intro e _
    simp only [Finset.mem_filter, Finset.mem_univ, true_and]
    omega
  · intro a _ b _ hab
    have := congrArg Fin.val hab
    exact Fin.ext (by dsimp only at this; omega)
  · intro c hc
    have hc' : c.val / 64 = h.val := (Finset.mem_filter.mp hc).2
    exact ⟨⟨c.val % 64, by omega⟩, Finset.mem_univ _, Fin.ext (by dsimp only; omega)⟩
  · intro e _; rfl

theorem grpOut_apply (q : FVec Ideal S64x256 .bf16) (k v : FVec Ideal S512x256 .bf16) (b : Vec Ideal S1x256x512 .f32)
    (w : Fin 64) (h : Fin 4) (e : Fin 64) :
    grpOut q k v b (ix2 w ⟨h.val * 64 + e.val, by omega⟩)
      = softMix (fun j => (∑ e' : Fin 64, q (ix2 w ⟨h.val * 64 + e'.val, by omega⟩) * k (ix2 j ⟨h.val * 64 + e'.val, by omega⟩))
          + b (ix3 0 ⟨h.val * 64 + w.val, by omega⟩ j)) (fun j => v (ix2 j ⟨h.val * 64 + e.val, by omega⟩)) := by
  have hL : ∀ j : Fin 512, grpLogits q k b (ix2 ⟨h.val * 64 + w.val, by omega⟩ j)
      = (∑ e' : Fin 64, q (ix2 w ⟨h.val * 64 + e'.val, by omega⟩) * k (ix2 j ⟨h.val * 64 + e'.val, by omega⟩))
          + b (ix3 0 ⟨h.val * 64 + w.val, by omega⟩ j) := by
    intro j
    rw [grpLogits_apply, ← sum_head h (fun c => q (ix2 w c)) (fun c => k (ix2 j c))]
    congr 1
    refine Finset.sum_congr rfl fun c _ => ?_
    rw [headStack_apply, show (h.val * 64 + w.val) / 64 = h.val by omega,
      show (⟨(h.val * 64 + w.val) % 64, by omega⟩ : Fin 64) = w from Fin.ext (by dsimp only; omega)]
  unfold grpOut
  rw [grpJoin_apply, show (⟨(h.val * 64 + e.val) / 64 * 64 + w.val, by omega⟩ : Fin 256) = ⟨h.val * 64 + w.val, by omega⟩ from
    Fin.ext (by dsimp only; omega), grpMix_apply, grpInv_apply]
  simp only [grpExp_apply, hL]
  rfl

set_option maxHeartbeats 1000000 in
theorem rowFn_apply (q : Vec Ideal S1x64x512 .bf16) (k v : Vec Ideal S8x64x512 .bf16) (b0 b1 : Vec Ideal S1x256x512 .f32)
    (w : Fin 64) (h : Fin 8) (e : Fin 64) :
    rowFn q k v b0 b1 (ix3 0 w ⟨h.val * 64 + e.val, by omega⟩)
      = softMix (fun j => (∑ e' : Fin 64, q (ix3 0 w ⟨h.val * 64 + e'.val, by omega⟩)
            * k (ix3 ⟨j.val / 64, by omega⟩ ⟨j.val % 64, by omega⟩ ⟨h.val * 64 + e'.val, by omega⟩))
          + if h.val < 4 then b0 (ix3 0 ⟨h.val % 4 * 64 + w.val, by omega⟩ j) else b1 (ix3 0 ⟨h.val % 4 * 64 + w.val, by omega⟩ j))
        (fun j => v (ix3 ⟨j.val / 64, by omega⟩ ⟨j.val % 64, by omega⟩ ⟨h.val * 64 + e.val, by omega⟩)) := by
  have g := fun q k v b => grpOut_apply q k v b w ⟨h.val % 4, by omega⟩ e
  dsimp only at g
  have hlt := h.isLt
  have fx : ∀ {n a b : Nat} (ha : a < n) (hb : b < n), a = b → (⟨a, ha⟩ : Fin n) = ⟨b, hb⟩ := fun _ _ h => Fin.ext h
  unfold rowFn
  pointwise []
  by_cases hh : h.val < 4
  · rw [dif_pos (by omega), fx (b := h.val % 4 * 64 + e.val) _ (by omega) (by omega), g]
    refine congrArg₂ softMix (funext fun j => ?_) (funext fun j => ?_)
    · rw [if_pos hh]
      refine congrArg (· + _) (Finset.sum_congr rfl fun e' _ => ?_)
      pointwise []
      rw [fx (a := h.val % 4 * 64 + e'.val) (b := h.val * 64 + e'.val) _ (by omega) (by omega)]
    · pointwise []
      rw [fx (a := h.val % 4 * 64 + e.val) (b := h.val * 64 + e.val) _ (by omega) (by omega)]
  · rw [dif_neg (by omega), fx (b := h.val % 4 * 64 + e.val) _ (by omega) (by omega), g]
    refine congrArg₂ softMix (funext fun j => ?_) (funext fun j => ?_)
    · rw [if_neg hh]
      refine congrArg (· + _) (Finset.sum_congr rfl fun e' _ => ?_)
      pointwise []
      rw [fx (a := 256 + (h.val % 4 * 64 + e'.val)) (b := h.val * 64 + e'.val) _ (by omega) (by omega)]
    · pointwise []
      rw [fx (a := 256 + (h.val % 4 * 64 + e.val)) (b := h.val * 64 + e.val) _ (by omega) (by omega)]

end Cert.KernelIdeal.Body

end
-- ==== Proof.NatArr.lean ====
/- The attention kernel's result array after the run, element by element, over the arrays that the call reads. -/
module

public import proofs.«01_k».proof.Proof.NatFrame
public import proofs.«01_k».proof.Proof.NatRowVal
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.Pipeline (Dat)

variable (m : (ℓ : Loc nD τ sig) → Buf (Elt Ideal) ℓ)

/-- Row `r` of the output block is what the body computes for it. -/
theorem natOut_apply (i : grid0.Coords) (x0 x1 x2 x3 x4 x5 x6 : Vec Ideal S8x64x512 .bf16) (x7 : Vec Ideal S8x512x512 .f32)
    (r : Fin 8) (w : Fin 64) (ch : Fin 512) :
    natOut i x0 x1 x2 x3 x4 x5 x6 x7 (ix3 r w ch) = natRow i r x0 x1 x2 x3 x4 x5 x6 x7 (ix3 0 w ch) := by
  unfold natOut
  refine View.canon_eq_of_allAt _ _ _ (natOut_cover _ _ _ _ _ _ _ _ _) ?_
  have key : ∀ k : Fin 8, View.TileAt (Val := Elt Ideal) (e := .bf16) (ix3 r w ch : S8x64x512.Idx) ![k.val, 0, 0] S1x64x512.size (natRow i k x0 x1 x2 x3 x4 x5 x6 x7)
      (natRow i r x0 x1 x2 x3 x4 x5 x6 x7 (ix3 0 w ch)) := by
    intro k x hx
    obtain ⟨a, b, c, rfl⟩ : ∃ (a : Fin 1) (b : Fin 64) (c : Fin 512), x = ix3 a b c := ⟨x 0, x 1, x 2, eq_ix3 x⟩
    have h0 : r.val = k.val + a.val := hx 0
    have h1 : w.val = 0 + b.val := hx 1
    have h2 : ch.val = 0 + c.val := hx 2
    have ea : a = 0 := Fin.ext (by omega)
    have ek : k = r := Fin.ext (by omega)
    have eb : b = w := Fin.ext (by omega)
    have ec : c = ch := Fin.ext (by omega)
    subst ea ek eb ec; rfl
  exact View.allAt_cons_unit _ _ _ _ _ (key 7) (View.allAt_cons_unit _ _ _ _ _ (key 6) (View.allAt_cons_unit _ _ _ _ _ (key 5)
    (View.allAt_cons_unit _ _ _ _ _ (key 4) (View.allAt_cons_unit _ _ _ _ _ (key 3) (View.allAt_cons_unit _ _ _ _ _ (key 2)
    (View.allAt_cons_unit _ _ _ _ _ (key 1) (View.allAt_cons_unit _ _ _ _ _ (key 0) (View.allAt_nil _ _))))))))

theorem stack3_cover {e : EltTy} {Val : EltTy → Type} (p2 p1 p0 : S8x64x512.Idx → Val e) (y : S24x64x512.Idx) :
    ∃ p ∈ ([⟨Rect.unit ![16, 0, 0] S8x64x512.size inb_S24x64x512_S8x64x512_16_0_0, p2⟩,
      ⟨Rect.unit ![8, 0, 0] S8x64x512.size inb_S24x64x512_S8x64x512_8_0_0, p1⟩,
      ⟨Rect.unit ![0, 0, 0] S8x64x512.size inb_S24x64x512_S8x64x512_0_0_0, p0⟩] : List (View.Piece Val S24x64x512 e)), y ∈ p.1.set :=
  View.cover_of_tiled _ ![8, 64, 512] (by rfl) y

/-- The stacked rows hold any function that the three blocks hold. -/
theorem stack3_eq (a b c : Vec Ideal S8x64x512 .bf16) (p : Fin 24) (w : Fin 64) (ch : Fin 512) (v : EReal)
    (h0 : ∀ k : Fin 8, p.val = k.val → a (ix3 k w ch) = v)
    (h1 : ∀ k : Fin 8, p.val = 8 + k.val → b (ix3 k w ch) = v)
    (h2 : ∀ k : Fin 8, p.val = 16 + k.val → c (ix3 k w ch) = v) :
    stack3 a b c (ix3 p w ch) = v := by
  unfold stack3
  refine View.canon_eq_of_allAt (Val := Elt Ideal) _ _ _ (stack3_cover _ _ _ _) ?_
  have key : ∀ (n : Nat) (z z' : Vec Ideal S8x64x512 .bf16) (hz : z' = z), (∀ k : Fin 8, p.val = n + k.val → z (ix3 k w ch) = v) →
      View.TileAt (Val := Elt Ideal) (e := .bf16) (ix3 p w ch : S24x64x512.Idx) ![n, 0, 0] S8x64x512.size z' v := by
    intro n z z' hz hv x hx
    subst hz
    obtain ⟨a, b, c, rfl⟩ : ∃ (a : Fin 8) (b : Fin 64) (c : Fin 512), x = ix3 a b c := ⟨x 0, x 1, x 2, eq_ix3 x⟩
    have g0 : p.val = n + a.val := hx 0
    have g1 : w.val = 0 + b.val := hx 1
    have g2 : ch.val = 0 + c.val := hx 2
    have eb : b = w := Fin.ext (by omega)
    have ec : c = ch := Fin.ext (by omega)
    subst eb ec
    exact hv a g0
  have idp : ∀ z : Vec Ideal S8x64x512 .bf16, k0_pay4 z = z ∧ k0_pay3 z = z ∧ k0_pay2 z = z := by
    intro z
    refine ⟨?_, ?_, ?_⟩ <;> funext j <;> idx_vars j <;> pointwise [k0_pay4, k0_pay3, k0_pay2]
  exact View.allAt_cons_unit _ _ _ _ _ (key 16 c _ (idp c).1 h2) (View.allAt_cons_unit _ _ _ _ _ (key 8 b _ (idp b).2.1 h1)
    (View.allAt_cons_unit _ _ _ _ _ (key 0 a _ (idp a).2.2 fun k hk => h0 k (by omega)) (View.allAt_nil _ _)))

theorem idx0 : ∀ t : Fin cfg0.N, win0_0.index t = ![t.val, 0, 0] := (by decide +kernel : ∀ t : Fin grid0.N, _)
theorem idx1 : ∀ t : Fin cfg0.N, win0_1.index t = ![t.val - 1, 0, 0] := (by decide +kernel : ∀ t : Fin grid0.N, _)
theorem ix2' : ∀ t : Fin cfg0.N, win0_2.index t = ![t.val, 0, 0] := (by decide +kernel : ∀ t : Fin grid0.N, _)
theorem ix3' : ∀ t : Fin cfg0.N, win0_3.index t = ![min (t.val + 1) 31, 0, 0] := (by decide +kernel : ∀ t : Fin grid0.N, _)
theorem ix4' : ∀ t : Fin cfg0.N, win0_4.index t = ![t.val - 1, 0, 0] := (by decide +kernel : ∀ t : Fin grid0.N, _)
theorem ix5' : ∀ t : Fin cfg0.N, win0_5.index t = ![t.val, 0, 0] := (by decide +kernel : ∀ t : Fin grid0.N, _)
theorem ix6' : ∀ t : Fin cfg0.N, win0_6.index t = ![min (t.val + 1) 31, 0, 0] := (by decide +kernel : ∀ t : Fin grid0.N, _)
theorem ix7' : ∀ t : Fin cfg0.N, win0_7.index t = ![0, 0, 0] := (by decide +kernel : ∀ t : Fin grid0.N, _)
theorem ix8' : ∀ t : Fin cfg0.N, win0_8.index t = ![t.val, 0, 0] := (by decide +kernel : ∀ t : Fin grid0.N, _)

theorem coord_val (t : Fin cfg0.N) : (grid0.coords t 0).val = t.val :=
  (by decide +kernel : ∀ t : Fin grid0.N, (grid0.coords t 0).val = t.val) t

theorem N_val : cfg0.N = 32 := by decide +kernel

theorem blk0 (c : Dev nD) (t : Fin cfg0.N) (k : Fin 8) (w : Fin 64) (ch : Fin 512) (R : Fin 256)
    (hR : R.val = t.val * 8 + k.val) :
    iblk m c 0 t (ix3 k w ch) = V m c main_v59 (ix3 R w ch) := by
  blk_simp [iblk]
  refine congrArg (V m c main_v59) ?_
  funext a
  apply Fin.ext
  blk_simp [idx0]
  match a with
  | ⟨0, _⟩ => exact hR.symm
  | ⟨1, _⟩ => show 0 * 64 + w.val = w.val; omega
  | ⟨2, _⟩ => show 0 * 512 + ch.val = ch.val; omega

theorem blk1 (c : Dev nD) (t : Fin cfg0.N) (k : Fin 8) (w : Fin 64) (ch : Fin 512) (R : Fin 256)
    (hR : R.val = (t.val - 1) * 8 + k.val) :
    iblk m c 1 t (ix3 k w ch) = V m c main_v60 (ix3 R w ch) := by
  blk_simp [iblk]
  refine congrArg (V m c main_v60) ?_
  funext a
  apply Fin.ext
  blk_simp [idx1]
  match a with
  | ⟨0, _⟩ => exact hR.symm
  | ⟨1, _⟩ => show 0 * 64 + w.val = w.val; omega
  | ⟨2, _⟩ => show 0 * 512 + ch.val = ch.val; omega

theorem blk2 (c : Dev nD) (t : Fin cfg0.N) (k : Fin 8) (w : Fin 64) (ch : Fin 512) (R : Fin 256)
    (hR : R.val = t.val * 8 + k.val) :
    iblk m c 2 t (ix3 k w ch) = V m c main_v60 (ix3 R w ch) := by
  blk_simp [iblk]
  refine congrArg (V m c main_v60) ?_
  funext a
  apply Fin.ext
  blk_simp [ix2']
  match a with
  | ⟨0, _⟩ => exact hR.symm
  | ⟨1, _⟩ => show 0 * 64 + w.val = w.val; omega
  | ⟨2, _⟩ => show 0 * 512 + ch.val = ch.val; omega

theorem blk3 (c : Dev nD) (t : Fin cfg0.N) (k : Fin 8) (w : Fin 64) (ch : Fin 512) (R : Fin 256)
    (hR : R.val = min (t.val + 1) 31 * 8 + k.val) :
    iblk m c 3 t (ix3 k w ch) = V m c main_v60 (ix3 R w ch) := by
  blk_simp [iblk]
  refine congrArg (V m c main_v60) ?_
  funext a
  apply Fin.ext
  blk_simp [ix3']
  match a with
  | ⟨0, _⟩ => exact hR.symm
  | ⟨1, _⟩ => show 0 * 64 + w.val = w.val; omega
  | ⟨2, _⟩ => show 0 * 512 + ch.val = ch.val; omega

theorem blk4 (c : Dev nD) (t : Fin cfg0.N) (k : Fin 8) (w : Fin 64) (ch : Fin 512) (R : Fin 256)
    (hR : R.val = (t.val - 1) * 8 + k.val) :
    iblk m c 4 t (ix3 k w ch) = V m c main_v61 (ix3 R w ch) := by
  blk_simp [iblk]
  refine congrArg (V m c main_v61) ?_
  funext a
  apply Fin.ext
  blk_simp [ix4']
  match a with
  | ⟨0, _⟩ => exact hR.symm
  | ⟨1, _⟩ => show 0 * 64 + w.val = w.val; omega
  | ⟨2, _⟩ => show 0 * 512 + ch.val = ch.val; omega

theorem blk5 (c : Dev nD) (t : Fin cfg0.N) (k : Fin 8) (w : Fin 64) (ch : Fin 512) (R : Fin 256)
    (hR : R.val = t.val * 8 + k.val) :
    iblk m c 5 t (ix3 k w ch) = V m c main_v61 (ix3 R w ch) := by
  blk_simp [iblk]
  refine congrArg (V m c main_v61) ?_
  funext a
  apply Fin.ext
  blk_simp [ix5']
  match a with
  | ⟨0, _⟩ => exact hR.symm
  | ⟨1, _⟩ => show 0 * 64 + w.val = w.val; omega
  | ⟨2, _⟩ => show 0 * 512 + ch.val = ch.val; omega

theorem blk6 (c : Dev nD) (t : Fin cfg0.N) (k : Fin 8) (w : Fin 64) (ch : Fin 512) (R : Fin 256)
    (hR : R.val = min (t.val + 1) 31 * 8 + k.val) :
    iblk m c 6 t (ix3 k w ch) = V m c main_v61 (ix3 R w ch) := by
  blk_simp [iblk]
  refine congrArg (V m c main_v61) ?_
  funext a
  apply Fin.ext
  blk_simp [ix6']
  match a with
  | ⟨0, _⟩ => exact hR.symm
  | ⟨1, _⟩ => show 0 * 64 + w.val = w.val; omega
  | ⟨2, _⟩ => show 0 * 512 + ch.val = ch.val; omega

theorem blk7 (c : Dev nD) (t : Fin cfg0.N) (k : Fin 8) (w : Fin 512) (ch : Fin 512) :
    iblk m c 7 t (ix3 k w ch) = V m c main_v58 (ix3 k w ch) := by
  blk_simp [iblk]
  refine congrArg (V m c main_v58) ?_
  funext a
  apply Fin.ext
  blk_simp [ix7']
  match a with
  | ⟨0, _⟩ => show 0 * 8 + k.val = k.val; omega
  | ⟨1, _⟩ => show 0 * 512 + w.val = w.val; omega
  | ⟨2, _⟩ => show 0 * 512 + ch.val = ch.val; omega

/-- The window's rows, read out of the stacked blocks of one array. -/
theorem win_gen (i : grid0.Coords) (r : Fin 8) (a b c : Vec Ideal S8x64x512 .bf16) (X : S256x64x512.Idx → EReal)
    (ha : ∀ (k : Fin 8) w ch (R : Fin 256), R.val = ((i 0).val - 1) * 8 + k.val → a (ix3 k w ch) = X (ix3 R w ch))
    (hb : ∀ (k : Fin 8) w ch (R : Fin 256), R.val = (i 0).val * 8 + k.val → b (ix3 k w ch) = X (ix3 R w ch))
    (hc : ∀ (k : Fin 8) w ch (R : Fin 256), R.val = min ((i 0).val + 1) 31 * 8 + k.val → c (ix3 k w ch) = X (ix3 R w ch))
    (k : Fin 8) (w : Fin 64) (ch : Fin 512) :
    winOf i r a b c (ix3 k w ch) = X (ix3 ⟨min (8 * (i 0).val + r.val - 4) 248 + k.val, by omega⟩ w ch) := by
  have hi : (i 0).val < 32 := (i 0).isLt
  have hr := r.isLt
  have hk := k.isLt
  unfold winOf
  have hp : min (8 * (i 0).val + r.val - 4) 248 + 8 - 8 * (i 0).val + k.val < 24 := by omega
  rw [View.ld_unit_apply_of (stack3 a b c) (k0_off1 i (BitVec.ofNat 32 r.val)) S8x64x512.size (k0_off1_inb i r) (ix3 k w ch)
    (ix3 ⟨min (8 * (i 0).val + r.val - 4) 248 + 8 - 8 * (i 0).val + k.val, hp⟩ w ch)
    (by
      intro x
      refine Eq.trans ?_ (congrArg (· + _) (congrFun (off1_eq i r) x)).symm
      match x with
      | ⟨0, _⟩ => rfl
      | ⟨1, _⟩ => show w.val = 0 + w.val; omega
      | ⟨2, _⟩ => show ch.val = 0 + ch.val; omega)]
  refine stack3_eq a b c _ w ch _ ?_ ?_ ?_
  · intro k' hk'; exact ha k' w ch _ (by dsimp only at hk' ⊢; omega)
  · intro k' hk'; exact hb k' w ch _ (by dsimp only at hk' ⊢; omega)
  · intro k' hk'; exact hc k' w ch _ (by dsimp only at hk' ⊢; omega)

/-- The first key row of row `R`'s window. -/
def wrow (R : Fin 256) : Nat := min (R.val - 4) 248

theorem wrow_add (R : Fin 256) (k : Fin 8) : wrow R + k.val < 256 := by unfold wrow; omega

theorem wrow_sub (R : Fin 256) : R.val - wrow R < 8 := by unfold wrow; omega

/-- Element `(R, w, h * 64 + e)` of the attention's result, over the arrays `q k v` and the bias table `b`. -/
def attElt (q k v : S256x64x512.Idx → EReal) (b : S8x512x512.Idx → EReal) (R : Fin 256) (w : Fin 64) (h : Fin 8) (e : Fin 64) : EReal :=
  softMix (fun j => (∑ e' : Fin 64, q (ix3 R w ⟨h.val * 64 + e'.val, by omega⟩)
        * k (ix3 ⟨wrow R + (⟨j.val / 64, by omega⟩ : Fin 8).val, wrow_add R _⟩ ⟨j.val % 64, by omega⟩ ⟨h.val * 64 + e'.val, by omega⟩))
      + b (ix3 ⟨R.val - wrow R, wrow_sub R⟩ ⟨h.val * 64 + w.val, by omega⟩ j))
    (fun j => v (ix3 ⟨wrow R + (⟨j.val / 64, by omega⟩ : Fin 8).val, wrow_add R _⟩ ⟨j.val % 64, by omega⟩ ⟨h.val * 64 + e.val, by omega⟩))

theorem outAt_apply (c : Dev nD) (t : Fin cfg0.N) (r : Fin 8) (w : Fin 64) (h : Fin 8) (e : Fin 64) (R : Fin 256) (hR : R.val = t.val * 8 + r.val) :
    outAt m c t (ix3 r w ⟨h.val * 64 + e.val, by omega⟩)
      = attElt (V m c main_v59) (V m c main_v60) (V m c main_v61) (V m c main_v58) R w h e := by
  have hr := r.isLt
  have hh := h.isLt
  have hw := w.isLt
  have ht := coord_val t
  have hwr : min (8 * (grid0.coords t 0).val + r.val - 4) 248 = wrow R := by unfold wrow; omega
  unfold outAt
  rw [natOut_apply]
  unfold natRow
  rw [rowFn_apply]
  unfold attElt
  refine congrArg₂ softMix (funext fun j => ?_) (funext fun j => ?_)
  · refine congrArg₂ (· + ·) (Finset.sum_congr rfl fun e' _ => congrArg₂ (· * ·) ?_ ?_) ?_
    · rw [View.ld_unit_apply_of (iblk m c 0 t) ![r.val, 0, 0] S1x64x512.size (rowInb r) _ (ix3 r w ⟨h.val * 64 + e'.val, by omega⟩)
        (by intro x
            match x with
            | ⟨0, _⟩ => rfl
            | ⟨1, _⟩ => show w.val = 0 + w.val; omega
            | ⟨2, _⟩ => show h.val * 64 + e'.val = 0 + (h.val * 64 + e'.val); omega)]
      exact blk0 m c t _ _ _ R hR
    · rw [win_gen (grid0.coords t) r _ _ _ (V m c main_v60)
        (fun k w ch R h => blk1 m c t k w ch R (by rw [h, ht])) (fun k w ch R h => blk2 m c t k w ch R (by rw [h, ht]))
        (fun k w ch R h => blk3 m c t k w ch R (by rw [h, ht]))]
      simp only [hwr]
    · by_cases h4 : h.val < 4
      · rw [if_pos h4, View.ld_unit_apply_of (iblk m c 7 t) (k0_off2 (grid0.coords t) (BitVec.ofNat 32 r.val)) S1x256x512.size _ _
          (ix3 ⟨R.val - wrow R, wrow_sub R⟩ ⟨h.val * 64 + w.val, by omega⟩ j)
          (by intro x
              refine Eq.trans ?_ (congrArg (· + _) (congrFun (off2_eq (grid0.coords t) r) x)).symm
              match x with
              | ⟨0, _⟩ => show R.val - wrow R = 8 * (grid0.coords t 0).val + r.val - min (8 * (grid0.coords t 0).val + r.val - 4) 248 + 0; omega
              | ⟨1, _⟩ => show h.val * 64 + w.val = 0 + (h.val % 4 * 64 + w.val); omega
              | ⟨2, _⟩ => show j.val = 0 + j.val; omega)]
        exact blk7 m c t _ _ _
      · rw [if_neg h4, View.ld_unit_apply_of (iblk m c 7 t) (k0_off3 (grid0.coords t) (BitVec.ofNat 32 r.val)) S1x256x512.size _ _
          (ix3 ⟨R.val - wrow R, wrow_sub R⟩ ⟨h.val * 64 + w.val, by omega⟩ j)
          (by intro x
              refine Eq.trans ?_ (congrArg (· + _) (congrFun (off3_eq (grid0.coords t) r) x)).symm
              match x with
              | ⟨0, _⟩ => show R.val - wrow R = 8 * (grid0.coords t 0).val + r.val - min (8 * (grid0.coords t 0).val + r.val - 4) 248 + 0; omega
              | ⟨1, _⟩ => show h.val * 64 + w.val = 256 + (h.val % 4 * 64 + w.val); omega
              | ⟨2, _⟩ => show j.val = 0 + j.val; omega)]
        exact blk7 m c t _ _ _
  · rw [win_gen (grid0.coords t) r _ _ _ (V m c main_v61)
      (fun k w ch R h => blk4 m c t k w ch R (by rw [h, ht])) (fun k w ch R h => blk5 m c t k w ch R (by rw [h, ht]))
      (fun k w ch R h => blk6 m c t k w ch R (by rw [h, ht]))]
    simp only [hwr]

/-- The whole result array. -/
def attArr (q k v : S256x64x512.Idx → EReal) (b : S8x512x512.Idx → EReal) : S256x64x512.Idx → EReal := fun j =>
  attElt q k v b (j 0) (j 1) ⟨(j 2).val / 64, by have : (j 2).val < 512 := (j 2).isLt; omega⟩ ⟨(j 2).val % 64, by omega⟩

theorem final8 (c : Dev nD) : (dats m 0 c).arrAt 8 cfg0.N
    = attArr (V m c main_v59) (V m c main_v60) (V m c main_v61) (V m c main_v58) := by
  refine (dats m 0 c).arrAt_eq_of_covers 8 _ (by decide +kernel) fun t hf y => ?_
  blk_simp
  rw [after0_8]
  obtain ⟨r, w, ch, rfl⟩ : ∃ (a : Fin 8) (b : Fin 64) (c : Fin 512), y = ix3 a b c := ⟨y 0, y 1, y 2, eq_ix3 y⟩
  have htt : t.val < 32 := lt_of_lt_of_eq t.isLt N_val
  have hr := r.isLt
  have ey : (win0_8.blk t).view.emb (ix3 r w ch) = ix3 (⟨t.val * 8 + r.val, by omega⟩ : Fin 256) w ch := by
    funext a
    apply Fin.ext
    blk_simp [ix8']
    match a with
    | ⟨0, _⟩ => rfl
    | ⟨1, _⟩ => show 0 * 64 + w.val = w.val; omega
    | ⟨2, _⟩ => show 0 * 512 + ch.val = ch.val; omega
  rw [ey]
  have ec : ch = ⟨(⟨ch.val / 64, by omega⟩ : Fin 8).val * 64 + (⟨ch.val % 64, by omega⟩ : Fin 64).val, by dsimp only; omega⟩ := Fin.ext (by dsimp only; omega)
  have := outAt_apply m c t r w ⟨ch.val / 64, by omega⟩ ⟨ch.val % 64, by omega⟩ ⟨t.val * 8 + r.val, by omega⟩ rfl
  rw [← ec] at this
  exact this

end Cert.KernelIdeal.Body

end
-- ==== Proof.NatGather.lean ====
/- The four gathers of the programs read at an index. -/
module

public import proofs.«01_k».proof.Proof.Gen.KernelIdeal
public import proofs.«01_k».proof.Proof.Gen.ReferenceIdeal
public import Idealize.ShloMosaic.Lib.Pointwise

@[expose] public section

set_option maxRecDepth 16384

noncomputable section

namespace Cert.NatGather

open Idealize.ShloMosaic Idealize.ShloMosaic.TcCoe Idealize.ShloMosaic.Tactic

/-- A gather reads the index whose coordinates are start, batch and offset coordinate together. -/
theorem gather_at {α : Type} {s si t : Shape} {w : Nat} (d : GatherDims s si t) (x : s.Idx → α) (idx : IVec si w) (j : t.Idx) (J : s.Idx)
    (h : ∀ a, d.start j idx a + d.batchCoord j a + d.offCoord j a = (J a).val) : Host.gather d x idx j = x J :=
  congrArg x (funext fun a => Fin.ext (h a))

theorem start_at {s si t : Shape} {w : Nat} (d : GatherDims s si t) (idx : IVec si w) (j : t.Idx) (a : Fin s.rank) (I : si.Idx) (n : Nat)
    (ha : a ∈ d.startIndexMap) (hn : s.size a - d.sliceSizes a = n)
    (hI : ∀ b, (d.siIdx j ⟨d.startIndexMap.idxOf a, List.idxOf_lt_length_iff.2 ha⟩ b).val = (I b).val) :
    d.start j idx a = min (idx I).toInt.toNat n := by
  unfold GatherDims.start
  rw [dif_pos ha, hn, show d.siIdx j ⟨d.startIndexMap.idxOf a, List.idxOf_lt_length_iff.2 ha⟩ = I from funext fun b => Fin.ext (hI b)]

section K
open Cert.KernelIdeal Cert.KernelIdeal.Gen

theorem gatherRows {α : Type} (x : S8x15x31.Idx → α) (idx : IVec S8x8x1 32) (h a b : Fin 8) (c : Fin 31) :
    Host.gather gather_S8x15x31_S8x8x1_S8x8x8x31_03_1_n_n_1_2_8131 x idx (ix4 h a b c)
      = x (ix3 h ⟨min (idx (ix3 a b 0)).toInt.toNat 14, by omega⟩ c) := by
  refine gather_at _ _ _ _ _ fun ax => ?_
  match ax with
  | ⟨0, _⟩ => exact Nat.zero_add _
  | ⟨1, _⟩ =>
    refine Eq.trans (congrArg₂ (· + ·) (congrArg₂ (· + ·) (start_at gather_S8x15x31_S8x8x1_S8x8x8x31_03_1_n_n_1_2_8131 idx _ (1 : Fin 3) (ix3 a b 0) 14 (by decide) rfl fun b => ?_) rfl) rfl) rfl
    match b with
    | ⟨0, _⟩ => rfl
    | ⟨1, _⟩ => rfl
    | ⟨2, _⟩ => rfl
  | ⟨2, _⟩ => exact Nat.zero_add _

theorem gatherCols {α : Type} (x : S8x8x8x31.Idx → α) (idx : IVec S64x64x1 32) (d h r : Fin 8) (a b : Fin 64) :
    Host.gather gather_S8x8x8x31_S64x64x1_S8x8x8x64x64_012_3_n_n_3_2_8881 x idx (ix5 d h r a b)
      = x (ix4 d h r ⟨min (idx (ix3 a b 0)).toInt.toNat 30, by omega⟩) := by
  refine gather_at _ _ _ _ _ fun ax => ?_
  match ax with
  | ⟨0, _⟩ => exact Nat.zero_add _
  | ⟨1, _⟩ => exact Nat.zero_add _
  | ⟨2, _⟩ => exact Nat.zero_add _
  | ⟨3, _⟩ =>
    refine Eq.trans (congrArg₂ (· + ·) (congrArg₂ (· + ·) (start_at gather_S8x8x8x31_S64x64x1_S8x8x8x64x64_012_3_n_n_3_2_8881 idx _ (3 : Fin 4) (ix3 a b 0) 30 (by decide) rfl fun b => ?_) rfl) rfl) rfl
    match b with
    | ⟨0, _⟩ => rfl
    | ⟨1, _⟩ => rfl
    | ⟨2, _⟩ => rfl
end K

section R
open Cert.ReferenceIdeal Cert.ReferenceIdeal.Gen

theorem gatherKeys {α : Type} (x : S256x64x8x64.Idx → α) (idx : IVec S256x8x64x16x2 32) (R : Fin 256) (kr : Fin 8) (w : Fin 64) (j : Fin 16) (h : Fin 8) (e : Fin 64) :
    Host.gather gather_S256x64x8x64_S256x8x64x16x2_S256x8x64x16x8x64_45_01_n_n_01_4_11864 x idx (ix6 R kr w j h e)
      = x (ix4 ⟨min (idx (ix5 R kr w j 0)).toInt.toNat 255, by omega⟩ ⟨min (idx (ix5 R kr w j 1)).toInt.toNat 63, by omega⟩ h e) := by
  refine gather_at _ _ _ _ _ fun ax => ?_
  match ax with
  | ⟨0, _⟩ =>
    refine Eq.trans (congrArg₂ (· + ·) (congrArg₂ (· + ·) (start_at gather_S256x64x8x64_S256x8x64x16x2_S256x8x64x16x8x64_45_01_n_n_01_4_11864 idx _ (0 : Fin 4) (ix5 R kr w j 0) 255 (by decide) rfl fun b => ?_) rfl) rfl) rfl
    match b with
    | ⟨0, _⟩ => rfl
    | ⟨1, _⟩ => rfl
    | ⟨2, _⟩ => rfl
    | ⟨3, _⟩ => rfl
    | ⟨4, _⟩ => rfl
  | ⟨1, _⟩ =>
    refine Eq.trans (congrArg₂ (· + ·) (congrArg₂ (· + ·) (start_at gather_S256x64x8x64_S256x8x64x16x2_S256x8x64x16x8x64_45_01_n_n_01_4_11864 idx _ (1 : Fin 4) (ix5 R kr w j 1) 63 (by decide) rfl fun b => ?_) rfl) rfl) rfl
    match b with
    | ⟨0, _⟩ => rfl
    | ⟨1, _⟩ => rfl
    | ⟨2, _⟩ => rfl
    | ⟨3, _⟩ => rfl
    | ⟨4, _⟩ => rfl
  | ⟨2, _⟩ => exact Nat.zero_add _
  | ⟨3, _⟩ => exact Nat.zero_add _

theorem gatherBias {α : Type} (x : S8x15x31.Idx → α) (idx : IVec S256x64x8x16x2 32) (h : Fin 8) (R : Fin 256) (w : Fin 64) (kr : Fin 8) (j : Fin 16) :
    Host.gather gather_S8x15x31_S256x64x8x16x2_S8x256x64x8x16_0_12_n_n_12_4_811 x idx (ix5 h R w kr j)
      = x (ix3 h ⟨min (idx (ix5 R w kr j 0)).toInt.toNat 14, by omega⟩ ⟨min (idx (ix5 R w kr j 1)).toInt.toNat 30, by omega⟩) := by
  refine gather_at _ _ _ _ _ fun ax => ?_
  match ax with
  | ⟨0, _⟩ => exact Nat.zero_add _
  | ⟨1, _⟩ =>
    refine Eq.trans (congrArg₂ (· + ·) (congrArg₂ (· + ·) (start_at gather_S8x15x31_S256x64x8x16x2_S8x256x64x8x16_0_12_n_n_12_4_811 idx _ (1 : Fin 3) (ix5 R w kr j 0) 14 (by decide) rfl fun b => ?_) rfl) rfl) rfl
    match b with
    | ⟨0, _⟩ => rfl
    | ⟨1, _⟩ => rfl
    | ⟨2, _⟩ => rfl
    | ⟨3, _⟩ => rfl
    | ⟨4, _⟩ => rfl
  | ⟨2, _⟩ =>
    refine Eq.trans (congrArg₂ (· + ·) (congrArg₂ (· + ·) (start_at gather_S8x15x31_S256x64x8x16x2_S8x256x64x8x16_0_12_n_n_12_4_811 idx _ (2 : Fin 3) (ix5 R w kr j 1) 30 (by decide) rfl fun b => ?_) rfl) rfl) rfl
    match b with
    | ⟨0, _⟩ => rfl
    | ⟨1, _⟩ => rfl
    | ⟨2, _⟩ => rfl
    | ⟨3, _⟩ => rfl
    | ⟨4, _⟩ => rfl
end R
end Cert.NatGather
end
-- ==== Proof.NatHost.lean ====
/- What the attention call reads: the reshaped arguments and the table of biases with its mask, element by element. -/
module

public import proofs.«01_k».proof.Proof.NatGather
public import proofs.«01_k».proof.Proof.NatRowVal
public import proofs.«01_k».proof.Proof.NatFrame
public import Idealize.ShloMosaic.Lib.Pointwise
public import Idealize.ShloMosaic.Lib.StableHlo.RunRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable (m : (ℓ : Loc nD τ sig) → Buf (Elt Ideal) ℓ)

theorem V_q (c : Dev nD) (R : Fin 256) (w : Fin 64) (ch : Fin 512) :
    V m c main_v59 (ix3 R w ch) = m ((c : Thread nD τ).loc main_arg0) (ix2 ⟨R.val * 64 + w.val, by omega⟩ ch) := by
  unfold_abbrev_sides
  after_reads_simp
  pointwise

theorem V_k (c : Dev nD) (R : Fin 256) (w : Fin 64) (ch : Fin 512) :
    V m c main_v60 (ix3 R w ch) = m ((c : Thread nD τ).loc main_arg1) (ix2 ⟨R.val * 64 + w.val, by omega⟩ ch) := by
  unfold_abbrev_sides
  after_reads_simp
  pointwise

theorem V_v (c : Dev nD) (R : Fin 256) (w : Fin 64) (ch : Fin 512) :
    V m c main_v61 (ix3 R w ch) = m ((c : Thread nD τ).loc main_arg2) (ix2 ⟨R.val * 64 + w.val, by omega⟩ ch) := by
  unfold_abbrev_sides
  after_reads_simp
  pointwise

/-- The first column of the window of a column. -/
def cst (w : ℕ) : ℕ := min 48 (w - 8)

/-- The word that says whether a key's column lies in the window. -/
def inBit (w kc : ℕ) : BitVec 1 :=
  IntOp.andi
    (IntOp.cmpi CmpIPredicate.sge (BitVec.ofNat 32 kc)
      (IntOp.minsi 48#32 (IntOp.maxsi 0#32 (IntOp.subi (BitVec.ofNat 32 w) 8#32))))
    (IntOp.cmpi CmpIPredicate.slt (BitVec.ofNat 32 kc)
      (IntOp.addi (IntOp.minsi 48#32 (IntOp.maxsi 0#32 (IntOp.subi (BitVec.ofNat 32 w) 8#32))) 16#32))

/-- The column of the bias table that the kernel reads, as a word. -/
def colWord (w kc : ℕ) : BitVec 32 :=
  Scalar.select (inBit w kc) (IntOp.addi (IntOp.subi (BitVec.ofNat 32 kc) (BitVec.ofNat 32 w)) 15#32) 4294967295#32

/-- The row of the bias table that the kernel reads, as a word. -/
def rowWord (d kr : ℕ) : BitVec 32 := IntOp.subi (IntOp.addi (BitVec.ofNat 32 kr) 7#32) (BitVec.ofNat 32 d)

theorem inBit_eq (w kc : Fin 64) : inBit w.val kc.val = if cst w.val ≤ kc.val ∧ kc.val < cst w.val + 16 then 1#1 else 0#1 := by
  revert w kc; unfold inBit cst; decide +kernel

/-- The column that the gather reads for it. -/
def colIdx (w kc : ℕ) : ℕ :=
  min (BitVec.toInt (Scalar.select (IntOp.cmpi CmpIPredicate.slt (colWord w kc) 0#32) (IntOp.addi (colWord w kc) 31#32)
    (colWord w kc))).toNat 30

/-- The row that the gather reads for it. -/
def rowIdx (d kr : ℕ) : ℕ :=
  min (BitVec.toInt (Scalar.select (IntOp.cmpi CmpIPredicate.slt (rowWord d kr) 0#32) (IntOp.addi (rowWord d kr) 15#32)
    (rowWord d kr))).toNat 14

theorem colIdx_lt (w kc : ℕ) : colIdx w kc < 31 := by unfold colIdx; omega
theorem rowIdx_lt (d kr : ℕ) : rowIdx d kr < 15 := by unfold rowIdx; omega

theorem colIdx_eq (w kc : Fin 64) (h : cst w.val ≤ kc.val ∧ kc.val < cst w.val + 16) : colIdx w.val kc.val = kc.val + 15 - w.val := by
  revert w kc; unfold colIdx colWord inBit cst; decide +kernel

theorem rowIdx_eq (d kr : Fin 8) : rowIdx d.val kr.val = kr.val + 7 - d.val := by
  revert d kr; unfold rowIdx rowWord; decide +kernel

theorem cst_bound (w kc : ℕ) (hw : w < 64) (hk : kc < 64) (h : cst w ≤ kc ∧ kc < cst w + 16) : kc + 15 - w < 31 := by
  unfold cst at h; omega

/-- The bias of a window column, and minus infinity outside the window. -/
def biasVal (rpb : S1x8x15x31.Idx → EReal) (d : Fin 8) (a b : Fin 512) : EReal :=
  if h : cst (a.val % 64) ≤ b.val % 64 ∧ b.val % 64 < cst (a.val % 64) + 16 then
    rpb (ix4 0 ⟨a.val / 64, by omega⟩ ⟨b.val / 64 + 7 - d.val, by omega⟩
      ⟨b.val % 64 + 15 - a.val % 64, cst_bound _ _ (by omega) (by omega) h⟩) + 0
  else 0 + ⊥

/-- The same as the words have it. -/
def pickVal (rpb : S1x8x15x31.Idx → EReal) (d : Fin 8) (a b : Fin 512) : EReal :=
  Scalar.select (inBit (a.val % 64) (b.val % 64))
      (rpb (ix4 0 ⟨a.val / 64, by omega⟩ ⟨rowIdx d.val (b.val / 64), rowIdx_lt _ _⟩ ⟨colIdx (a.val % 64) (b.val % 64), colIdx_lt _ _⟩)) 0
    + Scalar.select (inBit (a.val % 64) (b.val % 64)) 0 (Ideal.ofBits FTy.f32 4286578688#32)

theorem pickVal_eq (rpb : S1x8x15x31.Idx → EReal) (d : Fin 8) (a b : Fin 512) : pickVal rpb d a b = biasVal rpb d a b := by
  have e1 := inBit_eq ⟨a.val % 64, by omega⟩ ⟨b.val % 64, by omega⟩
  have e2 := rowIdx_eq d ⟨b.val / 64, by omega⟩
  have e3 := colIdx_eq ⟨a.val % 64, by omega⟩ ⟨b.val % 64, by omega⟩
  dsimp only at e1 e2 e3
  unfold biasVal pickVal
  simp only [ofBits_neg_inf, e1, e2]
  split
  next h =>
    simp only [e3 h]
    rfl
  next h => rfl

/-- The table of biases: inside the window the bias, outside it minus infinity. -/
theorem V_b (c : Dev nD) (d : Fin 8) (a b : Fin 512) :
    V m c main_v58 (ix3 d a b)
      = biasVal (m ((c : Thread nD τ).loc main_arg3)) d a b := by
  unfold_abbrev_sides
  after_reads_simp
  simp only [StableHlo.TRef.toBuf, StableHlo.TRef.ofBuf, cast_eq, id_eq]
  pointwise [NatGather.gatherRows, NatGather.gatherCols]
  change pickVal (m ((c : Thread nD τ).loc main_arg3)) d a b = _
  exact pickVal_eq _ d a b

end Cert.KernelIdeal.Body
end
-- ==== Proof.NatRef.lean ====
/- The attention's reference, element by element. -/
module

public import proofs.«01_k».proof.Proof.NatGather
public import proofs.«01_k».proof.Proof.Gen.ReferenceIdeal.Run
public import Idealize.ShloMosaic.Lib.Pointwise
public import Idealize.ShloMosaic.Lib.Tactic.CleanTypes
public import Idealize.ShloMosaic.PureOps.Ideal.Laws

@[expose] public section

set_option maxRecDepth 16384

noncomputable section

namespace Cert.ReferenceIdeal.Body

open Cert.ReferenceIdeal Cert.ReferenceIdeal.Gen
open Idealize.ShloMosaic Idealize.ShloMosaic.TcCoe Idealize.ShloMosaic.Tactic

theorem ofBits_neg_inf : Ideal.ofBits FTy.f32 4286578688#32 = ⊥ := by
  simp [Ideal.ofBits, Ideal.ieee]

/-- The rows and columns of the keys of every query's window. -/
def keyIdx : IVec S256x8x64x16x2 32 :=
  (concatenate S256x8x64x16x2 4 [⟨S256x8x64x16x1, (broadcastInDim S256x8x64x16x1 ![0, 1, 2, 3] bcast_S256x8x64x16_S256x8x64x16x1_0_1_2_3
    (broadcastInDim S256x8x64x16 ![0, 1, 2, 3] bcast_S256x8x1x1_S256x8x64x16_0_1_2_3 (select (cmpi .slt (broadcastInDim S256x8x1x1 ![0, 1]
    bcast_S256x8_S256x8x1x1_0_1 (addi (broadcastInDim S256x8 ![0, 1] bcast_S256x1_S256x8_0_1 (broadcastInDim S256x1 ![0] bcast_S256_S256x1_0 (minsi
    (broadcastInDim S256 ![] bcast_S_S256 (id (constantI S_ 32 248#32))) (maxsi (broadcastInDim S256 ![] bcast_S_S256 (id (constantI S_ 32 0#32)))
    (subi (iotaInDim S256 32 0) (broadcastInDim S256 ![] bcast_S_S256 (constantI S_ 32 4#32))))))) (broadcastInDim S256x8 ![0, 1]
    bcast_S1x8_S256x8_0_1 (broadcastInDim S1x8 ![1] bcast_S8_S1x8_1 (iotaInDim S8 32 0))))) (broadcastInDim S256x8x1x1 ![] bcast_S_S256x8x1x1
    (constantI S_ 32 0#32))) (addi (broadcastInDim S256x8x1x1 ![0, 1] bcast_S256x8_S256x8x1x1_0_1 (addi (broadcastInDim S256x8 ![0, 1]
    bcast_S256x1_S256x8_0_1 (broadcastInDim S256x1 ![0] bcast_S256_S256x1_0 (minsi (broadcastInDim S256 ![] bcast_S_S256 (id (constantI S_ 32
    248#32))) (maxsi (broadcastInDim S256 ![] bcast_S_S256 (id (constantI S_ 32 0#32))) (subi (iotaInDim S256 32 0) (broadcastInDim S256 ![]
    bcast_S_S256 (constantI S_ 32 4#32))))))) (broadcastInDim S256x8 ![0, 1] bcast_S1x8_S256x8_0_1 (broadcastInDim S1x8 ![1] bcast_S8_S1x8_1
    (iotaInDim S8 32 0))))) (broadcastInDim S256x8x1x1 ![] bcast_S_S256x8x1x1 (constantI S_ 32 256#32))) (broadcastInDim S256x8x1x1 ![0, 1]
    bcast_S256x8_S256x8x1x1_0_1 (addi (broadcastInDim S256x8 ![0, 1] bcast_S256x1_S256x8_0_1 (broadcastInDim S256x1 ![0] bcast_S256_S256x1_0 (minsi
    (broadcastInDim S256 ![] bcast_S_S256 (id (constantI S_ 32 248#32))) (maxsi (broadcastInDim S256 ![] bcast_S_S256 (id (constantI S_ 32 0#32)))
    (subi (iotaInDim S256 32 0) (broadcastInDim S256 ![] bcast_S_S256 (constantI S_ 32 4#32))))))) (broadcastInDim S256x8 ![0, 1]
    bcast_S1x8_S256x8_0_1 (broadcastInDim S1x8 ![1] bcast_S8_S1x8_1 (iotaInDim S8 32 0))))))))⟩, ⟨S256x8x64x16x1, (broadcastInDim S256x8x64x16x1 ![0,
    1, 2, 3] bcast_S256x8x64x16_S256x8x64x16x1_0_1_2_3 (broadcastInDim S256x8x64x16 ![0, 1, 2, 3] bcast_S1x1x64x16_S256x8x64x16_0_1_2_3 (select (cmpi
    .slt (broadcastInDim S1x1x64x16 ![2, 3] bcast_S64x16_S1x1x64x16_2_3 (addi (broadcastInDim S64x16 ![0, 1] bcast_S64x1_S64x16_0_1 (broadcastInDim
    S64x1 ![0] bcast_S64_S64x1_0 (minsi (broadcastInDim S64 ![] bcast_S_S64 (id (constantI S_ 32 48#32))) (maxsi (broadcastInDim S64 ![] bcast_S_S64
    (id (constantI S_ 32 0#32))) (subi (iotaInDim S64 32 0) (broadcastInDim S64 ![] bcast_S_S64 (constantI S_ 32 8#32))))))) (broadcastInDim S64x16
    ![0, 1] bcast_S1x16_S64x16_0_1 (broadcastInDim S1x16 ![1] bcast_S16_S1x16_1 (iotaInDim S16 32 0))))) (broadcastInDim S1x1x64x16 ![]
    bcast_S_S1x1x64x16 (constantI S_ 32 0#32))) (addi (broadcastInDim S1x1x64x16 ![2, 3] bcast_S64x16_S1x1x64x16_2_3 (addi (broadcastInDim S64x16 ![0,
    1] bcast_S64x1_S64x16_0_1 (broadcastInDim S64x1 ![0] bcast_S64_S64x1_0 (minsi (broadcastInDim S64 ![] bcast_S_S64 (id (constantI S_ 32 48#32)))
    (maxsi (broadcastInDim S64 ![] bcast_S_S64 (id (constantI S_ 32 0#32))) (subi (iotaInDim S64 32 0) (broadcastInDim S64 ![] bcast_S_S64 (constantI
    S_ 32 8#32))))))) (broadcastInDim S64x16 ![0, 1] bcast_S1x16_S64x16_0_1 (broadcastInDim S1x16 ![1] bcast_S16_S1x16_1 (iotaInDim S16 32 0)))))
    (broadcastInDim S1x1x64x16 ![] bcast_S_S1x1x64x16 (constantI S_ 32 64#32))) (broadcastInDim S1x1x64x16 ![2, 3] bcast_S64x16_S1x1x64x16_2_3 (addi
    (broadcastInDim S64x16 ![0, 1] bcast_S64x1_S64x16_0_1 (broadcastInDim S64x1 ![0] bcast_S64_S64x1_0 (minsi (broadcastInDim S64 ![] bcast_S_S64 (id
    (constantI S_ 32 48#32))) (maxsi (broadcastInDim S64 ![] bcast_S_S64 (id (constantI S_ 32 0#32))) (subi (iotaInDim S64 32 0) (broadcastInDim S64
    ![] bcast_S_S64 (constantI S_ 32 8#32))))))) (broadcastInDim S64x16 ![0, 1] bcast_S1x16_S64x16_0_1 (broadcastInDim S1x16 ![1] bcast_S16_S1x16_1
    (iotaInDim S16 32 0))))))))⟩] concatenates_S256x8x64x16x1_S256x8x64x16x1_S256x8x64x16x2_d4)

/-- The rows and columns of the biases of every query's window. -/
def biasIdx : IVec S256x64x8x16x2 32 :=
  (concatenate S256x64x8x16x2 4 [⟨S256x64x8x16x1, (broadcastInDim S256x64x8x16x1 ![0, 1, 2, 3] bcast_S256x64x8x16_S256x64x8x16x1_0_1_2_3
    (broadcastInDim S256x64x8x16 ![0, 1, 2, 3] bcast_S256x1x8x1_S256x64x8x16_0_1_2_3 (select (cmpi .slt (broadcastInDim S256x1x8x1 ![0, 2]
    bcast_S256x8_S256x1x8x1_0_2 (addi (subi (addi (broadcastInDim S256x8 ![0, 1] bcast_S256x1_S256x8_0_1 (broadcastInDim S256x1 ![0]
    bcast_S256_S256x1_0 (minsi (broadcastInDim S256 ![] bcast_S_S256 (id (constantI S_ 32 248#32))) (maxsi (broadcastInDim S256 ![] bcast_S_S256 (id
    (constantI S_ 32 0#32))) (subi (iotaInDim S256 32 0) (broadcastInDim S256 ![] bcast_S_S256 (constantI S_ 32 4#32))))))) (broadcastInDim S256x8
    ![0, 1] bcast_S1x8_S256x8_0_1 (broadcastInDim S1x8 ![1] bcast_S8_S1x8_1 (iotaInDim S8 32 0)))) (broadcastInDim S256x8 ![0, 1]
    bcast_S256x1_S256x8_0_1 (broadcastInDim S256x1 ![0] bcast_S256_S256x1_0 (iotaInDim S256 32 0)))) (broadcastInDim S256x8 ![] bcast_S_S256x8
    (constantI S_ 32 7#32)))) (broadcastInDim S256x1x8x1 ![] bcast_S_S256x1x8x1 (constantI S_ 32 0#32))) (addi (broadcastInDim S256x1x8x1 ![0, 2]
    bcast_S256x8_S256x1x8x1_0_2 (addi (subi (addi (broadcastInDim S256x8 ![0, 1] bcast_S256x1_S256x8_0_1 (broadcastInDim S256x1 ![0]
    bcast_S256_S256x1_0 (minsi (broadcastInDim S256 ![] bcast_S_S256 (id (constantI S_ 32 248#32))) (maxsi (broadcastInDim S256 ![] bcast_S_S256 (id
    (constantI S_ 32 0#32))) (subi (iotaInDim S256 32 0) (broadcastInDim S256 ![] bcast_S_S256 (constantI S_ 32 4#32))))))) (broadcastInDim S256x8
    ![0, 1] bcast_S1x8_S256x8_0_1 (broadcastInDim S1x8 ![1] bcast_S8_S1x8_1 (iotaInDim S8 32 0)))) (broadcastInDim S256x8 ![0, 1]
    bcast_S256x1_S256x8_0_1 (broadcastInDim S256x1 ![0] bcast_S256_S256x1_0 (iotaInDim S256 32 0)))) (broadcastInDim S256x8 ![] bcast_S_S256x8
    (constantI S_ 32 7#32)))) (broadcastInDim S256x1x8x1 ![] bcast_S_S256x1x8x1 (constantI S_ 32 15#32))) (broadcastInDim S256x1x8x1 ![0, 2]
    bcast_S256x8_S256x1x8x1_0_2 (addi (subi (addi (broadcastInDim S256x8 ![0, 1] bcast_S256x1_S256x8_0_1 (broadcastInDim S256x1 ![0]
    bcast_S256_S256x1_0 (minsi (broadcastInDim S256 ![] bcast_S_S256 (id (constantI S_ 32 248#32))) (maxsi (broadcastInDim S256 ![] bcast_S_S256 (id
    (constantI S_ 32 0#32))) (subi (iotaInDim S256 32 0) (broadcastInDim S256 ![] bcast_S_S256 (constantI S_ 32 4#32))))))) (broadcastInDim S256x8
    ![0, 1] bcast_S1x8_S256x8_0_1 (broadcastInDim S1x8 ![1] bcast_S8_S1x8_1 (iotaInDim S8 32 0)))) (broadcastInDim S256x8 ![0, 1]
    bcast_S256x1_S256x8_0_1 (broadcastInDim S256x1 ![0] bcast_S256_S256x1_0 (iotaInDim S256 32 0)))) (broadcastInDim S256x8 ![] bcast_S_S256x8
    (constantI S_ 32 7#32)))))))⟩, ⟨S256x64x8x16x1, (broadcastInDim S256x64x8x16x1 ![0, 1, 2, 3] bcast_S256x64x8x16_S256x64x8x16x1_0_1_2_3
    (broadcastInDim S256x64x8x16 ![0, 1, 2, 3] bcast_S1x64x1x16_S256x64x8x16_0_1_2_3 (select (cmpi .slt (broadcastInDim S1x64x1x16 ![1, 3]
    bcast_S64x16_S1x64x1x16_1_3 (addi (subi (addi (broadcastInDim S64x16 ![0, 1] bcast_S64x1_S64x16_0_1 (broadcastInDim S64x1 ![0] bcast_S64_S64x1_0
    (minsi (broadcastInDim S64 ![] bcast_S_S64 (id (constantI S_ 32 48#32))) (maxsi (broadcastInDim S64 ![] bcast_S_S64 (id (constantI S_ 32 0#32)))
    (subi (iotaInDim S64 32 0) (broadcastInDim S64 ![] bcast_S_S64 (constantI S_ 32 8#32))))))) (broadcastInDim S64x16 ![0, 1] bcast_S1x16_S64x16_0_1
    (broadcastInDim S1x16 ![1] bcast_S16_S1x16_1 (iotaInDim S16 32 0)))) (broadcastInDim S64x16 ![0, 1] bcast_S64x1_S64x16_0_1 (broadcastInDim S64x1
    ![0] bcast_S64_S64x1_0 (iotaInDim S64 32 0)))) (broadcastInDim S64x16 ![] bcast_S_S64x16 (constantI S_ 32 15#32)))) (broadcastInDim S1x64x1x16 ![]
    bcast_S_S1x64x1x16 (constantI S_ 32 0#32))) (addi (broadcastInDim S1x64x1x16 ![1, 3] bcast_S64x16_S1x64x1x16_1_3 (addi (subi (addi (broadcastInDim
    S64x16 ![0, 1] bcast_S64x1_S64x16_0_1 (broadcastInDim S64x1 ![0] bcast_S64_S64x1_0 (minsi (broadcastInDim S64 ![] bcast_S_S64 (id (constantI S_ 32
    48#32))) (maxsi (broadcastInDim S64 ![] bcast_S_S64 (id (constantI S_ 32 0#32))) (subi (iotaInDim S64 32 0) (broadcastInDim S64 ![] bcast_S_S64
    (constantI S_ 32 8#32))))))) (broadcastInDim S64x16 ![0, 1] bcast_S1x16_S64x16_0_1 (broadcastInDim S1x16 ![1] bcast_S16_S1x16_1 (iotaInDim S16 32
    0)))) (broadcastInDim S64x16 ![0, 1] bcast_S64x1_S64x16_0_1 (broadcastInDim S64x1 ![0] bcast_S64_S64x1_0 (iotaInDim S64 32 0)))) (broadcastInDim
    S64x16 ![] bcast_S_S64x16 (constantI S_ 32 15#32)))) (broadcastInDim S1x64x1x16 ![] bcast_S_S1x64x1x16 (constantI S_ 32 31#32))) (broadcastInDim
    S1x64x1x16 ![1, 3] bcast_S64x16_S1x64x1x16_1_3 (addi (subi (addi (broadcastInDim S64x16 ![0, 1] bcast_S64x1_S64x16_0_1 (broadcastInDim S64x1 ![0]
    bcast_S64_S64x1_0 (minsi (broadcastInDim S64 ![] bcast_S_S64 (id (constantI S_ 32 48#32))) (maxsi (broadcastInDim S64 ![] bcast_S_S64 (id
    (constantI S_ 32 0#32))) (subi (iotaInDim S64 32 0) (broadcastInDim S64 ![] bcast_S_S64 (constantI S_ 32 8#32))))))) (broadcastInDim S64x16 ![0,
    1] bcast_S1x16_S64x16_0_1 (broadcastInDim S1x16 ![1] bcast_S16_S1x16_1 (iotaInDim S16 32 0)))) (broadcastInDim S64x16 ![0, 1]
    bcast_S64x1_S64x16_0_1 (broadcastInDim S64x1 ![0] bcast_S64_S64x1_0 (iotaInDim S64 32 0)))) (broadcastInDim S64x16 ![] bcast_S_S64x16 (constantI
    S_ 32 15#32)))))))⟩] concatenates_S256x64x8x16x1_S256x64x8x16x1_S256x64x8x16x2_d4)

/-- The logits of every query's window. -/
def logits (q k : FVec Ideal S256x64x8x64 .f32) (r : FVec Ideal S8x15x31 .f32) : FVec Ideal S8x256x64x128 .f32 :=
  (shapeCast _ (addf (Host.dotGeneral dot_S256x64x8x64_S256x8x64x16x8x64_S8x256x64x8x16_3_5_n_13_201_402 none q (Host.gather
    gather_S256x64x8x64_S256x8x64x16x2_S256x8x64x16x8x64_45_01_n_n_01_4_11864 k keyIdx)) (Host.gather
    gather_S8x15x31_S256x64x8x16x2_S8x256x64x8x16_0_12_n_n_12_4_811 r biasIdx)) shapeCasts_S8x256x64x8x16_S8x256x64x128)

/-- The maximum of every query's logits. -/
def rowMax (L : FVec Ideal S8x256x64x128 .f32) : FVec Ideal S8x256x64 .f32 :=
  Host.reduce FloatOps.maximumf L (constant S_ .f32 0xFF800000#32) reducesTo_S8x256x64x128_S8x256x64_d3 h_S_

/-- The exponentials of the logits less a bound of each query. -/
def expOf (L : FVec Ideal S8x256x64x128 .f32) (M : FVec Ideal S8x256x64 .f32) : FVec Ideal S8x256x64x128 .f32 :=
  (Host.exp (subf L (broadcastInDim S8x256x64x128 ![0, 1, 2, 3] bcast_S8x256x64x1_S8x256x64x128_0_1_2_3 (broadcastInDim
    S8x256x64x1 ![0, 1, 2] bcast_S8x256x64_S8x256x64x1_0_1_2 (maximumf (broadcastInDim S8x256x64 ![] bcast_S_S8x256x64
    (constant S_ .f32 0xFF800000#32)) M)))))

/-- The exponentials of the logits less their maximum. -/
def expo (L : FVec Ideal S8x256x64x128 .f32) : FVec Ideal S8x256x64x128 .f32 := expOf L (rowMax L)

/-- The softmax of the logits. -/
def soft (L : FVec Ideal S8x256x64x128 .f32) : FVec Ideal S8x256x64x128 .f32 :=
  (Host.divf (expo L) (broadcastInDim S8x256x64x128 ![0, 1, 2, 3] bcast_S8x256x64x1_S8x256x64x128_0_1_2_3 (broadcastInDim
    S8x256x64x1 ![0, 1, 2] bcast_S8x256x64_S8x256x64x1_0_1_2 (Host.reduceAdd (expo L) (constant S_ .f32 0x00000000#32)
    reducesTo_S8x256x64x128_S8x256x64_d3 h_S_))))

/-- The mean of the values under weights. -/
def mean (P : FVec Ideal S8x256x64x128 .f32) (v : FVec Ideal S256x8x64x16x8x64 .f32) : FVec Ideal S256x64x8x64 .f32 :=
  Host.dotGeneral dot_S8x256x64x8x16_S256x8x64x16x8x64_S256x64x8x64_34_13_n_5_120_024 none
    (shapeCast _ P shapeCasts_S8x256x64x128_S8x256x64x8x16) v

theorem result_eq (m : (ℓ : Loc nD τ sig) → Buf (Elt Ideal) ℓ) (c : Dev nD) :
    Cert.ReferenceIdeal.Value.res_out0 m c = truncf .bf16 (shapeCast _ (mean (soft (logits (shapeCast _ (extf .f32 (m ((c.tc : Thread nD τ).loc main_arg0)) bitsLt_bf16_f32) shapeCasts_S16384x512_S256x64x8x64) (shapeCast _ (extf .f32 (m ((c.tc : Thread nD τ).loc main_arg1)) bitsLt_bf16_f32) shapeCasts_S16384x512_S256x64x8x64) (shapeCast _ (m ((c.tc : Thread nD τ).loc main_arg3)) shapeCasts_S1x8x15x31_S8x15x31))) (Host.gather gather_S256x64x8x64_S256x8x64x16x2_S256x8x64x16x8x64_45_01_n_n_01_4_11864
      (shapeCast _ (extf .f32 (m ((c.tc : Thread nD τ).loc main_arg2)) bitsLt_bf16_f32) shapeCasts_S16384x512_S256x64x8x64) keyIdx)) shapeCasts_S256x64x8x64_S256x64x512) bitsLt_bf16_f32 := rfl

/-- The first row of the window of a row. -/
def rst (R : ℕ) : ℕ := min (R - 4) 248
/-- The first column of the window of a column. -/
def cst (w : ℕ) : ℕ := min 48 (w - 8)

theorem keyIdx_row (R : Fin 256) (kr : Fin 8) (w : Fin 64) (j : Fin 16) : min (keyIdx (ix5 R kr w j 0)).toInt.toNat 255 = rst R.val + kr.val := by
  unfold keyIdx
  simp only [id_eq]
  pointwise
  clean_types
  revert R kr
  unfold rst
  decide +kernel

theorem keyIdx_col (R : Fin 256) (kr : Fin 8) (w : Fin 64) (j : Fin 16) : min (keyIdx (ix5 R kr w j 1)).toInt.toNat 63 = cst w.val + j.val := by
  unfold keyIdx
  simp only [id_eq]
  pointwise
  clean_types
  revert w j
  unfold cst
  decide +kernel

theorem biasIdx_row (R : Fin 256) (kr : Fin 8) (w : Fin 64) (j : Fin 16) : min (biasIdx (ix5 R w kr j 0)).toInt.toNat 14 = rst R.val + kr.val + 7 - R.val := by
  unfold biasIdx
  simp only [id_eq]
  pointwise
  clean_types
  revert R kr
  unfold rst
  decide +kernel

theorem biasIdx_col (R : Fin 256) (kr : Fin 8) (w : Fin 64) (j : Fin 16) : min (biasIdx (ix5 R w kr j 1)).toInt.toNat 30 = cst w.val + j.val + 15 - w.val := by
  unfold biasIdx
  simp only [id_eq]
  pointwise
  clean_types
  revert w j
  unfold cst
  decide +kernel

theorem logits_apply (q k : FVec Ideal S256x64x8x64 .f32) (r : FVec Ideal S8x15x31 .f32) (h : Fin 8) (R : Fin 256) (w : Fin 64) (x : Fin 128) :
    logits q k r (ix4 h R w x)
      = ∑ e : Fin 64, q (ix4 R w h e) * k (ix4 ⟨rst R.val + x.val / 16, by unfold rst; omega⟩ ⟨cst w.val + x.val % 16, by unfold cst; omega⟩ h e)
        + r (ix3 h ⟨rst R.val + x.val / 16 + 7 - R.val, by unfold rst; omega⟩ ⟨cst w.val + x.val % 16 + 15 - w.val, by unfold cst; omega⟩) := by
  unfold logits
  pointwise [NatGather.gatherKeys, NatGather.gatherBias]
  simp only [keyIdx_row, keyIdx_col, biasIdx_row, biasIdx_col]

/-- The maximum along the last of four axes. -/
theorem maxRow {n0 n1 n2 n3 : ℕ} (L : (⟨4, ![n0, n1, n2, n3]⟩ : Shape).Idx → EReal) (init : S_.Idx → EReal)
    (h : (⟨4, ![n0, n1, n2, n3]⟩ : Shape).ReducesTo [3] ⟨3, ![n0, n1, n2]⟩) (hu : 0 < S_.numel) (a : Fin n0) (b : Fin n1) (c : Fin n2) :
    Host.reduce (FloatOps.maximumf (F := Ideal) (φ := .f32)) L init h hu (ix3 a b c)
      = Finset.univ.fold max (init (Shape.Idx.first hu)) (fun k : Fin n3 => L (ix4 a b c k)) := by
  pointwise

theorem rowMax_apply (L : FVec Ideal S8x256x64x128 .f32) (h : Fin 8) (R : Fin 256) (w : Fin 64) :
    rowMax L (ix3 h R w) = Finset.univ.fold max (Ideal.ofBits FTy.f32 4286578688#32) (fun k : Fin 128 => L (ix4 h R w k)) :=
  maxRow (n0 := 8) (n1 := 256) (n2 := 64) (n3 := 128) L _ _ _ h R w

theorem expOf_apply (L : FVec Ideal S8x256x64x128 .f32) (M : FVec Ideal S8x256x64 .f32) (h : Fin 8) (R : Fin 256) (w : Fin 64) (x : Fin 128) :
    expOf L M (ix4 h R w x) = Ideal.exp (L (ix4 h R w x) - max (Ideal.ofBits FTy.f32 4286578688#32) (M (ix3 h R w))) := by
  unfold expOf
  pointwise

theorem expo_apply (L : FVec Ideal S8x256x64x128 .f32) (h : Fin 8) (R : Fin 256) (w : Fin 64) (x : Fin 128) :
    expo L (ix4 h R w x) = Ideal.exp (L (ix4 h R w x) - max ⊥ (Finset.univ.fold max ⊥ (fun k : Fin 128 => L (ix4 h R w k)))) := by
  unfold expo
  rw [expOf_apply, rowMax_apply, ofBits_neg_inf]

theorem soft_apply (L : FVec Ideal S8x256x64x128 .f32) (h : Fin 8) (R : Fin 256) (w : Fin 64) (x : Fin 128) :
    soft L (ix4 h R w x) = Ideal.div (expo L (ix4 h R w x)) (∑ y : Fin 128, expo L (ix4 h R w y)) := by
  unfold soft
  pointwise

theorem mean_apply (P : FVec Ideal S8x256x64x128 .f32) (v : FVec Ideal S256x8x64x16x8x64 .f32) (R : Fin 256) (w : Fin 64) (h : Fin 8) (e : Fin 64) :
    mean P v (ix4 R w h e) = ∑ kr : Fin 8, ∑ j : Fin 16, P (ix4 h R w ⟨kr.val * 16 + j.val, by omega⟩) * v (ix6 R kr w j h e) := by
  unfold mean
  pointwise

end Cert.ReferenceIdeal.Body
end
-- ==== Proof.NatEq.lean ====
/- A softmax over all keys with minus infinity outside the window, its mean divided afterwards, is the mean under the softmax of
the window's logits. -/
module

public import proofs.«01_k».proof.Proof.NatArr
public import proofs.«01_k».proof.Proof.NatHost
public import proofs.«01_k».proof.Proof.NatRef

@[expose] public section

set_option maxRecDepth 16384

noncomputable section

namespace Cert.NatEq

open Idealize.ShloMosaic Idealize.ShloMosaic.TcCoe Idealize.ShloMosaic.Tactic
open Cert.KernelIdeal.Body (softMix)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top _), ih]

/-- The equation, for any placing of the window's keys among all. -/
theorem softMix_eq (L v : Fin 512 → EReal) (l : Fin 128 → ℝ) (u : Fin 128 → EReal) (f : Fin 128 → Fin 512) (hf : Function.Injective f)
    (hL : ∀ x, L (f x) = l x) (hv : ∀ x, v (f x) = u x) (hout : ∀ j, j ∉ Set.range f → L j = ⊥) :
    softMix L v = ∑ x : Fin 128, Ideal.div (Ideal.exp ((l x : EReal) - max ⊥ (Finset.univ.fold max ⊥ (fun y : Fin 128 => (l y : EReal)))))
        (∑ z : Fin 128, Ideal.exp ((l z : EReal) - max ⊥ (Finset.univ.fold max ⊥ (fun y : Fin 128 => (l y : EReal))))) * u x := by
  have hm : Finset.univ.fold max ⊥ L = Finset.univ.fold max ⊥ (fun y : Fin 128 => (l y : EReal)) := by
    change Finset.univ.sup L = Finset.univ.sup (fun y : Fin 128 => (l y : EReal))
    apply le_antisymm
    · refine Finset.sup_le fun j _ => ?_
      by_cases hj : j ∈ Set.range f
      · obtain ⟨x, rfl⟩ := hj
        rw [hL]
        exact Finset.le_sup (f := fun y : Fin 128 => (l y : EReal)) (Finset.mem_univ x)
      · rw [hout j hj]; exact bot_le
    · refine Finset.sup_le fun x _ => ?_
      rw [← hL]
      exact Finset.le_sup (f := L) (Finset.mem_univ (f x))
  obtain ⟨x0, _, hx0⟩ := Finset.exists_mem_eq_sup Finset.univ ⟨(0 : Fin 128), Finset.mem_univ _⟩ (fun y : Fin 128 => (l y : EReal))
  have hM : Finset.univ.fold max ⊥ (fun y : Fin 128 => (l y : EReal)) = ((l x0 : ℝ) : EReal) := hx0
  unfold softMix
  rw [hm, hM, max_eq_right bot_le]
  have he : ∀ x, Ideal.exp ((l x : EReal) - ((l x0 : ℝ) : EReal)) = ((Real.exp (l x - l x0) : ℝ) : EReal) := by
    intro x; rw [← EReal.coe_sub, Ideal.exp_coe]
  have h0 : ∀ j, j ∉ Set.range f → Ideal.exp (L j - ((l x0 : ℝ) : EReal)) = 0 := by
    intro j hj
    rw [hout j hj, show (⊥ : EReal) - ((l x0 : ℝ) : EReal) = ⊥ from EReal.bot_sub _, Ideal.exp_bot]
  have hs : (∑ j, Ideal.exp (L j - ((l x0 : ℝ) : EReal))) = ((∑ x, Real.exp (l x - l x0) : ℝ) : EReal) := by
    rw [coe_sum]
    refine (Fintype.sum_of_injective f hf _ _ h0 fun x => ?_).symm
    rw [hL, he]
  have hn : (∑ j, Ideal.exp (L j - ((l x0 : ℝ) : EReal)) * v j) = ∑ x, ((Real.exp (l x - l x0) : ℝ) : EReal) * u x := by
    refine (Fintype.sum_of_injective f hf _ _ (fun j hj => by rw [h0 j hj, zero_mul]) fun x => ?_).symm
    rw [hL, hv, he]
  have hpos : 0 < ∑ x, Real.exp (l x - l x0) := Finset.sum_pos (fun x _ => Real.exp_pos _) ⟨(0 : Fin 128), Finset.mem_univ _⟩
  have hinv : (0 : ℝ) ≤ 1 / ∑ x, Real.exp (l x - l x0) := by positivity
  rw [hs, hn, Ideal.div_coe hpos.ne', one_mul, sum_mul_real _ _ _ hinv]
  refine Finset.sum_congr rfl fun x _ => ?_
  simp only [he]
  rw [← coe_sum, Ideal.div_coe hpos.ne', mul_right_comm]

/-- A window's keys, one row after another. -/
theorem sum_window (g : Fin 128 → EReal) : (∑ x : Fin 128, g x) = ∑ a : Fin 8, ∑ j : Fin 16, g ⟨a.val * 16 + j.val, by omega⟩ := by
  rw [← Fintype.sum_prod_type' (f := fun (a : Fin 8) (j : Fin 16) => g ⟨a.val * 16 + j.val, by omega⟩)]
  refine (Fintype.sum_equiv (finProdFinEquiv (m := 8) (n := 16)) _ _ fun p => ?_).symm
  congr 1
  apply Fin.ext
  simp only [finProdFinEquiv_apply_val]
  omega

open Cert.ReferenceIdeal.Body (rst cst)

theorem rst_bound (R : Fin 256) (x : Fin 128) : rst R.val + x.val / 16 < 256 := by unfold rst; omega
theorem cst_bound (w : Fin 64) (x : Fin 128) : cst w.val + x.val % 16 < 64 := by unfold cst; omega

/-- Where a window's key stands among the keys of its eight rows. -/
def place (w : Fin 64) (x : Fin 128) : Fin 512 := ⟨x.val / 16 * 64 + (cst w.val + x.val % 16), by have := cst_bound w x; omega⟩

theorem place_inj (w : Fin 64) : Function.Injective (place w) := by
  intro x y h
  have h' := congrArg Fin.val h
  have hx := cst_bound w x
  have hy := cst_bound w y
  simp only [place] at h'
  apply Fin.ext
  omega

theorem place_div (w : Fin 64) (x : Fin 128) : (place w x).val / 64 = x.val / 16 := by
  have hx := cst_bound w x
  simp only [place]; omega

theorem place_mod (w : Fin 64) (x : Fin 128) : (place w x).val % 64 = cst w.val + x.val % 16 := by
  have hx := cst_bound w x
  simp only [place]; omega

theorem place_range (w : Fin 64) (j : Fin 512) (h : cst w.val ≤ j.val % 64 ∧ j.val % 64 < cst w.val + 16) : j ∈ Set.range (place w) := by
  refine ⟨⟨j.val / 64 * 16 + (j.val % 64 - cst w.val), by omega⟩, ?_⟩
  apply Fin.ext
  simp only [place]
  omega

/-- A window's logits, of real queries, keys and biases. -/
def logit (q k : Cert.KernelIdeal.S16384x512.Idx → ℝ) (b : Cert.KernelIdeal.S1x8x15x31.Idx → ℝ) (R : Fin 256) (w : Fin 64) (h : Fin 8) (x : Fin 128) : ℝ :=
  (∑ e : Fin 64, q (ix2 ⟨R.val * 64 + w.val, by omega⟩ ⟨h.val * 64 + e.val, by omega⟩)
      * k (ix2 ⟨(rst R.val + x.val / 16) * 64 + (cst w.val + x.val % 16), by have := rst_bound R x; have := cst_bound w x; omega⟩ ⟨h.val * 64 + e.val, by omega⟩))
    + b (ix4 0 h ⟨rst R.val + x.val / 16 + 7 - R.val, by unfold rst; omega⟩ ⟨cst w.val + x.val % 16 + 15 - w.val, by unfold cst; omega⟩)

/-- The mean of the window's values under the softmax of its logits. -/
def window (l : Fin 128 → ℝ) (u : Fin 128 → EReal) : EReal :=
  ∑ x : Fin 128, Ideal.div (Ideal.exp ((l x : EReal) - max ⊥ (Finset.univ.fold max ⊥ (fun y : Fin 128 => (l y : EReal)))))
        (∑ z : Fin 128, Ideal.exp ((l z : EReal) - max ⊥ (Finset.univ.fold max ⊥ (fun y : Fin 128 => (l y : EReal))))) * u x

def value (v : Cert.KernelIdeal.S16384x512.Idx → EReal) (R : Fin 256) (w : Fin 64) (h : Fin 8) (e : Fin 64) (x : Fin 128) : EReal :=
  v (ix2 ⟨(rst R.val + x.val / 16) * 64 + (cst w.val + x.val % 16), by have := rst_bound R x; have := cst_bound w x; omega⟩ ⟨h.val * 64 + e.val, by omega⟩)

section Kernel
open Cert.KernelIdeal Cert.KernelIdeal.Body

theorem kernel_elt (q k : S16384x512.Idx → ℝ) (v : S16384x512.Idx → EReal) (b : S1x8x15x31.Idx → ℝ)
    (Q K V : S256x64x512.Idx → EReal) (B : S8x512x512.Idx → EReal)
    (hQ : ∀ R w ch, Q (ix3 R w ch) = (q (ix2 ⟨R.val * 64 + w.val, by omega⟩ ch) : EReal))
    (hK : ∀ R w ch, K (ix3 R w ch) = (k (ix2 ⟨R.val * 64 + w.val, by omega⟩ ch) : EReal))
    (hV : ∀ R w ch, V (ix3 R w ch) = v (ix2 ⟨R.val * 64 + w.val, by omega⟩ ch))
    (hB : ∀ d a j, B (ix3 d a j) = biasVal (fun i => (b i : EReal)) d a j)
    (R : Fin 256) (w : Fin 64) (h : Fin 8) (e : Fin 64) :
    attElt Q K V B R w h e = window (logit q k b R w h) (value v R w h e) := by
  unfold attElt window
  have ha : (h.val * 64 + w.val) % 64 = w.val := by omega
  have hd : (h.val * 64 + w.val) / 64 = h.val := by omega
  refine softMix_eq _ _ _ _ (place w) (place_inj w) (fun x => ?_) (fun x => ?_) (fun j hj => ?_)
  · simp only [hQ, hK, hB, ← EReal.coe_mul]
    rw [← coe_sum]
    unfold biasVal
    have hx := cst_bound w x
    have hc : Cert.KernelIdeal.Body.cst w.val = Cert.ReferenceIdeal.Body.cst w.val := rfl
    rw [dif_pos (by simp only [ha, hc, place_mod]; omega), add_zero, ← EReal.coe_add]
    congr 1
    unfold logit
    have hw : wrow R = rst R.val := rfl
    congr 1
    · refine Finset.sum_congr rfl fun e' _ => ?_
      congr 3
      apply Fin.ext
      simp only [place_div, place_mod, hw]
    · congr 2
      · apply Fin.ext; simp only [hd]
      · apply Fin.ext
        simp only [place_div, hw]
        unfold rst
        omega
      · apply Fin.ext
        simp only [place_mod, ha]
  · rw [hV]
    unfold value
    congr 2
    apply Fin.ext
    simp only [place_div, place_mod]
    rfl
  · simp only [hQ, hK, hB, ← EReal.coe_mul]
    unfold biasVal
    have hc : Cert.KernelIdeal.Body.cst w.val = Cert.ReferenceIdeal.Body.cst w.val := rfl
    rw [dif_neg (fun hh => hj (place_range w j (by simpa only [ha, hc] using hh))), zero_add, EReal.add_bot]

end Kernel

section Reference
open Cert.ReferenceIdeal Cert.ReferenceIdeal.Gen Cert.ReferenceIdeal.Body

theorem reference_elt (q k : S16384x512.Idx → ℝ) (v : S16384x512.Idx → EReal) (b : S1x8x15x31.Idx → ℝ)
    (Q K V : FVec Ideal S256x64x8x64 .f32) (B : FVec Ideal S8x15x31 .f32)
    (hQ : ∀ R w h e, Q (ix4 R w h e) = (q (ix2 ⟨R.val * 64 + w.val, by omega⟩ ⟨h.val * 64 + e.val, by omega⟩) : EReal))
    (hK : ∀ R w h e, K (ix4 R w h e) = (k (ix2 ⟨R.val * 64 + w.val, by omega⟩ ⟨h.val * 64 + e.val, by omega⟩) : EReal))
    (hV : ∀ R w h e, V (ix4 R w h e) = v (ix2 ⟨R.val * 64 + w.val, by omega⟩ ⟨h.val * 64 + e.val, by omega⟩))
    (hB : ∀ h d j, B (ix3 h d j) = (b (ix4 0 h d j) : EReal))
    (R : Fin 256) (w : Fin 64) (h : Fin 8) (e : Fin 64) :
    mean (soft (logits Q K B)) (Host.gather gather_S256x64x8x64_S256x8x64x16x2_S256x8x64x16x8x64_45_01_n_n_01_4_11864 V keyIdx) (ix4 R w h e)
      = window (logit q k b R w h) (value v R w h e) := by
  have hl : ∀ x, logits Q K B (ix4 h R w x) = (logit q k b R w h x : EReal) := by
    intro x
    rw [logits_apply]
    simp only [hQ, hK, hB, ← EReal.coe_mul]
    rw [← coe_sum, ← EReal.coe_add]
    rfl
  rw [mean_apply]
  unfold window
  rw [sum_window]
  refine Finset.sum_congr rfl fun a _ => Finset.sum_congr rfl fun j _ => ?_
  rw [soft_apply]
  simp only [expo_apply, hl]
  congr 1
  rw [NatGather.gatherKeys]
  simp only [keyIdx_row, keyIdx_col]
  rw [hV]
  unfold value
  congr 2
  apply Fin.ext
  dsimp only
  have h1 : (a.val * 16 + j.val) / 16 = a.val := by omega
  have h2 : (a.val * 16 + j.val) % 16 = j.val := by omega
  rw [h1, h2]

end Reference

end Cert.NatEq
end
-- ==== Proof.NatPre.lean ====
/- What the precondition says: queries, keys and biases are reals. -/
module

public import proofs.«01_k».proof.Proof.Gen.Pre_logits_finite
public import Idealize.ShloMosaic.Lib.ReduceAll
public import Idealize.ShloMosaic.Lib.Affine
public import Idealize.ShloMosaic.Lib.Pointwise
public import Idealize.ShloMosaic.PureOps.Ideal.Laws

@[expose] public section

noncomputable section

namespace Cert.Pre_logits_finite.Read

open Idealize.ShloMosaic Cert.Pre_logits_finite Cert.Pre_logits_finite.Gen

theorem bf16_bot : Ideal.ofBits FTy.bf16 0xFF80#16 = ⊥ := by simp [Ideal.ofBits, Ideal.ieee]
theorem bf16_top : Ideal.ofBits FTy.bf16 0x7F80#16 = ⊤ := by simp [Ideal.ofBits, Ideal.ieee]
theorem f32_bot : Ideal.ofBits FTy.f32 0xFF800000#32 = ⊥ := by simp [Ideal.ofBits, Ideal.ieee]
theorem f32_top : Ideal.ofBits FTy.f32 0x7F800000#32 = ⊤ := by simp [Ideal.ofBits, Ideal.ieee]

theorem and_one (a b : BitVec 1) (h : a &&& b = 1#1) : a = 1#1 ∧ b = 1#1 := by revert a b; decide

theorem real_of (x : EReal) (h : IntOp.andi (Ideal.cmp .ogt x ⊥) (Ideal.cmp .olt x ⊤) = 1#1) : ∃ r : ℝ, x = (r : EReal) := by
  obtain ⟨h1, h2⟩ := and_one _ _ h
  refine ⟨x.toReal, (EReal.coe_toReal ?_ ?_).symm⟩
  · rintro rfl
    simp [Ideal.cmp] at h2
  · rintro rfl
    simp [Ideal.cmp] at h1

instance : Subsingleton S_.Idx := ⟨fun a b => funext fun i => i.elim0⟩

theorem parts (q k v : FVec Ideal S16384x512 .bf16) (b : FVec Ideal S1x8x15x31 .f32) (h : fn q k v b = fun _ => 1#1) :
    (∀ i, ∃ r : ℝ, q i = (r : EReal)) ∧ (∀ i, ∃ r : ℝ, k i = (r : EReal)) ∧ ∀ i, ∃ r : ℝ, b i = (r : EReal) := by
  have e := congrFun h (Shape.Idx.first h_S_)
  dsimp only [fn, fn_part1] at e
  obtain ⟨e1, e3⟩ := and_one _ _ e
  obtain ⟨e1, e2⟩ := and_one _ _ e1
  refine ⟨fun i => real_of _ ?_, fun i => real_of _ ?_, fun i => real_of _ ?_⟩
  · have := Host.reduce_andi_all _ _ _ _ _ e1 i
    rw [← bf16_bot, ← bf16_top]; exact this
  · have := Host.reduce_andi_all _ _ _ _ _ e2 i
    rw [← bf16_bot, ← bf16_top]; exact this
  · have := Host.reduce_andi_all _ _ _ _ _ e3 i
    rw [← f32_bot, ← f32_top]; exact this

end Cert.Pre_logits_finite.Read
end
-- ==== Proof.NatValue.lean ====
/- The attention's value: what the kernel writes is what the reference returns. -/
module

public import proofs.«01_k».proof.Defs
public import proofs.«01_k».proof.Proof.NatEq
public import proofs.«01_k».proof.Proof.NatPre
public import proofs.«01_k».proof.Proof.Gen.Pre_logits_finite

@[expose] public section

set_option maxRecDepth 16384

noncomputable section

namespace Cert.NatValue

open Idealize.ShloMosaic Idealize.ShloMosaic.TcCoe Idealize.ShloMosaic.Tactic

section Reference
open Cert.ReferenceIdeal Cert.ReferenceIdeal.Gen Cert.ReferenceIdeal.Body

/-- The reference as one function of its arguments. -/
def refOf (q k v : FVec Ideal S16384x512 .bf16) (b : FVec Ideal S1x8x15x31 .f32) : FVec Ideal S256x64x512 .bf16 :=
  truncf .bf16 (shapeCast _ (mean (soft (logits (shapeCast _ (extf .f32 q bitsLt_bf16_f32) shapeCasts_S16384x512_S256x64x8x64)
      (shapeCast _ (extf .f32 k bitsLt_bf16_f32) shapeCasts_S16384x512_S256x64x8x64) (shapeCast _ b shapeCasts_S1x8x15x31_S8x15x31)))
    (Host.gather gather_S256x64x8x64_S256x8x64x16x2_S256x8x64x16x8x64_45_01_n_n_01_4_11864
      (shapeCast _ (extf .f32 v bitsLt_bf16_f32) shapeCasts_S16384x512_S256x64x8x64) keyIdx)) shapeCasts_S256x64x8x64_S256x64x512) bitsLt_bf16_f32

theorem split_apply (x : FVec Ideal S16384x512 .bf16) (R : Fin 256) (w : Fin 64) (h : Fin 8) (e : Fin 64) :
    shapeCast S256x64x8x64 (extf .f32 x bitsLt_bf16_f32) shapeCasts_S16384x512_S256x64x8x64 (ix4 R w h e)
      = x (ix2 ⟨R.val * 64 + w.val, by omega⟩ ⟨h.val * 64 + e.val, by omega⟩) := by
  pointwise

theorem bias_apply (b : FVec Ideal S1x8x15x31 .f32) (h : Fin 8) (d : Fin 15) (j : Fin 31) :
    shapeCast S8x15x31 b shapeCasts_S1x8x15x31_S8x15x31 (ix3 h d j) = b (ix4 0 h d j) := by
  pointwise

theorem join_apply (x : FVec Ideal S256x64x8x64 .f32) (R : Fin 256) (w : Fin 64) (ch : Fin 512) :
    truncf .bf16 (shapeCast S256x64x512 x shapeCasts_S256x64x8x64_S256x64x512) bitsLt_bf16_f32 (ix3 R w ch)
      = x (ix4 R w ⟨ch.val / 64, by omega⟩ ⟨ch.val % 64, by omega⟩) := by
  pointwise

theorem refOf_apply (q k : S16384x512.Idx → ℝ) (v : FVec Ideal S16384x512 .bf16) (b : S1x8x15x31.Idx → ℝ) (R : Fin 256) (w : Fin 64) (ch : Fin 512) :
    refOf (fun i => (q i : EReal)) (fun i => (k i : EReal)) v (fun i => (b i : EReal)) (ix3 R w ch)
      = NatEq.window (NatEq.logit q k b R w ⟨ch.val / 64, by omega⟩) (NatEq.value v R w ⟨ch.val / 64, by omega⟩ ⟨ch.val % 64, by omega⟩) := by
  unfold refOf
  rw [join_apply]
  exact NatEq.reference_elt q k v b _ _ _ _ (fun R w h e => split_apply _ R w h e) (fun R w h e => split_apply _ R w h e)
    (fun R w h e => split_apply _ R w h e) (fun h d j => bias_apply _ h d j) R w _ _

end Reference

open Cert.KernelIdeal Cert.KernelIdeal.Gen Cert.KernelIdeal.Body

theorem arr_eq (m : (ℓ : Loc nD τ sig) → Buf (Elt Ideal) ℓ) (c : Dev nD) (q k v : S16384x512.Idx → EReal) (b : S1x8x15x31.Idx → EReal)
    (hq : m ((c : Thread nD τ).loc main_arg0) = q) (hk : m ((c : Thread nD τ).loc main_arg1) = k)
    (hv : m ((c : Thread nD τ).loc main_arg2) = v) (hb : m ((c : Thread nD τ).loc main_arg3) = b)
    (fq : ∀ i, ∃ r : ℝ, q i = (r : EReal)) (fk : ∀ i, ∃ r : ℝ, k i = (r : EReal)) (fb : ∀ i, ∃ r : ℝ, b i = (r : EReal)) :
    attArr (V m c main_v59) (V m c main_v60) (V m c main_v61) (V m c main_v58) = refOf q k v b := by
  choose q' hq' using fq
  choose k' hk' using fk
  choose b' hb' using fb
  obtain rfl : q = fun i => (q' i : EReal) := funext hq'
  obtain rfl : k = fun i => (k' i : EReal) := funext hk'
  obtain rfl : b = fun i => (b' i : EReal) := funext hb'
  funext j
  obtain ⟨R, w, ch, rfl⟩ : ∃ (x : Fin 256) (y : Fin 64) (z : Fin 512), j = ix3 x y z := ⟨j 0, j 1, j 2, eq_ix3 j⟩
  rw [refOf_apply]
  exact NatEq.kernel_elt q' k' v b' _ _ _ _ (fun R w ch => by rw [V_q, hq]) (fun R w ch => by rw [V_k, hk])
    (fun R w ch => by rw [V_v, hv]) (fun d a j => by rw [V_b, hb]) R w _ _

set_option maxHeartbeats 2000000 in
/-- What the kernel's run ends with. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v62) = attArr (V m c main_v59) (V m c main_v60) (V m c main_v61) (V m c main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).1 8).trans (final8 m c), h.1.1 c⟩)
    (θ_run_and (frame_any (F := Ideal) m g) (run_main (F := Ideal) m g))

attribute [local instance] Cert.KernelIdeal.Gen.facts Cert.ReferenceIdeal.Gen.facts Cert.Pre_logits_finite.Gen.facts

set_option maxHeartbeats 2000000 in
/-- The value claim. -/
theorem value : Cert.algebraic_KernelIdeal_ReferenceIdeal_pre_logits_finite := by
  intro m g m' g' hp hagree
  refine ⟨fun c => refOf (m ((c.tc : Thread nD τ).loc main_arg0)) (m ((c.tc : Thread nD τ).loc main_arg1))
    (m ((c.tc : Thread nD τ).loc main_arg2)) (m ((c.tc : Thread nD τ).loc main_arg3)), ?_, ?_⟩
  · refine (θ_run Cert.KernelIdeal.defs _ _).mono (fun r h c => ?_) (kernel_run m g)
    refine ⟨?_, (h c).2⟩
    obtain ⟨fq, fk, fb⟩ := Cert.Pre_logits_finite.Read.parts _ _ _ _ (hp c)
    exact (h c).1.trans (arr_eq m c _ _ _ _ rfl rfl rfl rfl fq fk fb)
  · refine (θ_run Cert.ReferenceIdeal.defs _ _).mono (fun r h c => ?_) (Cert.ReferenceIdeal.Value.run (F := Ideal) m' g')
    refine ⟨(h c).1.trans ?_, (h c).2⟩
    refine (Cert.ReferenceIdeal.Body.result_eq m' c).trans ?_
    obtain ⟨e0, e1, e2, e3⟩ := hagree c
    rw [e0, e1, e2, e3]
    rfl

end Cert.NatValue
end
-- ==== Proof.InSame.lean ====
/- The frame of the input projection's kernel at bit patterns, from the idealized kernel's run: the two programs have the same text. -/
module

public import proofs.«01_k».proof.Defs
public import proofs.«01_k».proof.Proof.Gen.Kernel2
public import proofs.«01_k».proof.Proof.Gen.Kernel2Ideal.Frame

@[expose] public section

set_option maxRecDepth 16384

noncomputable section

namespace Cert.Proof

open Idealize.ShloMosaic Idealize.SL.Sem

attribute [local instance] Cert.Kernel2.Gen.facts Cert.Kernel2Ideal.Gen.facts

set_option maxHeartbeats 2000000 in
set_option backward.isDefEq.respectTransparency false in
/-- The two bodies are one. -/
theorem body2_same : @Cert.Kernel2.cc0_inproj Bits _ _ = @Cert.Kernel2Ideal.cc0_inproj Bits _ _ := rfl

set_option maxHeartbeats 2000000 in
set_option backward.isDefEq.respectTransparency false in
theorem table2_same : @Cert.Kernel2.defs₀ Bits _ _ = @Cert.Kernel2Ideal.defs₀ Bits _ _ := by
  refine congrArg Defs.onTc (funext fun l => ?_)
  match l with
  | 0 => funext a; exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body2_same _) _) _) _) _) _) _) _) _) _) _) _) _) _) _) _) _) _) _) _) _) _) _) _) _

set_option maxHeartbeats 2000000 in
set_option backward.isDefEq.respectTransparency false in
theorem defs2_same : @Cert.Kernel2.defs Bits _ _ = @Cert.Kernel2Ideal.defs Bits _ _ :=
  congrArg (Pipeline.defs (Cert.Kernel2Ideal.pcfgs (F := Bits))) table2_same

set_option maxHeartbeats 2000000 in
set_option backward.isDefEq.respectTransparency false in
/-- The kernel's frame. -/
theorem frame_kernel2 : Cert.quiescent_Kernel2 (hKernel2 := Cert.Kernel2.Gen.facts) := by
  intro m ρ _
  rw [defs2_same]
  exact (θ_run Cert.Kernel2Ideal.defs _ _).mono (fun _ h => h) (Cert.Kernel2Ideal.Gen.frame (F := Bits) m ρ)

end Cert.Proof

end
-- ==== Proof.InSpec.lean ====
/- The input projection with the spatial gating: its results as numbers. -/
module

public import Idealize.ShloMosaic.PureOps.Ideal.Laws

@[expose] public section

noncomputable section

namespace Cert.InSpec

open Idealize.ShloMosaic

/-- Element `(R, n)` of the product of the tokens' features `X` and the weights `W`. -/
def prj (X : ℕ → Fin 1024 → EReal) (W : Fin 1024 → ℕ → EReal) (R n : ℕ) : EReal := ∑ k : Fin 1024, X R k * W k n

/-- The projection scaled for the queries. -/
def scaled (x : EReal) : EReal := x * Ideal.ofBits FTy.f32 0x3E000000#32

/-- The gating function of both halves of the spatial gate. -/
def gel (x : EReal) : EReal :=
  x * (Ideal.ofBits FTy.f32 0x3F000000#32 * (Ideal.ofBits FTy.f32 0x3F800000#32
    + Ideal.tanh (Ideal.ofBits FTy.f32 0x3F4C422A#32 * (x + Ideal.ofBits FTy.f32 0x3D372713#32 * (x * x * x)))))

/-- The sigmoid, as a quotient. -/
def sig (x : EReal) : EReal := Ideal.div (Ideal.ofBits FTy.f32 0x3F800000#32) (Ideal.ofBits FTy.f32 0x3F800000#32 + Ideal.exp (-x))

/-- The mean of 512 numbers. -/
def mu (f : Fin 512 → EReal) : EReal := Ideal.div (∑ j : Fin 512, f j) (Ideal.ofBits FTy.f32 0x44000000#32)

/-- The reciprocal of the standard deviation of 512 numbers. -/
def rstd (f : Fin 512 → EReal) : EReal :=
  Ideal.rsqrt (Ideal.div (∑ j : Fin 512, (f j - mu f) * (f j - mu f)) (Ideal.ofBits FTy.f32 0x44000000#32) + Ideal.ofBits FTy.f32 0x3727C5AC#32)

/-- One number of a row, normalized over the row. -/
def nrm (f : Fin 512 → EReal) (g b : Fin 512 → EReal) (i : Fin 512) : EReal := (f i - mu f) * rstd f * g i + b i

/-- The mixing of a chunk's 128 tokens: `S` the weights, `B` the biases of the four groups of channels. -/
def mix (V : ℕ → Fin 512 → EReal) (S : Fin 4 → Fin 128 → Fin 128 → EReal) (B : Fin 4 → Fin 128 → EReal) (R : ℕ) (ch : Fin 512) : EReal :=
  (∑ q : Fin 128, S ⟨ch.val / 128, by omega⟩ ⟨R % 128, by omega⟩ q * V (R / 128 * 128 + q.val) ch) + B ⟨ch.val / 128, by omega⟩ ⟨R % 128, by omega⟩

/-- The normalized half of the gate. -/
def vn (X : ℕ → Fin 1024 → EReal) (W : Fin 1024 → ℕ → EReal) (g b : Fin 512 → EReal) (R : ℕ) (ch : Fin 512) : EReal :=
  nrm (fun j => gel (prj X W R (2048 + j.val))) g b ch

/-- The spatially gated features. -/
def gated (X : ℕ → Fin 1024 → EReal) (W : Fin 1024 → ℕ → EReal) (g b : Fin 512 → EReal) (S : Fin 4 → Fin 128 → Fin 128 → EReal)
    (B : Fin 4 → Fin 128 → EReal) (R : ℕ) (ch : Fin 512) : EReal :=
  gel (prj X W R (1536 + ch.val)) * mix (vn X W g b) S B R ch

/-- The branch's product under its sigmoid gate. -/
def branch (X : ℕ → Fin 1024 → EReal) (W : Fin 1024 → ℕ → EReal) (g b : Fin 512 → EReal) (S : Fin 4 → Fin 128 → Fin 128 → EReal)
    (B : Fin 4 → Fin 128 → EReal) (Y : Fin 512 → Fin 1024 → EReal) (R : ℕ) (n : Fin 1024) : EReal :=
  sig (prj X W R (3584 + n.val)) * ∑ ch : Fin 512, gated X W g b S B R ch * Y ch n

/-- The tokens' features by the number of the token. -/
def rowsOf (x : Fin 16384 → Fin 1024 → EReal) (R : ℕ) (k : Fin 1024) : EReal := if h : R < 16384 then x ⟨R, h⟩ k else 0

/-- The weights by the number of the column. -/
def colsOf (w : Fin 1024 → Fin 4608 → EReal) (k : Fin 1024) (n : ℕ) : EReal := if h : n < 4608 then w k ⟨n, h⟩ else 0

theorem rowsOf_val (x : Fin 16384 → Fin 1024 → EReal) (R : Fin 16384) (k : Fin 1024) : rowsOf x R.val k = x R k := dif_pos R.isLt

theorem colsOf_val (w : Fin 1024 → Fin 4608 → EReal) (k : Fin 1024) (n : Fin 4608) : colsOf w k n.val = w k n := dif_pos n.isLt

theorem prj_val (x : Fin 16384 → Fin 1024 → EReal) (w : Fin 1024 → Fin 4608 → EReal) (R : Fin 16384) (n : Fin 4608) :
    prj (rowsOf x) (colsOf w) R.val n.val = ∑ k : Fin 1024, x R k * w k n :=
  Finset.sum_congr rfl fun k _ => by rw [rowsOf_val, colsOf_val]

end Cert.InSpec
-- ==== Proof.InBody.lean ====
/- The input projection's kernel: what a grid step's body writes, over the blocks it reads. -/
module

public import proofs.«01_k».proof.Proof.InSpec
public import proofs.«01_k».proof.Proof.Gen.Kernel2Ideal.Value
public import Idealize.ShloMosaic.Lib.Pointwise
public import Idealize.ShloMosaic.Lib.Tactic.CleanTypes
public import Idealize.ShloMosaic.PureOps.Ideal.Laws
public import Idealize.ShloMosaic.Lib.IdealHost

@[expose] public section

set_option maxRecDepth 16384

noncomputable section

namespace Cert.Kernel2Ideal.Body

open Cert.Kernel2Ideal hiding sig
open Cert.Kernel2Ideal.Gen
open Idealize.ShloMosaic Idealize.ShloMosaic.TcCoe Idealize.ShloMosaic.Tactic
open Cert.InSpec

theorem one_bits : Ideal.ofBits FTy.f32 0x3F800000#32 = 1 := Ideal.ofBits_one_f32

theorem logistic_eq (x : EReal) : Ideal.logistic x = Cert.InSpec.sig x := by
  unfold Ideal.logistic Cert.InSpec.sig
  rw [one_bits]

/-- The product of a block's rows with 512 columns of the weights. -/
def prd (x : FVec Ideal S512x1024 .f32) (w : FVec Ideal S1024x512 .bf16) : FVec Ideal S512x512 .f32 := k0_pay6 x w

theorem prd_apply (x : FVec Ideal S512x1024 .f32) (w : FVec Ideal S1024x512 .bf16) (r n : Fin 512) :
    prd x w (ix2 r n) = ∑ k : Fin 1024, x (ix2 r k) * w (ix2 k n) := by
  unfold prd k0_pay6 k0_pay2
  pointwise

theorem pay3_apply (x : FVec Ideal S512x1024 .f32) (w : FVec Ideal S1024x512 .bf16) (r n : Fin 512) :
    k0_pay3 (F := Ideal) x w (ix2 r n) = scaled (∑ k : Fin 1024, x (ix2 r k) * w (ix2 k n)) := by
  unfold k0_pay3 k0_pay2 scaled
  pointwise

theorem pay4_apply (x : FVec Ideal S512x1024 .f32) (w : FVec Ideal S1024x512 .bf16) (r n : Fin 512) :
    k0_pay4 (F := Ideal) x w (ix2 r n) = ∑ k : Fin 1024, x (ix2 r k) * w (ix2 k n) := by
  unfold k0_pay4 k0_pay2
  pointwise

theorem pay5_apply (x : FVec Ideal S512x1024 .f32) (w : FVec Ideal S1024x512 .bf16) (r n : Fin 512) :
    k0_pay5 (F := Ideal) x w (ix2 r n) = ∑ k : Fin 1024, x (ix2 r k) * w (ix2 k n) := by
  unfold k0_pay5 k0_pay2
  pointwise

theorem pay2_apply (x : FVec Ideal S512x1024 .f32) (r : Fin 512) (k : Fin 1024) : k0_pay2 (F := Ideal) x (ix2 r k) = x (ix2 r k) := by
  unfold k0_pay2
  pointwise

theorem pay13_apply (x : FVec Ideal S512x1024 .bf16) (w : FVec Ideal S1024x1024 .bf16) (r : Fin 512) (n : Fin 1024) :
    k0_pay13 (F := Ideal) x w (ix2 r n) = Cert.InSpec.sig (∑ k : Fin 1024, x (ix2 r k) * w (ix2 k n)) := by
  rw [← logistic_eq]
  unfold k0_pay13
  pointwise

theorem pay14_apply (x : FVec Ideal S512x1024 .bf16) (w : FVec Ideal S1024x1024 .bf16) (r : Fin 512) (n : Fin 1024) :
    k0_pay14 (F := Ideal) x w (ix2 r n) = Cert.InSpec.sig (∑ k : Fin 1024, x (ix2 r k) * w (ix2 k n)) := by
  rw [← logistic_eq]
  unfold k0_pay14
  pointwise

theorem pay7_apply (x : FVec Ideal S512x1024 .f32) (w : FVec Ideal S1024x512 .bf16) (r n : Fin 512) :
    k0_pay7 (F := Ideal) x w (ix2 r n) = Ideal.tanh (Ideal.ofBits FTy.f32 0x3F4C422A#32 * (prd x w (ix2 r n)
      + Ideal.ofBits FTy.f32 0x3D372713#32 * (prd x w (ix2 r n) * (prd x w (ix2 r n) * prd x w (ix2 r n))))) := by
  unfold k0_pay7
  rw [show k0_pay6 (F := Ideal) x w = prd x w from rfl]
  pointwise

/-- The first half of the gate. -/
theorem pay9_apply (x : FVec Ideal S512x1024 .f32) (w : FVec Ideal S1024x512 .bf16) (r n : Fin 512) :
    k0_pay9 (F := Ideal) (k0_pay6 x w) (k0_pay7 x w) k0_pay8 (ix2 r n) = gel (prd x w (ix2 r n)) := by
  unfold k0_pay9 k0_pay8 gel
  rw [show k0_pay6 (F := Ideal) x w = prd x w from rfl]
  pointwise [pay7_apply]
  rw [mul_comm (prd x w (ix2 r n) * prd x w (ix2 r n)) (prd x w (ix2 r n))]

/-- The second half, before the normalization. -/
def hid (x : FVec Ideal S512x1024 .bf16) (w : FVec Ideal S1024x512 .bf16) : FVec Ideal S512x512 .f32 :=
  have v37 : FVec Ideal S1024x512 .bf16 := shapeCast S1024x512 w shapeCasts_S1024x512_S1024x512
  have cst_21 : FVec Ideal S512x512 .f32 := constant S512x512 .f32 0x00000000#32
  matmul dot_S512x1024_S1024x512_S512x512_1_0_0_1_n_n none x v37 cst_21

theorem hid_apply (x : FVec Ideal S512x1024 .bf16) (w : FVec Ideal S1024x512 .bf16) (r n : Fin 512) :
    hid x w (ix2 r n) = ∑ k : Fin 1024, x (ix2 r k) * w (ix2 k n) := by
  unfold hid
  pointwise

def gelB (v : FVec Ideal S512x512 .f32) : FVec Ideal S512x512 .f32 :=
  mulf v (mulf (broadcast S512x512 (Scalar.ofBits (F := Ideal) .f32 0x3F000000#32)) (addf (broadcast S512x512 (Scalar.ofBits (F := Ideal) .f32 0x3F800000#32))
    (tanh (mulf (broadcast S512x512 (Scalar.ofBits (F := Ideal) .f32 0x3F4C422A#32)) (addf v (mulf (broadcast S512x512 (Scalar.ofBits (F := Ideal) .f32 0x3D372713#32)) (mulf v (mulf v v))))))))

theorem gelB_apply (v : FVec Ideal S512x512 .f32) (r n : Fin 512) : gelB v (ix2 r n) = gel (v (ix2 r n)) := by
  unfold gelB gel
  pointwise
  rw [mul_comm (v (ix2 r n) * v (ix2 r n)) (v (ix2 r n))]

def meanB (v : FVec Ideal S512x512 .f32) : FVec Ideal S512x1 .f32 :=
  divf (shapeCast S512x1 (multiReduction (F := Ideal) .add [1] S512 v 0x00000000#32 reduces_S512x512_S512 (.inl rfl) rfl) shapeCasts_S512_S512x1) (broadcast S512x1 (Scalar.ofBits (F := Ideal) .f32 0x44000000#32))

theorem meanB_apply (v : FVec Ideal S512x512 .f32) (r : Fin 512) : meanB v (ix2 r 0) = mu (fun j => v (ix2 r j)) := by
  unfold meanB mu
  pointwise

def cenB (v : FVec Ideal S512x512 .f32) : FVec Ideal S512x512 .f32 := subf v (broadcastTo S512x512 (meanB v) broadcasts_S512x1_S512x512)

theorem cenB_apply (v : FVec Ideal S512x512 .f32) (r n : Fin 512) : cenB v (ix2 r n) = v (ix2 r n) - mu (fun j => v (ix2 r j)) := by
  unfold cenB
  pointwise [meanB_apply]

def rstdB (v : FVec Ideal S512x512 .f32) : FVec Ideal S512x1 .f32 :=
  rsqrt (addf (meanB (mulf (cenB v) (cenB v))) (broadcast S512x1 (Scalar.ofBits (F := Ideal) .f32 0x3727C5AC#32)))

theorem rstdB_apply (v : FVec Ideal S512x512 .f32) (r : Fin 512) : rstdB v (ix2 r 0) = rstd (fun j => v (ix2 r j)) := by
  unfold rstdB rstd
  pointwise [meanB_apply, cenB_apply]
  rfl

def nrmB (v : FVec Ideal S512x512 .f32) (g : FVec Ideal S1x512 .f32) : FVec Ideal S512x512 .f32 :=
  mulf (mulf (cenB v) (broadcastTo S512x512 (rstdB v) broadcasts_S512x1_S512x512)) (broadcastTo S512x512 (shapeCast S1x512 g shapeCasts_S1x512_S1x512) broadcasts_S1x512_S512x512)

theorem pay10_eq (x : FVec Ideal S512x1024 .bf16) (w : FVec Ideal S1024x512 .bf16) (g : FVec Ideal S1x512 .f32) :
    k0_pay10 (F := Ideal) x w g = nrmB (gelB (hid x w)) g := rfl

theorem nrmB_apply (v : FVec Ideal S512x512 .f32) (g : FVec Ideal S1x512 .f32) (r n : Fin 512) :
    nrmB v g (ix2 r n) = (v (ix2 r n) - mu (fun j => v (ix2 r j))) * rstd (fun j => v (ix2 r j)) * g (ix2 0 n) := by
  unfold nrmB
  pointwise [cenB_apply, rstdB_apply]

theorem pay12_apply (x : FVec Ideal S512x1024 .bf16) (w : FVec Ideal S1024x512 .bf16) (g b : FVec Ideal S1x512 .f32) (r n : Fin 512) :
    k0_pay12 (F := Ideal) (k0_pay10 x w g) (k0_pay11 b) (ix2 r n)
      = nrm (fun j => gel (∑ k : Fin 1024, x (ix2 r k) * w (ix2 k j))) (fun j => g (ix2 0 j)) (fun j => b (ix2 0 j)) n := by
  rw [pay10_eq]
  unfold k0_pay12 k0_pay11 nrm
  pointwise [nrmB_apply, gelB_apply, hid_apply]

/-- One group of the mixing: a product of two 128 by 128 matrices. -/
def grp (s : FVec Ideal S1x128x128 .bf16) (v : FVec Ideal S128x128 .bf16) : FVec Ideal S128x128 .f32 :=
  matmul (F := Ideal) dot_S128x128_S128x128_S128x128_1_0_0_1_n_n none (shapeCast S128x128 s shapeCasts_S1x128x128_S128x128) v (constant (F := Ideal) S128x128 .f32 0x00000000#32)

theorem grp_apply (s : FVec Ideal S1x128x128 .bf16) (v : FVec Ideal S128x128 .bf16) (p c : Fin 128) :
    grp s v (ix2 p c) = ∑ q : Fin 128, s (ix3 0 p q) * v (ix2 q c) := by
  unfold grp
  pointwise

theorem cols_apply (A : Fin 4 → FVec Ideal S128x128 .f32) (p : Fin 128) (n : Fin 512) :
    concatenate S128x512 1 [⟨S128x128, A 0⟩, ⟨S128x128, A 1⟩, ⟨S128x128, A 2⟩, ⟨S128x128, A 3⟩] concatenates_S128x128_S128x128_S128x128_S128x128_S128x512_d1 (ix2 p n)
      = A ⟨n.val / 128, by omega⟩ (ix2 p ⟨n.val % 128, by omega⟩) := by
  pointwise
  by_cases c1 : n.val < 128
  · rw [dif_pos c1]
    exact congrArg₂ (fun a c => A a (ix2 p c)) (Fin.ext (by show 0 = n.val / 128; omega)) (Fin.ext (by dsimp only; omega))
  by_cases c2 : n.val - 128 < 128
  · rw [dif_neg c1, dif_pos c2]
    exact congrArg₂ (fun a c => A a (ix2 p c)) (Fin.ext (by show 1 = n.val / 128; omega)) (Fin.ext (by dsimp only; omega))
  by_cases c3 : n.val - 128 - 128 < 128
  · rw [dif_neg c1, dif_neg c2, dif_pos c3]
    exact congrArg₂ (fun a c => A a (ix2 p c)) (Fin.ext (by show 2 = n.val / 128; omega)) (Fin.ext (by dsimp only; omega))
  · rw [dif_neg c1, dif_neg c2, dif_neg c3]
    exact congrArg₂ (fun a c => A a (ix2 p c)) (Fin.ext (by show 3 = n.val / 128; omega)) (Fin.ext (by dsimp only; omega))

theorem rows_apply (A : Fin 4 → FVec Ideal S128x512 .f32) (r n : Fin 512) :
    concatenate S512x512 0 [⟨S128x512, A 0⟩, ⟨S128x512, A 1⟩, ⟨S128x512, A 2⟩, ⟨S128x512, A 3⟩] concatenates_S128x512_S128x512_S128x512_S128x512_S512x512_d0 (ix2 r n)
      = A ⟨r.val / 128, by omega⟩ (ix2 ⟨r.val % 128, by omega⟩ n) := by
  pointwise
  by_cases c1 : r.val < 128
  · rw [dif_pos c1]
    exact congrArg₂ (fun a c => A a (ix2 c n)) (Fin.ext (by show 0 = r.val / 128; omega)) (Fin.ext (by dsimp only; omega))
  by_cases c2 : r.val - 128 < 128
  · rw [dif_neg c1, dif_pos c2]
    exact congrArg₂ (fun a c => A a (ix2 c n)) (Fin.ext (by show 1 = r.val / 128; omega)) (Fin.ext (by dsimp only; omega))
  by_cases c3 : r.val - 128 - 128 < 128
  · rw [dif_neg c1, dif_neg c2, dif_pos c3]
    exact congrArg₂ (fun a c => A a (ix2 c n)) (Fin.ext (by show 2 = r.val / 128; omega)) (Fin.ext (by dsimp only; omega))
  · rw [dif_neg c1, dif_neg c2, dif_neg c3]
    exact congrArg₂ (fun a c => A a (ix2 c n)) (Fin.ext (by show 3 = r.val / 128; omega)) (Fin.ext (by dsimp only; omega))

/-- A chunk's columns of one group. -/
def colsOfChunk (v : FVec Ideal S128x512 .bf16) (a : Fin 4) : FVec Ideal S128x128 .bf16 :=
  match a with
  | 0 => extractStridedSlice S128x128 ![0, 0] v slices_S128x512_o0_0_S128x128
  | 1 => extractStridedSlice S128x128 ![0, 128] v slices_S128x512_o0_128_S128x128
  | 2 => extractStridedSlice S128x128 ![0, 256] v slices_S128x512_o0_256_S128x128
  | 3 => extractStridedSlice S128x128 ![0, 384] v slices_S128x512_o0_384_S128x128

theorem colsOfChunk_apply (v : FVec Ideal S128x512 .bf16) (a : Fin 4) (q c : Fin 128) :
    colsOfChunk v a (ix2 q c) = v (ix2 q ⟨a.val * 128 + c.val, by omega⟩) := by
  match a with
  | 0 => unfold colsOfChunk; dsimp only; pointwise
  | 1 => unfold colsOfChunk; dsimp only; pointwise
  | 2 => unfold colsOfChunk; dsimp only; pointwise
  | 3 => unfold colsOfChunk; dsimp only; pointwise

/-- A block's rows of one chunk. -/
def chunkOf (v : FVec Ideal S512x512 .bf16) (a : Fin 4) : FVec Ideal S128x512 .bf16 :=
  match a with
  | 0 => extractStridedSlice S128x512 ![0, 0] v slices_S512x512_o0_0_S128x512
  | 1 => extractStridedSlice S128x512 ![128, 0] v slices_S512x512_o128_0_S128x512
  | 2 => extractStridedSlice S128x512 ![256, 0] v slices_S512x512_o256_0_S128x512
  | 3 => extractStridedSlice S128x512 ![384, 0] v slices_S512x512_o384_0_S128x512

theorem chunkOf_apply (v : FVec Ideal S512x512 .bf16) (a : Fin 4) (q : Fin 128) (n : Fin 512) :
    chunkOf v a (ix2 q n) = v (ix2 ⟨a.val * 128 + q.val, by omega⟩ n) := by
  match a with
  | 0 => unfold chunkOf; dsimp only; pointwise
  | 1 => unfold chunkOf; dsimp only; pointwise
  | 2 => unfold chunkOf; dsimp only; pointwise
  | 3 => unfold chunkOf; dsimp only; pointwise

/-- A chunk mixed. -/
def chunk (S : Fin 4 → FVec Ideal S1x128x128 .bf16) (v : FVec Ideal S128x512 .bf16) (b : FVec Ideal S128x512 .f32) : FVec Ideal S128x512 .f32 :=
  addf (concatenate S128x512 1 [⟨S128x128, grp (S 0) (colsOfChunk v 0)⟩, ⟨S128x128, grp (S 1) (colsOfChunk v 1)⟩, ⟨S128x128, grp (S 2) (colsOfChunk v 2)⟩, ⟨S128x128, grp (S 3) (colsOfChunk v 3)⟩]
    concatenates_S128x128_S128x128_S128x128_S128x128_S128x512_d1) (shapeCast S128x512 b shapeCasts_S128x512_S128x512)

theorem chunk_apply (S : Fin 4 → FVec Ideal S1x128x128 .bf16) (v : FVec Ideal S128x512 .bf16) (b : FVec Ideal S128x512 .f32) (p : Fin 128) (n : Fin 512) :
    chunk S v b (ix2 p n) = (∑ q : Fin 128, S ⟨n.val / 128, by omega⟩ (ix3 0 p q) * v (ix2 q n)) + b (ix2 p n) := by
  have h := cols_apply (fun a => grp (S a) (colsOfChunk v a)) p n
  rw [grp_apply] at h
  unfold chunk
  refine congrArg₂ (· + ·) (h.trans (Finset.sum_congr rfl fun q _ => ?_)) ?_
  · rw [colsOfChunk_apply]
    refine congrArg (fun j => S _ _ * v (ix2 q j)) (Fin.ext ?_)
    dsimp only
    omega
  · pointwise

/-- The gated block. -/
def gatedB (u : FVec Ideal S512x512 .f32) (v : FVec Ideal S512x512 .bf16) (S : Fin 4 → FVec Ideal S1x128x128 .bf16) (b : FVec Ideal S128x512 .f32) : FVec Ideal S512x512 .bf16 :=
  truncf .bf16 (mulf u (concatenate S512x512 0 [⟨S128x512, chunk S (chunkOf v 0) b⟩, ⟨S128x512, chunk S (chunkOf v 1) b⟩, ⟨S128x512, chunk S (chunkOf v 2) b⟩, ⟨S128x512, chunk S (chunkOf v 3) b⟩]
    concatenates_S128x512_S128x512_S128x512_S128x512_S512x512_d0)) bitsLt_bf16_f32

theorem gatedB_apply (u : FVec Ideal S512x512 .f32) (v : FVec Ideal S512x512 .bf16) (S : Fin 4 → FVec Ideal S1x128x128 .bf16) (b : FVec Ideal S128x512 .f32) (r n : Fin 512) :
    gatedB u v S b (ix2 r n) = u (ix2 r n) * ((∑ q : Fin 128, S ⟨n.val / 128, by omega⟩ (ix3 0 ⟨r.val % 128, by omega⟩ q) * v (ix2 ⟨r.val / 128 * 128 + q.val, by omega⟩ n))
      + b (ix2 ⟨r.val % 128, by omega⟩ n)) := by
  have h := rows_apply (fun a => chunk S (chunkOf v a) b) r n
  rw [chunk_apply] at h
  refine congrArg (u (ix2 r n) * ·) (h.trans (congrArg (· + _) (Finset.sum_congr rfl fun q _ => ?_)))
  rw [chunkOf_apply]

theorem pay22_eq (u : FVec Ideal S512x512 .f32) (a b : FVec Ideal S512x512 .f32) (s0 s1 s2 s3 : FVec Ideal S1x128x128 .bf16) (t : FVec Ideal S128x512 .f32) :
    k0_pay22 (F := Ideal) u (k0_pay12 a b) (k0_pay15 a b s0 s1 s2 s3 t) (k0_pay17 (k0_pay16 a b) s0 s1 s2 s3 t) (k0_pay18 (k0_pay12 a b))
      (k0_pay19 (k0_pay12 a b) s0) (k0_pay20 (k0_pay12 a b) s1) (k0_pay21 s2) s3 t s0 s1 s2 s3 t
      = gatedB u (k0_pay12 a b) ![s0, s1, s2, s3] t := rfl

theorem pay1_apply (g : FVec Ideal S512x1024 .f32) (y : FVec Ideal S512x512 .bf16) (w : FVec Ideal S512x1024 .bf16) (r : Fin 512) (n : Fin 1024) :
    k0_pay1 (F := Ideal) g y w (ix2 r n) = g (ix2 r n) * ∑ ch : Fin 512, y (ix2 r ch) * w (ix2 ch n) := by
  unfold k0_pay1
  pointwise

end Cert.Kernel2Ideal.Body
-- ==== Proof.InArr.lean ====
/- The input projection's kernel: the arrays its grid writes, over the program's arguments. -/
module

public import proofs.«01_k».proof.Proof.InBody
public import Idealize.ShloMosaic.Lib.Pipeline.ValueKit
public import Idealize.ShloMosaic.Lib.StableHlo.RunRead

@[expose] public section

set_option maxRecDepth 16384

noncomputable section

namespace Cert.Kernel2Ideal.Body

open Cert.Kernel2Ideal hiding sig
open Cert.Kernel2Ideal.Gen
open Idealize.ShloMosaic Idealize.ShloMosaic.TcCoe Idealize.ShloMosaic.Tactic
open Cert.InSpec

/-- A slice of the weights' columns, read. -/
theorem ldW (x : Vec Ideal S1024x4608 .bf16) (o : ℕ) (inb : ∀ a, (![0, o] : Fin 2 → ℕ) a + S1024x512.size a ≤ S1024x4608.size a) (k : Fin 1024) (n : Fin 512)
    (h : o + n.val < 4608) :
    View.ld x (Rect.unit (s := S1024x4608) ![0, o] S1024x512.size inb) (ix2 k n) = x (ix2 k ⟨o + n.val, h⟩) :=
  View.ld_unit_apply_of x _ _ _ (ix2 k n) (ix2 k ⟨o + n.val, h⟩) (by
    intro a
    match a with
    | ⟨0, _⟩ => show k.val = 0 + k.val; omega
    | ⟨1, _⟩ => rfl)

theorem ldW' (x : Vec Ideal S1024x4608 .bf16) (o : ℕ) (inb : ∀ a, (![0, o] : Fin 2 → ℕ) a + S1024x1024.size a ≤ S1024x4608.size a) (k : Fin 1024) (n : Fin 1024)
    (h : o + n.val < 4608) :
    View.ld x (Rect.unit (s := S1024x4608) ![0, o] S1024x1024.size inb) (ix2 k n) = x (ix2 k ⟨o + n.val, h⟩) :=
  View.ld_unit_apply_of x _ _ _ (ix2 k n) (ix2 k ⟨o + n.val, h⟩) (by
    intro a
    match a with
    | ⟨0, _⟩ => show k.val = 0 + k.val; omega
    | ⟨1, _⟩ => rfl)

theorem ldS (x : Vec Ideal S4x128x128 .bf16) (o : ℕ) (ho : o < 4) (inb : ∀ a, (![o, 0, 0] : Fin 3 → ℕ) a + S1x128x128.size a ≤ S4x128x128.size a) (p q : Fin 128) :
    View.ld x (Rect.unit (s := S4x128x128) ![o, 0, 0] S1x128x128.size inb) (ix3 0 p q) = x (ix3 ⟨o, ho⟩ p q) :=
  View.ld_unit_apply_of x _ _ _ (ix3 0 p q) (ix3 ⟨o, ho⟩ p q) (by
    intro a
    match a with
    | ⟨0, _⟩ => rfl
    | ⟨1, _⟩ => show p.val = 0 + p.val; omega
    | ⟨2, _⟩ => show q.val = 0 + q.val; omega)

theorem ld0 (x : Vec Ideal S512x1024 .f32) : View.ld x r0_0 = x := View.ld_unit_zero (by decide +kernel) _ x
theorem ld0' (x : Vec Ideal S512x1024 .bf16) : View.ld x r0_0 = x := View.ld_unit_zero (by decide +kernel) _ x
theorem ld7 (x : Vec Ideal S1x512 .f32) : View.ld x r0_7 = x := View.ld_unit_zero (by decide +kernel) _ x
theorem ld14 (x : Vec Ideal S128x512 .f32) : View.ld x r0_14 = x := View.ld_unit_zero (by decide +kernel) _ x

section block
variable (x0 : Vec Ideal S512x1024 .f32) (x1 : Vec Ideal S1024x4608 .bf16) (x2 x3 : Vec Ideal S1x512 .f32) (x4 : Vec Ideal S4x128x128 .bf16)
  (x5 : Vec Ideal S128x512 .f32) (x6 : Vec Ideal S512x1024 .bf16)
  (X : ℕ → Fin 1024 → EReal) (W : Fin 1024 → ℕ → EReal) (g b : Fin 512 → EReal) (S : Fin 4 → Fin 128 → Fin 128 → EReal) (B : Fin 4 → Fin 128 → EReal)
  (Y : Fin 512 → Fin 1024 → EReal) (t : ℕ)
  (h0 : ∀ r k, x0 (ix2 r k) = X (t * 512 + r.val) k) (h1 : ∀ k n, x1 (ix2 k n) = W k n.val)
  (h2 : ∀ j, x2 (ix2 0 j) = g j) (h3 : ∀ j, x3 (ix2 0 j) = b j) (h4 : ∀ a p q, x4 (ix3 a p q) = S a p q)
  (h5 : ∀ p (n : Fin 512), x5 (ix2 p n) = B ⟨n.val / 128, by omega⟩ p) (h6 : ∀ ch n, x6 (ix2 ch n) = Y ch n)

include h0 h1 in
theorem sum_cols (o : ℕ) (inb : ∀ a, (![0, o] : Fin 2 → ℕ) a + S1024x512.size a ≤ S1024x4608.size a) (r n : Fin 512) (h : o + n.val < 4608) :
    ∑ k : Fin 1024, x0 (ix2 r k) * View.ld x1 (Rect.unit (s := S1024x4608) ![0, o] S1024x512.size inb) (ix2 k n) = prj X W (t * 512 + r.val) (o + n.val) :=
  Finset.sum_congr rfl fun k _ => by rw [ldW x1 o inb k n h, h0, h1]

include h0 h1 in
theorem sum_cols' (o : ℕ) (inb : ∀ a, (![0, o] : Fin 2 → ℕ) a + S1024x1024.size a ≤ S1024x4608.size a) (r : Fin 512) (n : Fin 1024) (h : o + n.val < 4608) :
    ∑ k : Fin 1024, k0_pay2 (F := Ideal) x0 (ix2 r k) * View.ld x1 (Rect.unit (s := S1024x4608) ![0, o] S1024x1024.size inb) (ix2 k n) = prj X W (t * 512 + r.val) (o + n.val) :=
  Finset.sum_congr rfl fun k _ => by rw [pay2_apply, ldW' x1 o inb k n h, h0, h1]

include h0 h1 in
theorem out7 (r n : Fin 512) : out0_7 (F := Ideal) x0 x1 x2 x3 x4 x5 x6 (ix2 r n) = scaled (prj X W (t * 512 + r.val) n.val) := by
  unfold out0_7
  rw [View.canon_unit_zero (by decide +kernel), ld0, pay3_apply, sum_cols x0 x1 X W t h0 h1 0 _ r n (by omega), Nat.zero_add]

include h0 h1 in
theorem out8 (r n : Fin 512) : out0_8 (F := Ideal) x0 x1 x2 x3 x4 x5 x6 (ix2 r n) = prj X W (t * 512 + r.val) (512 + n.val) := by
  unfold out0_8
  rw [View.canon_unit_zero (by decide +kernel), ld0, pay4_apply, sum_cols x0 x1 X W t h0 h1 512 _ r n (by omega)]

include h0 h1 in
theorem out9 (r n : Fin 512) : out0_9 (F := Ideal) x0 x1 x2 x3 x4 x5 x6 (ix2 r n) = prj X W (t * 512 + r.val) (1024 + n.val) := by
  unfold out0_9
  rw [View.canon_unit_zero (by decide +kernel), ld0, pay5_apply, sum_cols x0 x1 X W t h0 h1 1024 _ r n (by omega)]

include h0 h1 in
theorem out10 (r : Fin 512) (n : Fin 1024) : out0_10 (F := Ideal) x0 x1 x2 x3 x4 x5 x6 (ix2 r n) = Cert.InSpec.sig (prj X W (t * 512 + r.val) (2560 + n.val)) := by
  unfold out0_10 k0_pay23
  rw [View.canon_unit_zero (by decide +kernel), ld0, pay13_apply, sum_cols' x0 x1 X W t h0 h1 2560 _ r n (by omega)]

/-- The normalized half of the block. -/
def vnB : FVec Ideal S512x512 .bf16 := k0_pay12 (k0_pay10 (k0_pay2 x0) (View.ld x1 r0_6) x2) (k0_pay11 x3)

include h0 h1 h2 h3 in
theorem vnB_apply (r n : Fin 512) : vnB x0 x1 x2 x3 (ix2 r n) = vn X W g b (t * 512 + r.val) n := by
  unfold vnB vn
  rw [pay12_apply, show (fun j => x2 (ix2 0 j)) = g from funext h2, show (fun j => x3 (ix2 0 j)) = b from funext h3]
  refine congrArg (fun f => nrm f g b n) (funext fun j => ?_)
  rw [← sum_cols x0 x1 X W t h0 h1 2048 inb_S1024x4608_S1024x512_0_2048 r j (by omega)]
  refine congrArg gel (Finset.sum_congr rfl fun k _ => ?_)
  rw [pay2_apply]

theorem out11_eq : out0_11 (F := Ideal) x0 x1 x2 x3 x4 x5 x6
    = k0_pay1 (F := Ideal) (k0_pay14 (k0_pay2 x0) (View.ld x1 r0_9))
        (gatedB (k0_pay9 (k0_pay6 x0 (View.ld x1 r0_5)) (k0_pay7 x0 (View.ld x1 r0_5)) (k0_pay8 (F := Ideal))) (vnB x0 x1 x2 x3)
          ![View.ld x4 r0_10, View.ld x4 r0_11, View.ld x4 r0_12, View.ld x4 r0_13] x5) x6 := by
  unfold out0_11 k0_pay26 k0_pay25 k0_pay24 k0_pay23 vnB
  rw [View.canon_unit_zero (by decide +kernel), ld0, ld0', ld7, ld7, ld14, pay22_eq]

theorem ldS_apply (a : Fin 4) (p q : Fin 128) :
    (![View.ld x4 r0_10, View.ld x4 r0_11, View.ld x4 r0_12, View.ld x4 r0_13] : Fin 4 → FVec Ideal S1x128x128 .bf16) a (ix3 0 p q) = x4 (ix3 a p q) := by
  match a with
  | 0 => exact ldS x4 0 (by omega) _ p q
  | 1 => exact ldS x4 1 (by omega) _ p q
  | 2 => exact ldS x4 2 (by omega) _ p q
  | 3 => exact ldS x4 3 (by omega) _ p q

include h0 h1 h2 h3 h4 h5 h6 in
theorem out11 (r : Fin 512) (n : Fin 1024) : out0_11 (F := Ideal) x0 x1 x2 x3 x4 x5 x6 (ix2 r n) = branch X W g b S B Y (t * 512 + r.val) n := by
  rw [out11_eq, pay1_apply, pay14_apply, sum_cols' x0 x1 X W t h0 h1 3584 _ r n (by omega)]
  unfold branch
  refine congrArg₂ (· * ·) rfl (Finset.sum_congr rfl fun ch _ => ?_)
  rw [h6, gatedB_apply, pay9_apply, prd_apply, sum_cols x0 x1 X W t h0 h1 1536 _ r ch (by omega), h5]
  unfold gated mix
  have e1 : (t * 512 + r.val) % 128 = r.val % 128 := by omega
  have e2 : (t * 512 + r.val) / 128 * 128 = t * 512 + r.val / 128 * 128 := by omega
  refine congrArg (fun z => gel _ * z * Y ch n) (congrArg₂ (· + ·) (Finset.sum_congr rfl fun q _ => ?_) ?_)
  · rw [ldS_apply, h4, vnB_apply x0 x1 x2 x3 X W g b t h0 h1 h2 h3]
    refine congrArg₂ (fun a c => S _ a q * vn X W g b c ch) (Fin.ext e1.symm) ?_
    dsimp only
    omega
  · exact congrArg (B _) (Fin.ext e1.symm)

end block

theorem wi0 : ∀ t : Fin cfg0.N, win0_0.index t = ![t.val, 0] := (by decide +kernel : ∀ t : Fin grid0.N, _)
theorem wi1 : ∀ t : Fin cfg0.N, win0_1.index t = ![0, 0] := (by decide +kernel : ∀ t : Fin grid0.N, _)
theorem wi2 : ∀ t : Fin cfg0.N, win0_2.index t = ![0, 0] := (by decide +kernel : ∀ t : Fin grid0.N, _)
theorem wi3 : ∀ t : Fin cfg0.N, win0_3.index t = ![0, 0] := (by decide +kernel : ∀ t : Fin grid0.N, _)
theorem wi4 : ∀ t : Fin cfg0.N, win0_4.index t = ![0, 0, 0] := (by decide +kernel : ∀ t : Fin grid0.N, _)
theorem wi5 : ∀ t : Fin cfg0.N, win0_5.index t = ![0, 0] := (by decide +kernel : ∀ t : Fin grid0.N, _)
theorem wi6 : ∀ t : Fin cfg0.N, win0_6.index t = ![0, 0] := (by decide +kernel : ∀ t : Fin grid0.N, _)
theorem wi7 : ∀ t : Fin cfg0.N, win0_7.index t = ![t.val, 0] := (by decide +kernel : ∀ t : Fin grid0.N, _)
theorem wi8 : ∀ t : Fin cfg0.N, win0_8.index t = ![t.val, 0] := (by decide +kernel : ∀ t : Fin grid0.N, _)
theorem wi9 : ∀ t : Fin cfg0.N, win0_9.index t = ![t.val, 0] := (by decide +kernel : ∀ t : Fin grid0.N, _)
theorem wi10 : ∀ t : Fin cfg0.N, win0_10.index t = ![t.val, 0] := (by decide +kernel : ∀ t : Fin grid0.N, _)
theorem wi11 : ∀ t : Fin cfg0.N, win0_11.index t = ![t.val, 0] := (by decide +kernel : ∀ t : Fin grid0.N, _)

theorem N_val : cfg0.N = 32 := by decide +kernel

variable (m : (ℓ : Loc nD τ Cert.Kernel2Ideal.sig) → Buf (Elt Ideal) ℓ)

theorem blk0 (c : Dev nD) (t : Fin cfg0.N) (r : Fin 512) (k : Fin 1024) (R : Fin 16384) (hR : R.val = t.val * 512 + r.val) :
    iblk m c 0 t (ix2 r k) = V m c main_v0 (ix2 R k) := by
  blk_simp [iblk]
  refine congrArg (V m c main_v0) ?_
  funext a
  apply Fin.ext
  blk_simp [wi0]
  match a with
  | ⟨0, _⟩ => exact hR.symm
  | ⟨1, _⟩ => show 0 * 1024 + k.val = k.val; omega

theorem blk1 (c : Dev nD) (t : Fin cfg0.N) (p : Fin 1024) (q : Fin 4608) : iblk m c 1 t (ix2 p q) = V m c main_v2 (ix2 p q) := by
  blk_simp [iblk]
  refine congrArg (V m c main_v2) ?_
  funext a
  apply Fin.ext
  blk_simp [wi1]
  match a with
  | ⟨0, _⟩ => show 0 * 1024 + p.val = p.val; omega
  | ⟨1, _⟩ => show 0 * 4608 + q.val = q.val; omega

theorem blk2 (c : Dev nD) (t : Fin cfg0.N) (p : Fin 1) (q : Fin 512) : iblk m c 2 t (ix2 p q) = V m c main_v4 (ix2 p q) := by
  blk_simp [iblk]
  refine congrArg (V m c main_v4) ?_
  funext a
  apply Fin.ext
  blk_simp [wi2]
  match a with
  | ⟨0, _⟩ => show 0 * 1 + p.val = p.val; omega
  | ⟨1, _⟩ => show 0 * 512 + q.val = q.val; omega

theorem blk3 (c : Dev nD) (t : Fin cfg0.N) (p : Fin 1) (q : Fin 512) : iblk m c 3 t (ix2 p q) = V m c main_v6 (ix2 p q) := by
  blk_simp [iblk]
  refine congrArg (V m c main_v6) ?_
  funext a
  apply Fin.ext
  blk_simp [wi3]
  match a with
  | ⟨0, _⟩ => show 0 * 1 + p.val = p.val; omega
  | ⟨1, _⟩ => show 0 * 512 + q.val = q.val; omega

theorem blk4 (c : Dev nD) (t : Fin cfg0.N) (p : Fin 4) (q : Fin 128) (r : Fin 128) : iblk m c 4 t (ix3 p q r) = V m c main_v8 (ix3 p q r) := by
  blk_simp [iblk]
  refine congrArg (V m c main_v8) ?_
  funext a
  apply Fin.ext
  blk_simp [wi4]
  match a with
  | ⟨0, _⟩ => show 0 * 4 + p.val = p.val; omega
  | ⟨1, _⟩ => show 0 * 128 + q.val = q.val; omega
  | ⟨2, _⟩ => show 0 * 128 + r.val = r.val; omega

theorem blk5 (c : Dev nD) (t : Fin cfg0.N) (p : Fin 128) (q : Fin 512) : iblk m c 5 t (ix2 p q) = V m c main_v12 (ix2 p q) := by
  blk_simp [iblk]
  refine congrArg (V m c main_v12) ?_
  funext a
  apply Fin.ext
  blk_simp [wi5]
  match a with
  | ⟨0, _⟩ => show 0 * 128 + p.val = p.val; omega
  | ⟨1, _⟩ => show 0 * 512 + q.val = q.val; omega

theorem blk6 (c : Dev nD) (t : Fin cfg0.N) (p : Fin 512) (q : Fin 1024) : iblk m c 6 t (ix2 p q) = V m c main_v14 (ix2 p q) := by
  blk_simp [iblk]
  refine congrArg (V m c main_v14) ?_
  funext a
  apply Fin.ext
  blk_simp [wi6]
  match a with
  | ⟨0, _⟩ => show 0 * 512 + p.val = p.val; omega
  | ⟨1, _⟩ => show 0 * 1024 + q.val = q.val; omega

theorem V_x (c : Dev nD) (R : Fin 16384) (k : Fin 1024) : V m c main_v0 (ix2 R k) = m ((c : Thread nD τ).loc main_arg0) (ix3 0 R k) := by
  unfold_abbrev_sides
  after_reads_simp
  pointwise

theorem V_w (c : Dev nD) (k : Fin 1024) (n : Fin 4608) : V m c main_v2 (ix2 k n) = m ((c : Thread nD τ).loc main_arg1) (ix3 0 k n) := by
  unfold_abbrev_sides
  after_reads_simp
  pointwise

theorem V_g (c : Dev nD) (j : Fin 512) : V m c main_v4 (ix2 0 j) = m ((c : Thread nD τ).loc main_arg2) (ix2 0 j) := by
  unfold_abbrev_sides
  after_reads_simp
  pointwise

theorem V_b (c : Dev nD) (j : Fin 512) : V m c main_v6 (ix2 0 j) = m ((c : Thread nD τ).loc main_arg3) (ix2 0 j) := by
  unfold_abbrev_sides
  after_reads_simp
  pointwise

theorem V_s (c : Dev nD) (a : Fin 4) (p q : Fin 128) : V m c main_v8 (ix3 a p q) = m ((c : Thread nD τ).loc main_arg4) (ix4 0 a p q) := by
  unfold_abbrev_sides
  after_reads_simp
  pointwise

theorem V_t (c : Dev nD) (p : Fin 128) (n : Fin 512) : V m c main_v12 (ix2 p n) = m ((c : Thread nD τ).loc main_arg5) (ix3 0 ⟨n.val / 128, by omega⟩ p) := by
  unfold_abbrev_sides
  after_reads_simp
  pointwise

theorem V_y (c : Dev nD) (ch : Fin 512) (n : Fin 1024) : V m c main_v14 (ix2 ch n) = m ((c : Thread nD τ).loc main_arg6) (ix3 0 ch n) := by
  unfold_abbrev_sides
  after_reads_simp
  pointwise

/-- The tokens' features, from the argument. -/
abbrev aX (c : Dev nD) : ℕ → Fin 1024 → EReal := rowsOf fun R k => m ((c : Thread nD τ).loc main_arg0) (ix3 0 R k)
/-- The projection's weights, from the argument. -/
abbrev aW (c : Dev nD) : Fin 1024 → ℕ → EReal := colsOf fun k n => m ((c : Thread nD τ).loc main_arg1) (ix3 0 k n)

theorem h0 (c : Dev nD) (t : Fin cfg0.N) (r : Fin 512) (k : Fin 1024) : iblk m c 0 t (ix2 r k) = aX m c (t.val * 512 + r.val) k := by
  have htt : t.val < 32 := lt_of_lt_of_eq t.isLt N_val
  have hr := r.isLt
  rw [blk0 m c t r k ⟨t.val * 512 + r.val, by omega⟩ rfl, V_x]
  exact (rowsOf_val (fun R k => m ((c : Thread nD τ).loc main_arg0) (ix3 0 R k)) ⟨t.val * 512 + r.val, by omega⟩ k).symm

theorem h1 (c : Dev nD) (t : Fin cfg0.N) (k : Fin 1024) (n : Fin 4608) : iblk m c 1 t (ix2 k n) = aW m c k n.val := by
  rw [blk1, V_w]
  exact (colsOf_val (fun k n => m ((c : Thread nD τ).loc main_arg1) (ix3 0 k n)) k n).symm

/-- Result 1 of the call. -/
def arr7 (c : Dev nD) : S16384x512.Idx → EReal := fun i =>
  scaled (prj (aX m c) (aW m c) (i 0).val (i 1).val)

theorem final7 (c : Dev nD) : (dats m 0 c).arrAt 7 cfg0.N = arr7 m c := by
  refine (dats m 0 c).arrAt_eq_of_covers 7 _ (by decide +kernel) fun t hf y => ?_
  blk_simp
  rw [after0_7]
  obtain ⟨r, n, rfl⟩ : ∃ (a : Fin 512) (b : Fin 512), y = ix2 a b := ⟨y 0, y 1, eq_ix2 y⟩
  have htt : t.val < 32 := lt_of_lt_of_eq t.isLt N_val
  have hr := r.isLt
  have ey : (win0_7.blk t).view.emb (ix2 r n) = ix2 (⟨t.val * 512 + r.val, by omega⟩ : Fin 16384) n := by
    funext a
    apply Fin.ext
    blk_simp [wi7]
    match a with
    | ⟨0, _⟩ => rfl
    | ⟨1, _⟩ => show 0 * 512 + n.val = n.val; omega
  rw [ey]
  exact out7 _ _ _ _ _ _ _ _ _ t.val (h0 m c t) (h1 m c t) r n

/-- Result 2 of the call. -/
def arr8 (c : Dev nD) : S16384x512.Idx → EReal := fun i =>
  prj (aX m c) (aW m c) (i 0).val (512 + (i 1).val)

theorem final8 (c : Dev nD) : (dats m 0 c).arrAt 8 cfg0.N = arr8 m c := by
  refine (dats m 0 c).arrAt_eq_of_covers 8 _ (by decide +kernel) fun t hf y => ?_
  blk_simp
  rw [after0_8]
  obtain ⟨r, n, rfl⟩ : ∃ (a : Fin 512) (b : Fin 512), y = ix2 a b := ⟨y 0, y 1, eq_ix2 y⟩
  have htt : t.val < 32 := lt_of_lt_of_eq t.isLt N_val
  have hr := r.isLt
  have ey : (win0_8.blk t).view.emb (ix2 r n) = ix2 (⟨t.val * 512 + r.val, by omega⟩ : Fin 16384) n := by
    funext a
    apply Fin.ext
    blk_simp [wi8]
    match a with
    | ⟨0, _⟩ => rfl
    | ⟨1, _⟩ => show 0 * 512 + n.val = n.val; omega
  rw [ey]
  exact out8 _ _ _ _ _ _ _ _ _ t.val (h0 m c t) (h1 m c t) r n

/-- Result 3 of the call. -/
def arr9 (c : Dev nD) : S16384x512.Idx → EReal := fun i =>
  prj (aX m c) (aW m c) (i 0).val (1024 + (i 1).val)

theorem final9 (c : Dev nD) : (dats m 0 c).arrAt 9 cfg0.N = arr9 m c := by
  refine (dats m 0 c).arrAt_eq_of_covers 9 _ (by decide +kernel) fun t hf y => ?_
  blk_simp
  rw [after0_9]
  obtain ⟨r, n, rfl⟩ : ∃ (a : Fin 512) (b : Fin 512), y = ix2 a b := ⟨y 0, y 1, eq_ix2 y⟩
  have htt : t.val < 32 := lt_of_lt_of_eq t.isLt N_val
  have hr := r.isLt
  have ey : (win0_9.blk t).view.emb (ix2 r n) = ix2 (⟨t.val * 512 + r.val, by omega⟩ : Fin 16384) n := by
    funext a
    apply Fin.ext
    blk_simp [wi9]
    match a with
    | ⟨0, _⟩ => rfl
    | ⟨1, _⟩ => show 0 * 512 + n.val = n.val; omega
  rw [ey]
  exact out9 _ _ _ _ _ _ _ _ _ t.val (h0 m c t) (h1 m c t) r n

/-- Result 4 of the call. -/
def arr10 (c : Dev nD) : S16384x1024.Idx → EReal := fun i =>
  Cert.InSpec.sig (prj (aX m c) (aW m c) (i 0).val (2560 + (i 1).val))

theorem final10 (c : Dev nD) : (dats m 0 c).arrAt 10 cfg0.N = arr10 m c := by
  refine (dats m 0 c).arrAt_eq_of_covers 10 _ (by decide +kernel) fun t hf y => ?_
  blk_simp
  rw [after0_10]
  obtain ⟨r, n, rfl⟩ : ∃ (a : Fin 512) (b : Fin 1024), y = ix2 a b := ⟨y 0, y 1, eq_ix2 y⟩
  have htt : t.val < 32 := lt_of_lt_of_eq t.isLt N_val
  have hr := r.isLt
  have ey : (win0_10.blk t).view.emb (ix2 r n) = ix2 (⟨t.val * 512 + r.val, by omega⟩ : Fin 16384) n := by
    funext a
    apply Fin.ext
    blk_simp [wi10]
    match a with
    | ⟨0, _⟩ => rfl
    | ⟨1, _⟩ => show 0 * 1024 + n.val = n.val; omega
  rw [ey]
  exact out10 _ _ _ _ _ _ _ _ _ t.val (h0 m c t) (h1 m c t) r n

/-- Result 5 of the call. -/
def arr11 (c : Dev nD) : S16384x1024.Idx → EReal := fun i =>
  branch (aX m c) (aW m c) (fun j => m ((c : Thread nD τ).loc main_arg2) (ix2 0 j)) (fun j => m ((c : Thread nD τ).loc main_arg3) (ix2 0 j))
    (fun a p q => m ((c : Thread nD τ).loc main_arg4) (ix4 0 a p q)) (fun a p => m ((c : Thread nD τ).loc main_arg5) (ix3 0 a p))
    (fun ch n => m ((c : Thread nD τ).loc main_arg6) (ix3 0 ch n)) (i 0).val (i 1)

theorem final11 (c : Dev nD) : (dats m 0 c).arrAt 11 cfg0.N = arr11 m c := by
  refine (dats m 0 c).arrAt_eq_of_covers 11 _ (by decide +kernel) fun t hf y => ?_
  blk_simp
  rw [after0_11]
  obtain ⟨r, n, rfl⟩ : ∃ (a : Fin 512) (b : Fin 1024), y = ix2 a b := ⟨y 0, y 1, eq_ix2 y⟩
  have htt : t.val < 32 := lt_of_lt_of_eq t.isLt N_val
  have hr := r.isLt
  have ey : (win0_11.blk t).view.emb (ix2 r n) = ix2 (⟨t.val * 512 + r.val, by omega⟩ : Fin 16384) n := by
    funext a
    apply Fin.ext
    blk_simp [wi11]
    match a with
    | ⟨0, _⟩ => rfl
    | ⟨1, _⟩ => show 0 * 1024 + n.val = n.val; omega
  rw [ey]
  exact out11 _ _ _ _ _ _ _ _ _ _ _ _ _ _ t.val (h0 m c t) (h1 m c t)
    (fun j => by rw [blk2, V_g]) (fun j => by rw [blk3, V_b]) (fun a p q => by rw [blk4, V_s]) (fun p n => by rw [blk5, V_t]) (fun ch n => by rw [blk6, V_y]) r n

end Cert.Kernel2Ideal.Body

end
-- ==== Proof.InRef.lean ====
/- The input projection's reference, element by element. -/
module

public import proofs.«01_k».proof.Proof.InSpec
public import proofs.«01_k».proof.Proof.Gen.Reference2Ideal.Run
public import Idealize.ShloMosaic.Lib.Pointwise
public import Idealize.ShloMosaic.Lib.Tactic.CleanTypes
public import Idealize.ShloMosaic.PureOps.Ideal.Laws

@[expose] public section

set_option maxRecDepth 16384

noncomputable section

namespace Cert.Reference2Ideal.Body

open Cert.Reference2Ideal hiding sig
open Cert.Reference2Ideal.Gen
open Idealize.ShloMosaic Idealize.ShloMosaic.TcCoe Idealize.ShloMosaic.Tactic
open Cert.InSpec

/-- The whole projection. -/
def pj (x : FVec Ideal S1x16384x1024 .f32) (w : FVec Ideal S1x1024x4608 .f32) : FVec Ideal S16384x4608 .f32 :=
  Host.dotGeneral (F := Ideal) (φ₁ := .f32) (φ₂ := .f32) dot_S16384x1024_S1024x4608_S16384x4608_1_0_0_1_n_n none
    (shapeCast _ x shapeCasts_S1x16384x1024_S16384x1024) (shapeCast _ w shapeCasts_S1x1024x4608_S1024x4608)

def gelA (C : FVec Ideal S16384x512 .f32) : FVec Ideal S16384x512 .f32 :=
  (mulf C (mulf (broadcastInDim S16384x512 ![] bcast_S_S16384x512 (constant (F := Ideal) S_ .f32 0x3F000000#32)) (addf (broadcastInDim S16384x512 ![] bcast_S_S16384x512 (constant (F := Ideal) S_ .f32 0x3F800000#32)) (Host.tanh (mulf (broadcastInDim S16384x512 ![] bcast_S_S16384x512 (constant (F := Ideal) S_ .f32 0x3F4C422A#32)) (addf C (mulf (broadcastInDim S16384x512 ![] bcast_S_S16384x512 (constant (F := Ideal) S_ .f32 0x3D372713#32)) (mulf (mulf C C) C))))))))

def sigA (C : FVec Ideal S16384x1024 .f32) : FVec Ideal S16384x1024 .f32 :=
  Host.divf (broadcastInDim S16384x1024 ![] bcast_S_S16384x1024 (constant (F := Ideal) S_ .f32 0x3F800000#32)) (addf (broadcastInDim S16384x1024 ![] bcast_S_S16384x1024 (constant (F := Ideal) S_ .f32 0x3F800000#32)) (Host.exp (Host.negf C)))

/-- The sum of every row divided by 512. -/
def meanA (G : FVec Ideal S16384x512 .f32) : FVec Ideal S16384x1 .f32 :=
  (Host.divf (broadcastInDim S16384x1 ![0] bcast_S16384_S16384x1_0 (Host.reduceAdd G (constant (F := Ideal) S_ .f32 0x00000000#32) reducesTo_S16384x512_S16384_d1 h_S_)) (broadcastInDim S16384x1 ![] bcast_S_S16384x1 (constant (F := Ideal) S_ .f32 0x44000000#32)))

def cenA (G : FVec Ideal S16384x512 .f32) : FVec Ideal S16384x512 .f32 :=
  (subf G (broadcastInDim S16384x512 ![0, 1] bcast_S16384x1_S16384x512_0_1 (meanA G)))

def rstdA (G : FVec Ideal S16384x512 .f32) : FVec Ideal S16384x1 .f32 :=
  (Host.rsqrt (addf (meanA (mulf (cenA G) (cenA G))) (broadcastInDim S16384x1 ![] bcast_S_S16384x1 (constant (F := Ideal) S_ .f32 0x3727C5AC#32))))

def nrmA (G : FVec Ideal S16384x512 .f32) (g b : FVec Ideal S1x512 .f32) : FVec Ideal S16384x512 .f32 :=
  (addf (mulf (mulf (cenA G) (broadcastInDim S16384x512 ![0, 1] bcast_S16384x1_S16384x512_0_1 (rstdA G))) (broadcastInDim S16384x512 ![0, 1] bcast_S1x512_S16384x512_0_1 (broadcastInDim S1x512 ![1] bcast_S512_S1x512_1 (shapeCast _ g shapeCasts_S1x512_S512)))) (broadcastInDim S16384x512 ![0, 1] bcast_S1x512_S16384x512_0_1 (broadcastInDim S1x512 ![1] bcast_S512_S1x512_1 (shapeCast _ b shapeCasts_S1x512_S512))))

/-- The mixing, before the biases. -/
def mixA (V : FVec Ideal S128x128x4x128 .f32) (s : FVec Ideal S1x4x128x128 .f32) : FVec Ideal S4x128x128x128 .f32 :=
  (Host.dotGeneral (F := Ideal) (φ₁ := .f32) (φ₂ := .f32) dot_S128x128x4x128_S4x128x128_S4x128x128x128_1_2_03_1_2_0 none V (shapeCast _ s shapeCasts_S1x4x128x128_S4x128x128))

def mixB (V : FVec Ideal S16384x512 .f32) (s : FVec Ideal S1x4x128x128 .f32) (b : FVec Ideal S1x4x128 .f32) : FVec Ideal S128x128x4x128 .f32 :=
  (addf (transpose S128x128x4x128 [1, 3, 0, 2] (mixA (shapeCast _ V shapeCasts_S16384x512_S128x128x4x128) s) transposes_S4x128x128x128_S128x128x4x128_1_3_0_2) (broadcastInDim S128x128x4x128 ![0, 1, 2, 3] bcast_S1x128x4x1_S128x128x4x128_0_1_2_3 (broadcastInDim S1x128x4x1 ![1, 2] bcast_S128x4_S1x128x4x1_1_2 (transpose S128x4 [1, 0] (shapeCast _ b shapeCasts_S1x4x128_S4x128) transposes_S4x128_S128x4_1_0))))

def gatedA (U : FVec Ideal S16384x512 .f32) (M : FVec Ideal S128x128x4x128 .f32) : FVec Ideal S16384x512 .f32 :=
  mulf U (shapeCast _ M shapeCasts_S128x128x4x128_S16384x512)

def branchA (G : FVec Ideal S16384x1024 .f32) (Y : FVec Ideal S16384x512 .f32) (y : FVec Ideal S1x512x1024 .f32) : FVec Ideal S16384x1024 .f32 :=
  mulf G (Host.dotGeneral (F := Ideal) (φ₁ := .f32) (φ₂ := .f32) dot_S16384x512_S512x1024_S16384x1024_1_0_0_1_n_n none Y (shapeCast _ y shapeCasts_S1x512x1024_S512x1024))

def cut1536 (P : FVec Ideal S16384x4608 .f32) : FVec Ideal S16384x512 .f32 := extractStridedSlice S16384x512 ![0, 1536] P slices_S16384x4608_S16384x512_0_1536
def cut2048 (P : FVec Ideal S16384x4608 .f32) : FVec Ideal S16384x512 .f32 := extractStridedSlice S16384x512 ![0, 2048] P slices_S16384x4608_S16384x512_0_2048
def cut2560 (P : FVec Ideal S16384x4608 .f32) : FVec Ideal S16384x1024 .f32 := extractStridedSlice S16384x1024 ![0, 2560] P slices_S16384x4608_S16384x1024_0_2560
def cut3584 (P : FVec Ideal S16384x4608 .f32) : FVec Ideal S16384x1024 .f32 := extractStridedSlice S16384x1024 ![0, 3584] P slices_S16384x4608_S16384x1024_0_3584

theorem res_eq (m : (ℓ : Loc nD τ Cert.Reference2Ideal.sig) → Buf (Elt Ideal) ℓ) (c : Dev nD) :
    Cert.Reference2Ideal.Value.res_main_v90 (F := Ideal) m c
      = branchA (sigA (cut3584 (pj (m ((c.tc : Thread nD τ).loc main_arg0)) (m ((c.tc : Thread nD τ).loc main_arg1)))))
          (gatedA (gelA (cut1536 (pj (m ((c.tc : Thread nD τ).loc main_arg0)) (m ((c.tc : Thread nD τ).loc main_arg1)))))
            (mixB (nrmA (gelA (cut2048 (pj (m ((c.tc : Thread nD τ).loc main_arg0)) (m ((c.tc : Thread nD τ).loc main_arg1)))))
              (m ((c.tc : Thread nD τ).loc main_arg2)) (m ((c.tc : Thread nD τ).loc main_arg3)))
              (m ((c.tc : Thread nD τ).loc main_arg4)) (m ((c.tc : Thread nD τ).loc main_arg5))))
          (m ((c.tc : Thread nD τ).loc main_arg6)) := rfl

theorem pj_apply (x : FVec Ideal S1x16384x1024 .f32) (w : FVec Ideal S1x1024x4608 .f32) (R : Fin 16384) (n : Fin 4608) :
    pj x w (ix2 R n) = ∑ k : Fin 1024, x (ix3 0 R k) * w (ix3 0 k n) := by
  unfold pj
  pointwise

theorem gelA_apply (C : FVec Ideal S16384x512 .f32) (R : Fin 16384) (n : Fin 512) : gelA C (ix2 R n) = gel (C (ix2 R n)) := by
  unfold gelA gel
  pointwise

theorem sigA_apply (C : FVec Ideal S16384x1024 .f32) (R : Fin 16384) (n : Fin 1024) : sigA C (ix2 R n) = Cert.InSpec.sig (C (ix2 R n)) := by
  unfold sigA Cert.InSpec.sig
  pointwise

theorem meanA_apply (G : FVec Ideal S16384x512 .f32) (R : Fin 16384) : meanA G (ix2 R 0) = mu (fun j => G (ix2 R j)) := by
  unfold meanA mu
  pointwise

theorem cenA_apply (G : FVec Ideal S16384x512 .f32) (R : Fin 16384) (n : Fin 512) : cenA G (ix2 R n) = G (ix2 R n) - mu (fun j => G (ix2 R j)) := by
  unfold cenA
  pointwise [meanA_apply]

theorem rstdA_apply (G : FVec Ideal S16384x512 .f32) (R : Fin 16384) : rstdA G (ix2 R 0) = rstd (fun j => G (ix2 R j)) := by
  unfold rstdA rstd
  pointwise [meanA_apply, cenA_apply]
  rfl

theorem nrmA_apply (G : FVec Ideal S16384x512 .f32) (g b : FVec Ideal S1x512 .f32) (R : Fin 16384) (n : Fin 512) :
    nrmA G g b (ix2 R n) = nrm (fun j => G (ix2 R j)) (fun j => g (ix2 0 j)) (fun j => b (ix2 0 j)) n := by
  unfold nrmA nrm
  pointwise [cenA_apply, rstdA_apply]

theorem mixA_apply (V : FVec Ideal S128x128x4x128 .f32) (s : FVec Ideal S1x4x128x128 .f32) (g : Fin 4) (n c p : Fin 128) :
    mixA V s (ix4 g n c p) = ∑ q : Fin 128, V (ix4 n q g c) * s (ix4 0 g p q) := by
  unfold mixA
  pointwise

theorem mixB_apply (V : FVec Ideal S16384x512 .f32) (s : FVec Ideal S1x4x128x128 .f32) (b : FVec Ideal S1x4x128 .f32) (n p : Fin 128) (g : Fin 4) (c : Fin 128) :
    mixB V s b (ix4 n p g c) = (∑ q : Fin 128, V (ix2 ⟨n.val * 128 + q.val, by omega⟩ ⟨g.val * 128 + c.val, by omega⟩) * s (ix4 0 g p q)) + b (ix3 0 g p) := by
  unfold mixB
  pointwise [mixA_apply]

theorem gatedA_apply (U : FVec Ideal S16384x512 .f32) (M : FVec Ideal S128x128x4x128 .f32) (R : Fin 16384) (n : Fin 512) :
    gatedA U M (ix2 R n) = U (ix2 R n) * M (ix4 ⟨R.val / 128, by omega⟩ ⟨R.val % 128, by omega⟩ ⟨n.val / 128, by omega⟩ ⟨n.val % 128, by omega⟩) := by
  unfold gatedA
  pointwise

theorem branchA_apply (G : FVec Ideal S16384x1024 .f32) (Y : FVec Ideal S16384x512 .f32) (y : FVec Ideal S1x512x1024 .f32) (R : Fin 16384) (n : Fin 1024) :
    branchA G Y y (ix2 R n) = G (ix2 R n) * ∑ ch : Fin 512, Y (ix2 R ch) * y (ix3 0 ch n) := by
  unfold branchA
  pointwise

theorem cut1536_apply (P : FVec Ideal S16384x4608 .f32) (R : Fin 16384) (n : Fin 512) : cut1536 P (ix2 R n) = P (ix2 R ⟨1536 + n.val, by omega⟩) := by
  unfold cut1536
  pointwise
theorem cut2048_apply (P : FVec Ideal S16384x4608 .f32) (R : Fin 16384) (n : Fin 512) : cut2048 P (ix2 R n) = P (ix2 R ⟨2048 + n.val, by omega⟩) := by
  unfold cut2048
  pointwise
theorem cut2560_apply (P : FVec Ideal S16384x4608 .f32) (R : Fin 16384) (n : Fin 1024) : cut2560 P (ix2 R n) = P (ix2 R ⟨2560 + n.val, by omega⟩) := by
  unfold cut2560
  pointwise
theorem cut3584_apply (P : FVec Ideal S16384x4608 .f32) (R : Fin 16384) (n : Fin 1024) : cut3584 P (ix2 R n) = P (ix2 R ⟨3584 + n.val, by omega⟩) := by
  unfold cut3584
  pointwise

/-- The queries: the first columns, scaled. -/
def qA (P : FVec Ideal S16384x4608 .f32) : FVec Ideal S16384x512 .bf16 :=
  truncf (F := Ideal) .bf16 (mulf (F := Ideal) (φ := .f32) (extractStridedSlice S16384x512 ![0, 0] P slices_S16384x4608_S16384x512_0_0) (broadcastInDim S16384x512 ![] bcast_S_S16384x512 (constant (F := Ideal) S_ .f32 0x3E000000#32))) bitsLt_bf16_f32
/-- The keys. -/
def kA (P : FVec Ideal S16384x4608 .f32) : FVec Ideal S16384x512 .bf16 :=
  truncf (F := Ideal) (φ := .f32) .bf16 (extractStridedSlice S16384x512 ![0, 512] P slices_S16384x4608_S16384x512_0_512) bitsLt_bf16_f32
/-- The values. -/
def vA (P : FVec Ideal S16384x4608 .f32) : FVec Ideal S16384x512 .bf16 :=
  truncf (F := Ideal) (φ := .f32) .bf16 (extractStridedSlice S16384x512 ![0, 1024] P slices_S16384x4608_S16384x512_0_1024) bitsLt_bf16_f32

theorem qA_apply (P : FVec Ideal S16384x4608 .f32) (R : Fin 16384) (n : Fin 512) : qA P (ix2 R n) = scaled (P (ix2 R ⟨n.val, by omega⟩)) := by
  unfold qA scaled
  pointwise
theorem kA_apply (P : FVec Ideal S16384x4608 .f32) (R : Fin 16384) (n : Fin 512) : kA P (ix2 R n) = P (ix2 R ⟨512 + n.val, by omega⟩) := by
  unfold kA
  pointwise
theorem vA_apply (P : FVec Ideal S16384x4608 .f32) (R : Fin 16384) (n : Fin 512) : vA P (ix2 R n) = P (ix2 R ⟨1024 + n.val, by omega⟩) := by
  unfold vA
  pointwise

section
variable (x : FVec Ideal S1x16384x1024 .f32) (w : FVec Ideal S1x1024x4608 .f32) (g b : FVec Ideal S1x512 .f32)
  (s : FVec Ideal S1x4x128x128 .f32) (t : FVec Ideal S1x4x128 .f32) (y : FVec Ideal S1x512x1024 .f32)

/-- The tokens' features. -/
abbrev fX : ℕ → Fin 1024 → EReal := rowsOf fun R k => x (ix3 0 R k)
/-- The projection's weights. -/
abbrev fW : Fin 1024 → ℕ → EReal := colsOf fun k n => w (ix3 0 k n)

theorem pj_prj (R : Fin 16384) (n : ℕ) (h : n < 4608) : pj x w (ix2 R ⟨n, h⟩) = prj (fX x) (fW w) R.val n :=
  (pj_apply x w R ⟨n, h⟩).trans (prj_val (fun R k => x (ix3 0 R k)) (fun k n => w (ix3 0 k n)) R ⟨n, h⟩).symm

theorem q_eq (R : Fin 16384) (n : Fin 512) : qA (pj x w) (ix2 R n) = scaled (prj (fX x) (fW w) R.val n.val) := by
  rw [qA_apply, pj_prj]
theorem k_eq (R : Fin 16384) (n : Fin 512) : kA (pj x w) (ix2 R n) = prj (fX x) (fW w) R.val (512 + n.val) := by
  rw [kA_apply, pj_prj]
theorem v_eq (R : Fin 16384) (n : Fin 512) : vA (pj x w) (ix2 R n) = prj (fX x) (fW w) R.val (1024 + n.val) := by
  rw [vA_apply, pj_prj]
theorem ga_eq (R : Fin 16384) (n : Fin 1024) : sigA (cut2560 (pj x w)) (ix2 R n) = Cert.InSpec.sig (prj (fX x) (fW w) R.val (2560 + n.val)) := by
  rw [sigA_apply, cut2560_apply, pj_prj]

theorem vn_eq (R : Fin 16384) (n : Fin 512) : nrmA (gelA (cut2048 (pj x w))) g b (ix2 R n)
    = vn (fX x) (fW w) (fun j => g (ix2 0 j)) (fun j => b (ix2 0 j)) R.val n := by
  rw [nrmA_apply]
  refine congrArg (fun f => nrm f _ _ n) (funext fun j => ?_)
  rw [gelA_apply, cut2048_apply, pj_prj]

theorem gated_eq (R : Fin 16384) (n : Fin 512) :
    gatedA (gelA (cut1536 (pj x w))) (mixB (nrmA (gelA (cut2048 (pj x w))) g b) s t) (ix2 R n)
      = gated (fX x) (fW w) (fun j => g (ix2 0 j)) (fun j => b (ix2 0 j)) (fun a p q => s (ix4 0 a p q)) (fun a p => t (ix3 0 a p)) R.val n := by
  rw [gatedA_apply, gelA_apply, cut1536_apply, pj_prj, mixB_apply]
  refine congrArg (gel _ * ·) (congrArg (· + _) (Finset.sum_congr rfl fun q _ => ?_))
  rw [vn_eq, mul_comm]
  refine congrArg (s _ * vn _ _ _ _ _ ·) (Fin.ext ?_)
  dsimp only
  omega

theorem branch_eq (R : Fin 16384) (n : Fin 1024) :
    branchA (sigA (cut3584 (pj x w))) (gatedA (gelA (cut1536 (pj x w))) (mixB (nrmA (gelA (cut2048 (pj x w))) g b) s t)) y (ix2 R n)
      = branch (fX x) (fW w) (fun j => g (ix2 0 j)) (fun j => b (ix2 0 j)) (fun a p q => s (ix4 0 a p q)) (fun a p => t (ix3 0 a p))
          (fun ch n => y (ix3 0 ch n)) R.val n := by
  rw [branchA_apply, sigA_apply, cut3584_apply, pj_prj]
  unfold branch
  refine congrArg₂ (· * ·) rfl (Finset.sum_congr rfl fun ch _ => ?_)
  rw [gated_eq]

end

end Cert.Reference2Ideal.Body
-- ==== Proof.InValue.lean ====
/- The input projection's value: what the kernel writes is what the reference returns. -/
module

public import proofs.«01_k».proof.Defs
public import proofs.«01_k».proof.Proof.InArr
public import proofs.«01_k».proof.Proof.InRef

@[expose] public section

set_option maxRecDepth 16384

noncomputable section

namespace Cert.InValue

open Idealize.ShloMosaic Idealize.ShloMosaic.TcCoe Idealize.ShloMosaic.Tactic

section Kernel
open Cert.Kernel2Ideal Cert.Kernel2Ideal.Gen Cert.Kernel2Ideal.Body

set_option maxHeartbeats 2000000 in
/-- What the kernel's run ends with. -/
theorem kernel_run (m : (ℓ : Loc nD τ Cert.Kernel2Ideal.sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v15_0) = arr7 m c
      ∧ r.2.mem ((c.tc : Thread nD τ).loc main_v15_1) = arr8 m c
      ∧ r.2.mem ((c.tc : Thread nD τ).loc main_v15_2) = arr9 m c
      ∧ r.2.mem ((c.tc : Thread nD τ).loc main_v15_3) = arr10 m c
      ∧ r.2.mem ((c.tc : Thread nD τ).loc main_v15_4) = arr11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Cert.Kernel2Ideal.Value.run_blocks (F := Ideal) m g)
  obtain ⟨a, b, d, e, f, rest⟩ := h c
  exact ⟨a.trans (final7 m c), b.trans (final8 m c), d.trans (final9 m c), e.trans (final10 m c), f.trans (final11 m c), rest⟩

end Kernel

section Reference
open Cert.Reference2Ideal Cert.Reference2Ideal.Gen Cert.Reference2Ideal.Body

set_option maxHeartbeats 2000000 in
/-- What the reference's run ends with. -/
theorem reference_run (m : (ℓ : Loc nD τ Cert.Reference2Ideal.sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v73) = qA (pj (m ((c.tc : Thread nD τ).loc main_arg0)) (m ((c.tc : Thread nD τ).loc main_arg1)))
      ∧ r.2.mem ((c.tc : Thread nD τ).loc main_v74) = kA (pj (m ((c.tc : Thread nD τ).loc main_arg0)) (m ((c.tc : Thread nD τ).loc main_arg1)))
      ∧ r.2.mem ((c.tc : Thread nD τ).loc main_v75) = vA (pj (m ((c.tc : Thread nD τ).loc main_arg0)) (m ((c.tc : Thread nD τ).loc main_arg1)))
      ∧ r.2.mem ((c.tc : Thread nD τ).loc main_v81) = sigA (cut2560 (pj (m ((c.tc : Thread nD τ).loc main_arg0)) (m ((c.tc : Thread nD τ).loc main_arg1))))
      ∧ r.2.mem ((c.tc : Thread nD τ).loc main_v90) = branchA (sigA (cut3584 (pj (m ((c.tc : Thread nD τ).loc main_arg0)) (m ((c.tc : Thread nD τ).loc main_arg1)))))
          (gatedA (gelA (cut1536 (pj (m ((c.tc : Thread nD τ).loc main_arg0)) (m ((c.tc : Thread nD τ).loc main_arg1)))))
            (mixB (nrmA (gelA (cut2048 (pj (m ((c.tc : Thread nD τ).loc main_arg0)) (m ((c.tc : Thread nD τ).loc main_arg1)))))
              (m ((c.tc : Thread nD τ).loc main_arg2)) (m ((c.tc : Thread nD τ).loc main_arg3)))
              (m ((c.tc : Thread nD τ).loc main_arg4)) (m ((c.tc : Thread nD τ).loc main_arg5))))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Cert.Reference2Ideal.Value.run (F := Ideal) m g)
  obtain ⟨a, b, d, e, f, rest⟩ := h c
  exact ⟨a, b, d, e, f.trans (res_eq m c), rest⟩

end Reference

open Cert.Kernel2Ideal Cert.Kernel2Ideal.Gen Cert.Kernel2Ideal.Body
open Cert.Reference2Ideal.Body (qA kA vA sigA branchA gatedA gelA mixB nrmA cut1536 cut2048 cut2560 cut3584 pj q_eq k_eq v_eq ga_eq branch_eq)

section Equal
variable (m : (ℓ : Loc nD τ Cert.Kernel2Ideal.sig) → Buf (Elt Ideal) ℓ) (c : Dev nD)

theorem eq1 : qA (pj (m ((c.tc : Thread nD τ).loc main_arg0)) (m ((c.tc : Thread nD τ).loc main_arg1))) = arr7 m c := by
  funext j
  obtain ⟨R, n, rfl⟩ : ∃ (a : Fin 16384) (b : Fin 512), j = ix2 a b := ⟨j 0, j 1, eq_ix2 j⟩
  exact q_eq _ _ R n

theorem eq2 : kA (pj (m ((c.tc : Thread nD τ).loc main_arg0)) (m ((c.tc : Thread nD τ).loc main_arg1))) = arr8 m c := by
  funext j
  obtain ⟨R, n, rfl⟩ : ∃ (a : Fin 16384) (b : Fin 512), j = ix2 a b := ⟨j 0, j 1, eq_ix2 j⟩
  exact k_eq _ _ R n

theorem eq3 : vA (pj (m ((c.tc : Thread nD τ).loc main_arg0)) (m ((c.tc : Thread nD τ).loc main_arg1))) = arr9 m c := by
  funext j
  obtain ⟨R, n, rfl⟩ : ∃ (a : Fin 16384) (b : Fin 512), j = ix2 a b := ⟨j 0, j 1, eq_ix2 j⟩
  exact v_eq _ _ R n

theorem eq4 : sigA (cut2560 (pj (m ((c.tc : Thread nD τ).loc main_arg0)) (m ((c.tc : Thread nD τ).loc main_arg1)))) = arr10 m c := by
  funext j
  obtain ⟨R, n, rfl⟩ : ∃ (a : Fin 16384) (b : Fin 1024), j = ix2 a b := ⟨j 0, j 1, eq_ix2 j⟩
  exact ga_eq _ _ R n

theorem eq5 : branchA (sigA (cut3584 (pj (m ((c.tc : Thread nD τ).loc main_arg0)) (m ((c.tc : Thread nD τ).loc main_arg1)))))
          (gatedA (gelA (cut1536 (pj (m ((c.tc : Thread nD τ).loc main_arg0)) (m ((c.tc : Thread nD τ).loc main_arg1)))))
            (mixB (nrmA (gelA (cut2048 (pj (m ((c.tc : Thread nD τ).loc main_arg0)) (m ((c.tc : Thread nD τ).loc main_arg1)))))
              (m ((c.tc : Thread nD τ).loc main_arg2)) (m ((c.tc : Thread nD τ).loc main_arg3)))
              (m ((c.tc : Thread nD τ).loc main_arg4)) (m ((c.tc : Thread nD τ).loc main_arg5))))
          (m ((c.tc : Thread nD τ).loc main_arg6)) = arr11 m c := by
  funext j
  obtain ⟨R, n, rfl⟩ : ∃ (a : Fin 16384) (b : Fin 1024), j = ix2 a b := ⟨j 0, j 1, eq_ix2 j⟩
  exact branch_eq _ _ _ _ _ _ _ R n

end Equal

attribute [local instance] Cert.Kernel2Ideal.Gen.facts Cert.Reference2Ideal.Gen.facts

set_option maxHeartbeats 2000000 in
/-- The value claim. -/
theorem value : Cert.algebraic_Kernel2Ideal_Reference2Ideal := by
  intro m g m' g' _ hagree
  refine ⟨fun c => arr7 m c, fun c => arr8 m c, fun c => arr9 m c, fun c => arr10 m c, fun c => arr11 m c, kernel_run m g, ?_⟩
  refine (θ_run Cert.Reference2Ideal.defs _ _).mono (fun r h c => ?_) (reference_run m' g')
  obtain ⟨a, b, d, e, f, rest⟩ := h c
  obtain ⟨e0, e1, e2, e3, e4, e5, e6⟩ := hagree c
  rw [e0, e1] at a b d e
  rw [e0, e1, e2, e3, e4, e5, e6] at f
  exact ⟨a.trans (eq1 m c), b.trans (eq2 m c), d.trans (eq3 m c), e.trans (eq4 m c), f.trans (eq5 m c), rest⟩

end Cert.InValue
end
-- ==== Proof.MixSame.lean ====
/- The frame of the merge's kernel at bit patterns, from the idealized kernel's run: the two programs have the same text. -/
module

public import proofs.«01_k».proof.Defs
public import proofs.«01_k».proof.Proof.Gen.Kernel3
public import proofs.«01_k».proof.Proof.Gen.Kernel3Ideal.Frame

@[expose] public section

set_option maxRecDepth 16384

noncomputable section

namespace Cert.Proof

open Idealize.ShloMosaic Idealize.SL.Sem

attribute [local instance] Cert.Kernel3.Gen.facts Cert.Kernel3Ideal.Gen.facts

set_option maxHeartbeats 2000000 in
set_option backward.isDefEq.respectTransparency false in
/-- The two bodies are one. -/
theorem body3_same : @Cert.Kernel3.cc0_mix Bits _ _ = @Cert.Kernel3Ideal.cc0_mix Bits _ _ := rfl

set_option maxHeartbeats 2000000 in
set_option backward.isDefEq.respectTransparency false in
theorem table3_same : @Cert.Kernel3.defs₀ Bits _ _ = @Cert.Kernel3Ideal.defs₀ Bits _ _ := by
  refine congrArg Defs.onTc (funext fun l => ?_)
  match l with
  | 0 => funext a; exact congrFun (congrFun (congrFun (congrFun (congrFun (congrFun (congrFun (congrFun (congrFun (congrFun (congrFun (congrFun (congrFun (congrFun (congrFun (congrFun (congrFun (congrFun (congrFun (congrFun (congrFun body3_same _) _) _) _) _) _) _) _) _) _) _) _) _) _) _) _) _) _) _) _) _

set_option maxHeartbeats 2000000 in
set_option backward.isDefEq.respectTransparency false in
theorem defs3_same : @Cert.Kernel3.defs Bits _ _ = @Cert.Kernel3Ideal.defs Bits _ _ :=
  congrArg (Pipeline.defs (Cert.Kernel3Ideal.pcfgs (F := Bits))) table3_same

set_option maxHeartbeats 2000000 in
set_option backward.isDefEq.respectTransparency false in
/-- The kernel's frame. -/
theorem frame_kernel3 : Cert.quiescent_Kernel3 (hKernel3 := Cert.Kernel3.Gen.facts) := by
  intro m ρ _
  rw [defs3_same]
  exact (θ_run Cert.Kernel3Ideal.defs _ _).mono (fun _ h => h) (Cert.Kernel3Ideal.Gen.frame (F := Bits) m ρ)

end Cert.Proof

end
-- ==== Proof.MixSpec.lean ====
/- The merge of the two branches with the output projection and its lnorm: a token's result as numbers. -/
module

public import Idealize.ShloMosaic.PureOps.Ideal.Laws

@[expose] public section

set_option maxRecDepth 16384

noncomputable section

namespace Cert.MixSpec

open Idealize.ShloMosaic

/-- The merged branches of one token: `G` the attention's gate, `A` the attention's output, `P` the other branch, `U` the weights. -/
def merged (G P : Fin 1024 → EReal) (A : Fin 512 → EReal) (U : Fin 512 → Fin 1024 → EReal) (k : Fin 1024) : EReal :=
  G k * (∑ j : Fin 512, A j * U j k) + P k

/-- The residual: the token's features scaled, and the output projection `W` of its merged branches. -/
def resid (X G P : Fin 1024 → EReal) (A : Fin 512 → EReal) (U : Fin 512 → Fin 1024 → EReal) (W : Fin 1024 → Fin 1024 → EReal) (n : Fin 1024) : EReal :=
  Ideal.ofBits FTy.f32 0x3F9837F0#32 * X n + ∑ k : Fin 1024, merged G P A U k * W k n

/-- The mean of a token's features. -/
def avg (f : Fin 1024 → EReal) : EReal := Ideal.div (∑ j : Fin 1024, f j) (Ideal.ofBits FTy.f32 0x44800000#32)

/-- The reciprocal of their standard deviation. -/
def rdev (f : Fin 1024 → EReal) : EReal := Ideal.rsqrt (avg (fun j => (f j - avg f) * (f j - avg f)) + Ideal.ofBits FTy.f32 0x3727C5AC#32)

/-- A token's features, normalized. -/
def lnorm (f g b : Fin 1024 → EReal) (n : Fin 1024) : EReal := (f n - avg f) * rdev f * g n + b n

end Cert.MixSpec

end
-- ==== Proof.MixBody.lean ====
/- The merge's kernel: what a grid step's body writes, over the blocks it reads. -/
module

public import proofs.«01_k».proof.Proof.MixSpec
public import proofs.«01_k».proof.Proof.Gen.Kernel3Ideal.Value
public import Idealize.ShloMosaic.Lib.Pointwise
public import Idealize.ShloMosaic.Lib.Tactic.CleanTypes
public import Idealize.ShloMosaic.Lib.Pipeline.ValueKit
public import Idealize.ShloMosaic.PureOps.Ideal.Laws

@[expose] public section

set_option maxRecDepth 16384

noncomputable section

namespace Cert.Kernel3Ideal.Body

open Cert.Kernel3Ideal hiding sig
open Cert.Kernel3Ideal.Gen
open Idealize.ShloMosaic Idealize.ShloMosaic.TcCoe Idealize.ShloMosaic.Tactic
open Cert.MixSpec

/-- The merged branches of a block. -/
def mrgB (G : FVec Ideal S512x1024 .f32) (A : FVec Ideal S512x512 .bf16) (U : FVec Ideal S512x1024 .bf16) (P : FVec Ideal S512x1024 .f32) : FVec Ideal S512x1024 .bf16 :=
  truncf .bf16 (addf (mulf G (matmul (F := Ideal) dot_S512x512_S512x1024_S512x1024_1_0_0_1_n_n none A (shapeCast S512x1024 U shapeCasts_S512x1024_S512x1024)
    (constant (F := Ideal) S512x1024 .f32 0x00000000#32))) P) bitsLt_bf16_f32

theorem mrgB_apply (G : FVec Ideal S512x1024 .f32) (A : FVec Ideal S512x512 .bf16) (U : FVec Ideal S512x1024 .bf16) (P : FVec Ideal S512x1024 .f32) (r : Fin 512) (k : Fin 1024) :
    mrgB G A U P (ix2 r k) = merged (fun k => G (ix2 r k)) (fun k => P (ix2 r k)) (fun j => A (ix2 r j)) (fun j k => U (ix2 j k)) k := by
  unfold mrgB merged
  pointwise

/-- The residual of a block. -/
def resB (M : FVec Ideal S512x1024 .bf16) (X : FVec Ideal S512x1024 .f32) (W : FVec Ideal S1024x1024 .bf16) : FVec Ideal S512x1024 .f32 :=
  addf (mulf (broadcast S512x1024 (Scalar.ofBits (F := Ideal) .f32 0x3F9837F0#32)) (shapeCast S512x1024 X shapeCasts_S512x1024_S512x1024))
    (matmul (F := Ideal) dot_S512x1024_S1024x1024_S512x1024_1_0_0_1_n_n none M (shapeCast S1024x1024 W shapeCasts_S1024x1024_S1024x1024) (constant (F := Ideal) S512x1024 .f32 0x00000000#32))

theorem resB_apply (M : FVec Ideal S512x1024 .bf16) (X : FVec Ideal S512x1024 .f32) (W : FVec Ideal S1024x1024 .bf16) (r : Fin 512) (n : Fin 1024) :
    resB M X W (ix2 r n) = Ideal.ofBits FTy.f32 0x3F9837F0#32 * X (ix2 r n) + ∑ k : Fin 1024, M (ix2 r k) * W (ix2 k n) := by
  unfold resB
  pointwise

/-- Every row's mean. -/
def avgB (v : FVec Ideal S512x1024 .f32) : FVec Ideal S512x1 .f32 :=
  divf (shapeCast S512x1 (multiReduction (F := Ideal) .add [1] S512 v 0x00000000#32 reduces_S512x1024_S512 (.inl rfl) rfl) shapeCasts_S512_S512x1) (broadcast S512x1 (Scalar.ofBits (F := Ideal) .f32 0x44800000#32))

theorem avgB_apply (v : FVec Ideal S512x1024 .f32) (r : Fin 512) : avgB v (ix2 r 0) = avg (fun j => v (ix2 r j)) := by
  unfold avgB avg
  pointwise

/-- Every row without its mean. -/
def devB (v : FVec Ideal S512x1024 .f32) : FVec Ideal S512x1024 .f32 := subf v (broadcastTo S512x1024 (avgB v) broadcasts_S512x1_S512x1024)

theorem devB_apply (v : FVec Ideal S512x1024 .f32) (r : Fin 512) (n : Fin 1024) : devB v (ix2 r n) = v (ix2 r n) - avg (fun j => v (ix2 r j)) := by
  unfold devB
  pointwise [avgB_apply]

/-- Every row's reciprocal of the standard deviation. -/
def rdevB (v : FVec Ideal S512x1024 .f32) : FVec Ideal S512x1 .f32 :=
  rsqrt (addf (avgB (mulf (devB v) (devB v))) (broadcast S512x1 (Scalar.ofBits (F := Ideal) .f32 0x3727C5AC#32)))

theorem rdevB_apply (v : FVec Ideal S512x1024 .f32) (r : Fin 512) : rdevB v (ix2 r 0) = rdev (fun j => v (ix2 r j)) := by
  unfold rdevB rdev
  pointwise [avgB_apply, devB_apply]

theorem pay5_eq (G : FVec Ideal S512x1024 .f32) (A : FVec Ideal S512x512 .bf16) (U : FVec Ideal S512x1024 .bf16) (P X : FVec Ideal S512x1024 .f32) (W : FVec Ideal S1024x1024 .bf16) :
    k0_pay5 (F := Ideal) G A U P X W = devB (resB (mrgB G A U P) X W) := rfl

theorem pay6_eq (G : FVec Ideal S512x1024 .f32) (A : FVec Ideal S512x512 .bf16) (U : FVec Ideal S512x1024 .bf16) (P X : FVec Ideal S512x1024 .f32) (W : FVec Ideal S1024x1024 .bf16) :
    k0_pay6 (F := Ideal) G A U P X W = rdevB (resB (mrgB G A U P) X W) := rfl

theorem pay3_apply (v : FVec Ideal S1x1024 .f32) (n : Fin 1024) : k0_pay3 (F := Ideal) v (ix2 0 n) = v (ix2 0 n) := by
  unfold k0_pay3
  pointwise

theorem pay4_apply (v : FVec Ideal S1x1024 .f32) (n : Fin 1024) : k0_pay4 (F := Ideal) v (ix2 0 n) = v (ix2 0 n) := by
  unfold k0_pay4
  pointwise

theorem pay1_apply (g b : FVec Ideal S1x1024 .f32) (d : FVec Ideal S512x1024 .f32) (s : FVec Ideal S512x1 .f32) (r : Fin 512) (n : Fin 1024) :
    k0_pay1 (F := Ideal) g b d s (ix2 n r) = d (ix2 r n) * s (ix2 r 0) * g (ix2 0 n) + b (ix2 0 n) := by
  unfold k0_pay1
  pointwise

theorem pay2_apply (g b : FVec Ideal S1x1024 .f32) (d : FVec Ideal S512x1024 .f32) (s : FVec Ideal S512x1 .f32) (r : Fin 512) (n : Fin 1024) :
    k0_pay2 (F := Ideal) g b d s (ix2 n r) = k0_pay1 (F := Ideal) g b d s (ix2 n r) := by
  unfold k0_pay2
  pointwise

theorem ld0 (x : Vec Ideal S512x1024 .f32) : View.ld x r0_0 = x := View.ld_unit_zero (by decide +kernel) _ x
theorem ld0' (x : Vec Ideal S512x1024 .bf16) : View.ld x r0_0 = x := View.ld_unit_zero (by decide +kernel) _ x
theorem ld1 (x : Vec Ideal S512x512 .bf16) : View.ld x r0_1 = x := View.ld_unit_zero (by decide +kernel) _ x
theorem ld2 (x : Vec Ideal S1024x1024 .bf16) : View.ld x r0_2 = x := View.ld_unit_zero (by decide +kernel) _ x
theorem ld3 (x : Vec Ideal S1x1024 .f32) : View.ld x r0_3 = x := View.ld_unit_zero (by decide +kernel) _ x

section block
variable (x0 : Vec Ideal S512x1024 .f32) (x1 : Vec Ideal S512x512 .bf16) (x2 x3 : Vec Ideal S512x1024 .f32) (x4 : Vec Ideal S512x1024 .bf16)
  (x5 : Vec Ideal S1024x1024 .bf16) (x6 x7 : Vec Ideal S1x1024 .f32)

theorem out8 (r : Fin 512) (n : Fin 1024) : out0_8 (F := Ideal) x0 x1 x2 x3 x4 x5 x6 x7 (ix2 n r)
    = lnorm (resid (fun k => x0 (ix2 r k)) (fun k => x2 (ix2 r k)) (fun k => x3 (ix2 r k)) (fun j => x1 (ix2 r j)) (fun j k => x4 (ix2 j k)) (fun k n => x5 (ix2 k n)))
        (fun n => x6 (ix2 0 n)) (fun n => x7 (ix2 0 n)) n := by
  have e : (fun j => resB (mrgB x2 x1 x4 x3) x0 x5 (ix2 r j))
      = resid (fun k => x0 (ix2 r k)) (fun k => x2 (ix2 r k)) (fun k => x3 (ix2 r k)) (fun j => x1 (ix2 r j)) (fun j k => x4 (ix2 j k)) (fun k n => x5 (ix2 k n)) := by
    funext j
    rw [resB_apply]
    unfold resid
    refine congrArg₂ (· + ·) rfl (Finset.sum_congr rfl fun k _ => ?_)
    rw [mrgB_apply]
  unfold out0_8 k0_pay10 k0_pay9 k0_pay8 k0_pay7
  rw [View.canon_unit_zero (by decide +kernel), pay1_apply, ld0, ld0, ld0, ld0', ld1, ld2, ld3, ld3, pay3_apply, pay4_apply, pay5_eq, pay6_eq, devB_apply, rdevB_apply, e]
  unfold lnorm
  rw [← congrFun e n]

theorem out9 (r : Fin 512) (n : Fin 1024) : out0_9 (F := Ideal) x0 x1 x2 x3 x4 x5 x6 x7 (ix2 n r) = out0_8 (F := Ideal) x0 x1 x2 x3 x4 x5 x6 x7 (ix2 n r) := by
  unfold out0_9 out0_8
  rw [View.canon_unit_zero (by decide +kernel), View.canon_unit_zero (by decide +kernel), pay2_apply]

end block

end Cert.Kernel3Ideal.Body

end
-- ==== Proof.MixArr.lean ====
/- The merge's kernel: the arrays its grid writes, over the program's arguments. -/
module

public import proofs.«01_k».proof.Proof.MixBody
public import Idealize.ShloMosaic.Lib.StableHlo.RunRead

@[expose] public section

set_option maxRecDepth 16384

noncomputable section

namespace Cert.Kernel3Ideal.Body

open Cert.Kernel3Ideal hiding sig
open Cert.Kernel3Ideal.Gen
open Idealize.ShloMosaic Idealize.ShloMosaic.TcCoe Idealize.ShloMosaic.Tactic
open Cert.MixSpec

theorem wi0 : ∀ t : Fin cfg0.N, win0_0.index t = ![t.val, 0] := (by decide +kernel : ∀ t : Fin grid0.N, _)
theorem wi1 : ∀ t : Fin cfg0.N, win0_1.index t = ![t.val, 0] := (by decide +kernel : ∀ t : Fin grid0.N, _)
theorem wi2 : ∀ t : Fin cfg0.N, win0_2.index t = ![t.val, 0] := (by decide +kernel : ∀ t : Fin grid0.N, _)
theorem wi3 : ∀ t : Fin cfg0.N, win0_3.index t = ![t.val, 0] := (by decide +kernel : ∀ t : Fin grid0.N, _)
theorem wi4 : ∀ t : Fin cfg0.N, win0_4.index t = ![0, 0] := (by decide +kernel : ∀ t : Fin grid0.N, _)
theorem wi5 : ∀ t : Fin cfg0.N, win0_5.index t = ![0, 0] := (by decide +kernel : ∀ t : Fin grid0.N, _)
theorem wi6 : ∀ t : Fin cfg0.N, win0_6.index t = ![0, 0] := (by decide +kernel : ∀ t : Fin grid0.N, _)
theorem wi7 : ∀ t : Fin cfg0.N, win0_7.index t = ![0, 0] := (by decide +kernel : ∀ t : Fin grid0.N, _)
theorem wi8 : ∀ t : Fin cfg0.N, win0_8.index t = ![0, t.val] := (by decide +kernel : ∀ t : Fin grid0.N, _)
theorem wi9 : ∀ t : Fin cfg0.N, win0_9.index t = ![0, t.val] := (by decide +kernel : ∀ t : Fin grid0.N, _)

theorem N_val : cfg0.N = 32 := by decide +kernel

variable (m : (ℓ : Loc nD τ Cert.Kernel3Ideal.sig) → Buf (Elt Ideal) ℓ)

theorem blk0 (c : Dev nD) (t : Fin cfg0.N) (r : Fin 512) (k : Fin 1024) (R : Fin 16384) (hR : R.val = t.val * 512 + r.val) :
    iblk m c 0 t (ix2 r k) = V m c main_v0 (ix2 R k) := by
  blk_simp [iblk]
  refine congrArg (V m c main_v0) ?_
  funext a
  apply Fin.ext
  blk_simp [wi0]
  match a with
  | ⟨0, _⟩ => exact hR.symm
  | ⟨1, _⟩ => show 0 * 1024 + k.val = k.val; omega

theorem blk1 (c : Dev nD) (t : Fin cfg0.N) (r : Fin 512) (k : Fin 512) (R : Fin 16384) (hR : R.val = t.val * 512 + r.val) :
    iblk m c 1 t (ix2 r k) = V m c main_arg1 (ix2 R k) := by
  blk_simp [iblk]
  refine congrArg (V m c main_arg1) ?_
  funext a
  apply Fin.ext
  blk_simp [wi1]
  match a with
  | ⟨0, _⟩ => exact hR.symm
  | ⟨1, _⟩ => show 0 * 512 + k.val = k.val; omega

theorem blk2 (c : Dev nD) (t : Fin cfg0.N) (r : Fin 512) (k : Fin 1024) (R : Fin 16384) (hR : R.val = t.val * 512 + r.val) :
    iblk m c 2 t (ix2 r k) = V m c main_arg2 (ix2 R k) := by
  blk_simp [iblk]
  refine congrArg (V m c main_arg2) ?_
  funext a
  apply Fin.ext
  blk_simp [wi2]
  match a with
  | ⟨0, _⟩ => exact hR.symm
  | ⟨1, _⟩ => show 0 * 1024 + k.val = k.val; omega

theorem blk3 (c : Dev nD) (t : Fin cfg0.N) (r : Fin 512) (k : Fin 1024) (R : Fin 16384) (hR : R.val = t.val * 512 + r.val) :
    iblk m c 3 t (ix2 r k) = V m c main_arg3 (ix2 R k) := by
  blk_simp [iblk]
  refine congrArg (V m c main_arg3) ?_
  funext a
  apply Fin.ext
  blk_simp [wi3]
  match a with
  | ⟨0, _⟩ => exact hR.symm
  | ⟨1, _⟩ => show 0 * 1024 + k.val = k.val; omega

theorem blk4 (c : Dev nD) (t : Fin cfg0.N) (p : Fin 512) (q : Fin 1024) : iblk m c 4 t (ix2 p q) = V m c main_v2 (ix2 p q) := by
  blk_simp [iblk]
  refine congrArg (V m c main_v2) ?_
  funext a
  apply Fin.ext
  blk_simp [wi4]
  match a with
  | ⟨0, _⟩ => show 0 * 512 + p.val = p.val; omega
  | ⟨1, _⟩ => show 0 * 1024 + q.val = q.val; omega

theorem blk5 (c : Dev nD) (t : Fin cfg0.N) (p : Fin 1024) (q : Fin 1024) : iblk m c 5 t (ix2 p q) = V m c main_v4 (ix2 p q) := by
  blk_simp [iblk]
  refine congrArg (V m c main_v4) ?_
  funext a
  apply Fin.ext
  blk_simp [wi5]
  match a with
  | ⟨0, _⟩ => show 0 * 1024 + p.val = p.val; omega
  | ⟨1, _⟩ => show 0 * 1024 + q.val = q.val; omega

theorem blk6 (c : Dev nD) (t : Fin cfg0.N) (p : Fin 1) (q : Fin 1024) : iblk m c 6 t (ix2 p q) = V m c main_v6 (ix2 p q) := by
  blk_simp [iblk]
  refine congrArg (V m c main_v6) ?_
  funext a
  apply Fin.ext
  blk_simp [wi6]
  match a with
  | ⟨0, _⟩ => show 0 * 1 + p.val = p.val; omega
  | ⟨1, _⟩ => show 0 * 1024 + q.val = q.val; omega

theorem blk7 (c : Dev nD) (t : Fin cfg0.N) (p : Fin 1) (q : Fin 1024) : iblk m c 7 t (ix2 p q) = V m c main_v8 (ix2 p q) := by
  blk_simp [iblk]
  refine congrArg (V m c main_v8) ?_
  funext a
  apply Fin.ext
  blk_simp [wi7]
  match a with
  | ⟨0, _⟩ => show 0 * 1 + p.val = p.val; omega
  | ⟨1, _⟩ => show 0 * 1024 + q.val = q.val; omega

theorem V_x (c : Dev nD) (R : Fin 16384) (k : Fin 1024) : V m c main_v0 (ix2 R k) = m ((c : Thread nD τ).loc main_arg0) (ix3 0 R k) := by
  unfold_abbrev_sides
  after_reads_simp
  pointwise

theorem V_u (c : Dev nD) (j : Fin 512) (k : Fin 1024) : V m c main_v2 (ix2 j k) = m ((c : Thread nD τ).loc main_arg4) (ix3 0 j k) := by
  unfold_abbrev_sides
  after_reads_simp
  pointwise

theorem V_w (c : Dev nD) (k n : Fin 1024) : V m c main_v4 (ix2 k n) = m ((c : Thread nD τ).loc main_arg5) (ix3 0 k n) := by
  unfold_abbrev_sides
  after_reads_simp
  pointwise

theorem V_g (c : Dev nD) (n : Fin 1024) : V m c main_v6 (ix2 0 n) = m ((c : Thread nD τ).loc main_arg6) (ix2 0 n) := by
  unfold_abbrev_sides
  after_reads_simp
  pointwise

theorem V_b (c : Dev nD) (n : Fin 1024) : V m c main_v8 (ix2 0 n) = m ((c : Thread nD τ).loc main_arg7) (ix2 0 n) := by
  unfold_abbrev_sides
  after_reads_simp
  pointwise

/-- The token of result position `R`: its number `n`. -/
def tok (c : Dev nD) (n : Fin 1024) (R : Fin 16384) : EReal :=
  lnorm (resid (fun k => m ((c : Thread nD τ).loc main_arg0) (ix3 0 R k)) (fun k => m ((c : Thread nD τ).loc main_arg2) (ix2 R k)) (fun k => m ((c : Thread nD τ).loc main_arg3) (ix2 R k)) (fun j => m ((c : Thread nD τ).loc main_arg1) (ix2 R j))
      (fun j k => m ((c : Thread nD τ).loc main_arg4) (ix3 0 j k)) (fun k n => m ((c : Thread nD τ).loc main_arg5) (ix3 0 k n)))
    (fun n => m ((c : Thread nD τ).loc main_arg6) (ix2 0 n)) (fun n => m ((c : Thread nD τ).loc main_arg7) (ix2 0 n)) n

theorem out_tok (c : Dev nD) (t : Fin cfg0.N) (r : Fin 512) (n : Fin 1024) (R : Fin 16384) (hR : R.val = t.val * 512 + r.val) :
    out0_8 (F := Ideal) (iblk m c 0 t) (iblk m c 1 t) (iblk m c 2 t) (iblk m c 3 t) (iblk m c 4 t) (iblk m c 5 t) (iblk m c 6 t) (iblk m c 7 t) (ix2 n r) = tok m c n R := by
  rw [out8]
  unfold tok
  have e0 : (fun k => iblk m c 0 t (ix2 r k)) = fun k => m ((c : Thread nD τ).loc main_arg0) (ix3 0 R k) := funext fun k => by rw [blk0 m c t r k R hR, V_x]
  have e1 : (fun j => iblk m c 1 t (ix2 r j)) = fun j => m ((c : Thread nD τ).loc main_arg1) (ix2 R j) := funext fun k => by rw [blk1 m c t r k R hR, V_main_arg1]
  have e2 : (fun k => iblk m c 2 t (ix2 r k)) = fun k => m ((c : Thread nD τ).loc main_arg2) (ix2 R k) := funext fun k => by rw [blk2 m c t r k R hR, V_main_arg2]
  have e3 : (fun k => iblk m c 3 t (ix2 r k)) = fun k => m ((c : Thread nD τ).loc main_arg3) (ix2 R k) := funext fun k => by rw [blk3 m c t r k R hR, V_main_arg3]
  have e4 : (fun j k => iblk m c 4 t (ix2 j k)) = fun j k => m ((c : Thread nD τ).loc main_arg4) (ix3 0 j k) := funext fun j => funext fun k => by rw [blk4, V_u]
  have e5 : (fun k n => iblk m c 5 t (ix2 k n)) = fun k n => m ((c : Thread nD τ).loc main_arg5) (ix3 0 k n) := funext fun j => funext fun k => by rw [blk5, V_w]
  have e6 : (fun n => iblk m c 6 t (ix2 0 n)) = fun n => m ((c : Thread nD τ).loc main_arg6) (ix2 0 n) := funext fun k => by rw [blk6, V_g]
  have e7 : (fun n => iblk m c 7 t (ix2 0 n)) = fun n => m ((c : Thread nD τ).loc main_arg7) (ix2 0 n) := funext fun k => by rw [blk7, V_b]
  rw [e0, e1, e2, e3, e4, e5, e6, e7]

/-- Result 1 of the call. -/
def arr8 (c : Dev nD) : S1024x16384.Idx → EReal := fun i => tok m c (i 0) (i 1)

theorem final8 (c : Dev nD) : (dats m 0 c).arrAt 8 cfg0.N = arr8 m c := by
  refine (dats m 0 c).arrAt_eq_of_covers 8 _ (by decide +kernel) fun t hf y => ?_
  blk_simp
  rw [after0_8]
  obtain ⟨n, r, rfl⟩ : ∃ (a : Fin 1024) (b : Fin 512), y = ix2 a b := ⟨y 0, y 1, eq_ix2 y⟩
  have htt : t.val < 32 := lt_of_lt_of_eq t.isLt N_val
  have hr := r.isLt
  have ey : (win0_8.blk t).view.emb (ix2 n r) = ix2 n (⟨t.val * 512 + r.val, by omega⟩ : Fin 16384) := by
    funext a
    apply Fin.ext
    blk_simp [wi8]
    match a with
    | ⟨0, _⟩ => show 0 * 1024 + n.val = n.val; omega
    | ⟨1, _⟩ => rfl
  rw [ey]
  exact out_tok m c t r n ⟨t.val * 512 + r.val, by omega⟩ rfl

/-- Result 2 of the call. -/
def arr9 (c : Dev nD) : S1024x16384.Idx → EReal := fun i => tok m c (i 0) (i 1)

theorem final9 (c : Dev nD) : (dats m 0 c).arrAt 9 cfg0.N = arr9 m c := by
  refine (dats m 0 c).arrAt_eq_of_covers 9 _ (by decide +kernel) fun t hf y => ?_
  blk_simp
  rw [after0_9]
  obtain ⟨n, r, rfl⟩ : ∃ (a : Fin 1024) (b : Fin 512), y = ix2 a b := ⟨y 0, y 1, eq_ix2 y⟩
  have htt : t.val < 32 := lt_of_lt_of_eq t.isLt N_val
  have hr := r.isLt
  have ey : (win0_9.blk t).view.emb (ix2 n r) = ix2 n (⟨t.val * 512 + r.val, by omega⟩ : Fin 16384) := by
    funext a
    apply Fin.ext
    blk_simp [wi9]
    match a with
    | ⟨0, _⟩ => show 0 * 1024 + n.val = n.val; omega
    | ⟨1, _⟩ => rfl
  rw [ey]
  exact (out9 _ _ _ _ _ _ _ _ r n).trans (out_tok m c t r n ⟨t.val * 512 + r.val, by omega⟩ rfl)

end Cert.Kernel3Ideal.Body

end
-- ==== Proof.MixRef.lean ====
/- The merge's reference, element by element. -/
module

public import proofs.«01_k».proof.Proof.MixSpec
public import proofs.«01_k».proof.Proof.Gen.Reference3Ideal.Run
public import Idealize.ShloMosaic.Lib.Pointwise
public import Idealize.ShloMosaic.Lib.Tactic.CleanTypes
public import Idealize.ShloMosaic.PureOps.Ideal.Laws

@[expose] public section

set_option maxRecDepth 16384

noncomputable section

namespace Cert.Reference3Ideal.Body

open Cert.Reference3Ideal hiding sig
open Cert.Reference3Ideal.Gen
open Idealize.ShloMosaic Idealize.ShloMosaic.TcCoe Idealize.ShloMosaic.Tactic
open Cert.MixSpec

/-- The merged branches. -/
def mrgA (y : FVec Ideal S16384x512 .bf16) (G P : FVec Ideal S16384x1024 .f32) (u : FVec Ideal S1x512x1024 .f32) : FVec Ideal S16384x1024 .f32 :=
  addf (mulf G (Host.dotGeneral (F := Ideal) (φ₁ := .f32) (φ₂ := .f32) dot_S16384x512_S512x1024_S16384x1024_1_0_0_1_n_n none (extf .f32 y bitsLt_bf16_f32) (shapeCast _ u shapeCasts_S1x512x1024_S512x1024))) P

theorem mrgA_apply (y : FVec Ideal S16384x512 .bf16) (G P : FVec Ideal S16384x1024 .f32) (u : FVec Ideal S1x512x1024 .f32) (R : Fin 16384) (k : Fin 1024) :
    mrgA y G P u (ix2 R k) = merged (fun k => G (ix2 R k)) (fun k => P (ix2 R k)) (fun j => y (ix2 R j)) (fun j k => u (ix3 0 j k)) k := by
  unfold mrgA merged
  pointwise

/-- The residual. -/
def resA (M : FVec Ideal S16384x1024 .f32) (x : FVec Ideal S1x16384x1024 .f32) (w : FVec Ideal S1x1024x1024 .f32) : FVec Ideal S16384x1024 .f32 :=
  (addf (mulf (broadcastInDim S16384x1024 ![] bcast_S_S16384x1024 (constant (F := Ideal) S_ .f32 0x3F9837F0#32)) (shapeCast _ x shapeCasts_S1x16384x1024_S16384x1024)) (Host.dotGeneral (F := Ideal) (φ₁ := .f32) (φ₂ := .f32) dot_S16384x1024_S1024x1024_S16384x1024_1_0_0_1_n_n none M (shapeCast _ w shapeCasts_S1x1024x1024_S1024x1024)))

theorem resA_apply (M : FVec Ideal S16384x1024 .f32) (x : FVec Ideal S1x16384x1024 .f32) (w : FVec Ideal S1x1024x1024 .f32) (R : Fin 16384) (n : Fin 1024) :
    resA M x w (ix2 R n) = Ideal.ofBits FTy.f32 0x3F9837F0#32 * x (ix3 0 R n) + ∑ k : Fin 1024, M (ix2 R k) * w (ix3 0 k n) := by
  unfold resA
  pointwise

/-- Every row's mean. -/
def avgA (G : FVec Ideal S16384x1024 .f32) : FVec Ideal S16384x1 .f32 :=
  Host.divf (broadcastInDim S16384x1 ![0] bcast_S16384_S16384x1_0 (Host.reduceAdd G (constant (F := Ideal) S_ .f32 0x00000000#32) reducesTo_S16384x1024_S16384_d1 h_S_)) (broadcastInDim S16384x1 ![] bcast_S_S16384x1 (constant (F := Ideal) S_ .f32 0x44800000#32))

theorem avgA_apply (G : FVec Ideal S16384x1024 .f32) (R : Fin 16384) : avgA G (ix2 R 0) = avg (fun j => G (ix2 R j)) := by
  unfold avgA avg
  pointwise

/-- Every row without its mean. -/
def devA (G : FVec Ideal S16384x1024 .f32) : FVec Ideal S16384x1024 .f32 :=
  subf G (broadcastInDim S16384x1024 ![0, 1] bcast_S16384x1_S16384x1024_0_1 (avgA G))

theorem devA_apply (G : FVec Ideal S16384x1024 .f32) (R : Fin 16384) (n : Fin 1024) : devA G (ix2 R n) = G (ix2 R n) - avg (fun j => G (ix2 R j)) := by
  unfold devA
  pointwise [avgA_apply]

/-- Every row's reciprocal of the standard deviation. -/
def rdevA (G : FVec Ideal S16384x1024 .f32) : FVec Ideal S16384x1 .f32 :=
  Host.rsqrt (addf (avgA (mulf (devA G) (devA G))) (broadcastInDim S16384x1 ![] bcast_S_S16384x1 (constant (F := Ideal) S_ .f32 0x3727C5AC#32)))

theorem rdevA_apply (G : FVec Ideal S16384x1024 .f32) (R : Fin 16384) : rdevA G (ix2 R 0) = rdev (fun j => G (ix2 R j)) := by
  unfold rdevA rdev
  pointwise [avgA_apply, devA_apply]

/-- The normalized residual, features first. -/
def nrmA (G : FVec Ideal S16384x1024 .f32) (g b : FVec Ideal S1x1024 .f32) : FVec Ideal S1024x16384 .f32 :=
  transpose S1024x16384 [1, 0] (addf (mulf (mulf (devA G) (broadcastInDim S16384x1024 ![0, 1] bcast_S16384x1_S16384x1024_0_1 (rdevA G)))
    (broadcastInDim S16384x1024 ![0, 1] bcast_S1x1024_S16384x1024_0_1 (broadcastInDim S1x1024 ![1] bcast_S1024_S1x1024_1 (shapeCast _ g shapeCasts_S1x1024_S1024))))
    (broadcastInDim S16384x1024 ![0, 1] bcast_S1x1024_S16384x1024_0_1 (broadcastInDim S1x1024 ![1] bcast_S1024_S1x1024_1 (shapeCast _ b shapeCasts_S1x1024_S1024)))) transposes_S16384x1024_S1024x16384_1_0

theorem nrmA_apply (G : FVec Ideal S16384x1024 .f32) (g b : FVec Ideal S1x1024 .f32) (R : Fin 16384) (n : Fin 1024) :
    nrmA G g b (ix2 n R) = lnorm (fun j => G (ix2 R j)) (fun j => g (ix2 0 j)) (fun j => b (ix2 0 j)) n := by
  unfold nrmA lnorm
  pointwise [devA_apply, rdevA_apply]

/-- The first result. -/
def outA (x : FVec Ideal S1x16384x1024 .f32) (y : FVec Ideal S16384x512 .bf16) (G P : FVec Ideal S16384x1024 .f32) (u : FVec Ideal S1x512x1024 .f32)
    (w : FVec Ideal S1x1024x1024 .f32) (g b : FVec Ideal S1x1024 .f32) : FVec Ideal S1024x16384 .f32 := nrmA (resA (mrgA y G P u) x w) g b

theorem outA_apply (x : FVec Ideal S1x16384x1024 .f32) (y : FVec Ideal S16384x512 .bf16) (G P : FVec Ideal S16384x1024 .f32) (u : FVec Ideal S1x512x1024 .f32)
    (w : FVec Ideal S1x1024x1024 .f32) (g b : FVec Ideal S1x1024 .f32) (R : Fin 16384) (n : Fin 1024) :
    outA x y G P u w g b (ix2 n R)
      = lnorm (resid (fun k => x (ix3 0 R k)) (fun k => G (ix2 R k)) (fun k => P (ix2 R k)) (fun j => y (ix2 R j)) (fun j k => u (ix3 0 j k)) (fun k n => w (ix3 0 k n)))
          (fun n => g (ix2 0 n)) (fun n => b (ix2 0 n)) n := by
  unfold outA
  rw [nrmA_apply]
  refine congrArg (fun f => lnorm f _ _ n) (funext fun j => ?_)
  rw [resA_apply]
  unfold resid
  refine congrArg₂ (· + ·) rfl (Finset.sum_congr rfl fun k _ => ?_)
  rw [mrgA_apply]

/-- The second result: the same, narrowed. -/
def outA' (x : FVec Ideal S1x16384x1024 .f32) (y : FVec Ideal S16384x512 .bf16) (G P : FVec Ideal S16384x1024 .f32) (u : FVec Ideal S1x512x1024 .f32)
    (w : FVec Ideal S1x1024x1024 .f32) (g b : FVec Ideal S1x1024 .f32) : FVec Ideal S1024x16384 .bf16 := truncf (F := Ideal) .bf16 (outA x y G P u w g b) bitsLt_bf16_f32

theorem outA'_apply (x : FVec Ideal S1x16384x1024 .f32) (y : FVec Ideal S16384x512 .bf16) (G P : FVec Ideal S16384x1024 .f32) (u : FVec Ideal S1x512x1024 .f32)
    (w : FVec Ideal S1x1024x1024 .f32) (g b : FVec Ideal S1x1024 .f32) (R : Fin 16384) (n : Fin 1024) :
    outA' x y G P u w g b (ix2 n R) = outA x y G P u w g b (ix2 n R) := by
  unfold outA'
  pointwise

theorem res35_eq (m : (ℓ : Loc nD τ Cert.Reference3Ideal.sig) → Buf (Elt Ideal) ℓ) (c : Dev nD) :
    Cert.Reference3Ideal.Value.res_main_v35 (F := Ideal) m c
      = outA (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := rfl

theorem res36_eq (m : (ℓ : Loc nD τ Cert.Reference3Ideal.sig) → Buf (Elt Ideal) ℓ) (c : Dev nD) :
    Cert.Reference3Ideal.Value.res_main_v36 (F := Ideal) m c
      = outA' (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := rfl

end Cert.Reference3Ideal.Body

end
-- ==== Proof.MixValue.lean ====
/- The merge's value: what the kernel writes is what the reference returns. -/
module

public import proofs.«01_k».proof.Defs
public import proofs.«01_k».proof.Proof.MixArr
public import proofs.«01_k».proof.Proof.MixRef

@[expose] public section

set_option maxRecDepth 16384

noncomputable section

namespace Cert.MixValue

open Idealize.ShloMosaic Idealize.ShloMosaic.TcCoe Idealize.ShloMosaic.Tactic

section Kernel
open Cert.Kernel3Ideal Cert.Kernel3Ideal.Gen Cert.Kernel3Ideal.Body

set_option maxHeartbeats 2000000 in
/-- What the kernel's run ends with. -/
theorem kernel_run (m : (ℓ : Loc nD τ Cert.Kernel3Ideal.sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v9_0) = arr8 m c
      ∧ r.2.mem ((c.tc : Thread nD τ).loc main_v9_1) = arr9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (Cert.Kernel3Ideal.Value.run_blocks (F := Ideal) m g)
  obtain ⟨a, b, rest⟩ := h c
  exact ⟨a.trans (final8 m c), b.trans (final9 m c), rest⟩

end Kernel

section Reference
open Cert.Reference3Ideal Cert.Reference3Ideal.Gen Cert.Reference3Ideal.Body

set_option maxHeartbeats 2000000 in
/-- What the reference's run ends with. -/
theorem reference_run (m : (ℓ : Loc nD τ Cert.Reference3Ideal.sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v35) = outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v36) = outA' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (Cert.Reference3Ideal.Value.run (F := Ideal) m g)
  obtain ⟨a, b, rest⟩ := h c
  exact ⟨a.trans (res35_eq m c), b.trans (res36_eq m c), rest⟩

end Reference

open Cert.Kernel3Ideal Cert.Kernel3Ideal.Gen Cert.Kernel3Ideal.Body
open Cert.Reference3Ideal.Body (outA outA' outA_apply outA'_apply)

section Equal
variable (m : (ℓ : Loc nD τ Cert.Kernel3Ideal.sig) → Buf (Elt Ideal) ℓ) (c : Dev nD)

theorem eq1 : outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = arr8 m c := by
  funext j
  obtain ⟨n, R, rfl⟩ : ∃ (a : Fin 1024) (b : Fin 16384), j = ix2 a b := ⟨j 0, j 1, eq_ix2 j⟩
  exact outA_apply _ _ _ _ _ _ _ _ R n

theorem eq2 : outA' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = arr9 m c := by
  funext j
  obtain ⟨n, R, rfl⟩ : ∃ (a : Fin 1024) (b : Fin 16384), j = ix2 a b := ⟨j 0, j 1, eq_ix2 j⟩
  exact (outA'_apply _ _ _ _ _ _ _ _ R n).trans (outA_apply _ _ _ _ _ _ _ _ R n)

end Equal

attribute [local instance] Cert.Kernel3Ideal.Gen.facts Cert.Reference3Ideal.Gen.facts

set_option maxHeartbeats 2000000 in
/-- The value claim. -/
theorem value : Cert.algebraic_Kernel3Ideal_Reference3Ideal := by
  intro m g m' g' _ hagree
  refine ⟨fun c => arr8 m c, fun c => arr9 m c, kernel_run m g, ?_⟩
  refine (θ_run Cert.Reference3Ideal.defs _ _).mono (fun r h c => ?_) (reference_run m' g')
  obtain ⟨a, b, rest⟩ := h c
  obtain ⟨e0, e1, e2, e3, e4, e5, e6, e7⟩ := hagree c
  rw [e0, e1, e2, e3, e4, e5, e6, e7] at a b
  exact ⟨a.trans (eq1 m c), b.trans (eq2 m c), rest⟩

end Cert.MixValue

end
-- ==== Proof.RtSame.lean ====
/- The frame of the routing's kernel at bit patterns, from the idealized kernel's run: the two programs have the same text. -/
module

public import proofs.«01_k».proof.Defs
public import proofs.«01_k».proof.Proof.Gen.Kernel4
public import proofs.«01_k».proof.Proof.Gen.Kernel4Ideal.Frame
public import Idealize.ShloMosaic.Lib.Pipeline.Regions

@[expose] public section

set_option maxRecDepth 65536

noncomputable section

namespace Cert.Proof

open Idealize.ShloMosaic Idealize.SL.Sem

attribute [local instance] Cert.Kernel4.Gen.facts Cert.Kernel4Ideal.Gen.facts

/-- The two bodies are one. -/
theorem body4_same : @Cert.Kernel4.cc0_route Bits _ _ = @Cert.Kernel4Ideal.cc0_route Bits _ _ := by chain_rfl

set_option maxHeartbeats 2000000 in
set_option backward.isDefEq.respectTransparency false in
theorem table4_same : @Cert.Kernel4.defs₀ Bits _ _ = @Cert.Kernel4Ideal.defs₀ Bits _ _ := by
  refine congrArg Defs.onTc (funext fun l => ?_)
  match l with
  | 0 => funext a; exact congrFun (congrFun (congrFun (congrFun (congrFun (congrFun (congrFun (congrFun (congrFun (congrFun (congrFun (congrFun (congrFun (congrFun (congrFun (congrFun (congrFun (congrFun (congrFun (congrFun (congrFun body4_same _) _) _) _) _) _) _) _) _) _) _) _) _) _) _) _) _) _) _) _) _

set_option maxHeartbeats 2000000 in
set_option backward.isDefEq.respectTransparency false in
theorem defs4_same : @Cert.Kernel4.defs Bits _ _ = @Cert.Kernel4Ideal.defs Bits _ _ :=
  congrArg (Pipeline.defs (Cert.Kernel4Ideal.pcfgs (F := Bits))) table4_same

set_option maxHeartbeats 2000000 in
set_option backward.isDefEq.respectTransparency false in
/-- The kernel's frame. -/
theorem frame_kernel4 : Cert.quiescent_Kernel4 (hKernel4 := Cert.Kernel4.Gen.facts) := by
  intro m ρ _
  rw [defs4_same]
  exact (θ_run Cert.Kernel4Ideal.defs _ _).mono (fun _ h => h) (Cert.Kernel4Ideal.Gen.frame (F := Bits) m ρ)

end Cert.Proof

end
-- ==== Proof.RtSpec.lean ====
/- The scores of the routing's keys, as numbers. -/
module

public import Idealize.ShloMosaic.PureOps.Ideal.Laws

@[expose] public section

noncomputable section

namespace Cert.RtSpec

open Idealize.ShloMosaic

/-- The row of the query weights that gives number `d` of the second half of head `h`'s query. -/
def row (h : Fin 8) (d : Fin 128) : Fin 2048 := ⟨256 * h.val + 128 + d.val, by have := h.isLt; have := d.isLt; omega⟩

/-- The row of the query weights that gives number `d` of the first half of head `h`'s query. -/
def row1 (h : Fin 8) (d : Fin 128) : Fin 2048 := ⟨256 * h.val + d.val, by have := h.isLt; have := d.isLt; omega⟩

/-- The score of key `n`: the key times the token's numbers that rows `q` of the query weights give. -/
def dots (X : Fin 1024 → EReal) (W : Fin 2048 → Fin 1024 → EReal) (K : Fin 128 → Fin 128 → EReal) (q : Fin 128 → Fin 2048) (n : Fin 128) : EReal :=
  ∑ d : Fin 128, K n d * ∑ j : Fin 1024, W (q d) j * X j

/-- A token's score of key `n` for head `h`: the key times the second half of the head's query. -/
def score (X : Fin 1024 → EReal) (W : Fin 2048 → Fin 1024 → EReal) (K : Fin 128 → Fin 128 → EReal) (h : Fin 8) (n : Fin 128) : EReal :=
  dots X W K (row h) n

/-- A token's score of first key `n` for head `h`: the key times the first half of the head's query. -/
def score1 (X : Fin 1024 → EReal) (W : Fin 2048 → Fin 1024 → EReal) (K : Fin 128 → Fin 128 → EReal) (h : Fin 8) (n : Fin 128) : EReal :=
  dots X W K (row1 h) n

/-- The head of a row of a slab. -/
def hd {n : Nat} (p : Fin n) : Fin 8 := ⟨p.val % 8, Nat.mod_lt _ (by omega)⟩

/-- The key of a row of a slab. -/
def kn (p : Fin 1024) : Fin 128 := ⟨p.val / 8, by have := p.isLt; omega⟩

/-- The token of a slab's lane. -/
def tk (a l : Fin 128) : Fin 16384 := ⟨128 * a.val + l.val, by have := a.isLt; have := l.isLt; omega⟩

end Cert.RtSpec

end
-- ==== Proof.RtHead.lean ====
/- The routing's kernel: one head's scores of the second keys, over the blocks a grid step reads. -/
module

public import proofs.«01_k».proof.Proof.RtSpec
public import proofs.«01_k».proof.Proof.Gen.Kernel4Ideal
public import Idealize.ShloMosaic.Lib.Pointwise
public import Idealize.ShloMosaic.Lib.Tactic.CleanTypes
public import Idealize.ShloMosaic.PureOps.Ideal.Laws

@[expose] public section

set_option maxRecDepth 16384

noncomputable section

namespace Cert.Kernel4Ideal.Body

open Cert.Kernel4Ideal hiding sig
open Cert.Kernel4Ideal.Gen
open Idealize.ShloMosaic Idealize.ShloMosaic.TcCoe Idealize.ShloMosaic.Tactic
open Cert.RtSpec

/-- The queries of a block of tokens. -/
def qB (w : FVec Ideal S2048x1024 .bf16) (x : FVec Ideal S1024x512 .bf16) : FVec Ideal S2048x512 .bf16 :=
  truncf .bf16 (matmul (F := Ideal) dot_S2048x1024_S1024x512_S2048x512_1_0_0_1_n_n none w x (constant (F := Ideal) S2048x512 .f32 0x00000000#32)) bitsLt_bf16_f32

theorem qB_apply (w : FVec Ideal S2048x1024 .bf16) (x : FVec Ideal S1024x512 .bf16) (q : Fin 2048) (t : Fin 512) :
    qB w x (ix2 q t) = ∑ j : Fin 1024, w (ix2 q j) * x (ix2 j t) := by
  unfold qB
  pointwise

/-- The scores of the second keys, the head's query starting at row `o` less the first half. -/
def headB (o : Nat) (hs : S2048x512.Slices ![o, 0] S128x512) (w : FVec Ideal S2048x1024 .bf16) (x : FVec Ideal S1024x512 .bf16) (k : FVec Ideal S128x128 .bf16) : FVec Ideal S1x128x512 .f32 :=
  shapeCast S1x128x512 (matmul (F := Ideal) dot_S128x128_S128x512_S128x512_1_0_0_1_n_n none (shapeCast S128x128 k shapeCasts_S128x128_S128x128)
    (extractStridedSlice S128x512 ![o, 0] (qB w x) hs) (constant (F := Ideal) S128x512 .f32 0x00000000#32)) shapeCasts_S128x512_S1x128x512

theorem headB_apply (o : Nat) (hs : S2048x512.Slices ![o, 0] S128x512) (w : FVec Ideal S2048x1024 .bf16) (x : FVec Ideal S1024x512 .bf16) (k : FVec Ideal S128x128 .bf16)
    (h : Fin 8) (ho : o = 256 * h.val + 128) (n : Fin 128) (t : Fin 512) :
    headB o hs w x k (ix3 0 n t) = score (fun j => x (ix2 j t)) (fun q j => w (ix2 q j)) (fun n d => k (ix2 n d)) h n := by
  have e : headB o hs w x k (ix3 0 n t) = ∑ d : Fin 128, k (ix2 n d) * extractStridedSlice S128x512 ![o, 0] (qB w x) hs (ix2 d t) := by
    unfold headB
    pointwise
  rw [e]
  unfold score dots
  refine Finset.sum_congr rfl fun d _ => ?_
  refine congrArg (k (ix2 n d) * ·) ?_
  rw [← qB_apply w x (row h d) t]
  refine congrArg (qB w x) ?_
  funext a
  apply Fin.ext
  subst ho
  match a with
  | ⟨0, _⟩ => rfl
  | ⟨1, _⟩ => show 0 + t.val = t.val; omega

/-- The scores of a block of tokens, the part of the query starting at row `o`. -/
def scoresB (o : Nat) (hs : S2048x512.Slices ![o, 0] S128x512) (w : FVec Ideal S2048x1024 .bf16) (x : FVec Ideal S1024x512 .bf16) (k : FVec Ideal S128x128 .bf16) : FVec Ideal S128x512 .f32 :=
  matmul (F := Ideal) dot_S128x128_S128x512_S128x512_1_0_0_1_n_n none (shapeCast S128x128 k shapeCasts_S128x128_S128x128)
    (extractStridedSlice S128x512 ![o, 0] (qB w x) hs) (constant (F := Ideal) S128x512 .f32 0x00000000#32)

theorem scoresB_apply (o : Nat) (hs : S2048x512.Slices ![o, 0] S128x512) (w : FVec Ideal S2048x1024 .bf16) (x : FVec Ideal S1024x512 .bf16) (k : FVec Ideal S128x128 .bf16)
    (q : Fin 128 → Fin 2048) (ho : ∀ d, (q d).val = o + d.val) (n : Fin 128) (t : Fin 512) :
    scoresB o hs w x k (ix2 n t) = dots (fun j => x (ix2 j t)) (fun q j => w (ix2 q j)) (fun n d => k (ix2 n d)) q n := by
  have e : scoresB o hs w x k (ix2 n t) = ∑ d : Fin 128, k (ix2 n d) * extractStridedSlice S128x512 ![o, 0] (qB w x) hs (ix2 d t) := by
    unfold scoresB
    pointwise
  rw [e]
  unfold dots
  refine Finset.sum_congr rfl fun d _ => ?_
  refine congrArg (k (ix2 n d) * ·) ?_
  rw [← qB_apply w x (q d) t]
  refine congrArg (qB w x) ?_
  funext a
  apply Fin.ext
  match a with
  | ⟨0, _⟩ => exact (ho d).symm
  | ⟨1, _⟩ => show 0 + t.val = t.val; omega

/-- A slab of 128 of the block's tokens, starting at token `l`. -/
def slabB (o l : Nat) (hs : S2048x512.Slices ![o, 0] S128x512) (hl : S128x512.Slices ![0, l] S128x128) (w : FVec Ideal S2048x1024 .bf16) (x : FVec Ideal S1024x512 .bf16) (k : FVec Ideal S128x128 .bf16) : FVec Ideal S1x128x128 .f32 :=
  shapeCast S1x128x128 (extractStridedSlice S128x128 ![0, l] (scoresB o hs w x k) hl) shapeCasts_S128x128_S1x128x128

theorem slabB_apply (o l : Nat) (hs : S2048x512.Slices ![o, 0] S128x512) (hl : S128x512.Slices ![0, l] S128x128) (w : FVec Ideal S2048x1024 .bf16) (x : FVec Ideal S1024x512 .bf16) (k : FVec Ideal S128x128 .bf16)
    (q : Fin 128 → Fin 2048) (ho : ∀ d, (q d).val = o + d.val) (n : Fin 128) (t : Fin 128) (T : Fin 512) (hT : T.val = l + t.val) :
    slabB o l hs hl w x k (ix3 0 n t) = dots (fun j => x (ix2 j T)) (fun q j => w (ix2 q j)) (fun n d => k (ix2 n d)) q n := by
  have e : slabB o l hs hl w x k (ix3 0 n t) = extractStridedSlice S128x128 ![0, l] (scoresB o hs w x k) hl (ix2 n t) := by
    unfold slabB
    pointwise
  rw [e, ← scoresB_apply o hs w x k q ho n T]
  refine congrArg (scoresB o hs w x k) ?_
  funext a
  apply Fin.ext
  match a with
  | ⟨0, _⟩ => show 0 + n.val = n.val; omega
  | ⟨1, _⟩ => exact hT.symm

end Cert.Kernel4Ideal.Body

end
-- ==== Proof.RtBody.lean ====
/- The routing's kernel: the second keys' scores a grid step's body writes, over the blocks it reads. -/
module

public import proofs.«01_k».proof.Proof.RtHead
public import proofs.«01_k».proof.Proof.Gen.Kernel4Ideal.Value
public import Idealize.ShloMosaic.Lib.Pipeline.ValueKit

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Cert.RtSpec

/-- The load of the whole block of tokens. -/
abbrev w1 (arg1 : Memref sig .tc .vmem S1024x512 .bf16) (harg1 : arg1.IsWhole) (x0 : Vec Ideal S1024x512 .bf16) : FVec Ideal S1024x512 .bf16 :=
  View.readAt (Elt Ideal) arg1.view (Rect.unit (s := S1024x512) ![0, 0] S1024x512.size inb_S1024x512_S1024x512_0_0).toLoadRect (harg1.unread x0)

/-- The load of the whole query weights. -/
abbrev w2 (arg2 : Memref sig .tc .vmem S2048x1024 .bf16) (harg2 : arg2.IsWhole) (x1 : Vec Ideal S2048x1024 .bf16) : FVec Ideal S2048x1024 .bf16 :=
  View.readAt (Elt Ideal) arg2.view (Rect.unit (s := S2048x1024) ![0, 0] S2048x1024.size inb_S2048x1024_S2048x1024_0_0).toLoadRect (harg2.unread x1)

/-- The load of the whole second keys. -/
abbrev w4 (arg4 : Memref sig .tc .vmem S128x128 .bf16) (harg4 : arg4.IsWhole) (x3 : Vec Ideal S128x128 .bf16) : FVec Ideal S128x128 .bf16 :=
  View.readAt (Elt Ideal) arg4.view (Rect.unit (s := S128x128) ![0, 0] S128x128.size inb_S128x128_S128x128_0_0).toLoadRect (harg4.unread x3)

theorem w1_eq (arg1 : Memref sig .tc .vmem S1024x512 .bf16) (harg1 : arg1.IsWhole) (x0 : Vec Ideal S1024x512 .bf16) : w1 arg1 harg1 x0 = x0 := by
  unfold w1
  rw [View.readAt_eq_ld, harg1.read_unread]
  exact View.ld_unit_zero (by decide +kernel) _ x0

theorem w2_eq (arg2 : Memref sig .tc .vmem S2048x1024 .bf16) (harg2 : arg2.IsWhole) (x1 : Vec Ideal S2048x1024 .bf16) : w2 arg2 harg2 x1 = x1 := by
  unfold w2
  rw [View.readAt_eq_ld, harg2.read_unread]
  exact View.ld_unit_zero (by decide +kernel) _ x1

theorem w4_eq (arg4 : Memref sig .tc .vmem S128x128 .bf16) (harg4 : arg4.IsWhole) (x3 : Vec Ideal S128x128 .bf16) : w4 arg4 harg4 x3 = x3 := by
  unfold w4
  rw [View.readAt_eq_ld, harg4.read_unread]
  exact View.ld_unit_zero (by decide +kernel) _ x3

/-- The block's scores. -/
def blockScore (x0 : Vec Ideal S1024x512 .bf16) (x1 : Vec Ideal S2048x1024 .bf16) (x3 : Vec Ideal S128x128 .bf16) (y : S8x128x512.Idx) : EReal :=
  score (fun j => x0 (ix2 j (y 2))) (fun q j => x1 (ix2 q j)) (fun n d => x3 (ix2 n d)) (y 0) (y 1)

theorem piece_eq (h : Fin 8) (hb : ∀ a, (![h.val, 0, 0] : Fin 3 → Nat) a + S1x128x512.size a ≤ S8x128x512.size a) (o : Nat) (hs : S2048x512.Slices ![o, 0] S128x512)
    (ho : o = 256 * h.val + 128) (x0 : Vec Ideal S1024x512 .bf16) (x1 : Vec Ideal S2048x1024 .bf16) (x3 : Vec Ideal S128x128 .bf16)
    (x : (Rect.unit (s := S8x128x512) ![h.val, 0, 0] S1x128x512.size hb).shape.Idx) :
    headB o hs x1 x0 x3 x = blockScore x0 x1 x3 ((Rect.unit (s := S8x128x512) ![h.val, 0, 0] S1x128x512.size hb).emb x) := by
  obtain ⟨z, n, t, rfl⟩ : ∃ (z : Fin 1) (n : Fin 128) (t : Fin 512), x = ix3 z n t := ⟨x 0, x 1, x 2, eq_ix3 x⟩
  obtain rfl : z = 0 := Subsingleton.elim _ _
  have ey : (Rect.unit (s := S8x128x512) ![h.val, 0, 0] S1x128x512.size hb).emb (ix3 0 n t) = ix3 h n t := by
    funext a
    apply Fin.ext
    match a with
    | ⟨0, _⟩ => show h.val + 1 * 0 = h.val; omega
    | ⟨1, _⟩ => show 0 + 1 * n.val = n.val; omega
    | ⟨2, _⟩ => show 0 + 1 * t.val = t.val; omega
  rw [ey]
  exact headB_apply o hs x1 x0 x3 h ho n t

section run
variable (c : Dev nD) (i : grid0.Coords) (arg1 : Memref sig .tc .vmem S1024x512 .bf16) (harg1 : arg1.IsWhole) (arg2 : Memref sig .tc .vmem S2048x1024 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S4x1024x128 .f32) (harg5 : arg5.IsWhole) (arg6 : Memref sig .tc .vmem S4x1024x128 .f32) (harg6 : arg6.IsWhole) (arg7 : Memref sig .tc .vmem S4x128x128 .f32) (harg7 : arg7.IsWhole) (arg8 : Memref sig .tc .vmem S8x128x512 .f32) (harg8 : arg8.IsWhole) (arg9 : Memref sig .tc .vmem S4x1024x128 .f32) (harg9 : arg9.IsWhole) (arg10 : Memref sig .tc .vmem S4x1024x128 .f32) (harg10 : arg10.IsWhole)
  (x0 : Vec Ideal S1024x512 .bf16) (x1 : Vec Ideal S2048x1024 .bf16) (x2 x3 : Vec Ideal S128x128 .bf16)

set_option backward.isDefEq.respectTransparency false in
/-- What the run stores into the scores' block: one piece for each head. -/
theorem stores7 : (kernelRun0_A (F := Ideal) c i arg1 harg1 arg2 harg2 arg3 harg3 arg4 harg4 arg5 harg5 arg6 harg6 arg7 harg7 arg8 harg8 arg9 harg9 arg10 harg10 x0 x1 x2 x3).2.2.2.1 =
    ([⟨Rect.unit (s := S8x128x512) ![7, 0, 0] S1x128x512.size inb_S8x128x512_S1x128x512_7_0_0, headB 1920 slices_S2048x512_o1920_0_S128x512 (w2 arg2 harg2 x1) (w1 arg1 harg1 x0) (w4 arg4 harg4 x3)⟩,
      ⟨Rect.unit (s := S8x128x512) ![6, 0, 0] S1x128x512.size inb_S8x128x512_S1x128x512_6_0_0, headB 1664 slices_S2048x512_o1664_0_S128x512 (w2 arg2 harg2 x1) (w1 arg1 harg1 x0) (w4 arg4 harg4 x3)⟩,
      ⟨Rect.unit (s := S8x128x512) ![5, 0, 0] S1x128x512.size inb_S8x128x512_S1x128x512_5_0_0, headB 1408 slices_S2048x512_o1408_0_S128x512 (w2 arg2 harg2 x1) (w1 arg1 harg1 x0) (w4 arg4 harg4 x3)⟩,
      ⟨Rect.unit (s := S8x128x512) ![4, 0, 0] S1x128x512.size inb_S8x128x512_S1x128x512_4_0_0, headB 1152 slices_S2048x512_o1152_0_S128x512 (w2 arg2 harg2 x1) (w1 arg1 harg1 x0) (w4 arg4 harg4 x3)⟩,
      ⟨Rect.unit (s := S8x128x512) ![3, 0, 0] S1x128x512.size inb_S8x128x512_S1x128x512_3_0_0, headB 896 slices_S2048x512_o896_0_S128x512 (w2 arg2 harg2 x1) (w1 arg1 harg1 x0) (w4 arg4 harg4 x3)⟩,
      ⟨Rect.unit (s := S8x128x512) ![2, 0, 0] S1x128x512.size inb_S8x128x512_S1x128x512_2_0_0, headB 640 slices_S2048x512_o640_0_S128x512 (w2 arg2 harg2 x1) (w1 arg1 harg1 x0) (w4 arg4 harg4 x3)⟩,
      ⟨Rect.unit (s := S8x128x512) ![1, 0, 0] S1x128x512.size inb_S8x128x512_S1x128x512_1_0_0, headB 384 slices_S2048x512_o384_0_S128x512 (w2 arg2 harg2 x1) (w1 arg1 harg1 x0) (w4 arg4 harg4 x3)⟩,
      ⟨Rect.unit (s := S8x128x512) ![0, 0, 0] S1x128x512.size inb_S8x128x512_S1x128x512_0_0_0, headB 128 slices_S2048x512_o128_0_S128x512 (w2 arg2 harg2 x1) (w1 arg1 harg1 x0) (w4 arg4 harg4 x3)⟩] : List (View.Piece (Elt Ideal) S8x128x512 .f32)) := by
  chain_rfl

theorem out7 : out0_A_7 (F := Ideal) c i arg1 harg1 arg2 harg2 arg3 harg3 arg4 harg4 arg5 harg5 arg6 harg6 arg7 harg7 arg8 harg8 arg9 harg9 arg10 harg10 x0 x1 x2 x3 = blockScore x0 x1 x3 := by
  funext y
  unfold out0_A_7
  refine View.read_writes_apply_of_pieces _ _ (blockScore x0 x1 x3) _ ?_ y (cover0_A_7 c i arg1 harg1 arg2 harg2 arg3 harg3 arg4 harg4 arg5 harg5 arg6 harg6 arg7 harg7 arg8 harg8 arg9 harg9 arg10 harg10 x0 x1 x2 x3 y)
  rw [stores7, w1_eq, w2_eq, w4_eq]
  simp only [List.forall_mem_cons, List.not_mem_nil, false_imp_iff, implies_true, and_true]
  refine ⟨?_, ?_, ?_, ?_, ?_, ?_, ?_, ?_⟩
  · exact piece_eq 7 inb_S8x128x512_S1x128x512_7_0_0 1920 slices_S2048x512_o1920_0_S128x512 rfl x0 x1 x3
  · exact piece_eq 6 inb_S8x128x512_S1x128x512_6_0_0 1664 slices_S2048x512_o1664_0_S128x512 rfl x0 x1 x3
  · exact piece_eq 5 inb_S8x128x512_S1x128x512_5_0_0 1408 slices_S2048x512_o1408_0_S128x512 rfl x0 x1 x3
  · exact piece_eq 4 inb_S8x128x512_S1x128x512_4_0_0 1152 slices_S2048x512_o1152_0_S128x512 rfl x0 x1 x3
  · exact piece_eq 3 inb_S8x128x512_S1x128x512_3_0_0 896 slices_S2048x512_o896_0_S128x512 rfl x0 x1 x3
  · exact piece_eq 2 inb_S8x128x512_S1x128x512_2_0_0 640 slices_S2048x512_o640_0_S128x512 rfl x0 x1 x3
  · exact piece_eq 1 inb_S8x128x512_S1x128x512_1_0_0 384 slices_S2048x512_o384_0_S128x512 rfl x0 x1 x3
  · exact piece_eq 0 inb_S8x128x512_S1x128x512_0_0_0 128 slices_S2048x512_o128_0_S128x512 rfl x0 x1 x3

end run

end Cert.Kernel4Ideal.Body

end
-- ==== Proof.RtNet.lean ====
/- The routing's exchange network, over any values with a larger and a smaller of two. -/
module

public import Idealize.ShloMosaic.Lib.StableHlo.RunRead

@[expose] public section

namespace Cert.RtNet

variable {V : Type}

/-- One merge of `2 ^ n` values, larger first or smaller first. -/
def merge (hi lo : V → V → V) (down : Bool) : Nat → List V → List V
  | 0, xs => xs
  | n + 1, xs =>
    match down with
    | true => merge hi lo true n (List.zipWith hi (xs.take (2 ^ n)) (xs.drop (2 ^ n))) ++ merge hi lo true n (List.zipWith lo (xs.take (2 ^ n)) (xs.drop (2 ^ n)))
    | false => merge hi lo false n (List.zipWith lo (xs.drop (2 ^ n)) (xs.take (2 ^ n))) ++ merge hi lo false n (List.zipWith hi (xs.drop (2 ^ n)) (xs.take (2 ^ n)))

/-- The sort of `2 ^ n` values. -/
def sort (hi lo : V → V → V) (down : Bool) : Nat → List V → List V
  | 0, xs => xs
  | n + 1, xs => merge hi lo down (n + 1) (sort hi lo true n (xs.take (2 ^ n)) ++ sort hi lo false n (xs.drop (2 ^ n)))

/-- The top 16 of two sorted lists of 16. -/
def join (hi lo : V → V → V) (xs ys : List V) : List V := merge hi lo true 4 (List.zipWith hi xs ys.reverse)

/-- The groups of 16 sorted and joined one after the other to those before. -/
def joins (hi lo : V → V → V) : Nat → List V → List V → List V
  | 0, top, _ => top
  | n + 1, top, xs => joins hi lo n (join hi lo top (sort hi lo true 4 (xs.take 16))) (xs.drop 16)

/-- The top 16 of `16 * (n + 1)` values. -/
def top (hi lo : V → V → V) (n : Nat) (xs : List V) : List V := joins hi lo n (sort hi lo true 4 (xs.take 16)) (xs.drop 16)

/-- The places of the candidate sums. -/
def pairs : List (Nat × Nat) := [(0, 0), (0, 1), (0, 2), (0, 3), (0, 4), (0, 5), (0, 6), (0, 7), (0, 8), (0, 9), (0, 10), (0, 11), (0, 12), (0, 13), (0, 14), (0, 15), (1, 0), (1, 1), (1, 2), (1, 3), (1, 4), (1, 5), (1, 6), (1, 7), (2, 0), (2, 1), (2, 2), (2, 3), (2, 4), (3, 0), (3, 1), (3, 2), (3, 3), (4, 0), (4, 1), (4, 2), (5, 0), (5, 1), (6, 0), (6, 1), (7, 0), (7, 1), (8, 0), (9, 0), (10, 0), (11, 0), (12, 0), (13, 0), (14, 0), (15, 0)]

/-- The candidate sums, filled up to 64. -/
def cands (add : V → V → V) (z : V) (a b : List V) : List V :=
  pairs.map (fun p => add (a.getD p.1 z) (b.getD p.2 z)) ++ List.replicate 14 z

end Cert.RtNet
-- ==== Proof.RtTrip.lean ====
/- The routing's loop: what one trip stores, over the exchange network. -/
module

public import proofs.«01_k».proof.Proof.RtNet
public import proofs.«01_k».proof.Proof.Gen.Kernel4Ideal.Loops

@[expose] public section

set_option maxRecDepth 65536

noncomputable section

namespace Cert.Kernel4Ideal.Body

open Cert.Kernel4Ideal Cert.Kernel4Ideal.Gen
open Idealize.ShloMosaic Idealize.ShloMosaic.TcCoe Idealize.ShloMosaic.Tactic

variable {F : FTy → Type} [FloatOps F]

/-- Minus infinity everywhere. -/
abbrev low : FVec F S8x128 .f32 := broadcast S8x128 (Scalar.ofBits .f32 0xFF800000#32)

/-- Eight rows of a slab of a scratch array. -/
abbrev row (arg : Memref sig .tc .vmem S4x1024x128 .f32) (X : BufTy.Contents (Elt F) arg.view.ty) (o : Fin 3 → Nat) (h : ∀ a, o a + S1x8x128.size a ≤ S4x1024x128.size a) : FVec F S8x128 .f32 :=
  shapeCast S8x128 (View.readAt (Elt F) arg.view (Rect.unit (s := S4x1024x128) o S1x8x128.size h).toLoadRect X : FVec F S1x8x128 .f32) shapeCasts_S1x8x128_S8x128

/-- The rows of a slab of a scratch array, eight at a time: one for each key. -/
def rows (arg : Memref sig .tc .vmem S4x1024x128 .f32) (X : BufTy.Contents (Elt F) arg.view.ty) (k : Fin k0_t1_loop.trips) : List (FVec F S8x128 .f32) :=
  [row arg X (k0_off1 k) (k0_off1_inb k),
    row arg X (k0_off2 k) (k0_off2_inb k),
    row arg X (k0_off3 k) (k0_off3_inb k),
    row arg X (k0_off4 k) (k0_off4_inb k),
    row arg X (k0_off5 k) (k0_off5_inb k),
    row arg X (k0_off6 k) (k0_off6_inb k),
    row arg X (k0_off7 k) (k0_off7_inb k),
    row arg X (k0_off8 k) (k0_off8_inb k),
    row arg X (k0_off9 k) (k0_off9_inb k),
    row arg X (k0_off10 k) (k0_off10_inb k),
    row arg X (k0_off11 k) (k0_off11_inb k),
    row arg X (k0_off12 k) (k0_off12_inb k),
    row arg X (k0_off13 k) (k0_off13_inb k),
    row arg X (k0_off14 k) (k0_off14_inb k),
    row arg X (k0_off15 k) (k0_off15_inb k),
    row arg X (k0_off16 k) (k0_off16_inb k),
    row arg X (k0_off17 k) (k0_off17_inb k),
    row arg X (k0_off18 k) (k0_off18_inb k),
    row arg X (k0_off19 k) (k0_off19_inb k),
    row arg X (k0_off20 k) (k0_off20_inb k),
    row arg X (k0_off21 k) (k0_off21_inb k),
    row arg X (k0_off22 k) (k0_off22_inb k),
    row arg X (k0_off23 k) (k0_off23_inb k),
    row arg X (k0_off24 k) (k0_off24_inb k),
    row arg X (k0_off25 k) (k0_off25_inb k),
    row arg X (k0_off26 k) (k0_off26_inb k),
    row arg X (k0_off27 k) (k0_off27_inb k),
    row arg X (k0_off28 k) (k0_off28_inb k),
    row arg X (k0_off29 k) (k0_off29_inb k),
    row arg X (k0_off30 k) (k0_off30_inb k),
    row arg X (k0_off31 k) (k0_off31_inb k),
    row arg X (k0_off32 k) (k0_off32_inb k),
    row arg X (k0_off33 k) (k0_off33_inb k),
    row arg X (k0_off34 k) (k0_off34_inb k),
    row arg X (k0_off35 k) (k0_off35_inb k),
    row arg X (k0_off36 k) (k0_off36_inb k),
    row arg X (k0_off37 k) (k0_off37_inb k),
    row arg X (k0_off38 k) (k0_off38_inb k),
    row arg X (k0_off39 k) (k0_off39_inb k),
    row arg X (k0_off40 k) (k0_off40_inb k),
    row arg X (k0_off41 k) (k0_off41_inb k),
    row arg X (k0_off42 k) (k0_off42_inb k),
    row arg X (k0_off43 k) (k0_off43_inb k),
    row arg X (k0_off44 k) (k0_off44_inb k),
    row arg X (k0_off45 k) (k0_off45_inb k),
    row arg X (k0_off46 k) (k0_off46_inb k),
    row arg X (k0_off47 k) (k0_off47_inb k),
    row arg X (k0_off48 k) (k0_off48_inb k),
    row arg X (k0_off49 k) (k0_off49_inb k),
    row arg X (k0_off50 k) (k0_off50_inb k),
    row arg X (k0_off51 k) (k0_off51_inb k),
    row arg X (k0_off52 k) (k0_off52_inb k),
    row arg X (k0_off53 k) (k0_off53_inb k),
    row arg X (k0_off54 k) (k0_off54_inb k),
    row arg X (k0_off55 k) (k0_off55_inb k),
    row arg X (k0_off56 k) (k0_off56_inb k),
    row arg X (k0_off57 k) (k0_off57_inb k),
    row arg X (k0_off58 k) (k0_off58_inb k),
    row arg X (k0_off59 k) (k0_off59_inb k),
    row arg X (k0_off60 k) (k0_off60_inb k),
    row arg X (k0_off61 k) (k0_off61_inb k),
    row arg X (k0_off62 k) (k0_off62_inb k),
    row arg X (k0_off63 k) (k0_off63_inb k),
    row arg X (k0_off64 k) (k0_off64_inb k),
    row arg X (k0_off65 k) (k0_off65_inb k),
    row arg X (k0_off66 k) (k0_off66_inb k),
    row arg X (k0_off67 k) (k0_off67_inb k),
    row arg X (k0_off68 k) (k0_off68_inb k),
    row arg X (k0_off69 k) (k0_off69_inb k),
    row arg X (k0_off70 k) (k0_off70_inb k),
    row arg X (k0_off71 k) (k0_off71_inb k),
    row arg X (k0_off72 k) (k0_off72_inb k),
    row arg X (k0_off73 k) (k0_off73_inb k),
    row arg X (k0_off74 k) (k0_off74_inb k),
    row arg X (k0_off75 k) (k0_off75_inb k),
    row arg X (k0_off76 k) (k0_off76_inb k),
    row arg X (k0_off77 k) (k0_off77_inb k),
    row arg X (k0_off78 k) (k0_off78_inb k),
    row arg X (k0_off79 k) (k0_off79_inb k),
    row arg X (k0_off80 k) (k0_off80_inb k),
    row arg X (k0_off81 k) (k0_off81_inb k),
    row arg X (k0_off82 k) (k0_off82_inb k),
    row arg X (k0_off83 k) (k0_off83_inb k),
    row arg X (k0_off84 k) (k0_off84_inb k),
    row arg X (k0_off85 k) (k0_off85_inb k),
    row arg X (k0_off86 k) (k0_off86_inb k),
    row arg X (k0_off87 k) (k0_off87_inb k),
    row arg X (k0_off88 k) (k0_off88_inb k),
    row arg X (k0_off89 k) (k0_off89_inb k),
    row arg X (k0_off90 k) (k0_off90_inb k),
    row arg X (k0_off91 k) (k0_off91_inb k),
    row arg X (k0_off92 k) (k0_off92_inb k),
    row arg X (k0_off93 k) (k0_off93_inb k),
    row arg X (k0_off94 k) (k0_off94_inb k),
    row arg X (k0_off95 k) (k0_off95_inb k),
    row arg X (k0_off96 k) (k0_off96_inb k),
    row arg X (k0_off97 k) (k0_off97_inb k),
    row arg X (k0_off98 k) (k0_off98_inb k),
    row arg X (k0_off99 k) (k0_off99_inb k),
    row arg X (k0_off100 k) (k0_off100_inb k),
    row arg X (k0_off101 k) (k0_off101_inb k),
    row arg X (k0_off102 k) (k0_off102_inb k),
    row arg X (k0_off103 k) (k0_off103_inb k),
    row arg X (k0_off104 k) (k0_off104_inb k),
    row arg X (k0_off105 k) (k0_off105_inb k),
    row arg X (k0_off106 k) (k0_off106_inb k),
    row arg X (k0_off107 k) (k0_off107_inb k),
    row arg X (k0_off108 k) (k0_off108_inb k),
    row arg X (k0_off109 k) (k0_off109_inb k),
    row arg X (k0_off110 k) (k0_off110_inb k),
    row arg X (k0_off111 k) (k0_off111_inb k),
    row arg X (k0_off112 k) (k0_off112_inb k),
    row arg X (k0_off113 k) (k0_off113_inb k),
    row arg X (k0_off114 k) (k0_off114_inb k),
    row arg X (k0_off115 k) (k0_off115_inb k),
    row arg X (k0_off116 k) (k0_off116_inb k),
    row arg X (k0_off117 k) (k0_off117_inb k),
    row arg X (k0_off118 k) (k0_off118_inb k),
    row arg X (k0_off119 k) (k0_off119_inb k),
    row arg X (k0_off120 k) (k0_off120_inb k),
    row arg X (k0_off121 k) (k0_off121_inb k),
    row arg X (k0_off122 k) (k0_off122_inb k),
    row arg X (k0_off123 k) (k0_off123_inb k),
    row arg X (k0_off124 k) (k0_off124_inb k),
    row arg X (k0_off125 k) (k0_off125_inb k),
    row arg X (k0_off126 k) (k0_off126_inb k),
    row arg X (k0_off127 k) (k0_off127_inb k),
    row arg X (k0_off128 k) (k0_off128_inb k)]

/-- The top 16 of 128 rows. -/
def topRows (xs : List (FVec F S8x128 .f32)) : List (FVec F S8x128 .f32) := Cert.RtNet.top maximumf minimumf 7 xs

/-- The top 16 of the candidate sums. -/
def topSums (v1 v2 : List (FVec F S8x128 .f32)) : List (FVec F S8x128 .f32) := Cert.RtNet.top maximumf minimumf 3 (Cert.RtNet.cands addf low v1 v2)

/-- Half over the sum of the exponentials. -/
def halfInv (ts : List (FVec F S8x128 .f32)) : FVec F S8x128 .f32 :=
  divf (broadcast S8x128 (Scalar.ofBits .f32 0x3F000000#32)) ((ts.drop 1).foldl (fun s t => addf s (exp (subf t (ts.getD 0 low)))) (broadcast S8x128 (Scalar.ofBits .f32 0x3F800000#32)))

/-- The least of the first keys' top 16 that goes with one of the second keys'. -/
def need (v1 : List (FVec F S8x128 .f32)) (tau w : FVec F S8x128 .f32) : FVec F S8x128 .f32 :=
  v1.foldl (fun n v => select (cmpf .oge (addf v w) tau) v n) (broadcast S8x128 (Scalar.ofBits .f32 0x7F800000#32))

/-- A key's threshold. -/
def thrRow (v1 v2 : List (FVec F S8x128 .f32)) (tau s : FVec F S8x128 .f32) : FVec F S8x128 .f32 :=
  v2.foldl (fun n w => select (cmpf .oge s (need v1 tau w)) (exp (subf w (v2.getD 0 low))) n) (broadcast S8x128 (Scalar.ofBits .f32 0x40000000#32))

/-- A key's weight. -/
def c1Row (v1 v2 : List (FVec F S8x128 .f32)) (s : FVec F S8x128 .f32) : FVec F S8x128 .f32 :=
  mulf (exp (subf s (v1.getD 0 low))) (halfInv (topSums v1 v2))

set_option backward.isDefEq.respectTransparency false in
/-- What a trip stores of the second keys' top 16. -/
theorem trip6 (𝒱 : Variants) (c : Dev nD) (bd : Option 𝒱.V) (i : grid0.Coords) (arg1 : Memref sig .tc .vmem S1024x512 .bf16) (harg1 : arg1.IsWhole) (arg2 : Memref sig .tc .vmem S2048x1024 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S4x1024x128 .f32) (harg5 : arg5.IsWhole) (arg6 : Memref sig .tc .vmem S4x1024x128 .f32) (harg6 : arg6.IsWhole) (arg7 : Memref sig .tc .vmem S4x128x128 .f32) (harg7 : arg7.IsWhole) (arg8 : Memref sig .tc .vmem S8x128x512 .f32) (harg8 : arg8.IsWhole) (arg9 : Memref sig .tc .vmem S4x1024x128 .f32) (harg9 : arg9.IsWhole) (arg10 : Memref sig .tc .vmem S4x1024x128 .f32) (harg10 : arg10.IsWhole) (X_arg9 : BufTy.Contents (Elt F) arg9.view.ty) (X_arg10 : BufTy.Contents (Elt F) arg10.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 X_arg9 X_arg10 k).2.2 = ([⟨Rect.unit (s := S4x128x128) (k0_off144 k) S1x8x128.size (k0_off144_inb k), shapeCast S1x8x128 ((topRows (rows arg10 X_arg10 k)).getD 15 low) shapeCasts_S8x128_S1x8x128⟩,
      ⟨Rect.unit (s := S4x128x128) (k0_off143 k) S1x8x128.size (k0_off143_inb k), shapeCast S1x8x128 ((topRows (rows arg10 X_arg10 k)).getD 14 low) shapeCasts_S8x128_S1x8x128⟩,
      ⟨Rect.unit (s := S4x128x128) (k0_off142 k) S1x8x128.size (k0_off142_inb k), shapeCast S1x8x128 ((topRows (rows arg10 X_arg10 k)).getD 13 low) shapeCasts_S8x128_S1x8x128⟩,
      ⟨Rect.unit (s := S4x128x128) (k0_off141 k) S1x8x128.size (k0_off141_inb k), shapeCast S1x8x128 ((topRows (rows arg10 X_arg10 k)).getD 12 low) shapeCasts_S8x128_S1x8x128⟩,
      ⟨Rect.unit (s := S4x128x128) (k0_off140 k) S1x8x128.size (k0_off140_inb k), shapeCast S1x8x128 ((topRows (rows arg10 X_arg10 k)).getD 11 low) shapeCasts_S8x128_S1x8x128⟩,
      ⟨Rect.unit (s := S4x128x128) (k0_off139 k) S1x8x128.size (k0_off139_inb k), shapeCast S1x8x128 ((topRows (rows arg10 X_arg10 k)).getD 10 low) shapeCasts_S8x128_S1x8x128⟩,
      ⟨Rect.unit (s := S4x128x128) (k0_off138 k) S1x8x128.size (k0_off138_inb k), shapeCast S1x8x128 ((topRows (rows arg10 X_arg10 k)).getD 9 low) shapeCasts_S8x128_S1x8x128⟩,
      ⟨Rect.unit (s := S4x128x128) (k0_off137 k) S1x8x128.size (k0_off137_inb k), shapeCast S1x8x128 ((topRows (rows arg10 X_arg10 k)).getD 8 low) shapeCasts_S8x128_S1x8x128⟩,
      ⟨Rect.unit (s := S4x128x128) (k0_off136 k) S1x8x128.size (k0_off136_inb k), shapeCast S1x8x128 ((topRows (rows arg10 X_arg10 k)).getD 7 low) shapeCasts_S8x128_S1x8x128⟩,
      ⟨Rect.unit (s := S4x128x128) (k0_off135 k) S1x8x128.size (k0_off135_inb k), shapeCast S1x8x128 ((topRows (rows arg10 X_arg10 k)).getD 6 low) shapeCasts_S8x128_S1x8x128⟩,
      ⟨Rect.unit (s := S4x128x128) (k0_off134 k) S1x8x128.size (k0_off134_inb k), shapeCast S1x8x128 ((topRows (rows arg10 X_arg10 k)).getD 5 low) shapeCasts_S8x128_S1x8x128⟩,
      ⟨Rect.unit (s := S4x128x128) (k0_off133 k) S1x8x128.size (k0_off133_inb k), shapeCast S1x8x128 ((topRows (rows arg10 X_arg10 k)).getD 4 low) shapeCasts_S8x128_S1x8x128⟩,
      ⟨Rect.unit (s := S4x128x128) (k0_off132 k) S1x8x128.size (k0_off132_inb k), shapeCast S1x8x128 ((topRows (rows arg10 X_arg10 k)).getD 3 low) shapeCasts_S8x128_S1x8x128⟩,
      ⟨Rect.unit (s := S4x128x128) (k0_off131 k) S1x8x128.size (k0_off131_inb k), shapeCast S1x8x128 ((topRows (rows arg10 X_arg10 k)).getD 2 low) shapeCasts_S8x128_S1x8x128⟩,
      ⟨Rect.unit (s := S4x128x128) (k0_off130 k) S1x8x128.size (k0_off130_inb k), shapeCast S1x8x128 ((topRows (rows arg10 X_arg10 k)).getD 1 low) shapeCasts_S8x128_S1x8x128⟩,
      ⟨Rect.unit (s := S4x128x128) (k0_off129 k) S1x8x128.size (k0_off129_inb k), shapeCast S1x8x128 ((topRows (rows arg10 X_arg10 k)).getD 0 low) shapeCasts_S8x128_S1x8x128⟩] : List (View.Piece (Elt F) S4x128x128 .f32)) := by
  chain_rfl

set_option backward.isDefEq.respectTransparency false in
/-- What a trip stores of the first keys' weights. -/
theorem trip5 (𝒱 : Variants) (c : Dev nD) (bd : Option 𝒱.V) (i : grid0.Coords) (arg1 : Memref sig .tc .vmem S1024x512 .bf16) (harg1 : arg1.IsWhole) (arg2 : Memref sig .tc .vmem S2048x1024 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S4x1024x128 .f32) (harg5 : arg5.IsWhole) (arg6 : Memref sig .tc .vmem S4x1024x128 .f32) (harg6 : arg6.IsWhole) (arg7 : Memref sig .tc .vmem S4x128x128 .f32) (harg7 : arg7.IsWhole) (arg8 : Memref sig .tc .vmem S8x128x512 .f32) (harg8 : arg8.IsWhole) (arg9 : Memref sig .tc .vmem S4x1024x128 .f32) (harg9 : arg9.IsWhole) (arg10 : Memref sig .tc .vmem S4x1024x128 .f32) (harg10 : arg10.IsWhole) (X_arg9 : BufTy.Contents (Elt F) arg9.view.ty) (X_arg10 : BufTy.Contents (Elt F) arg10.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 X_arg9 X_arg10 k).2.1 = ([⟨Rect.unit (s := S4x1024x128) (k0_off128 k) S1x8x128.size (k0_off128_inb k), shapeCast S1x8x128 (c1Row (topRows (rows arg9 X_arg9 k)) (topRows (rows arg10 X_arg10 k)) (row arg9 X_arg9 (k0_off128 k) (k0_off128_inb k))) shapeCasts_S8x128_S1x8x128⟩,
      ⟨Rect.unit (s := S4x1024x128) (k0_off127 k) S1x8x128.size (k0_off127_inb k), shapeCast S1x8x128 (c1Row (topRows (rows arg9 X_arg9 k)) (topRows (rows arg10 X_arg10 k)) (row arg9 X_arg9 (k0_off127 k) (k0_off127_inb k))) shapeCasts_S8x128_S1x8x128⟩,
      ⟨Rect.unit (s := S4x1024x128) (k0_off126 k) S1x8x128.size (k0_off126_inb k), shapeCast S1x8x128 (c1Row (topRows (rows arg9 X_arg9 k)) (topRows (rows arg10 X_arg10 k)) (row arg9 X_arg9 (k0_off126 k) (k0_off126_inb k))) shapeCasts_S8x128_S1x8x128⟩,
      ⟨Rect.unit (s := S4x1024x128) (k0_off125 k) S1x8x128.size (k0_off125_inb k), shapeCast S1x8x128 (c1Row (topRows (rows arg9 X_arg9 k)) (topRows (rows arg10 X_arg10 k)) (row arg9 X_arg9 (k0_off125 k) (k0_off125_inb k))) shapeCasts_S8x128_S1x8x128⟩,
      ⟨Rect.unit (s := S4x1024x128) (k0_off124 k) S1x8x128.size (k0_off124_inb k), shapeCast S1x8x128 (c1Row (topRows (rows arg9 X_arg9 k)) (topRows (rows arg10 X_arg10 k)) (row arg9 X_arg9 (k0_off124 k) (k0_off124_inb k))) shapeCasts_S8x128_S1x8x128⟩,
      ⟨Rect.unit (s := S4x1024x128) (k0_off123 k) S1x8x128.size (k0_off123_inb k), shapeCast S1x8x128 (c1Row (topRows (rows arg9 X_arg9 k)) (topRows (rows arg10 X_arg10 k)) (row arg9 X_arg9 (k0_off123 k) (k0_off123_inb k))) shapeCasts_S8x128_S1x8x128⟩,
      ⟨Rect.unit (s := S4x1024x128) (k0_off122 k) S1x8x128.size (k0_off122_inb k), shapeCast S1x8x128 (c1Row (topRows (rows arg9 X_arg9 k)) (topRows (rows arg10 X_arg10 k)) (row arg9 X_arg9 (k0_off122 k) (k0_off122_inb k))) shapeCasts_S8x128_S1x8x128⟩,
      ⟨Rect.unit (s := S4x1024x128) (k0_off121 k) S1x8x128.size (k0_off121_inb k), shapeCast S1x8x128 (c1Row (topRows (rows arg9 X_arg9 k)) (topRows (rows arg10 X_arg10 k)) (row arg9 X_arg9 (k0_off121 k) (k0_off121_inb k))) shapeCasts_S8x128_S1x8x128⟩,
      ⟨Rect.unit (s := S4x1024x128) (k0_off120 k) S1x8x128.size (k0_off120_inb k), shapeCast S1x8x128 (c1Row (topRows (rows arg9 X_arg9 k)) (topRows (rows arg10 X_arg10 k)) (row arg9 X_arg9 (k0_off120 k) (k0_off120_inb k))) shapeCasts_S8x128_S1x8x128⟩,
      ⟨Rect.unit (s := S4x1024x128) (k0_off119 k) S1x8x128.size (k0_off119_inb k), shapeCast S1x8x128 (c1Row (topRows (rows arg9 X_arg9 k)) (topRows (rows arg10 X_arg10 k)) (row arg9 X_arg9 (k0_off119 k) (k0_off119_inb k))) shapeCasts_S8x128_S1x8x128⟩,
      ⟨Rect.unit (s := S4x1024x128) (k0_off118 k) S1x8x128.size (k0_off118_inb k), shapeCast S1x8x128 (c1Row (topRows (rows arg9 X_arg9 k)) (topRows (rows arg10 X_arg10 k)) (row arg9 X_arg9 (k0_off118 k) (k0_off118_inb k))) shapeCasts_S8x128_S1x8x128⟩,
      ⟨Rect.unit (s := S4x1024x128) (k0_off117 k) S1x8x128.size (k0_off117_inb k), shapeCast S1x8x128 (c1Row (topRows (rows arg9 X_arg9 k)) (topRows (rows arg10 X_arg10 k)) (row arg9 X_arg9 (k0_off117 k) (k0_off117_inb k))) shapeCasts_S8x128_S1x8x128⟩,
      ⟨Rect.unit (s := S4x1024x128) (k0_off116 k) S1x8x128.size (k0_off116_inb k), shapeCast S1x8x128 (c1Row (topRows (rows arg9 X_arg9 k)) (topRows (rows arg10 X_arg10 k)) (row arg9 X_arg9 (k0_off116 k) (k0_off116_inb k))) shapeCasts_S8x128_S1x8x128⟩,
      ⟨Rect.unit (s := S4x1024x128) (k0_off115 k) S1x8x128.size (k0_off115_inb k), shapeCast S1x8x128 (c1Row (topRows (rows arg9 X_arg9 k)) (topRows (rows arg10 X_arg10 k)) (row arg9 X_arg9 (k0_off115 k) (k0_off115_inb k))) shapeCasts_S8x128_S1x8x128⟩,
      ⟨Rect.unit (s := S4x1024x128) (k0_off114 k) S1x8x128.size (k0_off114_inb k), shapeCast S1x8x128 (c1Row (topRows (rows arg9 X_arg9 k)) (topRows (rows arg10 X_arg10 k)) (row arg9 X_arg9 (k0_off114 k) (k0_off114_inb k))) shapeCasts_S8x128_S1x8x128⟩,
      ⟨Rect.unit (s := S4x1024x128) (k0_off113 k) S1x8x128.size (k0_off113_inb k), shapeCast S1x8x128 (c1Row (topRows (rows arg9 X_arg9 k)) (topRows (rows arg10 X_arg10 k)) (row arg9 X_arg9 (k0_off113 k) (k0_off113_inb k))) shapeCasts_S8x128_S1x8x128⟩,
      ⟨Rect.unit (s := S4x1024x128) (k0_off112 k) S1x8x128.size (k0_off112_inb k), shapeCast S1x8x128 (c1Row (topRows (rows arg9 X_arg9 k)) (topRows (rows arg10 X_arg10 k)) (row arg9 X_arg9 (k0_off112 k) (k0_off112_inb k))) shapeCasts_S8x128_S1x8x128⟩,
      ⟨Rect.unit (s := S4x1024x128) (k0_off111 k) S1x8x128.size (k0_off111_inb k), shapeCast S1x8x128 (c1Row (topRows (rows arg9 X_arg9 k)) (topRows (rows arg10 X_arg10 k)) (row arg9 X_arg9 (k0_off111 k) (k0_off111_inb k))) shapeCasts_S8x128_S1x8x128⟩,
      ⟨Rect.unit (s := S4x1024x128) (k0_off110 k) S1x8x128.size (k0_off110_inb k), shapeCast S1x8x128 (c1Row (topRows (rows arg9 X_arg9 k)) (topRows (rows arg10 X_arg10 k)) (row arg9 X_arg9 (k0_off110 k) (k0_off110_inb k))) shapeCasts_S8x128_S1x8x128⟩,
      ⟨Rect.unit (s := S4x1024x128) (k0_off109 k) S1x8x128.size (k0_off109_inb k), shapeCast S1x8x128 (c1Row (topRows (rows arg9 X_arg9 k)) (topRows (rows arg10 X_arg10 k)) (row arg9 X_arg9 (k0_off109 k) (k0_off109_inb k))) shapeCasts_S8x128_S1x8x128⟩,
      ⟨Rect.unit (s := S4x1024x128) (k0_off108 k) S1x8x128.size (k0_off108_inb k), shapeCast S1x8x128 (c1Row (topRows (rows arg9 X_arg9 k)) (topRows (rows arg10 X_arg10 k)) (row arg9 X_arg9 (k0_off108 k) (k0_off108_inb k))) shapeCasts_S8x128_S1x8x128⟩,
      ⟨Rect.unit (s := S4x1024x128) (k0_off107 k) S1x8x128.size (k0_off107_inb k), shapeCast S1x8x128 (c1Row (topRows (rows arg9 X_arg9 k)) (topRows (rows arg10 X_arg10 k)) (row arg9 X_arg9 (k0_off107 k) (k0_off107_inb k))) shapeCasts_S8x128_S1x8x128⟩,
      ⟨Rect.unit (s := S4x1024x128) (k0_off106 k) S1x8x128.size (k0_off106_inb k), shapeCast S1x8x128 (c1Row (topRows (rows arg9 X_arg9 k)) (topRows (rows arg10 X_arg10 k)) (row arg9 X_arg9 (k0_off106 k) (k0_off106_inb k))) shapeCasts_S8x128_S1x8x128⟩,
      ⟨Rect.unit (s := S4x1024x128) (k0_off105 k) S1x8x128.size (k0_off105_inb k), shapeCast S1x8x128 (c1Row (topRows (rows arg9 X_arg9 k)) (topRows (rows arg10 X_arg10 k)) (row arg9 X_arg9 (k0_off105 k) (k0_off105_inb k))) shapeCasts_S8x128_S1x8x128⟩,
      ⟨Rect.unit (s := S4x1024x128) (k0_off104 k) S1x8x128.size (k0_off104_inb k), shapeCast S1x8x128 (c1Row (topRows (rows arg9 X_arg9 k)) (topRows (rows arg10 X_arg10 k)) (row arg9 X_arg9 (k0_off104 k) (k0_off104_inb k))) shapeCasts_S8x128_S1x8x128⟩,
      ⟨Rect.unit (s := S4x1024x128) (k0_off103 k) S1x8x128.size (k0_off103_inb k), shapeCast S1x8x128 (c1Row (topRows (rows arg9 X_arg9 k)) (topRows (rows arg10 X_arg10 k)) (row arg9 X_arg9 (k0_off103 k) (k0_off103_inb k))) shapeCasts_S8x128_S1x8x128⟩,
      ⟨Rect.unit (s := S4x1024x128) (k0_off102 k) S1x8x128.size (k0_off102_inb k), shapeCast S1x8x128 (c1Row (topRows (rows arg9 X_arg9 k)) (topRows (rows arg10 X_arg10 k)) (row arg9 X_arg9 (k0_off102 k) (k0_off102_inb k))) shapeCasts_S8x128_S1x8x128⟩,
      ⟨Rect.unit (s := S4x1024x128) (k0_off101 k) S1x8x128.size (k0_off101_inb k), shapeCast S1x8x128 (c1Row (topRows (rows arg9 X_arg9 k)) (topRows (rows arg10 X_arg10 k)) (row arg9 X_arg9 (k0_off101 k) (k0_off101_inb k))) shapeCasts_S8x128_S1x8x128⟩,
      ⟨Rect.unit (s := S4x1024x128) (k0_off100 k) S1x8x128.size (k0_off100_inb k), shapeCast S1x8x128 (c1Row (topRows (rows arg9 X_arg9 k)) (topRows (rows arg10 X_arg10 k)) (row arg9 X_arg9 (k0_off100 k) (k0_off100_inb k))) shapeCasts_S8x128_S1x8x128⟩,
      ⟨Rect.unit (s := S4x1024x128) (k0_off99 k) S1x8x128.size (k0_off99_inb k), shapeCast S1x8x128 (c1Row (topRows (rows arg9 X_arg9 k)) (topRows (rows arg10 X_arg10 k)) (row arg9 X_arg9 (k0_off99 k) (k0_off99_inb k))) shapeCasts_S8x128_S1x8x128⟩,
      ⟨Rect.unit (s := S4x1024x128) (k0_off98 k) S1x8x128.size (k0_off98_inb k), shapeCast S1x8x128 (c1Row (topRows (rows arg9 X_arg9 k)) (topRows (rows arg10 X_arg10 k)) (row arg9 X_arg9 (k0_off98 k) (k0_off98_inb k))) shapeCasts_S8x128_S1x8x128⟩,
      ⟨Rect.unit (s := S4x1024x128) (k0_off97 k) S1x8x128.size (k0_off97_inb k), shapeCast S1x8x128 (c1Row (topRows (rows arg9 X_arg9 k)) (topRows (rows arg10 X_arg10 k)) (row arg9 X_arg9 (k0_off97 k) (k0_off97_inb k))) shapeCasts_S8x128_S1x8x128⟩,
      ⟨Rect.unit (s := S4x1024x128) (k0_off96 k) S1x8x128.size (k0_off96_inb k), shapeCast S1x8x128 (c1Row (topRows (rows arg9 X_arg9 k)) (topRows (rows arg10 X_arg10 k)) (row arg9 X_arg9 (k0_off96 k) (k0_off96_inb k))) shapeCasts_S8x128_S1x8x128⟩,
      ⟨Rect.unit (s := S4x1024x128) (k0_off95 k) S1x8x128.size (k0_off95_inb k), shapeCast S1x8x128 (c1Row (topRows (rows arg9 X_arg9 k)) (topRows (rows arg10 X_arg10 k)) (row arg9 X_arg9 (k0_off95 k) (k0_off95_inb k))) shapeCasts_S8x128_S1x8x128⟩,
      ⟨Rect.unit (s := S4x1024x128) (k0_off94 k) S1x8x128.size (k0_off94_inb k), shapeCast S1x8x128 (c1Row (topRows (rows arg9 X_arg9 k)) (topRows (rows arg10 X_arg10 k)) (row arg9 X_arg9 (k0_off94 k) (k0_off94_inb k))) shapeCasts_S8x128_S1x8x128⟩,
      ⟨Rect.unit (s := S4x1024x128) (k0_off93 k) S1x8x128.size (k0_off93_inb k), shapeCast S1x8x128 (c1Row (topRows (rows arg9 X_arg9 k)) (topRows (rows arg10 X_arg10 k)) (row arg9 X_arg9 (k0_off93 k) (k0_off93_inb k))) shapeCasts_S8x128_S1x8x128⟩,
      ⟨Rect.unit (s := S4x1024x128) (k0_off92 k) S1x8x128.size (k0_off92_inb k), shapeCast S1x8x128 (c1Row (topRows (rows arg9 X_arg9 k)) (topRows (rows arg10 X_arg10 k)) (row arg9 X_arg9 (k0_off92 k) (k0_off92_inb k))) shapeCasts_S8x128_S1x8x128⟩,
      ⟨Rect.unit (s := S4x1024x128) (k0_off91 k) S1x8x128.size (k0_off91_inb k), shapeCast S1x8x128 (c1Row (topRows (rows arg9 X_arg9 k)) (topRows (rows arg10 X_arg10 k)) (row arg9 X_arg9 (k0_off91 k) (k0_off91_inb k))) shapeCasts_S8x128_S1x8x128⟩,
      ⟨Rect.unit (s := S4x1024x128) (k0_off90 k) S1x8x128.size (k0_off90_inb k), shapeCast S1x8x128 (c1Row (topRows (rows arg9 X_arg9 k)) (topRows (rows arg10 X_arg10 k)) (row arg9 X_arg9 (k0_off90 k) (k0_off90_inb k))) shapeCasts_S8x128_S1x8x128⟩,
      ⟨Rect.unit (s := S4x1024x128) (k0_off89 k) S1x8x128.size (k0_off89_inb k), shapeCast S1x8x128 (c1Row (topRows (rows arg9 X_arg9 k)) (topRows (rows arg10 X_arg10 k)) (row arg9 X_arg9 (k0_off89 k) (k0_off89_inb k))) shapeCasts_S8x128_S1x8x128⟩,
      ⟨Rect.unit (s := S4x1024x128) (k0_off88 k) S1x8x128.size (k0_off88_inb k), shapeCast S1x8x128 (c1Row (topRows (rows arg9 X_arg9 k)) (topRows (rows arg10 X_arg10 k)) (row arg9 X_arg9 (k0_off88 k) (k0_off88_inb k))) shapeCasts_S8x128_S1x8x128⟩,
      ⟨Rect.unit (s := S4x1024x128) (k0_off87 k) S1x8x128.size (k0_off87_inb k), shapeCast S1x8x128 (c1Row (topRows (rows arg9 X_arg9 k)) (topRows (rows arg10 X_arg10 k)) (row arg9 X_arg9 (k0_off87 k) (k0_off87_inb k))) shapeCasts_S8x128_S1x8x128⟩,
      ⟨Rect.unit (s := S4x1024x128) (k0_off86 k) S1x8x128.size (k0_off86_inb k), shapeCast S1x8x128 (c1Row (topRows (rows arg9 X_arg9 k)) (topRows (rows arg10 X_arg10 k)) (row arg9 X_arg9 (k0_off86 k) (k0_off86_inb k))) shapeCasts_S8x128_S1x8x128⟩,
      ⟨Rect.unit (s := S4x1024x128) (k0_off85 k) S1x8x128.size (k0_off85_inb k), shapeCast S1x8x128 (c1Row (topRows (rows arg9 X_arg9 k)) (topRows (rows arg10 X_arg10 k)) (row arg9 X_arg9 (k0_off85 k) (k0_off85_inb k))) shapeCasts_S8x128_S1x8x128⟩,
      ⟨Rect.unit (s := S4x1024x128) (k0_off84 k) S1x8x128.size (k0_off84_inb k), shapeCast S1x8x128 (c1Row (topRows (rows arg9 X_arg9 k)) (topRows (rows arg10 X_arg10 k)) (row arg9 X_arg9 (k0_off84 k) (k0_off84_inb k))) shapeCasts_S8x128_S1x8x128⟩,
      ⟨Rect.unit (s := S4x1024x128) (k0_off83 k) S1x8x128.size (k0_off83_inb k), shapeCast S1x8x128 (c1Row (topRows (rows arg9 X_arg9 k)) (topRows (rows arg10 X_arg10 k)) (row arg9 X_arg9 (k0_off83 k) (k0_off83_inb k))) shapeCasts_S8x128_S1x8x128⟩,
      ⟨Rect.unit (s := S4x1024x128) (k0_off82 k) S1x8x128.size (k0_off82_inb k), shapeCast S1x8x128 (c1Row (topRows (rows arg9 X_arg9 k)) (topRows (rows arg10 X_arg10 k)) (row arg9 X_arg9 (k0_off82 k) (k0_off82_inb k))) shapeCasts_S8x128_S1x8x128⟩,
      ⟨Rect.unit (s := S4x1024x128) (k0_off81 k) S1x8x128.size (k0_off81_inb k), shapeCast S1x8x128 (c1Row (topRows (rows arg9 X_arg9 k)) (topRows (rows arg10 X_arg10 k)) (row arg9 X_arg9 (k0_off81 k) (k0_off81_inb k))) shapeCasts_S8x128_S1x8x128⟩,
      ⟨Rect.unit (s := S4x1024x128) (k0_off80 k) S1x8x128.size (k0_off80_inb k), shapeCast S1x8x128 (c1Row (topRows (rows arg9 X_arg9 k)) (topRows (rows arg10 X_arg10 k)) (row arg9 X_arg9 (k0_off80 k) (k0_off80_inb k))) shapeCasts_S8x128_S1x8x128⟩,
      ⟨Rect.unit (s := S4x1024x128) (k0_off79 k) S1x8x128.size (k0_off79_inb k), shapeCast S1x8x128 (c1Row (topRows (rows arg9 X_arg9 k)) (topRows (rows arg10 X_arg10 k)) (row arg9 X_arg9 (k0_off79 k) (k0_off79_inb k))) shapeCasts_S8x128_S1x8x128⟩,
      ⟨Rect.unit (s := S4x1024x128) (k0_off78 k) S1x8x128.size (k0_off78_inb k), shapeCast S1x8x128 (c1Row (topRows (rows arg9 X_arg9 k)) (topRows (rows arg10 X_arg10 k)) (row arg9 X_arg9 (k0_off78 k) (k0_off78_inb k))) shapeCasts_S8x128_S1x8x128⟩,
      ⟨Rect.unit (s := S4x1024x128) (k0_off77 k) S1x8x128.size (k0_off77_inb k), shapeCast S1x8x128 (c1Row (topRows (rows arg9 X_arg9 k)) (topRows (rows arg10 X_arg10 k)) (row arg9 X_arg9 (k0_off77 k) (k0_off77_inb k))) shapeCasts_S8x128_S1x8x128⟩,
      ⟨Rect.unit (s := S4x1024x128) (k0_off76 k) S1x8x128.size (k0_off76_inb k), shapeCast S1x8x128 (c1Row (topRows (rows arg9 X_arg9 k)) (topRows (rows arg10 X_arg10 k)) (row arg9 X_arg9 (k0_off76 k) (k0_off76_inb k))) shapeCasts_S8x128_S1x8x128⟩,
      ⟨Rect.unit (s := S4x1024x128) (k0_off75 k) S1x8x128.size (k0_off75_inb k), shapeCast S1x8x128 (c1Row (topRows (rows arg9 X_arg9 k)) (topRows (rows arg10 X_arg10 k)) (row arg9 X_arg9 (k0_off75 k) (k0_off75_inb k))) shapeCasts_S8x128_S1x8x128⟩,
      ⟨Rect.unit (s := S4x1024x128) (k0_off74 k) S1x8x128.size (k0_off74_inb k), shapeCast S1x8x128 (c1Row (topRows (rows arg9 X_arg9 k)) (topRows (rows arg10 X_arg10 k)) (row arg9 X_arg9 (k0_off74 k) (k0_off74_inb k))) shapeCasts_S8x128_S1x8x128⟩,
      ⟨Rect.unit (s := S4x1024x128) (k0_off73 k) S1x8x128.size (k0_off73_inb k), shapeCast S1x8x128 (c1Row (topRows (rows arg9 X_arg9 k)) (topRows (rows arg10 X_arg10 k)) (row arg9 X_arg9 (k0_off73 k) (k0_off73_inb k))) shapeCasts_S8x128_S1x8x128⟩,
      ⟨Rect.unit (s := S4x1024x128) (k0_off72 k) S1x8x128.size (k0_off72_inb k), shapeCast S1x8x128 (c1Row (topRows (rows arg9 X_arg9 k)) (topRows (rows arg10 X_arg10 k)) (row arg9 X_arg9 (k0_off72 k) (k0_off72_inb k))) shapeCasts_S8x128_S1x8x128⟩,
      ⟨Rect.unit (s := S4x1024x128) (k0_off71 k) S1x8x128.size (k0_off71_inb k), shapeCast S1x8x128 (c1Row (topRows (rows arg9 X_arg9 k)) (topRows (rows arg10 X_arg10 k)) (row arg9 X_arg9 (k0_off71 k) (k0_off71_inb k))) shapeCasts_S8x128_S1x8x128⟩,
      ⟨Rect.unit (s := S4x1024x128) (k0_off70 k) S1x8x128.size (k0_off70_inb k), shapeCast S1x8x128 (c1Row (topRows (rows arg9 X_arg9 k)) (topRows (rows arg10 X_arg10 k)) (row arg9 X_arg9 (k0_off70 k) (k0_off70_inb k))) shapeCasts_S8x128_S1x8x128⟩,
      ⟨Rect.unit (s := S4x1024x128) (k0_off69 k) S1x8x128.size (k0_off69_inb k), shapeCast S1x8x128 (c1Row (topRows (rows arg9 X_arg9 k)) (topRows (rows arg10 X_arg10 k)) (row arg9 X_arg9 (k0_off69 k) (k0_off69_inb k))) shapeCasts_S8x128_S1x8x128⟩,
      ⟨Rect.unit (s := S4x1024x128) (k0_off68 k) S1x8x128.size (k0_off68_inb k), shapeCast S1x8x128 (c1Row (topRows (rows arg9 X_arg9 k)) (topRows (rows arg10 X_arg10 k)) (row arg9 X_arg9 (k0_off68 k) (k0_off68_inb k))) shapeCasts_S8x128_S1x8x128⟩,
      ⟨Rect.unit (s := S4x1024x128) (k0_off67 k) S1x8x128.size (k0_off67_inb k), shapeCast S1x8x128 (c1Row (topRows (rows arg9 X_arg9 k)) (topRows (rows arg10 X_arg10 k)) (row arg9 X_arg9 (k0_off67 k) (k0_off67_inb k))) shapeCasts_S8x128_S1x8x128⟩,
      ⟨Rect.unit (s := S4x1024x128) (k0_off66 k) S1x8x128.size (k0_off66_inb k), shapeCast S1x8x128 (c1Row (topRows (rows arg9 X_arg9 k)) (topRows (rows arg10 X_arg10 k)) (row arg9 X_arg9 (k0_off66 k) (k0_off66_inb k))) shapeCasts_S8x128_S1x8x128⟩,
      ⟨Rect.unit (s := S4x1024x128) (k0_off65 k) S1x8x128.size (k0_off65_inb k), shapeCast S1x8x128 (c1Row (topRows (rows arg9 X_arg9 k)) (topRows (rows arg10 X_arg10 k)) (row arg9 X_arg9 (k0_off65 k) (k0_off65_inb k))) shapeCasts_S8x128_S1x8x128⟩,
      ⟨Rect.unit (s := S4x1024x128) (k0_off64 k) S1x8x128.size (k0_off64_inb k), shapeCast S1x8x128 (c1Row (topRows (rows arg9 X_arg9 k)) (topRows (rows arg10 X_arg10 k)) (row arg9 X_arg9 (k0_off64 k) (k0_off64_inb k))) shapeCasts_S8x128_S1x8x128⟩,
      ⟨Rect.unit (s := S4x1024x128) (k0_off63 k) S1x8x128.size (k0_off63_inb k), shapeCast S1x8x128 (c1Row (topRows (rows arg9 X_arg9 k)) (topRows (rows arg10 X_arg10 k)) (row arg9 X_arg9 (k0_off63 k) (k0_off63_inb k))) shapeCasts_S8x128_S1x8x128⟩,
      ⟨Rect.unit (s := S4x1024x128) (k0_off62 k) S1x8x128.size (k0_off62_inb k), shapeCast S1x8x128 (c1Row (topRows (rows arg9 X_arg9 k)) (topRows (rows arg10 X_arg10 k)) (row arg9 X_arg9 (k0_off62 k) (k0_off62_inb k))) shapeCasts_S8x128_S1x8x128⟩,
      ⟨Rect.unit (s := S4x1024x128) (k0_off61 k) S1x8x128.size (k0_off61_inb k), shapeCast S1x8x128 (c1Row (topRows (rows arg9 X_arg9 k)) (topRows (rows arg10 X_arg10 k)) (row arg9 X_arg9 (k0_off61 k) (k0_off61_inb k))) shapeCasts_S8x128_S1x8x128⟩,
      ⟨Rect.unit (s := S4x1024x128) (k0_off60 k) S1x8x128.size (k0_off60_inb k), shapeCast S1x8x128 (c1Row (topRows (rows arg9 X_arg9 k)) (topRows (rows arg10 X_arg10 k)) (row arg9 X_arg9 (k0_off60 k) (k0_off60_inb k))) shapeCasts_S8x128_S1x8x128⟩,
      ⟨Rect.unit (s := S4x1024x128) (k0_off59 k) S1x8x128.size (k0_off59_inb k), shapeCast S1x8x128 (c1Row (topRows (rows arg9 X_arg9 k)) (topRows (rows arg10 X_arg10 k)) (row arg9 X_arg9 (k0_off59 k) (k0_off59_inb k))) shapeCasts_S8x128_S1x8x128⟩,
      ⟨Rect.unit (s := S4x1024x128) (k0_off58 k) S1x8x128.size (k0_off58_inb k), shapeCast S1x8x128 (c1Row (topRows (rows arg9 X_arg9 k)) (topRows (rows arg10 X_arg10 k)) (row arg9 X_arg9 (k0_off58 k) (k0_off58_inb k))) shapeCasts_S8x128_S1x8x128⟩,
      ⟨Rect.unit (s := S4x1024x128) (k0_off57 k) S1x8x128.size (k0_off57_inb k), shapeCast S1x8x128 (c1Row (topRows (rows arg9 X_arg9 k)) (topRows (rows arg10 X_arg10 k)) (row arg9 X_arg9 (k0_off57 k) (k0_off57_inb k))) shapeCasts_S8x128_S1x8x128⟩,
      ⟨Rect.unit (s := S4x1024x128) (k0_off56 k) S1x8x128.size (k0_off56_inb k), shapeCast S1x8x128 (c1Row (topRows (rows arg9 X_arg9 k)) (topRows (rows arg10 X_arg10 k)) (row arg9 X_arg9 (k0_off56 k) (k0_off56_inb k))) shapeCasts_S8x128_S1x8x128⟩,
      ⟨Rect.unit (s := S4x1024x128) (k0_off55 k) S1x8x128.size (k0_off55_inb k), shapeCast S1x8x128 (c1Row (topRows (rows arg9 X_arg9 k)) (topRows (rows arg10 X_arg10 k)) (row arg9 X_arg9 (k0_off55 k) (k0_off55_inb k))) shapeCasts_S8x128_S1x8x128⟩,
      ⟨Rect.unit (s := S4x1024x128) (k0_off54 k) S1x8x128.size (k0_off54_inb k), shapeCast S1x8x128 (c1Row (topRows (rows arg9 X_arg9 k)) (topRows (rows arg10 X_arg10 k)) (row arg9 X_arg9 (k0_off54 k) (k0_off54_inb k))) shapeCasts_S8x128_S1x8x128⟩,
      ⟨Rect.unit (s := S4x1024x128) (k0_off53 k) S1x8x128.size (k0_off53_inb k), shapeCast S1x8x128 (c1Row (topRows (rows arg9 X_arg9 k)) (topRows (rows arg10 X_arg10 k)) (row arg9 X_arg9 (k0_off53 k) (k0_off53_inb k))) shapeCasts_S8x128_S1x8x128⟩,
      ⟨Rect.unit (s := S4x1024x128) (k0_off52 k) S1x8x128.size (k0_off52_inb k), shapeCast S1x8x128 (c1Row (topRows (rows arg9 X_arg9 k)) (topRows (rows arg10 X_arg10 k)) (row arg9 X_arg9 (k0_off52 k) (k0_off52_inb k))) shapeCasts_S8x128_S1x8x128⟩,
      ⟨Rect.unit (s := S4x1024x128) (k0_off51 k) S1x8x128.size (k0_off51_inb k), shapeCast S1x8x128 (c1Row (topRows (rows arg9 X_arg9 k)) (topRows (rows arg10 X_arg10 k)) (row arg9 X_arg9 (k0_off51 k) (k0_off51_inb k))) shapeCasts_S8x128_S1x8x128⟩,
      ⟨Rect.unit (s := S4x1024x128) (k0_off50 k) S1x8x128.size (k0_off50_inb k), shapeCast S1x8x128 (c1Row (topRows (rows arg9 X_arg9 k)) (topRows (rows arg10 X_arg10 k)) (row arg9 X_arg9 (k0_off50 k) (k0_off50_inb k))) shapeCasts_S8x128_S1x8x128⟩,
      ⟨Rect.unit (s := S4x1024x128) (k0_off49 k) S1x8x128.size (k0_off49_inb k), shapeCast S1x8x128 (c1Row (topRows (rows arg9 X_arg9 k)) (topRows (rows arg10 X_arg10 k)) (row arg9 X_arg9 (k0_off49 k) (k0_off49_inb k))) shapeCasts_S8x128_S1x8x128⟩,
      ⟨Rect.unit (s := S4x1024x128) (k0_off48 k) S1x8x128.size (k0_off48_inb k), shapeCast S1x8x128 (c1Row (topRows (rows arg9 X_arg9 k)) (topRows (rows arg10 X_arg10 k)) (row arg9 X_arg9 (k0_off48 k) (k0_off48_inb k))) shapeCasts_S8x128_S1x8x128⟩,
      ⟨Rect.unit (s := S4x1024x128) (k0_off47 k) S1x8x128.size (k0_off47_inb k), shapeCast S1x8x128 (c1Row (topRows (rows arg9 X_arg9 k)) (topRows (rows arg10 X_arg10 k)) (row arg9 X_arg9 (k0_off47 k) (k0_off47_inb k))) shapeCasts_S8x128_S1x8x128⟩,
      ⟨Rect.unit (s := S4x1024x128) (k0_off46 k) S1x8x128.size (k0_off46_inb k), shapeCast S1x8x128 (c1Row (topRows (rows arg9 X_arg9 k)) (topRows (rows arg10 X_arg10 k)) (row arg9 X_arg9 (k0_off46 k) (k0_off46_inb k))) shapeCasts_S8x128_S1x8x128⟩,
      ⟨Rect.unit (s := S4x1024x128) (k0_off45 k) S1x8x128.size (k0_off45_inb k), shapeCast S1x8x128 (c1Row (topRows (rows arg9 X_arg9 k)) (topRows (rows arg10 X_arg10 k)) (row arg9 X_arg9 (k0_off45 k) (k0_off45_inb k))) shapeCasts_S8x128_S1x8x128⟩,
      ⟨Rect.unit (s := S4x1024x128) (k0_off44 k) S1x8x128.size (k0_off44_inb k), shapeCast S1x8x128 (c1Row (topRows (rows arg9 X_arg9 k)) (topRows (rows arg10 X_arg10 k)) (row arg9 X_arg9 (k0_off44 k) (k0_off44_inb k))) shapeCasts_S8x128_S1x8x128⟩,
      ⟨Rect.unit (s := S4x1024x128) (k0_off43 k) S1x8x128.size (k0_off43_inb k), shapeCast S1x8x128 (c1Row (topRows (rows arg9 X_arg9 k)) (topRows (rows arg10 X_arg10 k)) (row arg9 X_arg9 (k0_off43 k) (k0_off43_inb k))) shapeCasts_S8x128_S1x8x128⟩,
      ⟨Rect.unit (s := S4x1024x128) (k0_off42 k) S1x8x128.size (k0_off42_inb k), shapeCast S1x8x128 (c1Row (topRows (rows arg9 X_arg9 k)) (topRows (rows arg10 X_arg10 k)) (row arg9 X_arg9 (k0_off42 k) (k0_off42_inb k))) shapeCasts_S8x128_S1x8x128⟩,
      ⟨Rect.unit (s := S4x1024x128) (k0_off41 k) S1x8x128.size (k0_off41_inb k), shapeCast S1x8x128 (c1Row (topRows (rows arg9 X_arg9 k)) (topRows (rows arg10 X_arg10 k)) (row arg9 X_arg9 (k0_off41 k) (k0_off41_inb k))) shapeCasts_S8x128_S1x8x128⟩,
      ⟨Rect.unit (s := S4x1024x128) (k0_off40 k) S1x8x128.size (k0_off40_inb k), shapeCast S1x8x128 (c1Row (topRows (rows arg9 X_arg9 k)) (topRows (rows arg10 X_arg10 k)) (row arg9 X_arg9 (k0_off40 k) (k0_off40_inb k))) shapeCasts_S8x128_S1x8x128⟩,
      ⟨Rect.unit (s := S4x1024x128) (k0_off39 k) S1x8x128.size (k0_off39_inb k), shapeCast S1x8x128 (c1Row (topRows (rows arg9 X_arg9 k)) (topRows (rows arg10 X_arg10 k)) (row arg9 X_arg9 (k0_off39 k) (k0_off39_inb k))) shapeCasts_S8x128_S1x8x128⟩,
      ⟨Rect.unit (s := S4x1024x128) (k0_off38 k) S1x8x128.size (k0_off38_inb k), shapeCast S1x8x128 (c1Row (topRows (rows arg9 X_arg9 k)) (topRows (rows arg10 X_arg10 k)) (row arg9 X_arg9 (k0_off38 k) (k0_off38_inb k))) shapeCasts_S8x128_S1x8x128⟩,
      ⟨Rect.unit (s := S4x1024x128) (k0_off37 k) S1x8x128.size (k0_off37_inb k), shapeCast S1x8x128 (c1Row (topRows (rows arg9 X_arg9 k)) (topRows (rows arg10 X_arg10 k)) (row arg9 X_arg9 (k0_off37 k) (k0_off37_inb k))) shapeCasts_S8x128_S1x8x128⟩,
      ⟨Rect.unit (s := S4x1024x128) (k0_off36 k) S1x8x128.size (k0_off36_inb k), shapeCast S1x8x128 (c1Row (topRows (rows arg9 X_arg9 k)) (topRows (rows arg10 X_arg10 k)) (row arg9 X_arg9 (k0_off36 k) (k0_off36_inb k))) shapeCasts_S8x128_S1x8x128⟩,
      ⟨Rect.unit (s := S4x1024x128) (k0_off35 k) S1x8x128.size (k0_off35_inb k), shapeCast S1x8x128 (c1Row (topRows (rows arg9 X_arg9 k)) (topRows (rows arg10 X_arg10 k)) (row arg9 X_arg9 (k0_off35 k) (k0_off35_inb k))) shapeCasts_S8x128_S1x8x128⟩,
      ⟨Rect.unit (s := S4x1024x128) (k0_off34 k) S1x8x128.size (k0_off34_inb k), shapeCast S1x8x128 (c1Row (topRows (rows arg9 X_arg9 k)) (topRows (rows arg10 X_arg10 k)) (row arg9 X_arg9 (k0_off34 k) (k0_off34_inb k))) shapeCasts_S8x128_S1x8x128⟩,
      ⟨Rect.unit (s := S4x1024x128) (k0_off33 k) S1x8x128.size (k0_off33_inb k), shapeCast S1x8x128 (c1Row (topRows (rows arg9 X_arg9 k)) (topRows (rows arg10 X_arg10 k)) (row arg9 X_arg9 (k0_off33 k) (k0_off33_inb k))) shapeCasts_S8x128_S1x8x128⟩,
      ⟨Rect.unit (s := S4x1024x128) (k0_off32 k) S1x8x128.size (k0_off32_inb k), shapeCast S1x8x128 (c1Row (topRows (rows arg9 X_arg9 k)) (topRows (rows arg10 X_arg10 k)) (row arg9 X_arg9 (k0_off32 k) (k0_off32_inb k))) shapeCasts_S8x128_S1x8x128⟩,
      ⟨Rect.unit (s := S4x1024x128) (k0_off31 k) S1x8x128.size (k0_off31_inb k), shapeCast S1x8x128 (c1Row (topRows (rows arg9 X_arg9 k)) (topRows (rows arg10 X_arg10 k)) (row arg9 X_arg9 (k0_off31 k) (k0_off31_inb k))) shapeCasts_S8x128_S1x8x128⟩,
      ⟨Rect.unit (s := S4x1024x128) (k0_off30 k) S1x8x128.size (k0_off30_inb k), shapeCast S1x8x128 (c1Row (topRows (rows arg9 X_arg9 k)) (topRows (rows arg10 X_arg10 k)) (row arg9 X_arg9 (k0_off30 k) (k0_off30_inb k))) shapeCasts_S8x128_S1x8x128⟩,
      ⟨Rect.unit (s := S4x1024x128) (k0_off29 k) S1x8x128.size (k0_off29_inb k), shapeCast S1x8x128 (c1Row (topRows (rows arg9 X_arg9 k)) (topRows (rows arg10 X_arg10 k)) (row arg9 X_arg9 (k0_off29 k) (k0_off29_inb k))) shapeCasts_S8x128_S1x8x128⟩,
      ⟨Rect.unit (s := S4x1024x128) (k0_off28 k) S1x8x128.size (k0_off28_inb k), shapeCast S1x8x128 (c1Row (topRows (rows arg9 X_arg9 k)) (topRows (rows arg10 X_arg10 k)) (row arg9 X_arg9 (k0_off28 k) (k0_off28_inb k))) shapeCasts_S8x128_S1x8x128⟩,
      ⟨Rect.unit (s := S4x1024x128) (k0_off27 k) S1x8x128.size (k0_off27_inb k), shapeCast S1x8x128 (c1Row (topRows (rows arg9 X_arg9 k)) (topRows (rows arg10 X_arg10 k)) (row arg9 X_arg9 (k0_off27 k) (k0_off27_inb k))) shapeCasts_S8x128_S1x8x128⟩,
      ⟨Rect.unit (s := S4x1024x128) (k0_off26 k) S1x8x128.size (k0_off26_inb k), shapeCast S1x8x128 (c1Row (topRows (rows arg9 X_arg9 k)) (topRows (rows arg10 X_arg10 k)) (row arg9 X_arg9 (k0_off26 k) (k0_off26_inb k))) shapeCasts_S8x128_S1x8x128⟩,
      ⟨Rect.unit (s := S4x1024x128) (k0_off25 k) S1x8x128.size (k0_off25_inb k), shapeCast S1x8x128 (c1Row (topRows (rows arg9 X_arg9 k)) (topRows (rows arg10 X_arg10 k)) (row arg9 X_arg9 (k0_off25 k) (k0_off25_inb k))) shapeCasts_S8x128_S1x8x128⟩,
      ⟨Rect.unit (s := S4x1024x128) (k0_off24 k) S1x8x128.size (k0_off24_inb k), shapeCast S1x8x128 (c1Row (topRows (rows arg9 X_arg9 k)) (topRows (rows arg10 X_arg10 k)) (row arg9 X_arg9 (k0_off24 k) (k0_off24_inb k))) shapeCasts_S8x128_S1x8x128⟩,
      ⟨Rect.unit (s := S4x1024x128) (k0_off23 k) S1x8x128.size (k0_off23_inb k), shapeCast S1x8x128 (c1Row (topRows (rows arg9 X_arg9 k)) (topRows (rows arg10 X_arg10 k)) (row arg9 X_arg9 (k0_off23 k) (k0_off23_inb k))) shapeCasts_S8x128_S1x8x128⟩,
      ⟨Rect.unit (s := S4x1024x128) (k0_off22 k) S1x8x128.size (k0_off22_inb k), shapeCast S1x8x128 (c1Row (topRows (rows arg9 X_arg9 k)) (topRows (rows arg10 X_arg10 k)) (row arg9 X_arg9 (k0_off22 k) (k0_off22_inb k))) shapeCasts_S8x128_S1x8x128⟩,
      ⟨Rect.unit (s := S4x1024x128) (k0_off21 k) S1x8x128.size (k0_off21_inb k), shapeCast S1x8x128 (c1Row (topRows (rows arg9 X_arg9 k)) (topRows (rows arg10 X_arg10 k)) (row arg9 X_arg9 (k0_off21 k) (k0_off21_inb k))) shapeCasts_S8x128_S1x8x128⟩,
      ⟨Rect.unit (s := S4x1024x128) (k0_off20 k) S1x8x128.size (k0_off20_inb k), shapeCast S1x8x128 (c1Row (topRows (rows arg9 X_arg9 k)) (topRows (rows arg10 X_arg10 k)) (row arg9 X_arg9 (k0_off20 k) (k0_off20_inb k))) shapeCasts_S8x128_S1x8x128⟩,
      ⟨Rect.unit (s := S4x1024x128) (k0_off19 k) S1x8x128.size (k0_off19_inb k), shapeCast S1x8x128 (c1Row (topRows (rows arg9 X_arg9 k)) (topRows (rows arg10 X_arg10 k)) (row arg9 X_arg9 (k0_off19 k) (k0_off19_inb k))) shapeCasts_S8x128_S1x8x128⟩,
      ⟨Rect.unit (s := S4x1024x128) (k0_off18 k) S1x8x128.size (k0_off18_inb k), shapeCast S1x8x128 (c1Row (topRows (rows arg9 X_arg9 k)) (topRows (rows arg10 X_arg10 k)) (row arg9 X_arg9 (k0_off18 k) (k0_off18_inb k))) shapeCasts_S8x128_S1x8x128⟩,
      ⟨Rect.unit (s := S4x1024x128) (k0_off17 k) S1x8x128.size (k0_off17_inb k), shapeCast S1x8x128 (c1Row (topRows (rows arg9 X_arg9 k)) (topRows (rows arg10 X_arg10 k)) (row arg9 X_arg9 (k0_off17 k) (k0_off17_inb k))) shapeCasts_S8x128_S1x8x128⟩,
      ⟨Rect.unit (s := S4x1024x128) (k0_off16 k) S1x8x128.size (k0_off16_inb k), shapeCast S1x8x128 (c1Row (topRows (rows arg9 X_arg9 k)) (topRows (rows arg10 X_arg10 k)) (row arg9 X_arg9 (k0_off16 k) (k0_off16_inb k))) shapeCasts_S8x128_S1x8x128⟩,
      ⟨Rect.unit (s := S4x1024x128) (k0_off15 k) S1x8x128.size (k0_off15_inb k), shapeCast S1x8x128 (c1Row (topRows (rows arg9 X_arg9 k)) (topRows (rows arg10 X_arg10 k)) (row arg9 X_arg9 (k0_off15 k) (k0_off15_inb k))) shapeCasts_S8x128_S1x8x128⟩,
      ⟨Rect.unit (s := S4x1024x128) (k0_off14 k) S1x8x128.size (k0_off14_inb k), shapeCast S1x8x128 (c1Row (topRows (rows arg9 X_arg9 k)) (topRows (rows arg10 X_arg10 k)) (row arg9 X_arg9 (k0_off14 k) (k0_off14_inb k))) shapeCasts_S8x128_S1x8x128⟩,
      ⟨Rect.unit (s := S4x1024x128) (k0_off13 k) S1x8x128.size (k0_off13_inb k), shapeCast S1x8x128 (c1Row (topRows (rows arg9 X_arg9 k)) (topRows (rows arg10 X_arg10 k)) (row arg9 X_arg9 (k0_off13 k) (k0_off13_inb k))) shapeCasts_S8x128_S1x8x128⟩,
      ⟨Rect.unit (s := S4x1024x128) (k0_off12 k) S1x8x128.size (k0_off12_inb k), shapeCast S1x8x128 (c1Row (topRows (rows arg9 X_arg9 k)) (topRows (rows arg10 X_arg10 k)) (row arg9 X_arg9 (k0_off12 k) (k0_off12_inb k))) shapeCasts_S8x128_S1x8x128⟩,
      ⟨Rect.unit (s := S4x1024x128) (k0_off11 k) S1x8x128.size (k0_off11_inb k), shapeCast S1x8x128 (c1Row (topRows (rows arg9 X_arg9 k)) (topRows (rows arg10 X_arg10 k)) (row arg9 X_arg9 (k0_off11 k) (k0_off11_inb k))) shapeCasts_S8x128_S1x8x128⟩,
      ⟨Rect.unit (s := S4x1024x128) (k0_off10 k) S1x8x128.size (k0_off10_inb k), shapeCast S1x8x128 (c1Row (topRows (rows arg9 X_arg9 k)) (topRows (rows arg10 X_arg10 k)) (row arg9 X_arg9 (k0_off10 k) (k0_off10_inb k))) shapeCasts_S8x128_S1x8x128⟩,
      ⟨Rect.unit (s := S4x1024x128) (k0_off9 k) S1x8x128.size (k0_off9_inb k), shapeCast S1x8x128 (c1Row (topRows (rows arg9 X_arg9 k)) (topRows (rows arg10 X_arg10 k)) (row arg9 X_arg9 (k0_off9 k) (k0_off9_inb k))) shapeCasts_S8x128_S1x8x128⟩,
      ⟨Rect.unit (s := S4x1024x128) (k0_off8 k) S1x8x128.size (k0_off8_inb k), shapeCast S1x8x128 (c1Row (topRows (rows arg9 X_arg9 k)) (topRows (rows arg10 X_arg10 k)) (row arg9 X_arg9 (k0_off8 k) (k0_off8_inb k))) shapeCasts_S8x128_S1x8x128⟩,
      ⟨Rect.unit (s := S4x1024x128) (k0_off7 k) S1x8x128.size (k0_off7_inb k), shapeCast S1x8x128 (c1Row (topRows (rows arg9 X_arg9 k)) (topRows (rows arg10 X_arg10 k)) (row arg9 X_arg9 (k0_off7 k) (k0_off7_inb k))) shapeCasts_S8x128_S1x8x128⟩,
      ⟨Rect.unit (s := S4x1024x128) (k0_off6 k) S1x8x128.size (k0_off6_inb k), shapeCast S1x8x128 (c1Row (topRows (rows arg9 X_arg9 k)) (topRows (rows arg10 X_arg10 k)) (row arg9 X_arg9 (k0_off6 k) (k0_off6_inb k))) shapeCasts_S8x128_S1x8x128⟩,
      ⟨Rect.unit (s := S4x1024x128) (k0_off5 k) S1x8x128.size (k0_off5_inb k), shapeCast S1x8x128 (c1Row (topRows (rows arg9 X_arg9 k)) (topRows (rows arg10 X_arg10 k)) (row arg9 X_arg9 (k0_off5 k) (k0_off5_inb k))) shapeCasts_S8x128_S1x8x128⟩,
      ⟨Rect.unit (s := S4x1024x128) (k0_off4 k) S1x8x128.size (k0_off4_inb k), shapeCast S1x8x128 (c1Row (topRows (rows arg9 X_arg9 k)) (topRows (rows arg10 X_arg10 k)) (row arg9 X_arg9 (k0_off4 k) (k0_off4_inb k))) shapeCasts_S8x128_S1x8x128⟩,
      ⟨Rect.unit (s := S4x1024x128) (k0_off3 k) S1x8x128.size (k0_off3_inb k), shapeCast S1x8x128 (c1Row (topRows (rows arg9 X_arg9 k)) (topRows (rows arg10 X_arg10 k)) (row arg9 X_arg9 (k0_off3 k) (k0_off3_inb k))) shapeCasts_S8x128_S1x8x128⟩,
      ⟨Rect.unit (s := S4x1024x128) (k0_off2 k) S1x8x128.size (k0_off2_inb k), shapeCast S1x8x128 (c1Row (topRows (rows arg9 X_arg9 k)) (topRows (rows arg10 X_arg10 k)) (row arg9 X_arg9 (k0_off2 k) (k0_off2_inb k))) shapeCasts_S8x128_S1x8x128⟩,
      ⟨Rect.unit (s := S4x1024x128) (k0_off1 k) S1x8x128.size (k0_off1_inb k), shapeCast S1x8x128 (c1Row (topRows (rows arg9 X_arg9 k)) (topRows (rows arg10 X_arg10 k)) (row arg9 X_arg9 (k0_off1 k) (k0_off1_inb k))) shapeCasts_S8x128_S1x8x128⟩] : List (View.Piece (Elt F) S4x1024x128 .f32)) := by
  chain_rfl

set_option backward.isDefEq.respectTransparency false in
/-- What a trip stores of the first keys' thresholds. -/
theorem trip4 (𝒱 : Variants) (c : Dev nD) (bd : Option 𝒱.V) (i : grid0.Coords) (arg1 : Memref sig .tc .vmem S1024x512 .bf16) (harg1 : arg1.IsWhole) (arg2 : Memref sig .tc .vmem S2048x1024 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S4x1024x128 .f32) (harg5 : arg5.IsWhole) (arg6 : Memref sig .tc .vmem S4x1024x128 .f32) (harg6 : arg6.IsWhole) (arg7 : Memref sig .tc .vmem S4x128x128 .f32) (harg7 : arg7.IsWhole) (arg8 : Memref sig .tc .vmem S8x128x512 .f32) (harg8 : arg8.IsWhole) (arg9 : Memref sig .tc .vmem S4x1024x128 .f32) (harg9 : arg9.IsWhole) (arg10 : Memref sig .tc .vmem S4x1024x128 .f32) (harg10 : arg10.IsWhole) (X_arg9 : BufTy.Contents (Elt F) arg9.view.ty) (X_arg10 : BufTy.Contents (Elt F) arg10.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 X_arg9 X_arg10 k).1 = ([⟨Rect.unit (s := S4x1024x128) (k0_off128 k) S1x8x128.size (k0_off128_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off128 k) (k0_off128_inb k))) shapeCasts_S8x128_S1x8x128⟩,
      ⟨Rect.unit (s := S4x1024x128) (k0_off127 k) S1x8x128.size (k0_off127_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off127 k) (k0_off127_inb k))) shapeCasts_S8x128_S1x8x128⟩,
      ⟨Rect.unit (s := S4x1024x128) (k0_off126 k) S1x8x128.size (k0_off126_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off126 k) (k0_off126_inb k))) shapeCasts_S8x128_S1x8x128⟩,
      ⟨Rect.unit (s := S4x1024x128) (k0_off125 k) S1x8x128.size (k0_off125_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off125 k) (k0_off125_inb k))) shapeCasts_S8x128_S1x8x128⟩,
      ⟨Rect.unit (s := S4x1024x128) (k0_off124 k) S1x8x128.size (k0_off124_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off124 k) (k0_off124_inb k))) shapeCasts_S8x128_S1x8x128⟩,
      ⟨Rect.unit (s := S4x1024x128) (k0_off123 k) S1x8x128.size (k0_off123_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off123 k) (k0_off123_inb k))) shapeCasts_S8x128_S1x8x128⟩,
      ⟨Rect.unit (s := S4x1024x128) (k0_off122 k) S1x8x128.size (k0_off122_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off122 k) (k0_off122_inb k))) shapeCasts_S8x128_S1x8x128⟩,
      ⟨Rect.unit (s := S4x1024x128) (k0_off121 k) S1x8x128.size (k0_off121_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off121 k) (k0_off121_inb k))) shapeCasts_S8x128_S1x8x128⟩,
      ⟨Rect.unit (s := S4x1024x128) (k0_off120 k) S1x8x128.size (k0_off120_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off120 k) (k0_off120_inb k))) shapeCasts_S8x128_S1x8x128⟩,
      ⟨Rect.unit (s := S4x1024x128) (k0_off119 k) S1x8x128.size (k0_off119_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off119 k) (k0_off119_inb k))) shapeCasts_S8x128_S1x8x128⟩,
      ⟨Rect.unit (s := S4x1024x128) (k0_off118 k) S1x8x128.size (k0_off118_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off118 k) (k0_off118_inb k))) shapeCasts_S8x128_S1x8x128⟩,
      ⟨Rect.unit (s := S4x1024x128) (k0_off117 k) S1x8x128.size (k0_off117_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off117 k) (k0_off117_inb k))) shapeCasts_S8x128_S1x8x128⟩,
      ⟨Rect.unit (s := S4x1024x128) (k0_off116 k) S1x8x128.size (k0_off116_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off116 k) (k0_off116_inb k))) shapeCasts_S8x128_S1x8x128⟩,
      ⟨Rect.unit (s := S4x1024x128) (k0_off115 k) S1x8x128.size (k0_off115_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off115 k) (k0_off115_inb k))) shapeCasts_S8x128_S1x8x128⟩,
      ⟨Rect.unit (s := S4x1024x128) (k0_off114 k) S1x8x128.size (k0_off114_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off114 k) (k0_off114_inb k))) shapeCasts_S8x128_S1x8x128⟩,
      ⟨Rect.unit (s := S4x1024x128) (k0_off113 k) S1x8x128.size (k0_off113_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off113 k) (k0_off113_inb k))) shapeCasts_S8x128_S1x8x128⟩,
      ⟨Rect.unit (s := S4x1024x128) (k0_off112 k) S1x8x128.size (k0_off112_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off112 k) (k0_off112_inb k))) shapeCasts_S8x128_S1x8x128⟩,
      ⟨Rect.unit (s := S4x1024x128) (k0_off111 k) S1x8x128.size (k0_off111_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off111 k) (k0_off111_inb k))) shapeCasts_S8x128_S1x8x128⟩,
      ⟨Rect.unit (s := S4x1024x128) (k0_off110 k) S1x8x128.size (k0_off110_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off110 k) (k0_off110_inb k))) shapeCasts_S8x128_S1x8x128⟩,
      ⟨Rect.unit (s := S4x1024x128) (k0_off109 k) S1x8x128.size (k0_off109_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off109 k) (k0_off109_inb k))) shapeCasts_S8x128_S1x8x128⟩,
      ⟨Rect.unit (s := S4x1024x128) (k0_off108 k) S1x8x128.size (k0_off108_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off108 k) (k0_off108_inb k))) shapeCasts_S8x128_S1x8x128⟩,
      ⟨Rect.unit (s := S4x1024x128) (k0_off107 k) S1x8x128.size (k0_off107_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off107 k) (k0_off107_inb k))) shapeCasts_S8x128_S1x8x128⟩,
      ⟨Rect.unit (s := S4x1024x128) (k0_off106 k) S1x8x128.size (k0_off106_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off106 k) (k0_off106_inb k))) shapeCasts_S8x128_S1x8x128⟩,
      ⟨Rect.unit (s := S4x1024x128) (k0_off105 k) S1x8x128.size (k0_off105_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off105 k) (k0_off105_inb k))) shapeCasts_S8x128_S1x8x128⟩,
      ⟨Rect.unit (s := S4x1024x128) (k0_off104 k) S1x8x128.size (k0_off104_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off104 k) (k0_off104_inb k))) shapeCasts_S8x128_S1x8x128⟩,
      ⟨Rect.unit (s := S4x1024x128) (k0_off103 k) S1x8x128.size (k0_off103_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off103 k) (k0_off103_inb k))) shapeCasts_S8x128_S1x8x128⟩,
      ⟨Rect.unit (s := S4x1024x128) (k0_off102 k) S1x8x128.size (k0_off102_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off102 k) (k0_off102_inb k))) shapeCasts_S8x128_S1x8x128⟩,
      ⟨Rect.unit (s := S4x1024x128) (k0_off101 k) S1x8x128.size (k0_off101_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off101 k) (k0_off101_inb k))) shapeCasts_S8x128_S1x8x128⟩,
      ⟨Rect.unit (s := S4x1024x128) (k0_off100 k) S1x8x128.size (k0_off100_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off100 k) (k0_off100_inb k))) shapeCasts_S8x128_S1x8x128⟩,
      ⟨Rect.unit (s := S4x1024x128) (k0_off99 k) S1x8x128.size (k0_off99_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off99 k) (k0_off99_inb k))) shapeCasts_S8x128_S1x8x128⟩,
      ⟨Rect.unit (s := S4x1024x128) (k0_off98 k) S1x8x128.size (k0_off98_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off98 k) (k0_off98_inb k))) shapeCasts_S8x128_S1x8x128⟩,
      ⟨Rect.unit (s := S4x1024x128) (k0_off97 k) S1x8x128.size (k0_off97_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off97 k) (k0_off97_inb k))) shapeCasts_S8x128_S1x8x128⟩,
      ⟨Rect.unit (s := S4x1024x128) (k0_off96 k) S1x8x128.size (k0_off96_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off96 k) (k0_off96_inb k))) shapeCasts_S8x128_S1x8x128⟩,
      ⟨Rect.unit (s := S4x1024x128) (k0_off95 k) S1x8x128.size (k0_off95_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off95 k) (k0_off95_inb k))) shapeCasts_S8x128_S1x8x128⟩,
      ⟨Rect.unit (s := S4x1024x128) (k0_off94 k) S1x8x128.size (k0_off94_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off94 k) (k0_off94_inb k))) shapeCasts_S8x128_S1x8x128⟩,
      ⟨Rect.unit (s := S4x1024x128) (k0_off93 k) S1x8x128.size (k0_off93_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off93 k) (k0_off93_inb k))) shapeCasts_S8x128_S1x8x128⟩,
      ⟨Rect.unit (s := S4x1024x128) (k0_off92 k) S1x8x128.size (k0_off92_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off92 k) (k0_off92_inb k))) shapeCasts_S8x128_S1x8x128⟩,
      ⟨Rect.unit (s := S4x1024x128) (k0_off91 k) S1x8x128.size (k0_off91_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off91 k) (k0_off91_inb k))) shapeCasts_S8x128_S1x8x128⟩,
      ⟨Rect.unit (s := S4x1024x128) (k0_off90 k) S1x8x128.size (k0_off90_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off90 k) (k0_off90_inb k))) shapeCasts_S8x128_S1x8x128⟩,
      ⟨Rect.unit (s := S4x1024x128) (k0_off89 k) S1x8x128.size (k0_off89_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off89 k) (k0_off89_inb k))) shapeCasts_S8x128_S1x8x128⟩,
      ⟨Rect.unit (s := S4x1024x128) (k0_off88 k) S1x8x128.size (k0_off88_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off88 k) (k0_off88_inb k))) shapeCasts_S8x128_S1x8x128⟩,
      ⟨Rect.unit (s := S4x1024x128) (k0_off87 k) S1x8x128.size (k0_off87_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off87 k) (k0_off87_inb k))) shapeCasts_S8x128_S1x8x128⟩,
      ⟨Rect.unit (s := S4x1024x128) (k0_off86 k) S1x8x128.size (k0_off86_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off86 k) (k0_off86_inb k))) shapeCasts_S8x128_S1x8x128⟩,
      ⟨Rect.unit (s := S4x1024x128) (k0_off85 k) S1x8x128.size (k0_off85_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off85 k) (k0_off85_inb k))) shapeCasts_S8x128_S1x8x128⟩,
      ⟨Rect.unit (s := S4x1024x128) (k0_off84 k) S1x8x128.size (k0_off84_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off84 k) (k0_off84_inb k))) shapeCasts_S8x128_S1x8x128⟩,
      ⟨Rect.unit (s := S4x1024x128) (k0_off83 k) S1x8x128.size (k0_off83_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off83 k) (k0_off83_inb k))) shapeCasts_S8x128_S1x8x128⟩,
      ⟨Rect.unit (s := S4x1024x128) (k0_off82 k) S1x8x128.size (k0_off82_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off82 k) (k0_off82_inb k))) shapeCasts_S8x128_S1x8x128⟩,
      ⟨Rect.unit (s := S4x1024x128) (k0_off81 k) S1x8x128.size (k0_off81_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off81 k) (k0_off81_inb k))) shapeCasts_S8x128_S1x8x128⟩,
      ⟨Rect.unit (s := S4x1024x128) (k0_off80 k) S1x8x128.size (k0_off80_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off80 k) (k0_off80_inb k))) shapeCasts_S8x128_S1x8x128⟩,
      ⟨Rect.unit (s := S4x1024x128) (k0_off79 k) S1x8x128.size (k0_off79_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off79 k) (k0_off79_inb k))) shapeCasts_S8x128_S1x8x128⟩,
      ⟨Rect.unit (s := S4x1024x128) (k0_off78 k) S1x8x128.size (k0_off78_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off78 k) (k0_off78_inb k))) shapeCasts_S8x128_S1x8x128⟩,
      ⟨Rect.unit (s := S4x1024x128) (k0_off77 k) S1x8x128.size (k0_off77_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off77 k) (k0_off77_inb k))) shapeCasts_S8x128_S1x8x128⟩,
      ⟨Rect.unit (s := S4x1024x128) (k0_off76 k) S1x8x128.size (k0_off76_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off76 k) (k0_off76_inb k))) shapeCasts_S8x128_S1x8x128⟩,
      ⟨Rect.unit (s := S4x1024x128) (k0_off75 k) S1x8x128.size (k0_off75_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off75 k) (k0_off75_inb k))) shapeCasts_S8x128_S1x8x128⟩,
      ⟨Rect.unit (s := S4x1024x128) (k0_off74 k) S1x8x128.size (k0_off74_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off74 k) (k0_off74_inb k))) shapeCasts_S8x128_S1x8x128⟩,
      ⟨Rect.unit (s := S4x1024x128) (k0_off73 k) S1x8x128.size (k0_off73_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off73 k) (k0_off73_inb k))) shapeCasts_S8x128_S1x8x128⟩,
      ⟨Rect.unit (s := S4x1024x128) (k0_off72 k) S1x8x128.size (k0_off72_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off72 k) (k0_off72_inb k))) shapeCasts_S8x128_S1x8x128⟩,
      ⟨Rect.unit (s := S4x1024x128) (k0_off71 k) S1x8x128.size (k0_off71_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off71 k) (k0_off71_inb k))) shapeCasts_S8x128_S1x8x128⟩,
      ⟨Rect.unit (s := S4x1024x128) (k0_off70 k) S1x8x128.size (k0_off70_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off70 k) (k0_off70_inb k))) shapeCasts_S8x128_S1x8x128⟩,
      ⟨Rect.unit (s := S4x1024x128) (k0_off69 k) S1x8x128.size (k0_off69_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off69 k) (k0_off69_inb k))) shapeCasts_S8x128_S1x8x128⟩,
      ⟨Rect.unit (s := S4x1024x128) (k0_off68 k) S1x8x128.size (k0_off68_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off68 k) (k0_off68_inb k))) shapeCasts_S8x128_S1x8x128⟩,
      ⟨Rect.unit (s := S4x1024x128) (k0_off67 k) S1x8x128.size (k0_off67_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off67 k) (k0_off67_inb k))) shapeCasts_S8x128_S1x8x128⟩,
      ⟨Rect.unit (s := S4x1024x128) (k0_off66 k) S1x8x128.size (k0_off66_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off66 k) (k0_off66_inb k))) shapeCasts_S8x128_S1x8x128⟩,
      ⟨Rect.unit (s := S4x1024x128) (k0_off65 k) S1x8x128.size (k0_off65_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off65 k) (k0_off65_inb k))) shapeCasts_S8x128_S1x8x128⟩,
      ⟨Rect.unit (s := S4x1024x128) (k0_off64 k) S1x8x128.size (k0_off64_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off64 k) (k0_off64_inb k))) shapeCasts_S8x128_S1x8x128⟩,
      ⟨Rect.unit (s := S4x1024x128) (k0_off63 k) S1x8x128.size (k0_off63_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off63 k) (k0_off63_inb k))) shapeCasts_S8x128_S1x8x128⟩,
      ⟨Rect.unit (s := S4x1024x128) (k0_off62 k) S1x8x128.size (k0_off62_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off62 k) (k0_off62_inb k))) shapeCasts_S8x128_S1x8x128⟩,
      ⟨Rect.unit (s := S4x1024x128) (k0_off61 k) S1x8x128.size (k0_off61_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off61 k) (k0_off61_inb k))) shapeCasts_S8x128_S1x8x128⟩,
      ⟨Rect.unit (s := S4x1024x128) (k0_off60 k) S1x8x128.size (k0_off60_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off60 k) (k0_off60_inb k))) shapeCasts_S8x128_S1x8x128⟩,
      ⟨Rect.unit (s := S4x1024x128) (k0_off59 k) S1x8x128.size (k0_off59_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off59 k) (k0_off59_inb k))) shapeCasts_S8x128_S1x8x128⟩,
      ⟨Rect.unit (s := S4x1024x128) (k0_off58 k) S1x8x128.size (k0_off58_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off58 k) (k0_off58_inb k))) shapeCasts_S8x128_S1x8x128⟩,
      ⟨Rect.unit (s := S4x1024x128) (k0_off57 k) S1x8x128.size (k0_off57_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off57 k) (k0_off57_inb k))) shapeCasts_S8x128_S1x8x128⟩,
      ⟨Rect.unit (s := S4x1024x128) (k0_off56 k) S1x8x128.size (k0_off56_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off56 k) (k0_off56_inb k))) shapeCasts_S8x128_S1x8x128⟩,
      ⟨Rect.unit (s := S4x1024x128) (k0_off55 k) S1x8x128.size (k0_off55_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off55 k) (k0_off55_inb k))) shapeCasts_S8x128_S1x8x128⟩,
      ⟨Rect.unit (s := S4x1024x128) (k0_off54 k) S1x8x128.size (k0_off54_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off54 k) (k0_off54_inb k))) shapeCasts_S8x128_S1x8x128⟩,
      ⟨Rect.unit (s := S4x1024x128) (k0_off53 k) S1x8x128.size (k0_off53_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off53 k) (k0_off53_inb k))) shapeCasts_S8x128_S1x8x128⟩,
      ⟨Rect.unit (s := S4x1024x128) (k0_off52 k) S1x8x128.size (k0_off52_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off52 k) (k0_off52_inb k))) shapeCasts_S8x128_S1x8x128⟩,
      ⟨Rect.unit (s := S4x1024x128) (k0_off51 k) S1x8x128.size (k0_off51_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off51 k) (k0_off51_inb k))) shapeCasts_S8x128_S1x8x128⟩,
      ⟨Rect.unit (s := S4x1024x128) (k0_off50 k) S1x8x128.size (k0_off50_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off50 k) (k0_off50_inb k))) shapeCasts_S8x128_S1x8x128⟩,
      ⟨Rect.unit (s := S4x1024x128) (k0_off49 k) S1x8x128.size (k0_off49_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off49 k) (k0_off49_inb k))) shapeCasts_S8x128_S1x8x128⟩,
      ⟨Rect.unit (s := S4x1024x128) (k0_off48 k) S1x8x128.size (k0_off48_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off48 k) (k0_off48_inb k))) shapeCasts_S8x128_S1x8x128⟩,
      ⟨Rect.unit (s := S4x1024x128) (k0_off47 k) S1x8x128.size (k0_off47_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off47 k) (k0_off47_inb k))) shapeCasts_S8x128_S1x8x128⟩,
      ⟨Rect.unit (s := S4x1024x128) (k0_off46 k) S1x8x128.size (k0_off46_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off46 k) (k0_off46_inb k))) shapeCasts_S8x128_S1x8x128⟩,
      ⟨Rect.unit (s := S4x1024x128) (k0_off45 k) S1x8x128.size (k0_off45_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off45 k) (k0_off45_inb k))) shapeCasts_S8x128_S1x8x128⟩,
      ⟨Rect.unit (s := S4x1024x128) (k0_off44 k) S1x8x128.size (k0_off44_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off44 k) (k0_off44_inb k))) shapeCasts_S8x128_S1x8x128⟩,
      ⟨Rect.unit (s := S4x1024x128) (k0_off43 k) S1x8x128.size (k0_off43_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off43 k) (k0_off43_inb k))) shapeCasts_S8x128_S1x8x128⟩,
      ⟨Rect.unit (s := S4x1024x128) (k0_off42 k) S1x8x128.size (k0_off42_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off42 k) (k0_off42_inb k))) shapeCasts_S8x128_S1x8x128⟩,
      ⟨Rect.unit (s := S4x1024x128) (k0_off41 k) S1x8x128.size (k0_off41_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off41 k) (k0_off41_inb k))) shapeCasts_S8x128_S1x8x128⟩,
      ⟨Rect.unit (s := S4x1024x128) (k0_off40 k) S1x8x128.size (k0_off40_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off40 k) (k0_off40_inb k))) shapeCasts_S8x128_S1x8x128⟩,
      ⟨Rect.unit (s := S4x1024x128) (k0_off39 k) S1x8x128.size (k0_off39_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off39 k) (k0_off39_inb k))) shapeCasts_S8x128_S1x8x128⟩,
      ⟨Rect.unit (s := S4x1024x128) (k0_off38 k) S1x8x128.size (k0_off38_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off38 k) (k0_off38_inb k))) shapeCasts_S8x128_S1x8x128⟩,
      ⟨Rect.unit (s := S4x1024x128) (k0_off37 k) S1x8x128.size (k0_off37_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off37 k) (k0_off37_inb k))) shapeCasts_S8x128_S1x8x128⟩,
      ⟨Rect.unit (s := S4x1024x128) (k0_off36 k) S1x8x128.size (k0_off36_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off36 k) (k0_off36_inb k))) shapeCasts_S8x128_S1x8x128⟩,
      ⟨Rect.unit (s := S4x1024x128) (k0_off35 k) S1x8x128.size (k0_off35_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off35 k) (k0_off35_inb k))) shapeCasts_S8x128_S1x8x128⟩,
      ⟨Rect.unit (s := S4x1024x128) (k0_off34 k) S1x8x128.size (k0_off34_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off34 k) (k0_off34_inb k))) shapeCasts_S8x128_S1x8x128⟩,
      ⟨Rect.unit (s := S4x1024x128) (k0_off33 k) S1x8x128.size (k0_off33_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off33 k) (k0_off33_inb k))) shapeCasts_S8x128_S1x8x128⟩,
      ⟨Rect.unit (s := S4x1024x128) (k0_off32 k) S1x8x128.size (k0_off32_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off32 k) (k0_off32_inb k))) shapeCasts_S8x128_S1x8x128⟩,
      ⟨Rect.unit (s := S4x1024x128) (k0_off31 k) S1x8x128.size (k0_off31_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off31 k) (k0_off31_inb k))) shapeCasts_S8x128_S1x8x128⟩,
      ⟨Rect.unit (s := S4x1024x128) (k0_off30 k) S1x8x128.size (k0_off30_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off30 k) (k0_off30_inb k))) shapeCasts_S8x128_S1x8x128⟩,
      ⟨Rect.unit (s := S4x1024x128) (k0_off29 k) S1x8x128.size (k0_off29_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off29 k) (k0_off29_inb k))) shapeCasts_S8x128_S1x8x128⟩,
      ⟨Rect.unit (s := S4x1024x128) (k0_off28 k) S1x8x128.size (k0_off28_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off28 k) (k0_off28_inb k))) shapeCasts_S8x128_S1x8x128⟩,
      ⟨Rect.unit (s := S4x1024x128) (k0_off27 k) S1x8x128.size (k0_off27_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off27 k) (k0_off27_inb k))) shapeCasts_S8x128_S1x8x128⟩,
      ⟨Rect.unit (s := S4x1024x128) (k0_off26 k) S1x8x128.size (k0_off26_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off26 k) (k0_off26_inb k))) shapeCasts_S8x128_S1x8x128⟩,
      ⟨Rect.unit (s := S4x1024x128) (k0_off25 k) S1x8x128.size (k0_off25_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off25 k) (k0_off25_inb k))) shapeCasts_S8x128_S1x8x128⟩,
      ⟨Rect.unit (s := S4x1024x128) (k0_off24 k) S1x8x128.size (k0_off24_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off24 k) (k0_off24_inb k))) shapeCasts_S8x128_S1x8x128⟩,
      ⟨Rect.unit (s := S4x1024x128) (k0_off23 k) S1x8x128.size (k0_off23_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off23 k) (k0_off23_inb k))) shapeCasts_S8x128_S1x8x128⟩,
      ⟨Rect.unit (s := S4x1024x128) (k0_off22 k) S1x8x128.size (k0_off22_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off22 k) (k0_off22_inb k))) shapeCasts_S8x128_S1x8x128⟩,
      ⟨Rect.unit (s := S4x1024x128) (k0_off21 k) S1x8x128.size (k0_off21_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off21 k) (k0_off21_inb k))) shapeCasts_S8x128_S1x8x128⟩,
      ⟨Rect.unit (s := S4x1024x128) (k0_off20 k) S1x8x128.size (k0_off20_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off20 k) (k0_off20_inb k))) shapeCasts_S8x128_S1x8x128⟩,
      ⟨Rect.unit (s := S4x1024x128) (k0_off19 k) S1x8x128.size (k0_off19_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off19 k) (k0_off19_inb k))) shapeCasts_S8x128_S1x8x128⟩,
      ⟨Rect.unit (s := S4x1024x128) (k0_off18 k) S1x8x128.size (k0_off18_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off18 k) (k0_off18_inb k))) shapeCasts_S8x128_S1x8x128⟩,
      ⟨Rect.unit (s := S4x1024x128) (k0_off17 k) S1x8x128.size (k0_off17_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off17 k) (k0_off17_inb k))) shapeCasts_S8x128_S1x8x128⟩,
      ⟨Rect.unit (s := S4x1024x128) (k0_off16 k) S1x8x128.size (k0_off16_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off16 k) (k0_off16_inb k))) shapeCasts_S8x128_S1x8x128⟩,
      ⟨Rect.unit (s := S4x1024x128) (k0_off15 k) S1x8x128.size (k0_off15_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off15 k) (k0_off15_inb k))) shapeCasts_S8x128_S1x8x128⟩,
      ⟨Rect.unit (s := S4x1024x128) (k0_off14 k) S1x8x128.size (k0_off14_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off14 k) (k0_off14_inb k))) shapeCasts_S8x128_S1x8x128⟩,
      ⟨Rect.unit (s := S4x1024x128) (k0_off13 k) S1x8x128.size (k0_off13_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off13 k) (k0_off13_inb k))) shapeCasts_S8x128_S1x8x128⟩,
      ⟨Rect.unit (s := S4x1024x128) (k0_off12 k) S1x8x128.size (k0_off12_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off12 k) (k0_off12_inb k))) shapeCasts_S8x128_S1x8x128⟩,
      ⟨Rect.unit (s := S4x1024x128) (k0_off11 k) S1x8x128.size (k0_off11_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off11 k) (k0_off11_inb k))) shapeCasts_S8x128_S1x8x128⟩,
      ⟨Rect.unit (s := S4x1024x128) (k0_off10 k) S1x8x128.size (k0_off10_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off10 k) (k0_off10_inb k))) shapeCasts_S8x128_S1x8x128⟩,
      ⟨Rect.unit (s := S4x1024x128) (k0_off9 k) S1x8x128.size (k0_off9_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off9 k) (k0_off9_inb k))) shapeCasts_S8x128_S1x8x128⟩,
      ⟨Rect.unit (s := S4x1024x128) (k0_off8 k) S1x8x128.size (k0_off8_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off8 k) (k0_off8_inb k))) shapeCasts_S8x128_S1x8x128⟩,
      ⟨Rect.unit (s := S4x1024x128) (k0_off7 k) S1x8x128.size (k0_off7_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off7 k) (k0_off7_inb k))) shapeCasts_S8x128_S1x8x128⟩,
      ⟨Rect.unit (s := S4x1024x128) (k0_off6 k) S1x8x128.size (k0_off6_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off6 k) (k0_off6_inb k))) shapeCasts_S8x128_S1x8x128⟩,
      ⟨Rect.unit (s := S4x1024x128) (k0_off5 k) S1x8x128.size (k0_off5_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off5 k) (k0_off5_inb k))) shapeCasts_S8x128_S1x8x128⟩,
      ⟨Rect.unit (s := S4x1024x128) (k0_off4 k) S1x8x128.size (k0_off4_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off4 k) (k0_off4_inb k))) shapeCasts_S8x128_S1x8x128⟩,
      ⟨Rect.unit (s := S4x1024x128) (k0_off3 k) S1x8x128.size (k0_off3_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off3 k) (k0_off3_inb k))) shapeCasts_S8x128_S1x8x128⟩,
      ⟨Rect.unit (s := S4x1024x128) (k0_off2 k) S1x8x128.size (k0_off2_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off2 k) (k0_off2_inb k))) shapeCasts_S8x128_S1x8x128⟩,
      ⟨Rect.unit (s := S4x1024x128) (k0_off1 k) S1x8x128.size (k0_off1_inb k), shapeCast S1x8x128 (thrRow (topRows (rows arg9 X_arg9 k)) (topRows (rows arg10 X_arg10 k)) ((topSums (topRows (rows arg9 X_arg9 k)) (topRows (rows arg10 X_arg10 k))).getD 15 low) (row arg9 X_arg9 (k0_off1 k) (k0_off1_inb k))) shapeCasts_S8x128_S1x8x128⟩] : List (View.Piece (Elt F) S4x1024x128 .f32)) := by
  chain_rfl

end Cert.Kernel4Ideal.Body

end
-- ==== Proof.RtScr.lean ====
/- The routing's kernel: the scores its scratch arrays hold, and the rows its loop reads of them. -/
module

public import proofs.«01_k».proof.Proof.RtBody
public import proofs.«01_k».proof.Proof.RtTrip

@[expose] public section

set_option maxRecDepth 65536

noncomputable section

namespace Cert.Kernel4Ideal.Body

open Cert.Kernel4Ideal Cert.Kernel4Ideal.Gen
open Idealize.ShloMosaic Idealize.ShloMosaic.TcCoe Idealize.ShloMosaic.Tactic
open Cert.RtSpec

/-- The load of the whole first keys. -/
abbrev w3 (arg3 : Memref sig .tc .vmem S128x128 .bf16) (harg3 : arg3.IsWhole) (x2 : Vec Ideal S128x128 .bf16) : FVec Ideal S128x128 .bf16 :=
  View.readAt (Elt Ideal) arg3.view (Rect.unit (s := S128x128) ![0, 0] S128x128.size inb_S128x128_S128x128_0_0).toLoadRect (harg3.unread x2)

theorem w3_eq (arg3 : Memref sig .tc .vmem S128x128 .bf16) (harg3 : arg3.IsWhole) (x2 : Vec Ideal S128x128 .bf16) : w3 arg3 harg3 x2 = x2 := by
  unfold w3
  rw [View.readAt_eq_ld, harg3.read_unread]
  exact View.ld_unit_zero (by decide +kernel) _ x2

/-- The scores of a block of tokens as the scratch array holds them: slab, key and head, token. -/
def scr (r : Fin 8 → Fin 128 → Fin 2048) (x0 : Vec Ideal S1024x512 .bf16) (x1 : Vec Ideal S2048x1024 .bf16) (k : Vec Ideal S128x128 .bf16) (y : S4x1024x128.Idx) : EReal :=
  dots (fun j => x0 (ix2 j (⟨128 * (y 0).val + (y 2).val, by have h0 : (y 0).val < 4 := (y 0).isLt; have h2 : (y 2).val < 128 := (y 2).isLt; omega⟩ : Fin 512)))
    (fun q j => x1 (ix2 q j)) (fun n d => k (ix2 n d)) (r ⟨(y 1).val % 8, Nat.mod_lt _ (by omega)⟩) ⟨(y 1).val / 8, by have h1 : (y 1).val < 1024 := (y 1).isLt; omega⟩

theorem sInb (s h : Nat) (hs : s < 4) (hh : h < 8) : ∀ a, S1x128x128.size a = 0 ∨ (![s, h, 0] : Fin 3 → Nat) a + (![1, 8, 1] : Fin 3 → Nat) a * (S1x128x128.size a - 1) < S4x1024x128.size a := by
  intro a
  right
  match a with
  | ⟨0, _⟩ => show s + 1 * (1 - 1) < 4; omega
  | ⟨1, _⟩ => show h + 8 * (128 - 1) < 1024; omega
  | ⟨2, _⟩ => show 0 + 1 * (128 - 1) < 128; omega

/-- The rows of a slab of a scratch array that belong to one head. -/
abbrev sRect (s h : Nat) (hs : s < 4) (hh : h < 8) : Rect S4x1024x128 :=
  ⟨(⟨![s, h, 0], S1x128x128.size, ![1, 8, 1], sInb s h hs hh⟩ : LoadRect S4x1024x128), spos_1_8_1⟩

theorem slice512 (o : Nat) (ho : o ≤ 1920) : S2048x512.Slices ![o, 0] S128x512 := ⟨rfl, fun a => by
  match a with
  | ⟨0, _⟩ => show o + 128 ≤ 2048; omega
  | ⟨1, _⟩ => show 0 + 512 ≤ 512; omega⟩

theorem slice128 (l : Nat) (hl : l ≤ 384) : S128x512.Slices ![0, l] S128x128 := ⟨rfl, fun a => by
  match a with
  | ⟨0, _⟩ => show 0 + 128 ≤ 128; omega
  | ⟨1, _⟩ => show l + 128 ≤ 512; omega⟩

/-- One store into a scratch array. -/
abbrev sPiece (z : Nat) (hz : z ≤ 128) (w : FVec Ideal S2048x1024 .bf16) (x : FVec Ideal S1024x512 .bf16) (k : FVec Ideal S128x128 .bf16) (h s : Nat) (hh : h < 8) (hs : s < 4) : View.Piece (Elt Ideal) S4x1024x128 .f32 :=
  ⟨sRect s h hs hh, slabB (256 * h + z) (128 * s) (slice512 _ (by omega)) (slice128 _ (by omega)) w x k⟩

/-- All stores into a scratch array, the last first. -/
def sPieces (z : Nat) (hz : z ≤ 128) (w : FVec Ideal S2048x1024 .bf16) (x : FVec Ideal S1024x512 .bf16) (k : FVec Ideal S128x128 .bf16) : List (View.Piece (Elt Ideal) S4x1024x128 .f32) :=
  [sPiece z hz w x k 7 3 (by decide) (by decide),
    sPiece z hz w x k 7 2 (by decide) (by decide),
    sPiece z hz w x k 7 1 (by decide) (by decide),
    sPiece z hz w x k 7 0 (by decide) (by decide),
    sPiece z hz w x k 6 3 (by decide) (by decide),
    sPiece z hz w x k 6 2 (by decide) (by decide),
    sPiece z hz w x k 6 1 (by decide) (by decide),
    sPiece z hz w x k 6 0 (by decide) (by decide),
    sPiece z hz w x k 5 3 (by decide) (by decide),
    sPiece z hz w x k 5 2 (by decide) (by decide),
    sPiece z hz w x k 5 1 (by decide) (by decide),
    sPiece z hz w x k 5 0 (by decide) (by decide),
    sPiece z hz w x k 4 3 (by decide) (by decide),
    sPiece z hz w x k 4 2 (by decide) (by decide),
    sPiece z hz w x k 4 1 (by decide) (by decide),
    sPiece z hz w x k 4 0 (by decide) (by decide),
    sPiece z hz w x k 3 3 (by decide) (by decide),
    sPiece z hz w x k 3 2 (by decide) (by decide),
    sPiece z hz w x k 3 1 (by decide) (by decide),
    sPiece z hz w x k 3 0 (by decide) (by decide),
    sPiece z hz w x k 2 3 (by decide) (by decide),
    sPiece z hz w x k 2 2 (by decide) (by decide),
    sPiece z hz w x k 2 1 (by decide) (by decide),
    sPiece z hz w x k 2 0 (by decide) (by decide),
    sPiece z hz w x k 1 3 (by decide) (by decide),
    sPiece z hz w x k 1 2 (by decide) (by decide),
    sPiece z hz w x k 1 1 (by decide) (by decide),
    sPiece z hz w x k 1 0 (by decide) (by decide),
    sPiece z hz w x k 0 3 (by decide) (by decide),
    sPiece z hz w x k 0 2 (by decide) (by decide),
    sPiece z hz w x k 0 1 (by decide) (by decide),
    sPiece z hz w x k 0 0 (by decide) (by decide)]

theorem sPiece_mem (z : Nat) (hz : z ≤ 128) (w : FVec Ideal S2048x1024 .bf16) (x : FVec Ideal S1024x512 .bf16) (k : FVec Ideal S128x128 .bf16) (h s : Nat) (hh : h < 8) (hs : s < 4) :
    sPiece z hz w x k h s hh hs ∈ sPieces z hz w x k := by
  have e : ∀ i : Fin 32, (sPieces z hz w x k)[31 - i.val]'(by show 31 - i.val < 32; omega) = sPiece z hz w x k (i.val / 4) (i.val % 4) (by omega) (by omega) := by
    intro i
    match i with
    | 0 => rfl
    | 1 => rfl
    | 2 => rfl
    | 3 => rfl
    | 4 => rfl
    | 5 => rfl
    | 6 => rfl
    | 7 => rfl
    | 8 => rfl
    | 9 => rfl
    | 10 => rfl
    | 11 => rfl
    | 12 => rfl
    | 13 => rfl
    | 14 => rfl
    | 15 => rfl
    | 16 => rfl
    | 17 => rfl
    | 18 => rfl
    | 19 => rfl
    | 20 => rfl
    | 21 => rfl
    | 22 => rfl
    | 23 => rfl
    | 24 => rfl
    | 25 => rfl
    | 26 => rfl
    | 27 => rfl
    | 28 => rfl
    | 29 => rfl
    | 30 => rfl
    | 31 => rfl
    | ⟨n + 32, hn⟩ => exact absurd hn (by omega)
  have := e ⟨4 * h + s, by omega⟩
  have h1 : (4 * h + s) / 4 = h := by omega
  have h2 : (4 * h + s) % 4 = s := by omega
  simp only [h1, h2] at this
  rw [← this]
  exact List.getElem_mem _

theorem sPieces_all (z : Nat) (hz : z ≤ 128) (w : FVec Ideal S2048x1024 .bf16) (x : FVec Ideal S1024x512 .bf16) (k : FVec Ideal S128x128 .bf16) (P : View.Piece (Elt Ideal) S4x1024x128 .f32 → Prop)
    (hP : ∀ h s hh hs, P (sPiece z hz w x k h s hh hs)) : ∀ p ∈ sPieces z hz w x k, P p := by
  unfold sPieces
  simp only [List.forall_mem_cons, List.not_mem_nil, false_imp_iff, implies_true, and_true]
  refine ⟨hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _, hP _ _ _ _⟩

theorem sPiece_eq (z : Nat) (hz : z ≤ 128) (r : Fin 8 → Fin 128 → Fin 2048) (hr : ∀ h d, (r h d).val = 256 * h.val + z + d.val) (x0 : Vec Ideal S1024x512 .bf16) (x1 : Vec Ideal S2048x1024 .bf16) (k : Vec Ideal S128x128 .bf16)
    (h s : Nat) (hh : h < 8) (hs : s < 4) (x : (sRect s h hs hh).shape.Idx) :
    (sPiece z hz x1 x0 k h s hh hs).2 x = scr r x0 x1 k ((sPiece z hz x1 x0 k h s hh hs).1.emb x) := by
  obtain ⟨o, n, t, rfl⟩ : ∃ (o : Fin 1) (n : Fin 128) (t : Fin 128), x = ix3 o n t := ⟨x 0, x 1, x 2, eq_ix3 x⟩
  obtain rfl : o = 0 := Subsingleton.elim _ _
  have hn := n.isLt
  have ht := t.isLt
  have ey : (sRect s h hs hh).emb (ix3 0 n t) = ix3 (⟨s, hs⟩ : Fin 4) (⟨8 * n.val + h, by omega⟩ : Fin 1024) t := by
    funext a
    apply Fin.ext
    match a with
    | ⟨0, _⟩ => show s + 1 * 0 = s; omega
    | ⟨1, _⟩ => show h + 8 * n.val = 8 * n.val + h; omega
    | ⟨2, _⟩ => show 0 + 1 * t.val = t.val; omega
  show slabB (256 * h + z) (128 * s) (slice512 _ (by omega)) (slice128 _ (by omega)) x1 x0 k (ix3 0 n t) = scr r x0 x1 k ((sRect s h hs hh).emb (ix3 0 n t))
  rw [ey, slabB_apply (256 * h + z) (128 * s) (slice512 _ (by omega)) (slice128 _ (by omega)) x1 x0 k (r ⟨h, hh⟩) (hr ⟨h, hh⟩) n t ⟨128 * s + t.val, by omega⟩ rfl]
  unfold scr
  have e1 : (⟨(8 * n.val + h) % 8, Nat.mod_lt _ (by omega)⟩ : Fin 8) = ⟨h, hh⟩ := Fin.ext (by show (8 * n.val + h) % 8 = h; omega)
  have e2 : (⟨(8 * n.val + h) / 8, by omega⟩ : Fin 128) = n := Fin.ext (by show (8 * n.val + h) / 8 = n.val; omega)
  show _ = dots (fun j => x0 (ix2 j ⟨128 * s + t.val, _⟩)) _ _ (r ⟨(8 * n.val + h) % 8, _⟩) ⟨(8 * n.val + h) / 8, _⟩
  rw [e1, e2]

/-- A scratch array after the stores. -/
theorem scr_read (arg : Memref sig .tc .vmem S4x1024x128 .f32) (z : Nat) (hz : z ≤ 128) (r : Fin 8 → Fin 128 → Fin 2048) (hr : ∀ h d, (r h d).val = 256 * h.val + z + d.val)
    (x0 : Vec Ideal S1024x512 .bf16) (x1 : Vec Ideal S2048x1024 .bf16) (k : Vec Ideal S128x128 .bf16) :
    arg.view.read (Elt Ideal) (arg.view.writes (Elt Ideal) arg.view.junk (sPieces z hz x1 x0 k)) = scr r x0 x1 k := by
  funext y
  refine View.read_writes_apply_of_pieces (e := .f32) arg.view arg.view.junk (fun y => (scr r x0 x1 k y : Elt Ideal .f32)) (sPieces z hz x1 x0 k) ?_ y ?_
  · exact sPieces_all z hz x1 x0 k _ (fun h s hh hs => sPiece_eq z hz r hr x0 x1 k h s hh hs)
  · have h0 : (y 0).val < 4 := (y 0).isLt
    have h1 : (y 1).val < 1024 := (y 1).isLt
    have h2 : (y 2).val < 128 := (y 2).isLt
    refine ⟨_, sPiece_mem z hz x1 x0 k ((y 1).val % 8) (y 0).val (by omega) h0, ?_⟩
    rw [LoadRect.mem_set]
    intro a
    match a with
    | ⟨0, _⟩ => exact ⟨0, by show 0 < 1; decide, by show (y 0).val = (y 0).val + 1 * 0; omega⟩
    | ⟨1, _⟩ => exact ⟨(y 1).val / 8, by show (y 1).val / 8 < 128; omega, by show (y 1).val = (y 1).val % 8 + 8 * ((y 1).val / 8); omega⟩
    | ⟨2, _⟩ => exact ⟨(y 2).val, h2, by show (y 2).val = 0 + 1 * (y 2).val; omega⟩

theorem cast8 (v : FVec Ideal S1x8x128 .f32) (h : Fin 8) (t : Fin 128) : (shapeCast S8x128 v shapeCasts_S1x8x128_S8x128) (ix2 h t) = v (ix3 0 h t) := by
  pointwise

theorem step {A : Type} {f : A → EReal} {x : A} {l : List A} {G : Nat → EReal} {n m : Nat} (hx : f x = G n) (hl : l.map f = (List.range' (n + 1) m).map G) : (x :: l).map f = (List.range' n (m + 1)).map G := by
  rw [List.map_cons, hx, hl, List.range'_succ, List.map_cons]

theorem stop {A : Type} {f : A → EReal} {G : Nat → EReal} {n : Nat} : ([] : List A).map f = (List.range' n 0).map G := rfl

/-- The key's row of one head in a slab. -/
def at8 (k : Nat) (h : Fin 8) (t : Fin 128) (a : Nat) : S4x1024x128.Idx := ix3 (Fin.ofNat 4 k) (Fin.ofNat 1024 (8 * a + h.val)) t

/-- Eight rows of a slab, read. -/
theorem row_apply (arg : Memref sig .tc .vmem S4x1024x128 .f32) (X : BufTy.Contents (Elt Ideal) arg.view.ty) (G : S4x1024x128.Idx → EReal) (hX : arg.view.read (Elt Ideal) X = G)
    (k : Nat) (hk : k < 4) (a : Nat) (ha : a < 128) (o : Fin 3 → Nat) (ho : o = ![k, 8 * a, 0]) (hin : ∀ a, o a + S1x8x128.size a ≤ S4x1024x128.size a) (h : Fin 8) (t : Fin 128) :
    row arg X o hin (ix2 h t) = G (at8 k h t a) := by
  have e : row arg X o hin (ix2 h t) = (View.readAt (Elt Ideal) arg.view (Rect.unit (s := S4x1024x128) o S1x8x128.size hin).toLoadRect X : FVec Ideal S1x8x128 .f32) (ix3 0 h t) := cast8 _ h t
  rw [e, View.readAt_eq_ld, hX]
  subst ho
  refine congrArg G ?_
  have hh := h.isLt
  funext d
  apply Fin.ext
  match d with
  | ⟨0, _⟩ => show k + 1 * 0 = k % 4; omega
  | ⟨1, _⟩ => show 8 * a + 1 * h.val = (8 * a + h.val) % 1024; omega
  | ⟨2, _⟩ => show 0 + 1 * t.val = t.val; omega

set_option maxHeartbeats 4000000 in
theorem rows_apply (arg : Memref sig .tc .vmem S4x1024x128 .f32) (X : BufTy.Contents (Elt Ideal) arg.view.ty) (G : S4x1024x128.Idx → EReal) (hX : arg.view.read (Elt Ideal) X = G)
    (k : Fin k0_t1_loop.trips) (hk : k.val < 4) (h : Fin 8) (t : Fin 128) :
    (rows arg X k).map (fun v => (v (ix2 h t) : EReal)) = (List.range' 0 128).map (fun a => G (at8 k.val h t a)) := by
  unfold rows
  have R := row_apply arg X G hX k.val hk
  refine step (R 0 (by decide) _ (k0_off1_eq k) _ h t) ?_
  refine step (R 1 (by decide) _ (k0_off2_eq k) _ h t) ?_
  refine step (R 2 (by decide) _ (k0_off3_eq k) _ h t) ?_
  refine step (R 3 (by decide) _ (k0_off4_eq k) _ h t) ?_
  refine step (R 4 (by decide) _ (k0_off5_eq k) _ h t) ?_
  refine step (R 5 (by decide) _ (k0_off6_eq k) _ h t) ?_
  refine step (R 6 (by decide) _ (k0_off7_eq k) _ h t) ?_
  refine step (R 7 (by decide) _ (k0_off8_eq k) _ h t) ?_
  refine step (R 8 (by decide) _ (k0_off9_eq k) _ h t) ?_
  refine step (R 9 (by decide) _ (k0_off10_eq k) _ h t) ?_
  refine step (R 10 (by decide) _ (k0_off11_eq k) _ h t) ?_
  refine step (R 11 (by decide) _ (k0_off12_eq k) _ h t) ?_
  refine step (R 12 (by decide) _ (k0_off13_eq k) _ h t) ?_
  refine step (R 13 (by decide) _ (k0_off14_eq k) _ h t) ?_
  refine step (R 14 (by decide) _ (k0_off15_eq k) _ h t) ?_
  refine step (R 15 (by decide) _ (k0_off16_eq k) _ h t) ?_
  refine step (R 16 (by decide) _ (k0_off17_eq k) _ h t) ?_
  refine step (R 17 (by decide) _ (k0_off18_eq k) _ h t) ?_
  refine step (R 18 (by decide) _ (k0_off19_eq k) _ h t) ?_
  refine step (R 19 (by decide) _ (k0_off20_eq k) _ h t) ?_
  refine step (R 20 (by decide) _ (k0_off21_eq k) _ h t) ?_
  refine step (R 21 (by decide) _ (k0_off22_eq k) _ h t) ?_
  refine step (R 22 (by decide) _ (k0_off23_eq k) _ h t) ?_
  refine step (R 23 (by decide) _ (k0_off24_eq k) _ h t) ?_
  refine step (R 24 (by decide) _ (k0_off25_eq k) _ h t) ?_
  refine step (R 25 (by decide) _ (k0_off26_eq k) _ h t) ?_
  refine step (R 26 (by decide) _ (k0_off27_eq k) _ h t) ?_
  refine step (R 27 (by decide) _ (k0_off28_eq k) _ h t) ?_
  refine step (R 28 (by decide) _ (k0_off29_eq k) _ h t) ?_
  refine step (R 29 (by decide) _ (k0_off30_eq k) _ h t) ?_
  refine step (R 30 (by decide) _ (k0_off31_eq k) _ h t) ?_
  refine step (R 31 (by decide) _ (k0_off32_eq k) _ h t) ?_
  refine step (R 32 (by decide) _ (k0_off33_eq k) _ h t) ?_
  refine step (R 33 (by decide) _ (k0_off34_eq k) _ h t) ?_
  refine step (R 34 (by decide) _ (k0_off35_eq k) _ h t) ?_
  refine step (R 35 (by decide) _ (k0_off36_eq k) _ h t) ?_
  refine step (R 36 (by decide) _ (k0_off37_eq k) _ h t) ?_
  refine step (R 37 (by decide) _ (k0_off38_eq k) _ h t) ?_
  refine step (R 38 (by decide) _ (k0_off39_eq k) _ h t) ?_
  refine step (R 39 (by decide) _ (k0_off40_eq k) _ h t) ?_
  refine step (R 40 (by decide) _ (k0_off41_eq k) _ h t) ?_
  refine step (R 41 (by decide) _ (k0_off42_eq k) _ h t) ?_
  refine step (R 42 (by decide) _ (k0_off43_eq k) _ h t) ?_
  refine step (R 43 (by decide) _ (k0_off44_eq k) _ h t) ?_
  refine step (R 44 (by decide) _ (k0_off45_eq k) _ h t) ?_
  refine step (R 45 (by decide) _ (k0_off46_eq k) _ h t) ?_
  refine step (R 46 (by decide) _ (k0_off47_eq k) _ h t) ?_
  refine step (R 47 (by decide) _ (k0_off48_eq k) _ h t) ?_
  refine step (R 48 (by decide) _ (k0_off49_eq k) _ h t) ?_
  refine step (R 49 (by decide) _ (k0_off50_eq k) _ h t) ?_
  refine step (R 50 (by decide) _ (k0_off51_eq k) _ h t) ?_
  refine step (R 51 (by decide) _ (k0_off52_eq k) _ h t) ?_
  refine step (R 52 (by decide) _ (k0_off53_eq k) _ h t) ?_
  refine step (R 53 (by decide) _ (k0_off54_eq k) _ h t) ?_
  refine step (R 54 (by decide) _ (k0_off55_eq k) _ h t) ?_
  refine step (R 55 (by decide) _ (k0_off56_eq k) _ h t) ?_
  refine step (R 56 (by decide) _ (k0_off57_eq k) _ h t) ?_
  refine step (R 57 (by decide) _ (k0_off58_eq k) _ h t) ?_
  refine step (R 58 (by decide) _ (k0_off59_eq k) _ h t) ?_
  refine step (R 59 (by decide) _ (k0_off60_eq k) _ h t) ?_
  refine step (R 60 (by decide) _ (k0_off61_eq k) _ h t) ?_
  refine step (R 61 (by decide) _ (k0_off62_eq k) _ h t) ?_
  refine step (R 62 (by decide) _ (k0_off63_eq k) _ h t) ?_
  refine step (R 63 (by decide) _ (k0_off64_eq k) _ h t) ?_
  refine step (R 64 (by decide) _ (k0_off65_eq k) _ h t) ?_
  refine step (R 65 (by decide) _ (k0_off66_eq k) _ h t) ?_
  refine step (R 66 (by decide) _ (k0_off67_eq k) _ h t) ?_
  refine step (R 67 (by decide) _ (k0_off68_eq k) _ h t) ?_
  refine step (R 68 (by decide) _ (k0_off69_eq k) _ h t) ?_
  refine step (R 69 (by decide) _ (k0_off70_eq k) _ h t) ?_
  refine step (R 70 (by decide) _ (k0_off71_eq k) _ h t) ?_
  refine step (R 71 (by decide) _ (k0_off72_eq k) _ h t) ?_
  refine step (R 72 (by decide) _ (k0_off73_eq k) _ h t) ?_
  refine step (R 73 (by decide) _ (k0_off74_eq k) _ h t) ?_
  refine step (R 74 (by decide) _ (k0_off75_eq k) _ h t) ?_
  refine step (R 75 (by decide) _ (k0_off76_eq k) _ h t) ?_
  refine step (R 76 (by decide) _ (k0_off77_eq k) _ h t) ?_
  refine step (R 77 (by decide) _ (k0_off78_eq k) _ h t) ?_
  refine step (R 78 (by decide) _ (k0_off79_eq k) _ h t) ?_
  refine step (R 79 (by decide) _ (k0_off80_eq k) _ h t) ?_
  refine step (R 80 (by decide) _ (k0_off81_eq k) _ h t) ?_
  refine step (R 81 (by decide) _ (k0_off82_eq k) _ h t) ?_
  refine step (R 82 (by decide) _ (k0_off83_eq k) _ h t) ?_
  refine step (R 83 (by decide) _ (k0_off84_eq k) _ h t) ?_
  refine step (R 84 (by decide) _ (k0_off85_eq k) _ h t) ?_
  refine step (R 85 (by decide) _ (k0_off86_eq k) _ h t) ?_
  refine step (R 86 (by decide) _ (k0_off87_eq k) _ h t) ?_
  refine step (R 87 (by decide) _ (k0_off88_eq k) _ h t) ?_
  refine step (R 88 (by decide) _ (k0_off89_eq k) _ h t) ?_
  refine step (R 89 (by decide) _ (k0_off90_eq k) _ h t) ?_
  refine step (R 90 (by decide) _ (k0_off91_eq k) _ h t) ?_
  refine step (R 91 (by decide) _ (k0_off92_eq k) _ h t) ?_
  refine step (R 92 (by decide) _ (k0_off93_eq k) _ h t) ?_
  refine step (R 93 (by decide) _ (k0_off94_eq k) _ h t) ?_
  refine step (R 94 (by decide) _ (k0_off95_eq k) _ h t) ?_
  refine step (R 95 (by decide) _ (k0_off96_eq k) _ h t) ?_
  refine step (R 96 (by decide) _ (k0_off97_eq k) _ h t) ?_
  refine step (R 97 (by decide) _ (k0_off98_eq k) _ h t) ?_
  refine step (R 98 (by decide) _ (k0_off99_eq k) _ h t) ?_
  refine step (R 99 (by decide) _ (k0_off100_eq k) _ h t) ?_
  refine step (R 100 (by decide) _ (k0_off101_eq k) _ h t) ?_
  refine step (R 101 (by decide) _ (k0_off102_eq k) _ h t) ?_
  refine step (R 102 (by decide) _ (k0_off103_eq k) _ h t) ?_
  refine step (R 103 (by decide) _ (k0_off104_eq k) _ h t) ?_
  refine step (R 104 (by decide) _ (k0_off105_eq k) _ h t) ?_
  refine step (R 105 (by decide) _ (k0_off106_eq k) _ h t) ?_
  refine step (R 106 (by decide) _ (k0_off107_eq k) _ h t) ?_
  refine step (R 107 (by decide) _ (k0_off108_eq k) _ h t) ?_
  refine step (R 108 (by decide) _ (k0_off109_eq k) _ h t) ?_
  refine step (R 109 (by decide) _ (k0_off110_eq k) _ h t) ?_
  refine step (R 110 (by decide) _ (k0_off111_eq k) _ h t) ?_
  refine step (R 111 (by decide) _ (k0_off112_eq k) _ h t) ?_
  refine step (R 112 (by decide) _ (k0_off113_eq k) _ h t) ?_
  refine step (R 113 (by decide) _ (k0_off114_eq k) _ h t) ?_
  refine step (R 114 (by decide) _ (k0_off115_eq k) _ h t) ?_
  refine step (R 115 (by decide) _ (k0_off116_eq k) _ h t) ?_
  refine step (R 116 (by decide) _ (k0_off117_eq k) _ h t) ?_
  refine step (R 117 (by decide) _ (k0_off118_eq k) _ h t) ?_
  refine step (R 118 (by decide) _ (k0_off119_eq k) _ h t) ?_
  refine step (R 119 (by decide) _ (k0_off120_eq k) _ h t) ?_
  refine step (R 120 (by decide) _ (k0_off121_eq k) _ h t) ?_
  refine step (R 121 (by decide) _ (k0_off122_eq k) _ h t) ?_
  refine step (R 122 (by decide) _ (k0_off123_eq k) _ h t) ?_
  refine step (R 123 (by decide) _ (k0_off124_eq k) _ h t) ?_
  refine step (R 124 (by decide) _ (k0_off125_eq k) _ h t) ?_
  refine step (R 125 (by decide) _ (k0_off126_eq k) _ h t) ?_
  refine step (R 126 (by decide) _ (k0_off127_eq k) _ h t) ?_
  refine step (R 127 (by decide) _ (k0_off128_eq k) _ h t) ?_
  exact stop

section run
variable (c : Dev nD) (i : grid0.Coords) (arg1 : Memref sig .tc .vmem S1024x512 .bf16) (harg1 : arg1.IsWhole) (arg2 : Memref sig .tc .vmem S2048x1024 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S4x1024x128 .f32) (harg5 : arg5.IsWhole) (arg6 : Memref sig .tc .vmem S4x1024x128 .f32) (harg6 : arg6.IsWhole) (arg7 : Memref sig .tc .vmem S4x128x128 .f32) (harg7 : arg7.IsWhole) (arg8 : Memref sig .tc .vmem S8x128x512 .f32) (harg8 : arg8.IsWhole) (arg9 : Memref sig .tc .vmem S4x1024x128 .f32) (harg9 : arg9.IsWhole) (arg10 : Memref sig .tc .vmem S4x1024x128 .f32) (harg10 : arg10.IsWhole)
  (x0 : Vec Ideal S1024x512 .bf16) (x1 : Vec Ideal S2048x1024 .bf16) (x2 x3 : Vec Ideal S128x128 .bf16)

/-- The first keys' scratch array as the loop finds it. -/
abbrev X9 : BufTy.Contents (Elt Ideal) arg9.view.ty := arg9.view.writes (Elt Ideal) arg9.view.junk (sPieces 0 (by decide) (w2 arg2 harg2 x1) (w1 arg1 harg1 x0) (w3 arg3 harg3 x2))

/-- The second keys' scratch array as the loop finds it. -/
abbrev X10 : BufTy.Contents (Elt Ideal) arg10.view.ty := arg10.view.writes (Elt Ideal) arg10.view.junk (sPieces 128 (by decide) (w2 arg2 harg2 x1) (w1 arg1 harg1 x0) (w4 arg4 harg4 x3))

theorem X9_read : arg9.view.read (Elt Ideal) (X9 arg1 harg1 arg2 harg2 arg3 harg3 arg9 x0 x1 x2) = scr row1 x0 x1 x2 := by
  unfold X9
  rw [w1_eq, w2_eq, w3_eq]
  exact scr_read arg9 0 (by decide) row1 (fun h d => rfl) x0 x1 x2

theorem X10_read : arg10.view.read (Elt Ideal) (X10 arg1 harg1 arg2 harg2 arg4 harg4 arg10 x0 x1 x3) = scr RtSpec.row x0 x1 x3 := by
  unfold X10
  rw [w1_eq, w2_eq, w4_eq]
  exact scr_read arg10 128 (by decide) RtSpec.row (fun h d => rfl) x0 x1 x3

set_option backward.isDefEq.respectTransparency false in
/-- What the run leaves in the routing's three blocks: the loop's stores over the two scratch arrays. -/
theorem stores4 : (kernelRun0_A (F := Ideal) c i arg1 harg1 arg2 harg2 arg3 harg3 arg4 harg4 arg5 harg5 arg6 harg6 arg7 harg7 arg8 harg8 arg9 harg9 arg10 harg10 x0 x1 x2 x3).1
    = (pb_k0_t1 (F := Ideal) Variants.none c none i arg1 harg1 arg2 harg2 arg3 harg3 arg4 harg4 arg5 harg5 arg6 harg6 arg7 harg7 arg8 harg8 arg9 harg9 arg10 harg10 (X9 arg1 harg1 arg2 harg2 arg3 harg3 arg9 x0 x1 x2) (X10 arg1 harg1 arg2 harg2 arg4 harg4 arg10 x0 x1 x3) k0_t1_loop.trips).1 := by
  chain_rfl

set_option backward.isDefEq.respectTransparency false in
theorem stores5 : (kernelRun0_A (F := Ideal) c i arg1 harg1 arg2 harg2 arg3 harg3 arg4 harg4 arg5 harg5 arg6 harg6 arg7 harg7 arg8 harg8 arg9 harg9 arg10 harg10 x0 x1 x2 x3).2.1
    = (pb_k0_t1 (F := Ideal) Variants.none c none i arg1 harg1 arg2 harg2 arg3 harg3 arg4 harg4 arg5 harg5 arg6 harg6 arg7 harg7 arg8 harg8 arg9 harg9 arg10 harg10 (X9 arg1 harg1 arg2 harg2 arg3 harg3 arg9 x0 x1 x2) (X10 arg1 harg1 arg2 harg2 arg4 harg4 arg10 x0 x1 x3) k0_t1_loop.trips).2.1 := by
  chain_rfl

set_option backward.isDefEq.respectTransparency false in
theorem stores6 : (kernelRun0_A (F := Ideal) c i arg1 harg1 arg2 harg2 arg3 harg3 arg4 harg4 arg5 harg5 arg6 harg6 arg7 harg7 arg8 harg8 arg9 harg9 arg10 harg10 x0 x1 x2 x3).2.2.1
    = (pb_k0_t1 (F := Ideal) Variants.none c none i arg1 harg1 arg2 harg2 arg3 harg3 arg4 harg4 arg5 harg5 arg6 harg6 arg7 harg7 arg8 harg8 arg9 harg9 arg10 harg10 (X9 arg1 harg1 arg2 harg2 arg3 harg3 arg9 x0 x1 x2) (X10 arg1 harg1 arg2 harg2 arg4 harg4 arg10 x0 x1 x3) k0_t1_loop.trips).2.2 := by
  chain_rfl

end run

end Cert.Kernel4Ideal.Body

end
-- ==== Proof.RtTop.lean ====
/- The exchange network's values: the sixteen largest, in order. -/
module

public import proofs.«01_k».proof.Proof.RtNet
public import Mathlib.Data.EReal.Operations
public import Mathlib.Data.List.Count
public import Mathlib.Data.List.GetD

@[expose] public section

set_option maxRecDepth 16384

namespace Cert.RtNet

section hom
variable {V W : Type} (f : V → W) {hi lo : V → V → V} {hi' lo' : W → W → W}

theorem merge_map (hh : ∀ a b, f (hi a b) = hi' (f a) (f b)) (hl : ∀ a b, f (lo a b) = lo' (f a) (f b)) (d : Bool) (n : Nat) :
    ∀ xs : List V, (merge hi lo d n xs).map f = merge hi' lo' d n (xs.map f) := by
  induction n with
  | zero => intro xs; rfl
  | succ n ih =>
    intro xs
    cases d <;> simp [merge, ih, List.map_zipWith, List.zipWith_map, hh, hl, List.map_take, List.map_drop, ← List.map_take, ← List.map_drop]

theorem sort_map (hh : ∀ a b, f (hi a b) = hi' (f a) (f b)) (hl : ∀ a b, f (lo a b) = lo' (f a) (f b)) (n : Nat) :
    ∀ (d : Bool) (xs : List V), (sort hi lo d n xs).map f = sort hi' lo' d n (xs.map f) := by
  induction n with
  | zero => intro d xs; rfl
  | succ n ih =>
    intro d xs
    unfold sort
    rw [merge_map f hh hl, List.map_append, ih, ih, List.map_take, List.map_drop]

theorem join_map (hh : ∀ a b, f (hi a b) = hi' (f a) (f b)) (hl : ∀ a b, f (lo a b) = lo' (f a) (f b)) (xs ys : List V) :
    (join hi lo xs ys).map f = join hi' lo' (xs.map f) (ys.map f) := by
  unfold join
  rw [merge_map f hh hl, ← List.map_reverse, List.map_zipWith, List.zipWith_map]
  simp only [hh]

theorem joins_map (hh : ∀ a b, f (hi a b) = hi' (f a) (f b)) (hl : ∀ a b, f (lo a b) = lo' (f a) (f b)) (n : Nat) :
    ∀ (t xs : List V), (joins hi lo n t xs).map f = joins hi' lo' n (t.map f) (xs.map f) := by
  induction n with
  | zero => intro t xs; rfl
  | succ n ih =>
    intro t xs
    unfold joins
    rw [ih, join_map f hh hl, sort_map f hh hl, List.map_take, List.map_drop]

theorem top_map (hh : ∀ a b, f (hi a b) = hi' (f a) (f b)) (hl : ∀ a b, f (lo a b) = lo' (f a) (f b)) (n : Nat) (xs : List V) :
    (top hi lo n xs).map f = top hi' lo' n (xs.map f) := by
  unfold top
  rw [joins_map f hh hl, sort_map f hh hl, List.map_take, List.map_drop]

theorem length_merge (hi lo : V → V → V) (d : Bool) (n : Nat) : ∀ xs : List V, xs.length = 2 ^ n → (merge hi lo d n xs).length = 2 ^ n := by
  induction n with
  | zero => intro xs h; exact h
  | succ n ih =>
    intro xs h
    have h2 : 2 ^ (n + 1) = 2 ^ n + 2 ^ n := by rw [pow_succ]; omega
    cases d <;> simp only [merge, List.length_append] <;> rw [ih, ih, h2] <;> simp <;> omega

theorem length_sort (hi lo : V → V → V) (n : Nat) : ∀ (d : Bool) (xs : List V), xs.length = 2 ^ n → (sort hi lo d n xs).length = 2 ^ n := by
  induction n with
  | zero => intro d xs h; exact h
  | succ n ih =>
    intro d xs h
    have h2 : 2 ^ (n + 1) = 2 ^ n + 2 ^ n := by rw [pow_succ]; omega
    unfold sort
    apply length_merge
    rw [List.length_append, ih _ _ (by simp; omega), ih _ _ (by simp; omega)]
    omega

theorem length_joins (hi lo : V → V → V) (n : Nat) : ∀ t xs : List V, t.length = 16 → xs.length = 16 * n → (joins hi lo n t xs).length = 16 := by
  induction n with
  | zero => intro t xs h _; exact h
  | succ n ih =>
    intro t xs h hx
    unfold joins
    apply ih
    · unfold join
      rw [show 16 = 2 ^ 4 from rfl]
      apply length_merge
      rw [List.length_zipWith, List.length_reverse, length_sort hi lo 4 true _ (by simp; omega)]
      omega
    · simp; omega

theorem length_top (hi lo : V → V → V) (n : Nat) (xs : List V) (h : xs.length = 16 * (n + 1)) : (top hi lo n xs).length = 16 := by
  unfold top
  apply length_joins
  · exact length_sort hi lo 4 true _ (by simp; omega)
  · simp; omega

end hom

/-- A sorted row of bits, the ones first or last. -/
def bits (d : Bool) (m k : Nat) : List Bool :=
  match d with
  | true => List.replicate k true ++ List.replicate (m - k) false
  | false => List.replicate (m - k) false ++ List.replicate k true

abbrev ones (xs : List Bool) : Nat := xs.count true

theorem merge1 : ∀ d : Bool, ∀ a < 2, ∀ b < 2, merge (· || ·) (· && ·) d 1 (bits true 1 a ++ bits false 1 b) = bits d 2 (a + b) := by decide +kernel
theorem merge2 : ∀ d : Bool, ∀ a < 3, ∀ b < 3, merge (· || ·) (· && ·) d 2 (bits true 2 a ++ bits false 2 b) = bits d 4 (a + b) := by decide +kernel
theorem merge3 : ∀ d : Bool, ∀ a < 5, ∀ b < 5, merge (· || ·) (· && ·) d 3 (bits true 4 a ++ bits false 4 b) = bits d 8 (a + b) := by decide +kernel
theorem merge4 : ∀ d : Bool, ∀ a < 9, ∀ b < 9, merge (· || ·) (· && ·) d 4 (bits true 8 a ++ bits false 8 b) = bits d 16 (a + b) := by decide +kernel
theorem join_bits : ∀ a < 17, ∀ b < 17, join (· || ·) (· && ·) (bits true 16 a) (bits true 16 b) = bits true 16 (min 16 (a + b)) := by decide +kernel

theorem sort_step (n : Nat)
    (hm : ∀ d : Bool, ∀ a < 2 ^ n + 1, ∀ b < 2 ^ n + 1, merge (· || ·) (· && ·) d (n + 1) (bits true (2 ^ n) a ++ bits false (2 ^ n) b) = bits d (2 ^ (n + 1)) (a + b))
    (ih : ∀ (d : Bool) (xs : List Bool), xs.length = 2 ^ n → sort (· || ·) (· && ·) d n xs = bits d (2 ^ n) (ones xs))
    (d : Bool) (xs : List Bool) (h : xs.length = 2 ^ (n + 1)) : sort (· || ·) (· && ·) d (n + 1) xs = bits d (2 ^ (n + 1)) (ones xs) := by
  have h2 : 2 ^ (n + 1) = 2 ^ n + 2 ^ n := by rw [pow_succ]; omega
  have l1 : (xs.take (2 ^ n)).length = 2 ^ n := by simp; omega
  have l2 : (xs.drop (2 ^ n)).length = 2 ^ n := by simp; omega
  have c1 : ones (xs.take (2 ^ n)) ≤ 2 ^ n := le_of_le_of_eq (List.count_le_length (a := true)) l1
  have c2 : ones (xs.drop (2 ^ n)) ≤ 2 ^ n := le_of_le_of_eq (List.count_le_length (a := true)) l2
  unfold sort
  rw [ih _ _ l1, ih _ _ l2, hm d _ (by omega) _ (by omega)]
  congr 1
  conv_rhs => rw [← List.take_append_drop (2 ^ n) xs]
  exact (List.count_append ..).symm

theorem sort0 (d : Bool) (xs : List Bool) (h : xs.length = 2 ^ 0) : sort (· || ·) (· && ·) d 0 xs = bits d (2 ^ 0) (ones xs) := by
  obtain ⟨b, rfl⟩ := List.length_eq_one_iff.mp h
  cases b <;> cases d <;> rfl

theorem sort4 (d : Bool) (xs : List Bool) (h : xs.length = 16) : sort (· || ·) (· && ·) d 4 xs = bits d 16 (ones xs) :=
  sort_step 3 merge4 (sort_step 2 merge3 (sort_step 1 merge2 (sort_step 0 merge1 sort0))) d xs h

theorem joins_bits (n : Nat) : ∀ (c : Nat) (xs : List Bool), c ≤ 16 → xs.length = 16 * n →
    joins (· || ·) (· && ·) n (bits true 16 c) xs = bits true 16 (min 16 (c + ones xs)) := by
  induction n with
  | zero =>
    intro c xs hc h
    obtain rfl : xs = [] := List.length_eq_zero_iff.mp (by omega)
    unfold joins
    rw [ones, List.count_nil, Nat.add_zero, Nat.min_eq_right hc]
  | succ n ih =>
    intro c xs hc h
    have l1 : (xs.take 16).length = 16 := by simp; omega
    have c1 : ones (xs.take 16) ≤ 16 := le_of_le_of_eq (List.count_le_length (a := true)) l1
    have e : ones xs = ones (xs.take 16) + ones (xs.drop 16) := by
      conv_lhs => rw [← List.take_append_drop 16 xs]
      exact List.count_append ..
    unfold joins
    rw [sort4 _ _ l1, join_bits _ (by omega) _ (by omega), ih _ _ (by omega) (by simp; omega), e]
    congr 1
    omega

theorem top_bits (n : Nat) (xs : List Bool) (h : xs.length = 16 * (n + 1)) :
    top (· || ·) (· && ·) n xs = bits true 16 (min 16 (ones xs)) := by
  have l1 : (xs.take 16).length = 16 := by simp; omega
  have c1 : ones (xs.take 16) ≤ 16 := le_of_le_of_eq (List.count_le_length (a := true)) l1
  unfold top
  rw [sort4 _ _ l1, joins_bits n _ _ c1 (by simp; omega)]
  congr 2
  conv_rhs => rw [← List.take_append_drop 16 xs]
  exact (List.count_append ..).symm

theorem bits_getD : ∀ k < 17, ∀ j < 16, (bits true 16 k).getD j false = decide (j < k) := by decide +kernel

/-- A value is at most the network's `j`-th exactly if more than `j` of the given ones are at least it. -/
theorem le_top (n : Nat) (xs : List EReal) (h : xs.length = 16 * (n + 1)) (j : Nat) (hj : j < 16) (z θ : EReal) :
    θ ≤ (top max min n xs).getD j z ↔ j < xs.countP (fun x => decide (θ ≤ x)) := by
  have hl := length_top max min n xs h
  have e := top_map (hi' := (· || ·)) (lo' := (· && ·)) (fun x : EReal => decide (θ ≤ x)) (hi := max) (lo := min)
    (fun a b => by simp [le_max_iff]) (fun a b => by simp [le_min_iff]) n xs
  rw [top_bits n _ (by simp [h])] at e
  have e2 := congrArg (fun l => l.getD j false) e
  beta_reduce at e2
  rw [bits_getD _ (by omega) j hj] at e2
  rw [List.getD_eq_getElem _ _ (by simp [hl]; exact hj), List.getElem_map, decide_eq_decide] at e2
  rw [List.getD_eq_getElem _ _ (by rw [hl]; exact hj), e2, ones, List.count_eq_countP, List.countP_map]
  have : (fun x => decide (θ ≤ x)) = ((fun x => x == true) ∘ fun x : EReal => decide (θ ≤ x)) := by funext x; simp
  rw [← this]
  omega

end Cert.RtNet
-- ==== Proof.RtOrd.lean ====
/- The sixteen largest of a row, as the reference's stable sort gives them and as the exchange network gives them, and of the sums of two such rows. -/
module

public import proofs.«01_k».proof.Proof.RtTop
public import Idealize.ShloMosaic.Lib.SortFacts
public import Idealize.ShloMosaic.Lib.Pointwise
public import Idealize.ShloMosaic.PureOps.Ideal.Laws

@[expose] public section

set_option maxRecDepth 16384

noncomputable section

namespace Cert.RtNet

open Idealize.ShloMosaic

/-- In a falling list the elements at least a bound come first. -/
theorem le_sorted (θ : EReal) : ∀ (L : List EReal), L.Pairwise (fun a b => b ≤ a) → ∀ (j : Nat) (h : j < L.length),
    (θ ≤ L[j] ↔ j < L.countP (fun x => decide (θ ≤ x)))
  | [], _, j, h => absurd h (Nat.not_lt_zero j)
  | a :: l, hp, j, h => by
    obtain ⟨h1, h2⟩ := List.pairwise_cons.mp hp
    by_cases ha : θ ≤ a
    · rw [List.countP_cons_of_pos (by simpa using ha)]
      cases j with
      | zero => simp [ha]
      | succ j => rw [List.getElem_cons_succ, le_sorted θ l h2 j (by simpa using h)]; omega
    · have hz : l.countP (fun x => decide (θ ≤ x)) = 0 := by
        rw [List.countP_eq_zero]
        intro b hb hθ
        exact ha (le_trans (by simpa using hθ) (h1 b hb))
      rw [List.countP_cons_of_neg (by simpa using ha), hz]
      refine iff_of_false ?_ (Nat.not_lt_zero j)
      cases j with
      | zero => simpa using ha
      | succ j => rw [List.getElem_cons_succ]; exact fun hθ => ha (hθ.trans (h1 _ (List.getElem_mem _)))

/-- The sort's values along a fiber: a bound is at most the `j`-th exactly if more than `j` values are at least it. -/
theorem le_sortedFrom {n : Nat} (x : Fin n → EReal) (j : Fin n) (θ : EReal) :
    θ ≤ x (sortedFrom (fun k k' => FloatOps.cmpfTotal (F := Ideal) (φ := .f32) .gt (x k) (x k') == 1#1) j) ↔ j.val < (List.ofFn x).countP (fun y => decide (θ ≤ y)) := by
  have hb : (fun k k' => FloatOps.cmpfTotal (F := Ideal) (φ := .f32) .gt (x k) (x k') == 1#1) = fun k k' => decide (x k' < x k) := by
    funext k k'
    show (BitVec.ofBool (decide (x k' < x k)) == 1#1) = _
    cases decide (x k' < x k) <;> rfl
  rw [hb]
  set B : Fin n → Fin n → Bool := fun k k' => decide (x k' < x k) with hB
  have hs : (sortPositions n B).Pairwise (fun b c => B c b = false) := pairwise_stableSort B B
    (fun a b h => by simp only [hB, decide_eq_true_eq, decide_eq_false_iff_not] at h ⊢; exact not_lt_of_gt h) (fun _ _ h => h)
    (fun a b c h1 h2 => by simp only [hB, decide_eq_false_iff_not, not_lt] at h1 h2 ⊢; exact h1.trans h2) _
  have hL : ((sortPositions n B).map x).Pairwise (fun a b => b ≤ a) := by
    rw [List.pairwise_map]
    exact hs.imp fun h => by simpa [hB] using h
  have hc : ((sortPositions n B).map x).countP (fun y => decide (θ ≤ y)) = (List.ofFn x).countP (fun y => decide (θ ≤ y)) := by
    rw [List.ofFn_eq_map]
    exact ((perm_sortPositions n B).map x).countP_eq _
  have hl := length_sortPositions n B
  have := le_sorted θ _ hL j.val (by rw [List.length_map, hl]; exact j.isLt)
  rw [hc, List.getElem_map] at this
  exact this

/-- The reference's top values along the last axis. -/
theorem le_topK {A B n q : Nat} (x : FVec Ideal ⟨3, ![A, B, n]⟩ .f32) (h : (⟨3, ![A, B, n]⟩ : Shape).Slices (fun _ => 0) ⟨3, ![A, B, q]⟩)
    (a : Fin A) (b : Fin B) (j : Fin q) (hq : q ≤ n) (θ : EReal) :
    θ ≤ (Host.topK ⟨3, ![A, B, q]⟩ 2 (FloatOps.cmpfTotal (F := Ideal) (φ := .f32) .gt) x h).1 (ix3 a b j)
      ↔ j.val < (List.ofFn fun k : Fin n => (x (ix3 a b k) : EReal)).countP (fun y => decide (θ ≤ y)) := by
  rw [← le_sortedFrom (fun k : Fin n => (x (ix3 a b k) : EReal)) ⟨j.val, lt_of_lt_of_le j.isLt hq⟩ θ]
  have hal : ∀ k : Fin n, Shape.Idx.along (s := ⟨3, ![A, B, n]⟩) (ix3 a b ⟨j.val, lt_of_lt_of_le j.isLt hq⟩) (2 : Fin 3) k = ix3 a b k := by
    intro k
    funext d
    match d with
    | ⟨0, _⟩ => rfl
    | ⟨1, _⟩ => rfl
    | ⟨2, _⟩ => rfl
  have e : (Host.topK ⟨3, ![A, B, q]⟩ 2 (FloatOps.cmpfTotal (F := Ideal) (φ := .f32) .gt) x h).1 (ix3 a b j)
      = x (ix3 a b (sortedFrom (fun k k' : Fin n => FloatOps.cmpfTotal (F := Ideal) (φ := .f32) .gt (x (ix3 a b k)) (x (ix3 a b k')) == 1#1) ⟨j.val, lt_of_lt_of_le j.isLt hq⟩)) := by
    have key : ∀ i : (⟨3, ![A, B, n]⟩ : Shape).Idx, i = ix3 a b ⟨j.val, lt_of_lt_of_le j.isLt hq⟩ →
        x (i.along (2 : Fin 3) (sortedFrom (fun k k' : Fin n => FloatOps.cmpfTotal (F := Ideal) (φ := .f32) .gt (x (i.along (2 : Fin 3) k)) (x (i.along (2 : Fin 3) k')) == 1#1) (i (2 : Fin 3))))
          = x (ix3 a b (sortedFrom (fun k k' : Fin n => FloatOps.cmpfTotal (F := Ideal) (φ := .f32) .gt (x (ix3 a b k)) (x (ix3 a b k')) == 1#1) ⟨j.val, lt_of_lt_of_le j.isLt hq⟩)) := by
      rintro _ rfl
      simp only [hal]
      exact congrArg x (hal _)
    refine key (fun d => ⟨0 + (ix3 a b j (d.cast h.1.symm)).val, Nat.lt_of_lt_of_le (Nat.add_lt_add_left (ix3 a b j _).isLt _) (h.2 d)⟩) ?_
    funext d
    apply Fin.ext
    match d with
    | ⟨0, _⟩ => exact Nat.zero_add _
    | ⟨1, _⟩ => exact Nat.zero_add _
    | ⟨2, _⟩ => exact Nat.zero_add _
  exact iff_of_eq (congrArg (θ ≤ ·) e)

/-- All places of a sum of two rows of 16. -/
def full : List (Nat × Nat) := (List.range 256).map fun k => (k / 16, k % 16)

theorem full_filter : full.filter (fun p => decide ((p.1 + 1) * (p.2 + 1) ≤ 16)) = pairs := by decide +kernel

theorem full_lt : ∀ p ∈ full, p.1 < 16 ∧ p.2 < 16 := by decide +kernel

theorem pairs_lt : ∀ p ∈ pairs, p.1 < 16 ∧ p.2 < 16 := by decide +kernel

theorem box : ∀ i < 16, ∀ j < 16, 16 < (i + 1) * (j + 1) → 16 ≤ pairs.countP (fun p => decide (p.1 ≤ i ∧ p.2 ≤ j)) := by decide +kernel

/-- The candidate places hold as many sums at least a bound as all places do, as far as the first sixteen go. -/
theorem count_pairs (a b : Nat → EReal) (ha : ∀ i i', i ≤ i' → i' < 16 → a i' ≤ a i) (hb : ∀ i i', i ≤ i' → i' < 16 → b i' ≤ b i) (θ : EReal) (j : Nat) (hj : j < 16) :
    j < pairs.countP (fun p => decide (θ ≤ a p.1 + b p.2)) ↔ j < full.countP (fun p => decide (θ ≤ a p.1 + b p.2)) := by
  have hsub : pairs.countP (fun p => decide (θ ≤ a p.1 + b p.2)) ≤ full.countP (fun p => decide (θ ≤ a p.1 + b p.2)) := by
    rw [← full_filter, List.countP_filter]
    exact List.countP_mono_left fun p _ h => (Bool.and_eq_true _ _ ▸ h : _ ∧ _).1
  by_cases hex : ∃ p ∈ full, θ ≤ a p.1 + b p.2 ∧ 16 < (p.1 + 1) * (p.2 + 1)
  · obtain ⟨p, hp, hθ, hgt⟩ := hex
    obtain ⟨h1, h2⟩ := full_lt p hp
    have h16 : 16 ≤ pairs.countP (fun p => decide (θ ≤ a p.1 + b p.2)) := by
      refine (box p.1 h1 p.2 h2 hgt).trans (List.countP_mono_left fun q _ h => ?_)
      obtain ⟨hq1, hq2⟩ := of_decide_eq_true h
      exact decide_eq_true (hθ.trans (add_le_add (ha _ _ hq1 h1) (hb _ _ hq2 h2)))
    exact iff_of_true (by omega) (by omega)
  · push Not at hex
    have : pairs.countP (fun p => decide (θ ≤ a p.1 + b p.2)) = full.countP (fun p => decide (θ ≤ a p.1 + b p.2)) := by
      rw [← full_filter, List.countP_filter]
      refine List.countP_congr fun p hp => ?_
      constructor
      · intro h; exact (Bool.and_eq_true _ _ ▸ h : _ ∧ _).1
      · intro h; exact Bool.and_eq_true _ _ ▸ ⟨h, decide_eq_true (hex p hp (of_decide_eq_true h))⟩
    rw [this]

/-- The sixteen largest of 128, by the network. -/
def tops (xs : List EReal) (j : Nat) : EReal := (top max min 7 xs).getD j ⊥

/-- The sixteen largest sums, by the network over the candidates. -/
def sums (v w : List EReal) (j : Nat) : EReal := (top max min 3 (cands (· + ·) ⊥ v w)).getD j ⊥

theorem le_tops (xs : List EReal) (h : xs.length = 128) (j : Nat) (hj : j < 16) (θ : EReal) :
    θ ≤ tops xs j ↔ j < xs.countP (fun x => decide (θ ≤ x)) := le_top 7 xs (by omega) j hj ⊥ θ

theorem tops_anti (xs : List EReal) (h : xs.length = 128) (i i' : Nat) (hi : i ≤ i') (hi' : i' < 16) : tops xs i' ≤ tops xs i := by
  rw [le_tops xs h i (by omega)]
  exact lt_of_le_of_lt hi ((le_tops xs h i' hi' _).mp le_rfl)

theorem le_sums (v w : List EReal) (hv : ∀ i i', i ≤ i' → i' < 16 → v.getD i' ⊥ ≤ v.getD i ⊥) (hw : ∀ i i', i ≤ i' → i' < 16 → w.getD i' ⊥ ≤ w.getD i ⊥) (j : Nat) (hj : j < 16) (θ : EReal) :
    θ ≤ sums v w j ↔ j < full.countP (fun p => decide (θ ≤ v.getD p.1 ⊥ + w.getD p.2 ⊥)) := by
  have h64 : (cands (· + ·) ⊥ v w).length = 16 * (3 + 1) := by
    unfold cands
    rw [List.length_append, List.length_map, List.length_replicate]
    rfl
  unfold sums
  rw [le_top 3 _ h64 j hj ⊥ θ, ← count_pairs _ _ hv hw θ j hj]
  unfold cands
  rw [List.countP_append, List.countP_map]
  by_cases hθ : θ = ⊥
  · subst hθ
    have h1 : ∀ f : Nat × Nat → EReal, pairs.countP (fun p => decide (⊥ ≤ f p)) = 50 := by
      intro f
      rw [List.countP_eq_length.mpr (fun p _ => by simp)]
      rfl
    have h2 := h1 (fun p => v.getD p.1 ⊥ + w.getD p.2 ⊥)
    have h3 : pairs.countP ((fun x => decide (⊥ ≤ x)) ∘ fun p : Nat × Nat => v.getD p.1 ⊥ + w.getD p.2 ⊥) = 50 := h2
    rw [h3]
    rw [h2]
    exact iff_of_true (by omega) (by omega)
  · have h0 : (List.replicate 14 (⊥ : EReal)).countP (fun x => decide (θ ≤ x)) = 0 := by
      rw [List.countP_eq_zero]
      intro b hb hb2
      rw [List.eq_of_mem_replicate hb] at hb2
      exact hθ (le_bot_iff.mp (by simpa using hb2))
    rw [h0, Nat.add_zero]
    rfl

end Cert.RtNet

end
-- ==== Proof.RtOut.lean ====
/- The routing's thresholds and weights of one token and head, over extended reals. -/
module

public import proofs.«01_k».proof.Proof.RtTrip
public import proofs.«01_k».proof.Proof.RtOrd
import Mathlib.Data.List.GetD

@[expose] public section

noncomputable section

namespace Cert.RtOut

open Cert.RtNet
open Idealize.ShloMosaic Idealize.ShloMosaic.Tactic

abbrev lowE : EReal := Ideal.ofBits .f32 0xFF800000#32
abbrev infE : EReal := Ideal.ofBits .f32 0x7F800000#32
abbrev oneE : EReal := Ideal.ofBits .f32 0x3F800000#32
abbrev halfE : EReal := Ideal.ofBits .f32 0x3F000000#32
abbrev twoE : EReal := Ideal.ofBits .f32 0x40000000#32

theorem lowE_eq : lowE = ⊥ := by
  simp [lowE, Ideal.ofBits, Ideal.ieee, -EReal.coe_mul]

theorem infE_eq : infE = ⊤ := by
  simp [infE, Ideal.ofBits, Ideal.ieee, -EReal.coe_mul]

theorem twoE_eq : twoE = ((2 : ℝ) : EReal) := by
  simp [twoE, Ideal.ofBits, Ideal.ieee, -EReal.coe_mul]
  norm_num

/-- The sum of exponentials, the largest one's being one. -/
def zed (u : Nat → EReal) : EReal := oneE + ∑ k : Fin 15, Ideal.exp (u (k.val + 1) - u 0)

/-- A key's weight. -/
def wt (a : Nat → EReal) (u : Nat → EReal) (s : EReal) : EReal := Ideal.exp (s - a 0) * Ideal.div halfE (zed u)

/-- The least of the first keys' top 16 that goes with one of the second keys'. -/
def needL (v1 : List EReal) (tau w : EReal) : EReal := v1.foldl (fun n v => if tau ≤ v + w then v else n) infE

/-- A key's threshold. -/
def thrL (v1 v2 : List EReal) (tau s : EReal) : EReal :=
  v2.foldl (fun n w => if needL v1 tau w ≤ s then Ideal.exp (w - v2.getD 0 ⊥) else n) twoE

theorem le_foldl {A : Type} (P : A → Prop) [DecidablePred P] (f : A → EReal) (θ : EReal) : ∀ (l : List A) (z : EReal), l.Pairwise (fun a b => f b ≤ f a) → (∀ v ∈ l, f v ≤ z) →
    (θ ≤ l.foldl (fun n v => if P v then f v else n) z ↔ θ ≤ z ∧ ∀ v ∈ l, P v → θ ≤ f v)
  | [], z, _, _ => by simp
  | x :: l, z, h, hz => by
    obtain ⟨hx, hl⟩ := List.pairwise_cons.mp h
    have hxz := hz x (List.mem_cons_self ..)
    rw [List.foldl_cons]
    by_cases hP : P x
    · rw [if_pos hP, le_foldl P f θ l (f x) hl hx]
      constructor
      · rintro ⟨h1, h2⟩
        exact ⟨h1.trans hxz, List.forall_mem_cons.mpr ⟨fun _ => h1, h2⟩⟩
      · rintro ⟨h1, h2⟩
        obtain ⟨h3, h4⟩ := List.forall_mem_cons.mp h2
        exact ⟨h3 hP, h4⟩
    · rw [if_neg hP, le_foldl P f θ l z hl (fun v hv => hz v (List.mem_cons_of_mem _ hv))]
      constructor
      · rintro ⟨h1, h2⟩
        exact ⟨h1, List.forall_mem_cons.mpr ⟨fun h => absurd h hP, h2⟩⟩
      · rintro ⟨h1, h2⟩
        exact ⟨h1, (List.forall_mem_cons.mp h2).2⟩

/-- A descending list of sixteen. -/
structure Desc (v : List EReal) : Prop where
  len : v.length = 16
  anti : ∀ i i', i ≤ i' → i' < 16 → v.getD i' ⊥ ≤ v.getD i ⊥

theorem Desc.pairwise {v : List EReal} (h : Desc v) : v.Pairwise (fun a b => b ≤ a) := by
  rw [List.pairwise_iff_getElem]
  intro i j hi hj hij
  have := h.anti i j hij.le (by rw [← h.len]; exact hj)
  rwa [List.getD_eq_getElem _ _ hi, List.getD_eq_getElem _ _ hj] at this

theorem Desc.forall {v : List EReal} (h : Desc v) (Q : EReal → Prop) : (∀ x ∈ v, Q x) ↔ ∀ j : Fin 16, Q (v.getD j.val ⊥) := by
  rw [List.forall_mem_iff_getElem]
  constructor
  · intro H j
    have hj : j.val < v.length := by rw [h.len]; exact j.isLt
    rw [List.getD_eq_getElem _ _ hj]
    exact H _ hj
  · intro H i hi
    have := H ⟨i, by rw [← h.len]; exact hi⟩
    rwa [List.getD_eq_getElem _ _ hi] at this

theorem exp_mono {a b : EReal} (h : a ≤ b) : Ideal.exp a ≤ Ideal.exp b := by
  induction a with
  | bot => rw [Ideal.exp_bot]; induction b with
    | bot => rw [Ideal.exp_bot]
    | top => rw [Ideal.exp_top]; exact le_top
    | coe b => rw [Ideal.exp_coe]; exact_mod_cast (Real.exp_pos b).le
  | top => rw [top_le_iff.mp h]
  | coe a => induction b with
    | bot => exact absurd h (by simp)
    | top => rw [Ideal.exp_top]; exact le_top
    | coe b => rw [Ideal.exp_coe, Ideal.exp_coe]; exact_mod_cast Real.exp_le_exp.mpr (by exact_mod_cast h)

theorem exp_sub_le_two {a b : EReal} (h : a ≤ b) : Ideal.exp (a - b) ≤ twoE := by
  have h0 : a - b ≤ ((0 : ℝ) : EReal) := by
    rw [EReal.coe_zero]
    exact EReal.sub_nonpos.mpr h
  refine (exp_mono h0).trans ?_
  rw [Ideal.exp_coe, twoE_eq, Real.exp_zero]
  exact_mod_cast (by norm_num : (1 : ℝ) ≤ 2)

theorem le_needL {v1 : List EReal} (h1 : Desc v1) (tau w θ : EReal) : θ ≤ needL v1 tau w ↔ ∀ j : Fin 16, tau ≤ v1.getD j.val ⊥ + w → θ ≤ v1.getD j.val ⊥ := by
  unfold needL
  rw [le_foldl (fun v => tau ≤ v + w) (fun v => v) θ v1 infE h1.pairwise (fun v _ => by rw [infE_eq]; exact le_top), h1.forall (fun v => tau ≤ v + w → θ ≤ v), infE_eq]
  exact ⟨fun h => h.2, fun h => ⟨le_top, h⟩⟩

theorem le_thrL {v1 v2 : List EReal} (h2 : Desc v2) (tau s θ : EReal) :
    θ ≤ thrL v1 v2 tau s ↔ θ ≤ twoE ∧ ∀ j : Fin 16, needL v1 tau (v2.getD j.val ⊥) ≤ s → θ ≤ Ideal.exp (v2.getD j.val ⊥ - v2.getD 0 ⊥) := by
  unfold thrL
  rw [le_foldl (fun w => needL v1 tau w ≤ s) (fun w => Ideal.exp (w - v2.getD 0 ⊥)) θ v2 twoE (h2.pairwise.imp fun h => exp_mono (EReal.sub_le_sub h le_rfl))
    ((h2.forall _).mpr fun j => exp_sub_le_two (h2.anti 0 j.val (Nat.zero_le _) j.isLt)), h2.forall (fun w => needL v1 tau w ≤ s → θ ≤ Ideal.exp (w - v2.getD 0 ⊥))]

theorem desc_top (xs : List EReal) (h : xs.length = 128) : Desc (top max min 7 xs) :=
  ⟨length_top max min 7 xs (by omega), fun i i' => tops_anti xs h i i'⟩

/-- A key's threshold, of the two lists of scores. -/
def thrO (S1 S2 : List EReal) (s : EReal) : EReal := thrL (top max min 7 S1) (top max min 7 S2) (sums (top max min 7 S1) (top max min 7 S2) 15) s

/-- A key's weight, of the two lists of scores. -/
def c1O (S1 S2 : List EReal) (s : EReal) : EReal := wt (tops S1) (sums (top max min 7 S1) (top max min 7 S2)) s

section vec
open Cert.Kernel4Ideal Cert.Kernel4Ideal.Body
variable (p : S8x128.Idx)

/-- One entry of a row. -/
abbrev ev (v : FVec Ideal S8x128 .f32) : EReal := v p

theorem ev_low : ev p (low (F := Ideal)) = ⊥ := lowE_eq

theorem ev_getD (l : List (FVec Ideal S8x128 .f32)) (j : Nat) : ev p (l.getD j low) = (l.map (ev p)).getD j ⊥ := by
  rw [← ev_low p, List.getD_map]

theorem ev_topRows (xs : List (FVec Ideal S8x128 .f32)) : (topRows xs).map (ev p) = top max min 7 (xs.map (ev p)) :=
  (top_map (f := ev p) (hi' := max) (lo' := min) (fun a b => rfl) (fun a b => rfl) 7 xs)

theorem ev_topSums (v1 v2 : List (FVec Ideal S8x128 .f32)) : (topSums v1 v2).map (ev p) = top max min 3 (cands (· + ·) ⊥ (v1.map (ev p)) (v2.map (ev p))) := by
  unfold topSums
  rw [top_map (f := ev p) (hi' := max) (lo' := min) (fun a b => rfl) (fun a b => rfl) 3]
  refine congrArg _ ?_
  unfold cands
  rw [List.map_append, List.map_map, List.map_replicate, ev_low]
  refine congrArg (· ++ _) (List.map_congr_left fun q _ => ?_)
  show ev p (v1.getD q.1 low) + ev p (v2.getD q.2 low) = _
  rw [ev_getD, ev_getD]

theorem map_foldl {A B : Type} (f : A → B) (g : A → A → A) (g' : B → B → B) (hg : ∀ n v, f (g n v) = g' (f n) (f v)) : ∀ (l : List A) (z : A), f (l.foldl g z) = (l.map f).foldl g' (f z)
  | [], z => rfl
  | x :: l, z => by rw [List.foldl_cons, List.map_cons, List.foldl_cons, map_foldl f g g' hg l, hg]

theorem foldl_sum (g : EReal → EReal) : ∀ (l : List EReal) (z : EReal), l.foldl (fun s t => s + g t) z = z + (l.map g).sum
  | [], z => by simp
  | x :: l, z => by rw [List.foldl_cons, foldl_sum g l, List.map_cons, List.sum_cons, add_assoc]

theorem ev_halfInv (ts : List (FVec Ideal S8x128 .f32)) (hts : ts.length = 16) : ev p (halfInv ts) = Ideal.div halfE (zed fun k => (ts.map (ev p)).getD k ⊥) := by
  show Ideal.div halfE (ev p ((ts.drop 1).foldl _ _)) = _
  refine congrArg _ ?_
  rw [map_foldl (ev p) _ (fun s t => s + Ideal.exp (t - (ts.map (ev p)).getD 0 ⊥)) (fun n v => by rw [← ev_getD]; rfl), foldl_sum]
  unfold zed
  refine congrArg (oneE + ·) ?_
  rw [← List.sum_ofFn]
  refine congrArg _ (List.ext_getElem (by simp [hts]) fun i h1 h2 => ?_)
  have hi : i < 15 := by simpa using h2
  rw [List.getElem_map, List.getElem_map, List.getElem_drop, List.getElem_ofFn]
  show _ = Ideal.exp ((ts.map (ev p)).getD (i + 1) ⊥ - (ts.map (ev p)).getD 0 ⊥)
  rw [List.getD_eq_getElem (n := i + 1) _ _ (by simp [hts]; omega), List.getElem_map]
  simp only [Nat.add_comm 1 i]

theorem ev_c1Row (v1 v2 : List (FVec Ideal S8x128 .f32)) (s : FVec Ideal S8x128 .f32) :
    ev p (c1Row v1 v2 s) = wt (fun k => (v1.map (ev p)).getD k ⊥) (sums (v1.map (ev p)) (v2.map (ev p))) (ev p s) := by
  have hl : (topSums v1 v2).length = 16 := by
    refine length_top _ _ 3 _ ?_
    unfold cands
    rw [List.length_append, List.length_map, List.length_replicate]
    rfl
  show Ideal.exp (ev p s - ev p (v1.getD 0 low)) * ev p (halfInv (topSums v1 v2)) = _
  rw [ev_halfInv p _ hl, ev_topSums, ev_getD]
  rfl

theorem ev_need (v1 : List (FVec Ideal S8x128 .f32)) (tau w : FVec Ideal S8x128 .f32) : ev p (need v1 tau w) = needL (v1.map (ev p)) (ev p tau) (ev p w) := by
  unfold need needL
  refine map_foldl (ev p) _ _ (fun n v => ?_) v1 _
  show (if Ideal.cmp .oge (ev p v + ev p w) (ev p tau) = 1#1 then _ else _) = _
  by_cases h : ev p tau ≤ ev p v + ev p w
  · rw [if_pos h]; exact if_pos (by simp [Ideal.cmp, h])
  · rw [if_neg h]; exact if_neg (by simp [Ideal.cmp, h])

theorem ev_thrRow (v1 v2 : List (FVec Ideal S8x128 .f32)) (tau s : FVec Ideal S8x128 .f32) : ev p (thrRow v1 v2 tau s) = thrL (v1.map (ev p)) (v2.map (ev p)) (ev p tau) (ev p s) := by
  unfold thrRow thrL
  refine map_foldl (ev p) _ _ (fun n w => ?_) v2 _
  rw [← ev_need, ← ev_getD]
  show (if Ideal.cmp .oge (ev p s) (ev p (need v1 tau w)) = 1#1 then _ else _) = _
  by_cases h : ev p (need v1 tau w) ≤ ev p s
  · rw [if_pos h]; exact if_pos (by simp [Ideal.cmp, h])
  · rw [if_neg h]; exact if_neg (by simp [Ideal.cmp, h])

end vec

end Cert.RtOut

end
-- ==== Proof.RtBlk.lean ====
/- The routing's kernel: the blocks of thresholds, weights and second keys' top 16 its body writes. -/
module

public import proofs.«01_k».proof.Proof.RtScr
public import proofs.«01_k».proof.Proof.RtOut

@[expose] public section

set_option maxRecDepth 65536

noncomputable section

namespace Cert.Kernel4Ideal.Body

open Cert.Kernel4Ideal Cert.Kernel4Ideal.Gen
open Idealize.ShloMosaic Idealize.ShloMosaic.TcCoe Idealize.ShloMosaic.Tactic
open Cert.RtSpec Cert.RtOut Cert.RtNet

/-- A token's scores for one head. -/
abbrev lst (G : S4x1024x128.Idx → EReal) (k : Nat) (h : Fin 8) (t : Fin 128) : List EReal := (List.range' 0 128).map (fun a => G (at8 k h t a))

/-- The block of thresholds. -/
def blkThr (G9 G10 : S4x1024x128.Idx → EReal) (y : S4x1024x128.Idx) : EReal :=
  thrO (lst G9 (y 0).val ⟨(y 1).val % 8, Nat.mod_lt _ (by omega)⟩ (y 2)) (lst G10 (y 0).val ⟨(y 1).val % 8, Nat.mod_lt _ (by omega)⟩ (y 2)) (G9 y)

/-- The block of weights. -/
def blkC1 (G9 G10 : S4x1024x128.Idx → EReal) (y : S4x1024x128.Idx) : EReal :=
  c1O (lst G9 (y 0).val ⟨(y 1).val % 8, Nat.mod_lt _ (by omega)⟩ (y 2)) (lst G10 (y 0).val ⟨(y 1).val % 8, Nat.mod_lt _ (by omega)⟩ (y 2)) (G9 y)

/-- The block of the second keys' top 16. -/
def blkV2 (G10 : S4x1024x128.Idx → EReal) (y : S4x128x128.Idx) : EReal :=
  tops (lst G10 (y 0).val ⟨(y 1).val % 8, Nat.mod_lt _ (by omega)⟩ (y 2)) ((y 1).val / 8)

/-- The rank's row of one head in a slab. -/
def at16 (k : Nat) (h : Fin 8) (t : Fin 128) (a : Nat) : S4x128x128.Idx := ix3 (Fin.ofNat 4 k) (Fin.ofNat 128 (8 * a + h.val)) t

theorem at8_0 (k : Nat) (hk : k < 4) (h : Fin 8) (t : Fin 128) (a : Nat) : ((at8 k h t a) 0).val = k := Nat.mod_eq_of_lt hk
theorem at8_1 (k : Nat) (h : Fin 8) (t : Fin 128) (a : Nat) (ha : a < 128) : ((at8 k h t a) 1).val = 8 * a + h.val := Nat.mod_eq_of_lt (by have := h.isLt; omega)
theorem at16_0 (k : Nat) (hk : k < 4) (h : Fin 8) (t : Fin 128) (a : Nat) : ((at16 k h t a) 0).val = k := Nat.mod_eq_of_lt hk
theorem at16_1 (k : Nat) (h : Fin 8) (t : Fin 128) (a : Nat) (ha : a < 16) : ((at16 k h t a) 1).val = 8 * a + h.val := Nat.mod_eq_of_lt (by have := h.isLt; omega)

theorem mod8 (n a : Nat) (h : Fin 8) (e : n = 8 * a + h.val) : (⟨n % 8, Nat.mod_lt _ (by omega)⟩ : Fin 8) = h := Fin.ext (by have := h.isLt; show n % 8 = h.val; omega)

theorem uncast8 (v : FVec Ideal S8x128 .f32) (o : Fin 1) (h : Fin 8) (t : Fin 128) : (shapeCast S1x8x128 v shapeCasts_S8x128_S1x8x128) (ix3 o h t) = v (ix2 h t) := by
  pointwise

theorem pieceOK (B : S4x1024x128.Idx → EReal) (k : Nat) (hk : k < 4) (a : Nat) (ha : a < 128) (o : Fin 3 → Nat) (ho : o = ![k, 8 * a, 0]) (hin : ∀ a, o a + S1x8x128.size a ≤ S4x1024x128.size a)
    (v : FVec Ideal S8x128 .f32) (hv : ∀ (h : Fin 8) (t : Fin 128), v (ix2 h t) = B (at8 k h t a)) (x : S1x8x128.Idx) :
    (shapeCast S1x8x128 v shapeCasts_S8x128_S1x8x128) x = B ((Rect.unit (s := S4x1024x128) o S1x8x128.size hin).emb x) := by
  obtain ⟨p, h, t, rfl⟩ : ∃ (o : Fin 1) (h : Fin 8) (t : Fin 128), x = ix3 o h t := ⟨x 0, x 1, x 2, eq_ix3 x⟩
  rw [uncast8, hv]
  subst ho
  refine congrArg B ?_
  have hh := h.isLt
  have hp : p.val = 0 := by omega
  funext d
  apply Fin.ext
  match d with
  | ⟨0, _⟩ => show k % 4 = k + 1 * p.val; omega
  | ⟨1, _⟩ => show (8 * a + h.val) % 1024 = 8 * a + 1 * h.val; omega
  | ⟨2, _⟩ => show t.val = 0 + 1 * t.val; omega

theorem pieceOK16 (B : S4x128x128.Idx → EReal) (k : Nat) (hk : k < 4) (a : Nat) (ha : a < 16) (o : Fin 3 → Nat) (ho : o = ![k, 8 * a, 0]) (hin : ∀ a, o a + S1x8x128.size a ≤ S4x128x128.size a)
    (v : FVec Ideal S8x128 .f32) (hv : ∀ (h : Fin 8) (t : Fin 128), v (ix2 h t) = B (at16 k h t a)) (x : S1x8x128.Idx) :
    (shapeCast S1x8x128 v shapeCasts_S8x128_S1x8x128) x = B ((Rect.unit (s := S4x128x128) o S1x8x128.size hin).emb x) := by
  obtain ⟨p, h, t, rfl⟩ : ∃ (o : Fin 1) (h : Fin 8) (t : Fin 128), x = ix3 o h t := ⟨x 0, x 1, x 2, eq_ix3 x⟩
  rw [uncast8, hv]
  subst ho
  refine congrArg B ?_
  have hh := h.isLt
  have hp : p.val = 0 := by omega
  funext d
  apply Fin.ext
  match d with
  | ⟨0, _⟩ => show k % 4 = k + 1 * p.val; omega
  | ⟨1, _⟩ => show (8 * a + h.val) % 128 = 8 * a + 1 * h.val; omega
  | ⟨2, _⟩ => show t.val = 0 + 1 * t.val; omega

/-- A piece that holds the part of an array its rectangle covers. -/
def Good {s : Shape} (B : s.Idx → EReal) (p : View.Piece (Elt Ideal) s .f32) : Prop := ∀ x, p.2 x = B (p.1.emb x)

theorem pieceGood (B : S4x1024x128.Idx → EReal) (k : Nat) (hk : k < 4) (a : Nat) (ha : a < 128) (o : Fin 3 → Nat) (ho : o = ![k, 8 * a, 0]) (hin : ∀ a, o a + S1x8x128.size a ≤ S4x1024x128.size a)
    (v : FVec Ideal S8x128 .f32) (hv : ∀ (h : Fin 8) (t : Fin 128), v (ix2 h t) = B (at8 k h t a)) :
    Good B ⟨Rect.unit (s := S4x1024x128) o S1x8x128.size hin, shapeCast S1x8x128 v shapeCasts_S8x128_S1x8x128⟩ := fun x => pieceOK B k hk a ha o ho hin v hv x

theorem pieceGood16 (B : S4x128x128.Idx → EReal) (k : Nat) (hk : k < 4) (a : Nat) (ha : a < 16) (o : Fin 3 → Nat) (ho : o = ![k, 8 * a, 0]) (hin : ∀ a, o a + S1x8x128.size a ≤ S4x128x128.size a)
    (v : FVec Ideal S8x128 .f32) (hv : ∀ (h : Fin 8) (t : Fin 128), v (ix2 h t) = B (at16 k h t a)) :
    Good B ⟨Rect.unit (s := S4x128x128) o S1x8x128.size hin, shapeCast S1x8x128 v shapeCasts_S8x128_S1x8x128⟩ := fun x => pieceOK16 B k hk a ha o ho hin v hv x

theorem allCons {A : Type} {P : A → Prop} {x : A} {l : List A} (hx : P x) (hl : ∀ p ∈ l, P p) : ∀ p ∈ x :: l, P p := List.forall_mem_cons.mpr ⟨hx, hl⟩

theorem allNil {A : Type} {P : A → Prop} : ∀ p ∈ ([] : List A), P p := fun _ h => absurd h (List.not_mem_nil)

section rows
variable (arg9 arg10 : Memref sig .tc .vmem S4x1024x128 .f32) (X9 : BufTy.Contents (Elt Ideal) arg9.view.ty) (X10 : BufTy.Contents (Elt Ideal) arg10.view.ty)
  (G9 G10 : S4x1024x128.Idx → EReal) (h9 : arg9.view.read (Elt Ideal) X9 = G9) (h10 : arg10.view.read (Elt Ideal) X10 = G10) (k : Fin k0_t1_loop.trips) (hk : k.val < 4)

include h9 hk in
theorem tops9 (h : Fin 8) (t : Fin 128) : (topRows (rows arg9 X9 k)).map (ev (ix2 h t)) = top max min 7 (lst G9 k.val h t) := by
  rw [ev_topRows]
  exact congrArg _ (rows_apply arg9 X9 G9 h9 k hk h t)

include h9 h10 hk in
theorem thr_val (a : Nat) (ha : a < 128) (o : Fin 3 → Nat) (ho : o = ![k.val, 8 * a, 0]) (hin : ∀ a, o a + S1x8x128.size a ≤ S4x1024x128.size a) (h : Fin 8) (t : Fin 128) :
    thrRow (topRows (rows arg9 X9 k)) (topRows (rows arg10 X10 k)) ((topSums (topRows (rows arg9 X9 k)) (topRows (rows arg10 X10 k))).getD 15 low) (row arg9 X9 o hin) (ix2 h t) = blkThr G9 G10 (at8 k.val h t a) := by
  have e := ev_thrRow (ix2 h t) (topRows (rows arg9 X9 k)) (topRows (rows arg10 X10 k)) ((topSums (topRows (rows arg9 X9 k)) (topRows (rows arg10 X10 k))).getD 15 low) (row arg9 X9 o hin)
  rw [ev_getD, ev_topSums, tops9 arg9 X9 G9 h9 k hk h t, tops9 arg10 X10 G10 h10 k hk h t] at e
  refine e.trans ?_
  have er : ev (ix2 h t) (row arg9 X9 o hin) = G9 (at8 k.val h t a) := row_apply arg9 X9 G9 h9 k.val hk a ha o ho hin h t
  rw [er]
  unfold blkThr
  rw [at8_0 k.val hk, mod8 _ a h (at8_1 k.val h t a ha)]
  rfl

include h9 h10 hk in
theorem c1_val (a : Nat) (ha : a < 128) (o : Fin 3 → Nat) (ho : o = ![k.val, 8 * a, 0]) (hin : ∀ a, o a + S1x8x128.size a ≤ S4x1024x128.size a) (h : Fin 8) (t : Fin 128) :
    c1Row (topRows (rows arg9 X9 k)) (topRows (rows arg10 X10 k)) (row arg9 X9 o hin) (ix2 h t) = blkC1 G9 G10 (at8 k.val h t a) := by
  have e := ev_c1Row (ix2 h t) (topRows (rows arg9 X9 k)) (topRows (rows arg10 X10 k)) (row arg9 X9 o hin)
  rw [tops9 arg9 X9 G9 h9 k hk h t, tops9 arg10 X10 G10 h10 k hk h t] at e
  refine e.trans ?_
  have er : ev (ix2 h t) (row arg9 X9 o hin) = G9 (at8 k.val h t a) := row_apply arg9 X9 G9 h9 k.val hk a ha o ho hin h t
  rw [er]
  unfold blkC1
  rw [at8_0 k.val hk, mod8 _ a h (at8_1 k.val h t a ha)]
  rfl

include h10 hk in
theorem v2_val (a : Nat) (ha : a < 16) (h : Fin 8) (t : Fin 128) :
    ((topRows (rows arg10 X10 k)).getD a low) (ix2 h t) = blkV2 G10 (at16 k.val h t a) := by
  have e := ev_getD (ix2 h t) (topRows (rows arg10 X10 k)) a
  rw [tops9 arg10 X10 G10 h10 k hk h t] at e
  refine e.trans ?_
  have e2 : ((at16 k.val h t a) 1).val / 8 = a := by rw [at16_1 k.val h t a ha]; have := h.isLt; omega
  unfold blkV2
  rw [at16_0 k.val hk, mod8 _ a h (at16_1 k.val h t a ha), e2]
  rfl

include h9 h10 hk in
theorem thr_piece (a : Nat) (ha : a < 128) (o : Fin 3 → Nat) (ho : o = ![k.val, 8 * a, 0]) (hin : ∀ a, o a + S1x8x128.size a ≤ S4x1024x128.size a) :
    Good (blkThr G9 G10) ⟨Rect.unit (s := S4x1024x128) o S1x8x128.size hin, shapeCast S1x8x128 (thrRow (topRows (rows arg9 X9 k)) (topRows (rows arg10 X10 k)) ((topSums (topRows (rows arg9 X9 k)) (topRows (rows arg10 X10 k))).getD 15 low) (row arg9 X9 o hin)) shapeCasts_S8x128_S1x8x128⟩ :=
  pieceGood (blkThr G9 G10) k.val hk a ha o ho hin _ (thr_val arg9 arg10 X9 X10 G9 G10 h9 h10 k hk a ha o ho hin)

include h9 h10 hk in
theorem c1_piece (a : Nat) (ha : a < 128) (o : Fin 3 → Nat) (ho : o = ![k.val, 8 * a, 0]) (hin : ∀ a, o a + S1x8x128.size a ≤ S4x1024x128.size a) :
    Good (blkC1 G9 G10) ⟨Rect.unit (s := S4x1024x128) o S1x8x128.size hin, shapeCast S1x8x128 (c1Row (topRows (rows arg9 X9 k)) (topRows (rows arg10 X10 k)) (row arg9 X9 o hin)) shapeCasts_S8x128_S1x8x128⟩ :=
  pieceGood (blkC1 G9 G10) k.val hk a ha o ho hin _ (c1_val arg9 arg10 X9 X10 G9 G10 h9 h10 k hk a ha o ho hin)

include h10 hk in
theorem v2_piece (a : Nat) (ha : a < 16) (o : Fin 3 → Nat) (ho : o = ![k.val, 8 * a, 0]) (hin : ∀ a, o a + S1x8x128.size a ≤ S4x128x128.size a) :
    Good (blkV2 G10) ⟨Rect.unit (s := S4x128x128) o S1x8x128.size hin, shapeCast S1x8x128 ((topRows (rows arg10 X10 k)).getD a low) shapeCasts_S8x128_S1x8x128⟩ :=
  pieceGood16 (blkV2 G10) k.val hk a ha o ho hin _ (v2_val arg10 X10 G10 h10 k hk a ha)

end rows

end Cert.Kernel4Ideal.Body

end
-- ==== Proof.RtLoop.lean ====
/- The routing's kernel: the blocks its body writes, piece by piece. -/
module

public import proofs.«01_k».proof.Proof.RtBlk

@[expose] public section

set_option maxRecDepth 65536

noncomputable section

namespace Cert.Kernel4Ideal.Body

open Cert.Kernel4Ideal Cert.Kernel4Ideal.Gen
open Idealize.ShloMosaic Idealize.ShloMosaic.TcCoe Idealize.ShloMosaic.Tactic
open Cert.RtSpec Cert.RtOut Cert.RtNet

section run
variable (c : Dev nD) (i : grid0.Coords) (arg1 : Memref sig .tc .vmem S1024x512 .bf16) (harg1 : arg1.IsWhole) (arg2 : Memref sig .tc .vmem S2048x1024 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S4x1024x128 .f32) (harg5 : arg5.IsWhole) (arg6 : Memref sig .tc .vmem S4x1024x128 .f32) (harg6 : arg6.IsWhole) (arg7 : Memref sig .tc .vmem S4x128x128 .f32) (harg7 : arg7.IsWhole) (arg8 : Memref sig .tc .vmem S8x128x512 .f32) (harg8 : arg8.IsWhole) (arg9 : Memref sig .tc .vmem S4x1024x128 .f32) (harg9 : arg9.IsWhole) (arg10 : Memref sig .tc .vmem S4x1024x128 .f32) (harg10 : arg10.IsWhole)
  (x0 : Vec Ideal S1024x512 .bf16) (x1 : Vec Ideal S2048x1024 .bf16) (x2 x3 : Vec Ideal S128x128 .bf16)
  (Y9 : BufTy.Contents (Elt Ideal) arg9.view.ty) (Y10 : BufTy.Contents (Elt Ideal) arg10.view.ty)
  (G9 G10 : S4x1024x128.Idx → EReal) (h9 : arg9.view.read (Elt Ideal) Y9 = G9) (h10 : arg10.view.read (Elt Ideal) Y10 = G10)

include h9 h10 in
set_option maxHeartbeats 4000000 in
theorem trip4_all (k : Fin k0_t1_loop.trips) (hk : k.val < 4) :
    ∀ p ∈ (tripL_k0_t1 (F := Ideal) Variants.none c none i arg1 harg1 arg2 harg2 arg3 harg3 arg4 harg4 arg5 harg5 arg6 harg6 arg7 harg7 arg8 harg8 arg9 harg9 arg10 harg10 Y9 Y10 k).1, Good (blkThr G9 G10) p := by
  rw [trip4]
  have R := thr_piece arg9 arg10 Y9 Y10 G9 G10 h9 h10 k hk
  refine allCons (R 127 (by decide) (k0_off128 k) (k0_off128_eq k) (k0_off128_inb k)) ?_
  refine allCons (R 126 (by decide) (k0_off127 k) (k0_off127_eq k) (k0_off127_inb k)) ?_
  refine allCons (R 125 (by decide) (k0_off126 k) (k0_off126_eq k) (k0_off126_inb k)) ?_
  refine allCons (R 124 (by decide) (k0_off125 k) (k0_off125_eq k) (k0_off125_inb k)) ?_
  refine allCons (R 123 (by decide) (k0_off124 k) (k0_off124_eq k) (k0_off124_inb k)) ?_
  refine allCons (R 122 (by decide) (k0_off123 k) (k0_off123_eq k) (k0_off123_inb k)) ?_
  refine allCons (R 121 (by decide) (k0_off122 k) (k0_off122_eq k) (k0_off122_inb k)) ?_
  refine allCons (R 120 (by decide) (k0_off121 k) (k0_off121_eq k) (k0_off121_inb k)) ?_
  refine allCons (R 119 (by decide) (k0_off120 k) (k0_off120_eq k) (k0_off120_inb k)) ?_
  refine allCons (R 118 (by decide) (k0_off119 k) (k0_off119_eq k) (k0_off119_inb k)) ?_
  refine allCons (R 117 (by decide) (k0_off118 k) (k0_off118_eq k) (k0_off118_inb k)) ?_
  refine allCons (R 116 (by decide) (k0_off117 k) (k0_off117_eq k) (k0_off117_inb k)) ?_
  refine allCons (R 115 (by decide) (k0_off116 k) (k0_off116_eq k) (k0_off116_inb k)) ?_
  refine allCons (R 114 (by decide) (k0_off115 k) (k0_off115_eq k) (k0_off115_inb k)) ?_
  refine allCons (R 113 (by decide) (k0_off114 k) (k0_off114_eq k) (k0_off114_inb k)) ?_
  refine allCons (R 112 (by decide) (k0_off113 k) (k0_off113_eq k) (k0_off113_inb k)) ?_
  refine allCons (R 111 (by decide) (k0_off112 k) (k0_off112_eq k) (k0_off112_inb k)) ?_
  refine allCons (R 110 (by decide) (k0_off111 k) (k0_off111_eq k) (k0_off111_inb k)) ?_
  refine allCons (R 109 (by decide) (k0_off110 k) (k0_off110_eq k) (k0_off110_inb k)) ?_
  refine allCons (R 108 (by decide) (k0_off109 k) (k0_off109_eq k) (k0_off109_inb k)) ?_
  refine allCons (R 107 (by decide) (k0_off108 k) (k0_off108_eq k) (k0_off108_inb k)) ?_
  refine allCons (R 106 (by decide) (k0_off107 k) (k0_off107_eq k) (k0_off107_inb k)) ?_
  refine allCons (R 105 (by decide) (k0_off106 k) (k0_off106_eq k) (k0_off106_inb k)) ?_
  refine allCons (R 104 (by decide) (k0_off105 k) (k0_off105_eq k) (k0_off105_inb k)) ?_
  refine allCons (R 103 (by decide) (k0_off104 k) (k0_off104_eq k) (k0_off104_inb k)) ?_
  refine allCons (R 102 (by decide) (k0_off103 k) (k0_off103_eq k) (k0_off103_inb k)) ?_
  refine allCons (R 101 (by decide) (k0_off102 k) (k0_off102_eq k) (k0_off102_inb k)) ?_
  refine allCons (R 100 (by decide) (k0_off101 k) (k0_off101_eq k) (k0_off101_inb k)) ?_
  refine allCons (R 99 (by decide) (k0_off100 k) (k0_off100_eq k) (k0_off100_inb k)) ?_
  refine allCons (R 98 (by decide) (k0_off99 k) (k0_off99_eq k) (k0_off99_inb k)) ?_
  refine allCons (R 97 (by decide) (k0_off98 k) (k0_off98_eq k) (k0_off98_inb k)) ?_
  refine allCons (R 96 (by decide) (k0_off97 k) (k0_off97_eq k) (k0_off97_inb k)) ?_
  refine allCons (R 95 (by decide) (k0_off96 k) (k0_off96_eq k) (k0_off96_inb k)) ?_
  refine allCons (R 94 (by decide) (k0_off95 k) (k0_off95_eq k) (k0_off95_inb k)) ?_
  refine allCons (R 93 (by decide) (k0_off94 k) (k0_off94_eq k) (k0_off94_inb k)) ?_
  refine allCons (R 92 (by decide) (k0_off93 k) (k0_off93_eq k) (k0_off93_inb k)) ?_
  refine allCons (R 91 (by decide) (k0_off92 k) (k0_off92_eq k) (k0_off92_inb k)) ?_
  refine allCons (R 90 (by decide) (k0_off91 k) (k0_off91_eq k) (k0_off91_inb k)) ?_
  refine allCons (R 89 (by decide) (k0_off90 k) (k0_off90_eq k) (k0_off90_inb k)) ?_
  refine allCons (R 88 (by decide) (k0_off89 k) (k0_off89_eq k) (k0_off89_inb k)) ?_
  refine allCons (R 87 (by decide) (k0_off88 k) (k0_off88_eq k) (k0_off88_inb k)) ?_
  refine allCons (R 86 (by decide) (k0_off87 k) (k0_off87_eq k) (k0_off87_inb k)) ?_
  refine allCons (R 85 (by decide) (k0_off86 k) (k0_off86_eq k) (k0_off86_inb k)) ?_
  refine allCons (R 84 (by decide) (k0_off85 k) (k0_off85_eq k) (k0_off85_inb k)) ?_
  refine allCons (R 83 (by decide) (k0_off84 k) (k0_off84_eq k) (k0_off84_inb k)) ?_
  refine allCons (R 82 (by decide) (k0_off83 k) (k0_off83_eq k) (k0_off83_inb k)) ?_
  refine allCons (R 81 (by decide) (k0_off82 k) (k0_off82_eq k) (k0_off82_inb k)) ?_
  refine allCons (R 80 (by decide) (k0_off81 k) (k0_off81_eq k) (k0_off81_inb k)) ?_
  refine allCons (R 79 (by decide) (k0_off80 k) (k0_off80_eq k) (k0_off80_inb k)) ?_
  refine allCons (R 78 (by decide) (k0_off79 k) (k0_off79_eq k) (k0_off79_inb k)) ?_
  refine allCons (R 77 (by decide) (k0_off78 k) (k0_off78_eq k) (k0_off78_inb k)) ?_
  refine allCons (R 76 (by decide) (k0_off77 k) (k0_off77_eq k) (k0_off77_inb k)) ?_
  refine allCons (R 75 (by decide) (k0_off76 k) (k0_off76_eq k) (k0_off76_inb k)) ?_
  refine allCons (R 74 (by decide) (k0_off75 k) (k0_off75_eq k) (k0_off75_inb k)) ?_
  refine allCons (R 73 (by decide) (k0_off74 k) (k0_off74_eq k) (k0_off74_inb k)) ?_
  refine allCons (R 72 (by decide) (k0_off73 k) (k0_off73_eq k) (k0_off73_inb k)) ?_
  refine allCons (R 71 (by decide) (k0_off72 k) (k0_off72_eq k) (k0_off72_inb k)) ?_
  refine allCons (R 70 (by decide) (k0_off71 k) (k0_off71_eq k) (k0_off71_inb k)) ?_
  refine allCons (R 69 (by decide) (k0_off70 k) (k0_off70_eq k) (k0_off70_inb k)) ?_
  refine allCons (R 68 (by decide) (k0_off69 k) (k0_off69_eq k) (k0_off69_inb k)) ?_
  refine allCons (R 67 (by decide) (k0_off68 k) (k0_off68_eq k) (k0_off68_inb k)) ?_
  refine allCons (R 66 (by decide) (k0_off67 k) (k0_off67_eq k) (k0_off67_inb k)) ?_
  refine allCons (R 65 (by decide) (k0_off66 k) (k0_off66_eq k) (k0_off66_inb k)) ?_
  refine allCons (R 64 (by decide) (k0_off65 k) (k0_off65_eq k) (k0_off65_inb k)) ?_
  refine allCons (R 63 (by decide) (k0_off64 k) (k0_off64_eq k) (k0_off64_inb k)) ?_
  refine allCons (R 62 (by decide) (k0_off63 k) (k0_off63_eq k) (k0_off63_inb k)) ?_
  refine allCons (R 61 (by decide) (k0_off62 k) (k0_off62_eq k) (k0_off62_inb k)) ?_
  refine allCons (R 60 (by decide) (k0_off61 k) (k0_off61_eq k) (k0_off61_inb k)) ?_
  refine allCons (R 59 (by decide) (k0_off60 k) (k0_off60_eq k) (k0_off60_inb k)) ?_
  refine allCons (R 58 (by decide) (k0_off59 k) (k0_off59_eq k) (k0_off59_inb k)) ?_
  refine allCons (R 57 (by decide) (k0_off58 k) (k0_off58_eq k) (k0_off58_inb k)) ?_
  refine allCons (R 56 (by decide) (k0_off57 k) (k0_off57_eq k) (k0_off57_inb k)) ?_
  refine allCons (R 55 (by decide) (k0_off56 k) (k0_off56_eq k) (k0_off56_inb k)) ?_
  refine allCons (R 54 (by decide) (k0_off55 k) (k0_off55_eq k) (k0_off55_inb k)) ?_
  refine allCons (R 53 (by decide) (k0_off54 k) (k0_off54_eq k) (k0_off54_inb k)) ?_
  refine allCons (R 52 (by decide) (k0_off53 k) (k0_off53_eq k) (k0_off53_inb k)) ?_
  refine allCons (R 51 (by decide) (k0_off52 k) (k0_off52_eq k) (k0_off52_inb k)) ?_
  refine allCons (R 50 (by decide) (k0_off51 k) (k0_off51_eq k) (k0_off51_inb k)) ?_
  refine allCons (R 49 (by decide) (k0_off50 k) (k0_off50_eq k) (k0_off50_inb k)) ?_
  refine allCons (R 48 (by decide) (k0_off49 k) (k0_off49_eq k) (k0_off49_inb k)) ?_
  refine allCons (R 47 (by decide) (k0_off48 k) (k0_off48_eq k) (k0_off48_inb k)) ?_
  refine allCons (R 46 (by decide) (k0_off47 k) (k0_off47_eq k) (k0_off47_inb k)) ?_
  refine allCons (R 45 (by decide) (k0_off46 k) (k0_off46_eq k) (k0_off46_inb k)) ?_
  refine allCons (R 44 (by decide) (k0_off45 k) (k0_off45_eq k) (k0_off45_inb k)) ?_
  refine allCons (R 43 (by decide) (k0_off44 k) (k0_off44_eq k) (k0_off44_inb k)) ?_
  refine allCons (R 42 (by decide) (k0_off43 k) (k0_off43_eq k) (k0_off43_inb k)) ?_
  refine allCons (R 41 (by decide) (k0_off42 k) (k0_off42_eq k) (k0_off42_inb k)) ?_
  refine allCons (R 40 (by decide) (k0_off41 k) (k0_off41_eq k) (k0_off41_inb k)) ?_
  refine allCons (R 39 (by decide) (k0_off40 k) (k0_off40_eq k) (k0_off40_inb k)) ?_
  refine allCons (R 38 (by decide) (k0_off39 k) (k0_off39_eq k) (k0_off39_inb k)) ?_
  refine allCons (R 37 (by decide) (k0_off38 k) (k0_off38_eq k) (k0_off38_inb k)) ?_
  refine allCons (R 36 (by decide) (k0_off37 k) (k0_off37_eq k) (k0_off37_inb k)) ?_
  refine allCons (R 35 (by decide) (k0_off36 k) (k0_off36_eq k) (k0_off36_inb k)) ?_
  refine allCons (R 34 (by decide) (k0_off35 k) (k0_off35_eq k) (k0_off35_inb k)) ?_
  refine allCons (R 33 (by decide) (k0_off34 k) (k0_off34_eq k) (k0_off34_inb k)) ?_
  refine allCons (R 32 (by decide) (k0_off33 k) (k0_off33_eq k) (k0_off33_inb k)) ?_
  refine allCons (R 31 (by decide) (k0_off32 k) (k0_off32_eq k) (k0_off32_inb k)) ?_
  refine allCons (R 30 (by decide) (k0_off31 k) (k0_off31_eq k) (k0_off31_inb k)) ?_
  refine allCons (R 29 (by decide) (k0_off30 k) (k0_off30_eq k) (k0_off30_inb k)) ?_
  refine allCons (R 28 (by decide) (k0_off29 k) (k0_off29_eq k) (k0_off29_inb k)) ?_
  refine allCons (R 27 (by decide) (k0_off28 k) (k0_off28_eq k) (k0_off28_inb k)) ?_
  refine allCons (R 26 (by decide) (k0_off27 k) (k0_off27_eq k) (k0_off27_inb k)) ?_
  refine allCons (R 25 (by decide) (k0_off26 k) (k0_off26_eq k) (k0_off26_inb k)) ?_
  refine allCons (R 24 (by decide) (k0_off25 k) (k0_off25_eq k) (k0_off25_inb k)) ?_
  refine allCons (R 23 (by decide) (k0_off24 k) (k0_off24_eq k) (k0_off24_inb k)) ?_
  refine allCons (R 22 (by decide) (k0_off23 k) (k0_off23_eq k) (k0_off23_inb k)) ?_
  refine allCons (R 21 (by decide) (k0_off22 k) (k0_off22_eq k) (k0_off22_inb k)) ?_
  refine allCons (R 20 (by decide) (k0_off21 k) (k0_off21_eq k) (k0_off21_inb k)) ?_
  refine allCons (R 19 (by decide) (k0_off20 k) (k0_off20_eq k) (k0_off20_inb k)) ?_
  refine allCons (R 18 (by decide) (k0_off19 k) (k0_off19_eq k) (k0_off19_inb k)) ?_
  refine allCons (R 17 (by decide) (k0_off18 k) (k0_off18_eq k) (k0_off18_inb k)) ?_
  refine allCons (R 16 (by decide) (k0_off17 k) (k0_off17_eq k) (k0_off17_inb k)) ?_
  refine allCons (R 15 (by decide) (k0_off16 k) (k0_off16_eq k) (k0_off16_inb k)) ?_
  refine allCons (R 14 (by decide) (k0_off15 k) (k0_off15_eq k) (k0_off15_inb k)) ?_
  refine allCons (R 13 (by decide) (k0_off14 k) (k0_off14_eq k) (k0_off14_inb k)) ?_
  refine allCons (R 12 (by decide) (k0_off13 k) (k0_off13_eq k) (k0_off13_inb k)) ?_
  refine allCons (R 11 (by decide) (k0_off12 k) (k0_off12_eq k) (k0_off12_inb k)) ?_
  refine allCons (R 10 (by decide) (k0_off11 k) (k0_off11_eq k) (k0_off11_inb k)) ?_
  refine allCons (R 9 (by decide) (k0_off10 k) (k0_off10_eq k) (k0_off10_inb k)) ?_
  refine allCons (R 8 (by decide) (k0_off9 k) (k0_off9_eq k) (k0_off9_inb k)) ?_
  refine allCons (R 7 (by decide) (k0_off8 k) (k0_off8_eq k) (k0_off8_inb k)) ?_
  refine allCons (R 6 (by decide) (k0_off7 k) (k0_off7_eq k) (k0_off7_inb k)) ?_
  refine allCons (R 5 (by decide) (k0_off6 k) (k0_off6_eq k) (k0_off6_inb k)) ?_
  refine allCons (R 4 (by decide) (k0_off5 k) (k0_off5_eq k) (k0_off5_inb k)) ?_
  refine allCons (R 3 (by decide) (k0_off4 k) (k0_off4_eq k) (k0_off4_inb k)) ?_
  refine allCons (R 2 (by decide) (k0_off3 k) (k0_off3_eq k) (k0_off3_inb k)) ?_
  refine allCons (R 1 (by decide) (k0_off2 k) (k0_off2_eq k) (k0_off2_inb k)) ?_
  refine allCons (R 0 (by decide) (k0_off1 k) (k0_off1_eq k) (k0_off1_inb k)) ?_
  exact allNil

include h9 h10 in
theorem loop4_all : ∀ n, n ≤ k0_t1_loop.trips → ∀ p ∈ (pb_k0_t1 (F := Ideal) Variants.none c none i arg1 harg1 arg2 harg2 arg3 harg3 arg4 harg4 arg5 harg5 arg6 harg6 arg7 harg7 arg8 harg8 arg9 harg9 arg10 harg10 Y9 Y10 n).1, Good (blkThr G9 G10) p
  | 0, _ => allNil
  | n + 1, hn => by
    rw [pb_k0_t1_succ Variants.none c none i arg1 harg1 arg2 harg2 arg3 harg3 arg4 harg4 arg5 harg5 arg6 harg6 arg7 harg7 arg8 harg8 arg9 harg9 arg10 harg10 Y9 Y10 ⟨n, hn⟩]
    intro p hp
    rcases List.mem_append.mp hp with hp | hp
    · exact trip4_all c i arg1 harg1 arg2 harg2 arg3 harg3 arg4 harg4 arg5 harg5 arg6 harg6 arg7 harg7 arg8 harg8 arg9 harg9 arg10 harg10 Y9 Y10 G9 G10 h9 h10 ⟨n, hn⟩ (lt_of_lt_of_le hn (by decide)) p hp
    · exact loop4_all n (Nat.le_of_succ_le hn) p hp

include h9 h10 in
set_option maxHeartbeats 4000000 in
theorem trip5_all (k : Fin k0_t1_loop.trips) (hk : k.val < 4) :
    ∀ p ∈ (tripL_k0_t1 (F := Ideal) Variants.none c none i arg1 harg1 arg2 harg2 arg3 harg3 arg4 harg4 arg5 harg5 arg6 harg6 arg7 harg7 arg8 harg8 arg9 harg9 arg10 harg10 Y9 Y10 k).2.1, Good (blkC1 G9 G10) p := by
  rw [trip5]
  have R := c1_piece arg9 arg10 Y9 Y10 G9 G10 h9 h10 k hk
  refine allCons (R 127 (by decide) (k0_off128 k) (k0_off128_eq k) (k0_off128_inb k)) ?_
  refine allCons (R 126 (by decide) (k0_off127 k) (k0_off127_eq k) (k0_off127_inb k)) ?_
  refine allCons (R 125 (by decide) (k0_off126 k) (k0_off126_eq k) (k0_off126_inb k)) ?_
  refine allCons (R 124 (by decide) (k0_off125 k) (k0_off125_eq k) (k0_off125_inb k)) ?_
  refine allCons (R 123 (by decide) (k0_off124 k) (k0_off124_eq k) (k0_off124_inb k)) ?_
  refine allCons (R 122 (by decide) (k0_off123 k) (k0_off123_eq k) (k0_off123_inb k)) ?_
  refine allCons (R 121 (by decide) (k0_off122 k) (k0_off122_eq k) (k0_off122_inb k)) ?_
  refine allCons (R 120 (by decide) (k0_off121 k) (k0_off121_eq k) (k0_off121_inb k)) ?_
  refine allCons (R 119 (by decide) (k0_off120 k) (k0_off120_eq k) (k0_off120_inb k)) ?_
  refine allCons (R 118 (by decide) (k0_off119 k) (k0_off119_eq k) (k0_off119_inb k)) ?_
  refine allCons (R 117 (by decide) (k0_off118 k) (k0_off118_eq k) (k0_off118_inb k)) ?_
  refine allCons (R 116 (by decide) (k0_off117 k) (k0_off117_eq k) (k0_off117_inb k)) ?_
  refine allCons (R 115 (by decide) (k0_off116 k) (k0_off116_eq k) (k0_off116_inb k)) ?_
  refine allCons (R 114 (by decide) (k0_off115 k) (k0_off115_eq k) (k0_off115_inb k)) ?_
  refine allCons (R 113 (by decide) (k0_off114 k) (k0_off114_eq k) (k0_off114_inb k)) ?_
  refine allCons (R 112 (by decide) (k0_off113 k) (k0_off113_eq k) (k0_off113_inb k)) ?_
  refine allCons (R 111 (by decide) (k0_off112 k) (k0_off112_eq k) (k0_off112_inb k)) ?_
  refine allCons (R 110 (by decide) (k0_off111 k) (k0_off111_eq k) (k0_off111_inb k)) ?_
  refine allCons (R 109 (by decide) (k0_off110 k) (k0_off110_eq k) (k0_off110_inb k)) ?_
  refine allCons (R 108 (by decide) (k0_off109 k) (k0_off109_eq k) (k0_off109_inb k)) ?_
  refine allCons (R 107 (by decide) (k0_off108 k) (k0_off108_eq k) (k0_off108_inb k)) ?_
  refine allCons (R 106 (by decide) (k0_off107 k) (k0_off107_eq k) (k0_off107_inb k)) ?_
  refine allCons (R 105 (by decide) (k0_off106 k) (k0_off106_eq k) (k0_off106_inb k)) ?_
  refine allCons (R 104 (by decide) (k0_off105 k) (k0_off105_eq k) (k0_off105_inb k)) ?_
  refine allCons (R 103 (by decide) (k0_off104 k) (k0_off104_eq k) (k0_off104_inb k)) ?_
  refine allCons (R 102 (by decide) (k0_off103 k) (k0_off103_eq k) (k0_off103_inb k)) ?_
  refine allCons (R 101 (by decide) (k0_off102 k) (k0_off102_eq k) (k0_off102_inb k)) ?_
  refine allCons (R 100 (by decide) (k0_off101 k) (k0_off101_eq k) (k0_off101_inb k)) ?_
  refine allCons (R 99 (by decide) (k0_off100 k) (k0_off100_eq k) (k0_off100_inb k)) ?_
  refine allCons (R 98 (by decide) (k0_off99 k) (k0_off99_eq k) (k0_off99_inb k)) ?_
  refine allCons (R 97 (by decide) (k0_off98 k) (k0_off98_eq k) (k0_off98_inb k)) ?_
  refine allCons (R 96 (by decide) (k0_off97 k) (k0_off97_eq k) (k0_off97_inb k)) ?_
  refine allCons (R 95 (by decide) (k0_off96 k) (k0_off96_eq k) (k0_off96_inb k)) ?_
  refine allCons (R 94 (by decide) (k0_off95 k) (k0_off95_eq k) (k0_off95_inb k)) ?_
  refine allCons (R 93 (by decide) (k0_off94 k) (k0_off94_eq k) (k0_off94_inb k)) ?_
  refine allCons (R 92 (by decide) (k0_off93 k) (k0_off93_eq k) (k0_off93_inb k)) ?_
  refine allCons (R 91 (by decide) (k0_off92 k) (k0_off92_eq k) (k0_off92_inb k)) ?_
  refine allCons (R 90 (by decide) (k0_off91 k) (k0_off91_eq k) (k0_off91_inb k)) ?_
  refine allCons (R 89 (by decide) (k0_off90 k) (k0_off90_eq k) (k0_off90_inb k)) ?_
  refine allCons (R 88 (by decide) (k0_off89 k) (k0_off89_eq k) (k0_off89_inb k)) ?_
  refine allCons (R 87 (by decide) (k0_off88 k) (k0_off88_eq k) (k0_off88_inb k)) ?_
  refine allCons (R 86 (by decide) (k0_off87 k) (k0_off87_eq k) (k0_off87_inb k)) ?_
  refine allCons (R 85 (by decide) (k0_off86 k) (k0_off86_eq k) (k0_off86_inb k)) ?_
  refine allCons (R 84 (by decide) (k0_off85 k) (k0_off85_eq k) (k0_off85_inb k)) ?_
  refine allCons (R 83 (by decide) (k0_off84 k) (k0_off84_eq k) (k0_off84_inb k)) ?_
  refine allCons (R 82 (by decide) (k0_off83 k) (k0_off83_eq k) (k0_off83_inb k)) ?_
  refine allCons (R 81 (by decide) (k0_off82 k) (k0_off82_eq k) (k0_off82_inb k)) ?_
  refine allCons (R 80 (by decide) (k0_off81 k) (k0_off81_eq k) (k0_off81_inb k)) ?_
  refine allCons (R 79 (by decide) (k0_off80 k) (k0_off80_eq k) (k0_off80_inb k)) ?_
  refine allCons (R 78 (by decide) (k0_off79 k) (k0_off79_eq k) (k0_off79_inb k)) ?_
  refine allCons (R 77 (by decide) (k0_off78 k) (k0_off78_eq k) (k0_off78_inb k)) ?_
  refine allCons (R 76 (by decide) (k0_off77 k) (k0_off77_eq k) (k0_off77_inb k)) ?_
  refine allCons (R 75 (by decide) (k0_off76 k) (k0_off76_eq k) (k0_off76_inb k)) ?_
  refine allCons (R 74 (by decide) (k0_off75 k) (k0_off75_eq k) (k0_off75_inb k)) ?_
  refine allCons (R 73 (by decide) (k0_off74 k) (k0_off74_eq k) (k0_off74_inb k)) ?_
  refine allCons (R 72 (by decide) (k0_off73 k) (k0_off73_eq k) (k0_off73_inb k)) ?_
  refine allCons (R 71 (by decide) (k0_off72 k) (k0_off72_eq k) (k0_off72_inb k)) ?_
  refine allCons (R 70 (by decide) (k0_off71 k) (k0_off71_eq k) (k0_off71_inb k)) ?_
  refine allCons (R 69 (by decide) (k0_off70 k) (k0_off70_eq k) (k0_off70_inb k)) ?_
  refine allCons (R 68 (by decide) (k0_off69 k) (k0_off69_eq k) (k0_off69_inb k)) ?_
  refine allCons (R 67 (by decide) (k0_off68 k) (k0_off68_eq k) (k0_off68_inb k)) ?_
  refine allCons (R 66 (by decide) (k0_off67 k) (k0_off67_eq k) (k0_off67_inb k)) ?_
  refine allCons (R 65 (by decide) (k0_off66 k) (k0_off66_eq k) (k0_off66_inb k)) ?_
  refine allCons (R 64 (by decide) (k0_off65 k) (k0_off65_eq k) (k0_off65_inb k)) ?_
  refine allCons (R 63 (by decide) (k0_off64 k) (k0_off64_eq k) (k0_off64_inb k)) ?_
  refine allCons (R 62 (by decide) (k0_off63 k) (k0_off63_eq k) (k0_off63_inb k)) ?_
  refine allCons (R 61 (by decide) (k0_off62 k) (k0_off62_eq k) (k0_off62_inb k)) ?_
  refine allCons (R 60 (by decide) (k0_off61 k) (k0_off61_eq k) (k0_off61_inb k)) ?_
  refine allCons (R 59 (by decide) (k0_off60 k) (k0_off60_eq k) (k0_off60_inb k)) ?_
  refine allCons (R 58 (by decide) (k0_off59 k) (k0_off59_eq k) (k0_off59_inb k)) ?_
  refine allCons (R 57 (by decide) (k0_off58 k) (k0_off58_eq k) (k0_off58_inb k)) ?_
  refine allCons (R 56 (by decide) (k0_off57 k) (k0_off57_eq k) (k0_off57_inb k)) ?_
  refine allCons (R 55 (by decide) (k0_off56 k) (k0_off56_eq k) (k0_off56_inb k)) ?_
  refine allCons (R 54 (by decide) (k0_off55 k) (k0_off55_eq k) (k0_off55_inb k)) ?_
  refine allCons (R 53 (by decide) (k0_off54 k) (k0_off54_eq k) (k0_off54_inb k)) ?_
  refine allCons (R 52 (by decide) (k0_off53 k) (k0_off53_eq k) (k0_off53_inb k)) ?_
  refine allCons (R 51 (by decide) (k0_off52 k) (k0_off52_eq k) (k0_off52_inb k)) ?_
  refine allCons (R 50 (by decide) (k0_off51 k) (k0_off51_eq k) (k0_off51_inb k)) ?_
  refine allCons (R 49 (by decide) (k0_off50 k) (k0_off50_eq k) (k0_off50_inb k)) ?_
  refine allCons (R 48 (by decide) (k0_off49 k) (k0_off49_eq k) (k0_off49_inb k)) ?_
  refine allCons (R 47 (by decide) (k0_off48 k) (k0_off48_eq k) (k0_off48_inb k)) ?_
  refine allCons (R 46 (by decide) (k0_off47 k) (k0_off47_eq k) (k0_off47_inb k)) ?_
  refine allCons (R 45 (by decide) (k0_off46 k) (k0_off46_eq k) (k0_off46_inb k)) ?_
  refine allCons (R 44 (by decide) (k0_off45 k) (k0_off45_eq k) (k0_off45_inb k)) ?_
  refine allCons (R 43 (by decide) (k0_off44 k) (k0_off44_eq k) (k0_off44_inb k)) ?_
  refine allCons (R 42 (by decide) (k0_off43 k) (k0_off43_eq k) (k0_off43_inb k)) ?_
  refine allCons (R 41 (by decide) (k0_off42 k) (k0_off42_eq k) (k0_off42_inb k)) ?_
  refine allCons (R 40 (by decide) (k0_off41 k) (k0_off41_eq k) (k0_off41_inb k)) ?_
  refine allCons (R 39 (by decide) (k0_off40 k) (k0_off40_eq k) (k0_off40_inb k)) ?_
  refine allCons (R 38 (by decide) (k0_off39 k) (k0_off39_eq k) (k0_off39_inb k)) ?_
  refine allCons (R 37 (by decide) (k0_off38 k) (k0_off38_eq k) (k0_off38_inb k)) ?_
  refine allCons (R 36 (by decide) (k0_off37 k) (k0_off37_eq k) (k0_off37_inb k)) ?_
  refine allCons (R 35 (by decide) (k0_off36 k) (k0_off36_eq k) (k0_off36_inb k)) ?_
  refine allCons (R 34 (by decide) (k0_off35 k) (k0_off35_eq k) (k0_off35_inb k)) ?_
  refine allCons (R 33 (by decide) (k0_off34 k) (k0_off34_eq k) (k0_off34_inb k)) ?_
  refine allCons (R 32 (by decide) (k0_off33 k) (k0_off33_eq k) (k0_off33_inb k)) ?_
  refine allCons (R 31 (by decide) (k0_off32 k) (k0_off32_eq k) (k0_off32_inb k)) ?_
  refine allCons (R 30 (by decide) (k0_off31 k) (k0_off31_eq k) (k0_off31_inb k)) ?_
  refine allCons (R 29 (by decide) (k0_off30 k) (k0_off30_eq k) (k0_off30_inb k)) ?_
  refine allCons (R 28 (by decide) (k0_off29 k) (k0_off29_eq k) (k0_off29_inb k)) ?_
  refine allCons (R 27 (by decide) (k0_off28 k) (k0_off28_eq k) (k0_off28_inb k)) ?_
  refine allCons (R 26 (by decide) (k0_off27 k) (k0_off27_eq k) (k0_off27_inb k)) ?_
  refine allCons (R 25 (by decide) (k0_off26 k) (k0_off26_eq k) (k0_off26_inb k)) ?_
  refine allCons (R 24 (by decide) (k0_off25 k) (k0_off25_eq k) (k0_off25_inb k)) ?_
  refine allCons (R 23 (by decide) (k0_off24 k) (k0_off24_eq k) (k0_off24_inb k)) ?_
  refine allCons (R 22 (by decide) (k0_off23 k) (k0_off23_eq k) (k0_off23_inb k)) ?_
  refine allCons (R 21 (by decide) (k0_off22 k) (k0_off22_eq k) (k0_off22_inb k)) ?_
  refine allCons (R 20 (by decide) (k0_off21 k) (k0_off21_eq k) (k0_off21_inb k)) ?_
  refine allCons (R 19 (by decide) (k0_off20 k) (k0_off20_eq k) (k0_off20_inb k)) ?_
  refine allCons (R 18 (by decide) (k0_off19 k) (k0_off19_eq k) (k0_off19_inb k)) ?_
  refine allCons (R 17 (by decide) (k0_off18 k) (k0_off18_eq k) (k0_off18_inb k)) ?_
  refine allCons (R 16 (by decide) (k0_off17 k) (k0_off17_eq k) (k0_off17_inb k)) ?_
  refine allCons (R 15 (by decide) (k0_off16 k) (k0_off16_eq k) (k0_off16_inb k)) ?_
  refine allCons (R 14 (by decide) (k0_off15 k) (k0_off15_eq k) (k0_off15_inb k)) ?_
  refine allCons (R 13 (by decide) (k0_off14 k) (k0_off14_eq k) (k0_off14_inb k)) ?_
  refine allCons (R 12 (by decide) (k0_off13 k) (k0_off13_eq k) (k0_off13_inb k)) ?_
  refine allCons (R 11 (by decide) (k0_off12 k) (k0_off12_eq k) (k0_off12_inb k)) ?_
  refine allCons (R 10 (by decide) (k0_off11 k) (k0_off11_eq k) (k0_off11_inb k)) ?_
  refine allCons (R 9 (by decide) (k0_off10 k) (k0_off10_eq k) (k0_off10_inb k)) ?_
  refine allCons (R 8 (by decide) (k0_off9 k) (k0_off9_eq k) (k0_off9_inb k)) ?_
  refine allCons (R 7 (by decide) (k0_off8 k) (k0_off8_eq k) (k0_off8_inb k)) ?_
  refine allCons (R 6 (by decide) (k0_off7 k) (k0_off7_eq k) (k0_off7_inb k)) ?_
  refine allCons (R 5 (by decide) (k0_off6 k) (k0_off6_eq k) (k0_off6_inb k)) ?_
  refine allCons (R 4 (by decide) (k0_off5 k) (k0_off5_eq k) (k0_off5_inb k)) ?_
  refine allCons (R 3 (by decide) (k0_off4 k) (k0_off4_eq k) (k0_off4_inb k)) ?_
  refine allCons (R 2 (by decide) (k0_off3 k) (k0_off3_eq k) (k0_off3_inb k)) ?_
  refine allCons (R 1 (by decide) (k0_off2 k) (k0_off2_eq k) (k0_off2_inb k)) ?_
  refine allCons (R 0 (by decide) (k0_off1 k) (k0_off1_eq k) (k0_off1_inb k)) ?_
  exact allNil

include h9 h10 in
theorem loop5_all : ∀ n, n ≤ k0_t1_loop.trips → ∀ p ∈ (pb_k0_t1 (F := Ideal) Variants.none c none i arg1 harg1 arg2 harg2 arg3 harg3 arg4 harg4 arg5 harg5 arg6 harg6 arg7 harg7 arg8 harg8 arg9 harg9 arg10 harg10 Y9 Y10 n).2.1, Good (blkC1 G9 G10) p
  | 0, _ => allNil
  | n + 1, hn => by
    rw [pb_k0_t1_succ Variants.none c none i arg1 harg1 arg2 harg2 arg3 harg3 arg4 harg4 arg5 harg5 arg6 harg6 arg7 harg7 arg8 harg8 arg9 harg9 arg10 harg10 Y9 Y10 ⟨n, hn⟩]
    intro p hp
    rcases List.mem_append.mp hp with hp | hp
    · exact trip5_all c i arg1 harg1 arg2 harg2 arg3 harg3 arg4 harg4 arg5 harg5 arg6 harg6 arg7 harg7 arg8 harg8 arg9 harg9 arg10 harg10 Y9 Y10 G9 G10 h9 h10 ⟨n, hn⟩ (lt_of_lt_of_le hn (by decide)) p hp
    · exact loop5_all n (Nat.le_of_succ_le hn) p hp

include h10 in
set_option maxHeartbeats 4000000 in
theorem trip6_all (k : Fin k0_t1_loop.trips) (hk : k.val < 4) :
    ∀ p ∈ (tripL_k0_t1 (F := Ideal) Variants.none c none i arg1 harg1 arg2 harg2 arg3 harg3 arg4 harg4 arg5 harg5 arg6 harg6 arg7 harg7 arg8 harg8 arg9 harg9 arg10 harg10 Y9 Y10 k).2.2, Good (blkV2 G10) p := by
  rw [trip6]
  have R := v2_piece arg10 Y10 G10 h10 k hk
  refine allCons (R 15 (by decide) (k0_off144 k) (k0_off144_eq k) (k0_off144_inb k)) ?_
  refine allCons (R 14 (by decide) (k0_off143 k) (k0_off143_eq k) (k0_off143_inb k)) ?_
  refine allCons (R 13 (by decide) (k0_off142 k) (k0_off142_eq k) (k0_off142_inb k)) ?_
  refine allCons (R 12 (by decide) (k0_off141 k) (k0_off141_eq k) (k0_off141_inb k)) ?_
  refine allCons (R 11 (by decide) (k0_off140 k) (k0_off140_eq k) (k0_off140_inb k)) ?_
  refine allCons (R 10 (by decide) (k0_off139 k) (k0_off139_eq k) (k0_off139_inb k)) ?_
  refine allCons (R 9 (by decide) (k0_off138 k) (k0_off138_eq k) (k0_off138_inb k)) ?_
  refine allCons (R 8 (by decide) (k0_off137 k) (k0_off137_eq k) (k0_off137_inb k)) ?_
  refine allCons (R 7 (by decide) (k0_off136 k) (k0_off136_eq k) (k0_off136_inb k)) ?_
  refine allCons (R 6 (by decide) (k0_off135 k) (k0_off135_eq k) (k0_off135_inb k)) ?_
  refine allCons (R 5 (by decide) (k0_off134 k) (k0_off134_eq k) (k0_off134_inb k)) ?_
  refine allCons (R 4 (by decide) (k0_off133 k) (k0_off133_eq k) (k0_off133_inb k)) ?_
  refine allCons (R 3 (by decide) (k0_off132 k) (k0_off132_eq k) (k0_off132_inb k)) ?_
  refine allCons (R 2 (by decide) (k0_off131 k) (k0_off131_eq k) (k0_off131_inb k)) ?_
  refine allCons (R 1 (by decide) (k0_off130 k) (k0_off130_eq k) (k0_off130_inb k)) ?_
  refine allCons (R 0 (by decide) (k0_off129 k) (k0_off129_eq k) (k0_off129_inb k)) ?_
  exact allNil

include h10 in
theorem loop6_all : ∀ n, n ≤ k0_t1_loop.trips → ∀ p ∈ (pb_k0_t1 (F := Ideal) Variants.none c none i arg1 harg1 arg2 harg2 arg3 harg3 arg4 harg4 arg5 harg5 arg6 harg6 arg7 harg7 arg8 harg8 arg9 harg9 arg10 harg10 Y9 Y10 n).2.2, Good (blkV2 G10) p
  | 0, _ => allNil
  | n + 1, hn => by
    rw [pb_k0_t1_succ Variants.none c none i arg1 harg1 arg2 harg2 arg3 harg3 arg4 harg4 arg5 harg5 arg6 harg6 arg7 harg7 arg8 harg8 arg9 harg9 arg10 harg10 Y9 Y10 ⟨n, hn⟩]
    intro p hp
    rcases List.mem_append.mp hp with hp | hp
    · exact trip6_all c i arg1 harg1 arg2 harg2 arg3 harg3 arg4 harg4 arg5 harg5 arg6 harg6 arg7 harg7 arg8 harg8 arg9 harg9 arg10 harg10 Y9 Y10 G10 h10 ⟨n, hn⟩ (lt_of_lt_of_le hn (by decide)) p hp
    · exact loop6_all n (Nat.le_of_succ_le hn) p hp

theorem out4 : out0_A_4 (F := Ideal) c i arg1 harg1 arg2 harg2 arg3 harg3 arg4 harg4 arg5 harg5 arg6 harg6 arg7 harg7 arg8 harg8 arg9 harg9 arg10 harg10 x0 x1 x2 x3 = blkThr (scr row1 x0 x1 x2) (scr RtSpec.row x0 x1 x3) := by
  funext y
  unfold out0_A_4
  refine View.read_writes_apply_of_pieces _ _ (blkThr (scr row1 x0 x1 x2) (scr RtSpec.row x0 x1 x3)) _ ?_ y (cover0_A_4 c i arg1 harg1 arg2 harg2 arg3 harg3 arg4 harg4 arg5 harg5 arg6 harg6 arg7 harg7 arg8 harg8 arg9 harg9 arg10 harg10 x0 x1 x2 x3 y)
  rw [stores4]
  exact loop4_all c i arg1 harg1 arg2 harg2 arg3 harg3 arg4 harg4 arg5 harg5 arg6 harg6 arg7 harg7 arg8 harg8 arg9 harg9 arg10 harg10 _ _ (scr row1 x0 x1 x2) (scr RtSpec.row x0 x1 x3) (X9_read arg1 harg1 arg2 harg2 arg3 harg3 arg9 x0 x1 x2) (X10_read arg1 harg1 arg2 harg2 arg4 harg4 arg10 x0 x1 x3) _ le_rfl

theorem out5 : out0_A_5 (F := Ideal) c i arg1 harg1 arg2 harg2 arg3 harg3 arg4 harg4 arg5 harg5 arg6 harg6 arg7 harg7 arg8 harg8 arg9 harg9 arg10 harg10 x0 x1 x2 x3 = blkC1 (scr row1 x0 x1 x2) (scr RtSpec.row x0 x1 x3) := by
  funext y
  unfold out0_A_5
  refine View.read_writes_apply_of_pieces _ _ (blkC1 (scr row1 x0 x1 x2) (scr RtSpec.row x0 x1 x3)) _ ?_ y (cover0_A_5 c i arg1 harg1 arg2 harg2 arg3 harg3 arg4 harg4 arg5 harg5 arg6 harg6 arg7 harg7 arg8 harg8 arg9 harg9 arg10 harg10 x0 x1 x2 x3 y)
  rw [stores5]
  exact loop5_all c i arg1 harg1 arg2 harg2 arg3 harg3 arg4 harg4 arg5 harg5 arg6 harg6 arg7 harg7 arg8 harg8 arg9 harg9 arg10 harg10 _ _ (scr row1 x0 x1 x2) (scr RtSpec.row x0 x1 x3) (X9_read arg1 harg1 arg2 harg2 arg3 harg3 arg9 x0 x1 x2) (X10_read arg1 harg1 arg2 harg2 arg4 harg4 arg10 x0 x1 x3) _ le_rfl

theorem out6 : out0_A_6 (F := Ideal) c i arg1 harg1 arg2 harg2 arg3 harg3 arg4 harg4 arg5 harg5 arg6 harg6 arg7 harg7 arg8 harg8 arg9 harg9 arg10 harg10 x0 x1 x2 x3 = blkV2 (scr RtSpec.row x0 x1 x3) := by
  funext y
  unfold out0_A_6
  refine View.read_writes_apply_of_pieces _ _ (blkV2 (scr RtSpec.row x0 x1 x3)) _ ?_ y (cover0_A_6 c i arg1 harg1 arg2 harg2 arg3 harg3 arg4 harg4 arg5 harg5 arg6 harg6 arg7 harg7 arg8 harg8 arg9 harg9 arg10 harg10 x0 x1 x2 x3 y)
  rw [stores6]
  exact loop6_all c i arg1 harg1 arg2 harg2 arg3 harg3 arg4 harg4 arg5 harg5 arg6 harg6 arg7 harg7 arg8 harg8 arg9 harg9 arg10 harg10 _ _ (scr RtSpec.row x0 x1 x3) (X10_read arg1 harg1 arg2 harg2 arg4 harg4 arg10 x0 x1 x3) _ le_rfl

end run

end Cert.Kernel4Ideal.Body

end
-- ==== Proof.RtArr.lean ====
/- The routing's kernel: the arrays its grid writes, over the program's arguments. -/
module

public import proofs.«01_k».proof.Proof.RtLoop
public import Idealize.ShloMosaic.Lib.StableHlo.RunRead

@[expose] public section

set_option maxRecDepth 16384

noncomputable section

namespace Cert.Kernel4Ideal.Body

open Cert.Kernel4Ideal hiding sig
open Cert.Kernel4Ideal.Gen
open Idealize.ShloMosaic Idealize.ShloMosaic.TcCoe Idealize.ShloMosaic.Tactic
open Cert.RtSpec Cert.RtOut Cert.RtNet

theorem wi0 : ∀ t : Fin cfg0.N, win0_0.index t = ![0, t.val] := (by decide +kernel : ∀ t : Fin grid0.N, _)
theorem wi1 : ∀ t : Fin cfg0.N, win0_1.index t = ![0, 0] := (by decide +kernel : ∀ t : Fin grid0.N, _)
theorem wi2 : ∀ t : Fin cfg0.N, win0_2.index t = ![0, 0] := (by decide +kernel : ∀ t : Fin grid0.N, _)
theorem wi4 : ∀ t : Fin cfg0.N, win0_4.index t = ![t.val, 0, 0] := (by decide +kernel : ∀ t : Fin grid0.N, _)
theorem wi5 : ∀ t : Fin cfg0.N, win0_5.index t = ![t.val, 0, 0] := (by decide +kernel : ∀ t : Fin grid0.N, _)
theorem wi6 : ∀ t : Fin cfg0.N, win0_6.index t = ![t.val, 0, 0] := (by decide +kernel : ∀ t : Fin grid0.N, _)
theorem wi3 : ∀ t : Fin cfg0.N, win0_3.index t = ![0, 0] := (by decide +kernel : ∀ t : Fin grid0.N, _)
theorem wi7 : ∀ t : Fin cfg0.N, win0_7.index t = ![0, 0, t.val] := (by decide +kernel : ∀ t : Fin grid0.N, _)

theorem N_val : cfg0.N = 32 := by decide +kernel

variable (m : (ℓ : Loc nD τ Cert.Kernel4Ideal.sig) → Buf (Elt Ideal) ℓ)

theorem blk0 (c : Dev nD) (t : Fin cfg0.N) (k : Fin 1024) (r : Fin 512) (R : Fin 16384) (hR : R.val = t.val * 512 + r.val) :
    iblk m c 0 t (ix2 k r) = V m c main_arg0 (ix2 k R) := by
  blk_simp [iblk]
  refine congrArg (V m c main_arg0) ?_
  funext a
  apply Fin.ext
  blk_simp [wi0]
  match a with
  | ⟨0, _⟩ => show 0 * 1024 + k.val = k.val; omega
  | ⟨1, _⟩ => exact hR.symm

theorem blk1 (c : Dev nD) (t : Fin cfg0.N) (p : Fin 2048) (q : Fin 1024) : iblk m c 1 t (ix2 p q) = V m c main_arg1 (ix2 p q) := by
  blk_simp [iblk]
  refine congrArg (V m c main_arg1) ?_
  funext a
  apply Fin.ext
  blk_simp [wi1]
  match a with
  | ⟨0, _⟩ => show 0 * 2048 + p.val = p.val; omega
  | ⟨1, _⟩ => show 0 * 1024 + q.val = q.val; omega

theorem blk3 (c : Dev nD) (t : Fin cfg0.N) (p : Fin 128) (q : Fin 128) : iblk m c 3 t (ix2 p q) = V m c main_v3 (ix2 p q) := by
  blk_simp [iblk]
  refine congrArg (V m c main_v3) ?_
  funext a
  apply Fin.ext
  blk_simp [wi3]
  match a with
  | ⟨0, _⟩ => show 0 * 128 + p.val = p.val; omega
  | ⟨1, _⟩ => show 0 * 128 + q.val = q.val; omega

theorem blk2 (c : Dev nD) (t : Fin cfg0.N) (p : Fin 128) (q : Fin 128) : iblk m c 2 t (ix2 p q) = V m c main_v1 (ix2 p q) := by
  blk_simp [iblk]
  refine congrArg (V m c main_v1) ?_
  funext a
  apply Fin.ext
  blk_simp [wi2]
  match a with
  | ⟨0, _⟩ => show 0 * 128 + p.val = p.val; omega
  | ⟨1, _⟩ => show 0 * 128 + q.val = q.val; omega

theorem V_k (c : Dev nD) (n d : Fin 128) : V m c main_v3 (ix2 n d) = m ((c : Thread nD τ).loc main_arg3) (ix3 0 n d) := by
  unfold_abbrev_sides
  after_reads_simp
  pointwise

theorem V_k1 (c : Dev nD) (n d : Fin 128) : V m c main_v1 (ix2 n d) = m ((c : Thread nD τ).loc main_arg2) (ix3 0 n d) := by
  unfold_abbrev_sides
  after_reads_simp
  pointwise

/-- The score of first key `n` for head `h` and the token of result position `R`. -/
def tokScore1 (c : Dev nD) (h : Fin 8) (n : Fin 128) (R : Fin 16384) : EReal :=
  score1 (fun j => m ((c : Thread nD τ).loc main_arg0) (ix2 j R)) (fun q j => m ((c : Thread nD τ).loc main_arg1) (ix2 q j))
    (fun n d => m ((c : Thread nD τ).loc main_arg2) (ix3 0 n d)) h n

/-- The score of key `n` for head `h` and the token of result position `R`. -/
def tokScore (c : Dev nD) (h : Fin 8) (n : Fin 128) (R : Fin 16384) : EReal :=
  score (fun j => m ((c : Thread nD τ).loc main_arg0) (ix2 j R)) (fun q j => m ((c : Thread nD τ).loc main_arg1) (ix2 q j))
    (fun n d => m ((c : Thread nD τ).loc main_arg3) (ix3 0 n d)) h n

/-- The result. -/
def arr7 (c : Dev nD) : S8x128x16384.Idx → EReal := fun i => tokScore m c (i 0) (i 1) (i 2)

theorem out_tok (c : Dev nD) (t : Fin cfg0.N) (h : Fin 8) (n : Fin 128) (r : Fin 512) (R : Fin 16384) (hR : R.val = t.val * 512 + r.val) :
    blockScore (iblk m c 0 t) (iblk m c 1 t) (iblk m c 3 t) (ix3 h n r) = tokScore m c h n R := by
  unfold tokScore
  have e0 : (fun j => iblk m c 0 t (ix2 j r)) = fun j => m ((c : Thread nD τ).loc main_arg0) (ix2 j R) := funext fun k => by rw [blk0 m c t k r R hR, V_main_arg0]
  have e1 : (fun q j => iblk m c 1 t (ix2 q j)) = fun q j => m ((c : Thread nD τ).loc main_arg1) (ix2 q j) := funext fun q => funext fun k => by rw [blk1, V_main_arg1]
  have e3 : (fun n d => iblk m c 3 t (ix2 n d)) = fun n d => m ((c : Thread nD τ).loc main_arg3) (ix3 0 n d) := funext fun q => funext fun k => by rw [blk3, V_k]
  rw [← e0, ← e1, ← e3]
  rfl

theorem final7 (c : Dev nD) : (dats m 0 c).arrAt 7 cfg0.N = arr7 m c := by
  refine (dats m 0 c).arrAt_eq_of_covers 7 _ (by decide +kernel) fun t hf y => ?_
  blk_simp
  rw [after0_7]
  unfold outsAt0
  dsimp only
  rw [out7]
  obtain ⟨h, n, r, rfl⟩ : ∃ (a : Fin 8) (b : Fin 128) (d : Fin 512), y = ix3 a b d := ⟨y 0, y 1, y 2, eq_ix3 y⟩
  have htt : t.val < 32 := lt_of_lt_of_eq t.isLt N_val
  have hr := r.isLt
  have ey : (win0_7.blk t).view.emb (ix3 h n r) = ix3 h n (⟨t.val * 512 + r.val, by omega⟩ : Fin 16384) := by
    funext a
    apply Fin.ext
    blk_simp [wi7]
    match a with
    | ⟨0, _⟩ => show 0 * 8 + h.val = h.val; omega
    | ⟨1, _⟩ => show 0 * 128 + n.val = n.val; omega
    | ⟨2, _⟩ => rfl
  rw [ey]
  exact out_tok m c t h n r ⟨t.val * 512 + r.val, by omega⟩ rfl

theorem scr1_tok (c : Dev nD) (t : Fin cfg0.N) (y : S4x1024x128.Idx) (h : Fin 8) (n : Fin 128) (R : Fin 16384) (hy : (y 1).val = 8 * n.val + h.val) (hR : R.val = t.val * 512 + (128 * (y 0).val + (y 2).val)) :
    scr row1 (iblk m c 0 t) (iblk m c 1 t) (iblk m c 2 t) y = tokScore1 m c h n R := by
  have h0 : (y 0).val < 4 := (y 0).isLt
  have h2 : (y 2).val < 128 := (y 2).isLt
  have e0 : (fun j => iblk m c 0 t (ix2 j (⟨128 * (y 0).val + (y 2).val, by omega⟩ : Fin 512))) = fun j => m ((c : Thread nD τ).loc main_arg0) (ix2 j R) := funext fun k => by rw [blk0 m c t k _ R hR, V_main_arg0]
  have e1 : (fun q j => iblk m c 1 t (ix2 q j)) = fun q j => m ((c : Thread nD τ).loc main_arg1) (ix2 q j) := funext fun q => funext fun k => by rw [blk1, V_main_arg1]
  have e2 : (fun n d => iblk m c 2 t (ix2 n d)) = fun n d => m ((c : Thread nD τ).loc main_arg2) (ix3 0 n d) := funext fun q => funext fun k => by rw [blk2, V_k1]
  have hh := h.isLt
  have hn : (⟨(y 1).val / 8, by have h1 : (y 1).val < 1024 := (y 1).isLt; omega⟩ : Fin 128) = n := Fin.ext (by show (y 1).val / 8 = n.val; omega)
  unfold scr tokScore1 score1
  rw [mod8 _ n.val h hy, hn, ← e0, ← e1, ← e2]

theorem scr2_tok (c : Dev nD) (t : Fin cfg0.N) (y : S4x1024x128.Idx) (h : Fin 8) (n : Fin 128) (R : Fin 16384) (hy : (y 1).val = 8 * n.val + h.val) (hR : R.val = t.val * 512 + (128 * (y 0).val + (y 2).val)) :
    scr RtSpec.row (iblk m c 0 t) (iblk m c 1 t) (iblk m c 3 t) y = tokScore m c h n R := by
  have h0 : (y 0).val < 4 := (y 0).isLt
  have h2 : (y 2).val < 128 := (y 2).isLt
  have e0 : (fun j => iblk m c 0 t (ix2 j (⟨128 * (y 0).val + (y 2).val, by omega⟩ : Fin 512))) = fun j => m ((c : Thread nD τ).loc main_arg0) (ix2 j R) := funext fun k => by rw [blk0 m c t k _ R hR, V_main_arg0]
  have e1 : (fun q j => iblk m c 1 t (ix2 q j)) = fun q j => m ((c : Thread nD τ).loc main_arg1) (ix2 q j) := funext fun q => funext fun k => by rw [blk1, V_main_arg1]
  have e2 : (fun n d => iblk m c 3 t (ix2 n d)) = fun n d => m ((c : Thread nD τ).loc main_arg3) (ix3 0 n d) := funext fun q => funext fun k => by rw [blk3, V_k]
  have hh := h.isLt
  have hn : (⟨(y 1).val / 8, by have h1 : (y 1).val < 1024 := (y 1).isLt; omega⟩ : Fin 128) = n := Fin.ext (by show (y 1).val / 8 = n.val; omega)
  unfold scr tokScore score
  rw [mod8 _ n.val h hy, hn, ← e0, ← e1, ← e2]

theorem lst_ofFn (G : S4x1024x128.Idx → EReal) (k : Nat) (h : Fin 8) (t : Fin 128) (f : Fin 128 → EReal) (e : ∀ a : Fin 128, G (at8 k h t a.val) = f a) : lst G k h t = List.ofFn f := by
  refine List.ext_getElem (by simp [lst]) fun i h1 h2 => ?_
  have hi : i < 128 := by simpa using h2
  unfold lst
  rw [List.getElem_map, List.getElem_range', List.getElem_ofFn]
  have e' := e ⟨i, hi⟩
  have e1 : 0 + 1 * i = i := by omega
  rw [e1]
  exact e'

theorem lst1_tok (c : Dev nD) (t : Fin cfg0.N) (k : Nat) (hk : k < 4) (h : Fin 8) (l : Fin 128) (R : Fin 16384) (hR : R.val = t.val * 512 + (128 * k + l.val)) :
    lst (scr row1 (iblk m c 0 t) (iblk m c 1 t) (iblk m c 2 t)) k h l = List.ofFn fun n => tokScore1 m c h n R :=
  lst_ofFn _ k h l _ fun a => scr1_tok m c t _ h a R (at8_1 k h l a.val a.isLt) (by rw [at8_0 k hk]; exact hR)

theorem lst2_tok (c : Dev nD) (t : Fin cfg0.N) (k : Nat) (hk : k < 4) (h : Fin 8) (l : Fin 128) (R : Fin 16384) (hR : R.val = t.val * 512 + (128 * k + l.val)) :
    lst (scr RtSpec.row (iblk m c 0 t) (iblk m c 1 t) (iblk m c 3 t)) k h l = List.ofFn fun n => tokScore m c h n R :=
  lst_ofFn _ k h l _ fun a => scr2_tok m c t _ h a R (at8_1 k h l a.val a.isLt) (by rw [at8_0 k hk]; exact hR)

/-- The thresholds. -/
def arr4 (c : Dev nD) : S128x1024x128.Idx → EReal := fun y =>
  thrO (List.ofFn fun n => tokScore1 m c (hd (y 1)) n (tk (y 0) (y 2))) (List.ofFn fun n => tokScore m c (hd (y 1)) n (tk (y 0) (y 2))) (tokScore1 m c (hd (y 1)) (kn (y 1)) (tk (y 0) (y 2)))

/-- The weights. -/
def arr5 (c : Dev nD) : S128x1024x128.Idx → EReal := fun y =>
  c1O (List.ofFn fun n => tokScore1 m c (hd (y 1)) n (tk (y 0) (y 2))) (List.ofFn fun n => tokScore m c (hd (y 1)) n (tk (y 0) (y 2))) (tokScore1 m c (hd (y 1)) (kn (y 1)) (tk (y 0) (y 2)))

/-- The second keys' top 16. -/
def arr6 (c : Dev nD) : S128x128x128.Idx → EReal := fun y =>
  tops (List.ofFn fun n => tokScore m c (hd (y 1)) n (tk (y 0) (y 2))) ((y 1).val / 8)

theorem final4 (c : Dev nD) : (dats m 0 c).arrAt 4 cfg0.N = arr4 m c := by
  refine (dats m 0 c).arrAt_eq_of_covers 4 _ (by decide +kernel) fun t hf y => ?_
  blk_simp
  rw [after0_4]
  unfold outsAt0
  dsimp only
  rw [out4]
  obtain ⟨k, p, l, rfl⟩ : ∃ (a : Fin 4) (b : Fin 1024) (d : Fin 128), y = ix3 a b d := ⟨y 0, y 1, y 2, eq_ix3 y⟩
  have htt : t.val < 32 := lt_of_lt_of_eq t.isLt N_val
  have hk := k.isLt
  have ey : (win0_4.blk t).view.emb (ix3 k p l) = ix3 (⟨t.val * 4 + k.val, by omega⟩ : Fin 128) p l := by
    funext a
    apply Fin.ext
    blk_simp [wi4]
    match a with
    | ⟨0, _⟩ => rfl
    | ⟨1, _⟩ => show 0 * 1024 + p.val = p.val; omega
    | ⟨2, _⟩ => show 0 * 128 + l.val = l.val; omega
  rw [ey]
  have hR : (tk (⟨t.val * 4 + k.val, by omega⟩ : Fin 128) l).val = t.val * 512 + (128 * k.val + l.val) := by
    show 128 * (t.val * 4 + k.val) + l.val = _
    omega
  have e1 := lst1_tok m c t k.val hk (hd p) l _ hR
  have e2 := lst2_tok m c t k.val hk (hd p) l _ hR
  have e3 := scr1_tok m c t (ix3 k p l) (hd p) (kn p) _ (by show p.val = 8 * (p.val / 8) + p.val % 8; omega) hR
  show blkThr _ _ (ix3 k p l) = thrO (List.ofFn fun n => tokScore1 m c (hd p) n (tk (⟨t.val * 4 + k.val, by omega⟩ : Fin 128) l)) (List.ofFn fun n => tokScore m c (hd p) n (tk (⟨t.val * 4 + k.val, by omega⟩ : Fin 128) l)) (tokScore1 m c (hd p) (kn p) (tk (⟨t.val * 4 + k.val, by omega⟩ : Fin 128) l))
  rw [← e1, ← e2, ← e3]
  rfl

theorem final5 (c : Dev nD) : (dats m 0 c).arrAt 5 cfg0.N = arr5 m c := by
  refine (dats m 0 c).arrAt_eq_of_covers 5 _ (by decide +kernel) fun t hf y => ?_
  blk_simp
  rw [after0_5]
  unfold outsAt0
  dsimp only
  rw [out5]
  obtain ⟨k, p, l, rfl⟩ : ∃ (a : Fin 4) (b : Fin 1024) (d : Fin 128), y = ix3 a b d := ⟨y 0, y 1, y 2, eq_ix3 y⟩
  have htt : t.val < 32 := lt_of_lt_of_eq t.isLt N_val
  have hk := k.isLt
  have ey : (win0_5.blk t).view.emb (ix3 k p l) = ix3 (⟨t.val * 4 + k.val, by omega⟩ : Fin 128) p l := by
    funext a
    apply Fin.ext
    blk_simp [wi5]
    match a with
    | ⟨0, _⟩ => rfl
    | ⟨1, _⟩ => show 0 * 1024 + p.val = p.val; omega
    | ⟨2, _⟩ => show 0 * 128 + l.val = l.val; omega
  rw [ey]
  have hR : (tk (⟨t.val * 4 + k.val, by omega⟩ : Fin 128) l).val = t.val * 512 + (128 * k.val + l.val) := by
    show 128 * (t.val * 4 + k.val) + l.val = _
    omega
  have e1 := lst1_tok m c t k.val hk (hd p) l _ hR
  have e2 := lst2_tok m c t k.val hk (hd p) l _ hR
  have e3 := scr1_tok m c t (ix3 k p l) (hd p) (kn p) _ (by show p.val = 8 * (p.val / 8) + p.val % 8; omega) hR
  show blkC1 _ _ (ix3 k p l) = c1O (List.ofFn fun n => tokScore1 m c (hd p) n (tk (⟨t.val * 4 + k.val, by omega⟩ : Fin 128) l)) (List.ofFn fun n => tokScore m c (hd p) n (tk (⟨t.val * 4 + k.val, by omega⟩ : Fin 128) l)) (tokScore1 m c (hd p) (kn p) (tk (⟨t.val * 4 + k.val, by omega⟩ : Fin 128) l))
  rw [← e1, ← e2, ← e3]
  rfl

theorem final6 (c : Dev nD) : (dats m 0 c).arrAt 6 cfg0.N = arr6 m c := by
  refine (dats m 0 c).arrAt_eq_of_covers 6 _ (by decide +kernel) fun t hf y => ?_
  blk_simp
  rw [after0_6]
  unfold outsAt0
  dsimp only
  rw [out6]
  obtain ⟨k, p, l, rfl⟩ : ∃ (a : Fin 4) (b : Fin 128) (d : Fin 128), y = ix3 a b d := ⟨y 0, y 1, y 2, eq_ix3 y⟩
  have htt : t.val < 32 := lt_of_lt_of_eq t.isLt N_val
  have hk := k.isLt
  have ey : (win0_6.blk t).view.emb (ix3 k p l) = ix3 (⟨t.val * 4 + k.val, by omega⟩ : Fin 128) p l := by
    funext a
    apply Fin.ext
    blk_simp [wi6]
    match a with
    | ⟨0, _⟩ => rfl
    | ⟨1, _⟩ => show 0 * 128 + p.val = p.val; omega
    | ⟨2, _⟩ => show 0 * 128 + l.val = l.val; omega
  rw [ey]
  have hR : (tk (⟨t.val * 4 + k.val, by omega⟩ : Fin 128) l).val = t.val * 512 + (128 * k.val + l.val) := by
    show 128 * (t.val * 4 + k.val) + l.val = _
    omega
  have e2 := lst2_tok m c t k.val hk (hd p) l _ hR
  show blkV2 _ (ix3 k p l) = tops (List.ofFn fun n => tokScore m c (hd p) n (tk (⟨t.val * 4 + k.val, by omega⟩ : Fin 128) l)) (p.val / 8)
  rw [← e2]
  rfl

end Cert.Kernel4Ideal.Body

end
-- ==== Proof.RtRef.lean ====
/- The routing's reference, element by element. -/
module

public import proofs.«01_k».proof.Proof.RtSpec
public import proofs.«01_k».proof.Proof.Gen.Reference4Ideal.Run
public import Idealize.ShloMosaic.Lib.Pointwise
public import Idealize.ShloMosaic.Lib.Tactic.CleanTypes
public import Idealize.ShloMosaic.PureOps.Ideal.Laws

@[expose] public section

set_option maxRecDepth 16384

noncomputable section

namespace Cert.Reference4Ideal.Body

open Cert.Reference4Ideal hiding sig
open Cert.Reference4Ideal.Gen
open Idealize.ShloMosaic Idealize.ShloMosaic.TcCoe Idealize.ShloMosaic.Tactic
open Cert.RtSpec

/-- Every token's query. -/
def qA (x : FVec Ideal S1024x16384 .bf16) (w : FVec Ideal S2048x1024 .bf16) : FVec Ideal S16384x2048 .f32 :=
  Host.dotGeneral (F := Ideal) (φ₁ := .f32) (φ₂ := .f32) dot_S16384x1024_S1024x2048_S16384x2048_1_0_0_1_n_n none
    (transpose S16384x1024 [1, 0] (extf .f32 x bitsLt_bf16_f32) transposes_S1024x16384_S16384x1024_1_0)
    (transpose S1024x2048 [1, 0] (extf .f32 w bitsLt_bf16_f32) transposes_S2048x1024_S1024x2048_1_0)

theorem qA_apply (x : FVec Ideal S1024x16384 .bf16) (w : FVec Ideal S2048x1024 .bf16) (R : Fin 16384) (q : Fin 2048) :
    qA x w (ix2 R q) = ∑ j : Fin 1024, x (ix2 j R) * w (ix2 q j) := by
  unfold qA
  pointwise

/-- The second half of every head's query. -/
def halfA (Q : FVec Ideal S16384x2048 .f32) : FVec Ideal S16384x8x128 .f32 :=
  extractStridedSlice S16384x8x128 ![0, 0, 128] (shapeCast S16384x8x256 Q shapeCasts_S16384x2048_S16384x8x256) slices_S16384x8x256_S16384x8x128_0_0_128

theorem halfA_apply (Q : FVec Ideal S16384x2048 .f32) (R : Fin 16384) (h : Fin 8) (d : Fin 128) :
    halfA Q (ix3 R h d) = Q (ix2 R (row h d)) := by
  unfold halfA
  pointwise
  refine congrArg Q (congrArg (ix2 R) (Fin.ext ?_))
  show h.val * 256 + (128 + d.val) = 256 * h.val + 128 + d.val
  omega

/-- The result. -/
def outA (x : FVec Ideal S1024x16384 .bf16) (w : FVec Ideal S2048x1024 .bf16) (k : FVec Ideal S1x128x128 .f32) : FVec Ideal S8x128x16384 .f32 :=
  transpose S8x128x16384 [1, 2, 0] (Host.dotGeneral (F := Ideal) (φ₁ := .f32) (φ₂ := .f32) dot_S16384x8x128_S128x128_S16384x8x128_2_1_01_0_n_n none (halfA (qA x w))
    (shapeCast S128x128 k shapeCasts_S1x128x128_S128x128)) transposes_S16384x8x128_S8x128x16384_1_2_0

theorem outA_apply (x : FVec Ideal S1024x16384 .bf16) (w : FVec Ideal S2048x1024 .bf16) (k : FVec Ideal S1x128x128 .f32) (h : Fin 8) (n : Fin 128) (R : Fin 16384) :
    outA x w k (ix3 h n R) = score (fun j => x (ix2 j R)) (fun q j => w (ix2 q j)) (fun n d => k (ix3 0 n d)) h n := by
  have e : outA x w k (ix3 h n R) = ∑ d : Fin 128, halfA (qA x w) (ix3 R h d) * k (ix3 0 n d) := by
    unfold outA
    pointwise
  rw [e]
  unfold score dots
  refine Finset.sum_congr rfl fun d _ => ?_
  rw [mul_comm, halfA_apply, qA_apply]
  exact congrArg (k (ix3 0 n d) * ·) (Finset.sum_congr rfl fun j _ => mul_comm _ _)

end Cert.Reference4Ideal.Body

end
-- ==== Proof.RtRefTop.lean ====
/- The routing's reference: the top values, the thresholds and the weights, element by element. -/
module

public import proofs.«01_k».proof.Proof.RtRef
public import proofs.«01_k».proof.Proof.RtOut

@[expose] public section

set_option maxRecDepth 16384

noncomputable section

namespace Cert.Reference4Ideal.Body

open Cert.Reference4Ideal hiding sig
open Cert.Reference4Ideal.Gen
open Idealize.ShloMosaic Idealize.ShloMosaic.TcCoe Idealize.ShloMosaic.Tactic
open Cert.RtSpec Cert.RtOut Cert.RtNet

/-- The first half of every head's query. -/
def half1A (Q : FVec Ideal S16384x2048 .f32) : FVec Ideal S16384x8x128 .f32 :=
  extractStridedSlice S16384x8x128 ![0, 0, 0] (shapeCast S16384x8x256 Q shapeCasts_S16384x2048_S16384x8x256) slices_S16384x8x256_S16384x8x128_0_0_0

theorem half1A_apply (Q : FVec Ideal S16384x2048 .f32) (R : Fin 16384) (h : Fin 8) (d : Fin 128) :
    half1A Q (ix3 R h d) = Q (ix2 R (row1 h d)) := by
  unfold half1A
  pointwise
  refine congrArg Q (congrArg (ix2 R) (Fin.ext ?_))
  show h.val * 256 + d.val = 256 * h.val + d.val
  omega

/-- The scores of half a query. -/
def scA (H : FVec Ideal S16384x8x128 .f32) (k : FVec Ideal S1x128x128 .f32) : FVec Ideal S16384x8x128 .f32 :=
  Host.dotGeneral (F := Ideal) (φ₁ := .f32) (φ₂ := .f32) dot_S16384x8x128_S128x128_S16384x8x128_2_1_01_0_n_n none H (shapeCast S128x128 k shapeCasts_S1x128x128_S128x128)

theorem scA_apply (H : FVec Ideal S16384x8x128 .f32) (k : FVec Ideal S1x128x128 .f32) (R : Fin 16384) (h : Fin 8) (n : Fin 128) :
    scA H k (ix3 R h n) = ∑ d : Fin 128, H (ix3 R h d) * k (ix3 0 n d) := by
  unfold scA
  pointwise

theorem sc1_apply (x : FVec Ideal S1024x16384 .bf16) (w : FVec Ideal S2048x1024 .bf16) (k : FVec Ideal S1x128x128 .f32) (R : Fin 16384) (h : Fin 8) (n : Fin 128) :
    scA (half1A (qA x w)) k (ix3 R h n) = score1 (fun j => x (ix2 j R)) (fun q j => w (ix2 q j)) (fun n d => k (ix3 0 n d)) h n := by
  rw [scA_apply]
  unfold score1 dots
  refine Finset.sum_congr rfl fun d _ => ?_
  rw [mul_comm, half1A_apply, qA_apply]
  exact congrArg (k (ix3 0 n d) * ·) (Finset.sum_congr rfl fun j _ => mul_comm _ _)

theorem sc2_apply (x : FVec Ideal S1024x16384 .bf16) (w : FVec Ideal S2048x1024 .bf16) (k : FVec Ideal S1x128x128 .f32) (R : Fin 16384) (h : Fin 8) (n : Fin 128) :
    scA (halfA (qA x w)) k (ix3 R h n) = score (fun j => x (ix2 j R)) (fun q j => w (ix2 q j)) (fun n d => k (ix3 0 n d)) h n := by
  rw [scA_apply]
  unfold score dots
  refine Finset.sum_congr rfl fun d _ => ?_
  rw [mul_comm, halfA_apply, qA_apply]
  exact congrArg (k (ix3 0 n d) * ·) (Finset.sum_congr rfl fun j _ => mul_comm _ _)

/-- A token's scores for one head. -/
abbrev ls (S : FVec Ideal S16384x8x128 .f32) (R : Fin 16384) (h : Fin 8) : List EReal := List.ofFn fun n : Fin 128 => S (ix3 R h n)

/-- The top 16 of the scores. -/
def t16A (S : FVec Ideal S16384x8x128 .f32) : FVec Ideal S16384x8x16 .f32 :=
  (Host.topK S16384x8x16 2 (FloatOps.cmpfTotal (F := Ideal) (φ := .f32) .gt) S sliceFits_S16384x8x128_S16384x8x16).1

theorem t16A_apply (S : FVec Ideal S16384x8x128 .f32) (R : Fin 16384) (h : Fin 8) (j : Fin 16) : t16A S (ix3 R h j) = tops (ls S R h) j.val :=
  eq_of_forall_le_iff fun θ => (le_topK S sliceFits_S16384x8x128_S16384x8x16 R h j (by decide) θ).trans (le_tops (ls S R h) (by simp) j.val j.isLt θ).symm

/-- All sums of one of either top 16. -/
def pairA (V W : FVec Ideal S16384x8x16 .f32) : FVec Ideal S16384x8x16x16 .f32 :=
  addf (broadcastInDim S16384x8x16x16 ![0, 1, 2, 3] bcast_S16384x8x16x1_S16384x8x16x16_0_1_2_3 (broadcastInDim S16384x8x16x1 ![0, 1, 2] bcast_S16384x8x16_S16384x8x16x1_0_1_2 V))
    (broadcastInDim S16384x8x16x16 ![0, 1, 2, 3] bcast_S16384x8x1x16_S16384x8x16x16_0_1_2_3 (broadcastInDim S16384x8x1x16 ![0, 1, 3] bcast_S16384x8x16_S16384x8x1x16_0_1_3 W))

theorem pairA_apply (V W : FVec Ideal S16384x8x16 .f32) (R : Fin 16384) (h : Fin 8) (i j : Fin 16) : pairA V W (ix4 R h i j) = V (ix3 R h i) + W (ix3 R h j) := by
  unfold pairA
  pointwise

/-- The same in one row. -/
def candA (V W : FVec Ideal S16384x8x16 .f32) : FVec Ideal S16384x8x256 .f32 := shapeCast S16384x8x256 (pairA V W) shapeCasts_S16384x8x16x16_S16384x8x256

theorem candA_apply (V W : FVec Ideal S16384x8x16 .f32) (R : Fin 16384) (h : Fin 8) (k : Fin 256) :
    candA V W (ix3 R h k) = V (ix3 R h ⟨k.val / 16, by omega⟩) + W (ix3 R h ⟨k.val % 16, by omega⟩) := by
  rw [← pairA_apply]
  unfold candA
  pointwise

/-- The top 16 of the sums. -/
def topA (C : FVec Ideal S16384x8x256 .f32) : FVec Ideal S16384x8x16 .f32 :=
  (Host.topK S16384x8x16 2 (FloatOps.cmpfTotal (F := Ideal) (φ := .f32) .gt) C sliceFits_S16384x8x256_S16384x8x16).1

theorem topA_apply (S1 S2 : FVec Ideal S16384x8x128 .f32) (R : Fin 16384) (h : Fin 8) (j : Fin 16) :
    topA (candA (t16A S1) (t16A S2)) (ix3 R h j) = sums (top max min 7 (ls S1 R h)) (top max min 7 (ls S2 R h)) j.val := by
  have d1 := desc_top (ls S1 R h) (by simp)
  have d2 := desc_top (ls S2 R h) (by simp)
  refine eq_of_forall_le_iff fun θ => (le_topK _ sliceFits_S16384x8x256_S16384x8x16 R h j (by decide) θ).trans ?_
  rw [le_sums _ _ d1.anti d2.anti j.val j.isLt θ]
  have e : (List.ofFn fun k : Fin 256 => (candA (t16A S1) (t16A S2) (ix3 R h k) : EReal))
      = full.map fun p => (top max min 7 (ls S1 R h)).getD p.1 ⊥ + (top max min 7 (ls S2 R h)).getD p.2 ⊥ := by
    have ef : full = List.ofFn (fun k : Fin 256 => (k.val / 16, k.val % 16)) := by decide +kernel
    rw [ef, List.map_ofFn]
    refine congrArg _ (funext fun k => ?_)
    rw [candA_apply, t16A_apply, t16A_apply]
    rfl
  rw [e, List.countP_map]
  rfl

/-- The sum of exponentials. -/
def zA (T : FVec Ideal S16384x8x16 .f32) : FVec Ideal S16384x8x1 .f32 :=
  addf (broadcastInDim S16384x8x1 ![] bcast_S_S16384x8x1 (constant S_ .f32 0x3F800000#32)) (broadcastInDim S16384x8x1 ![0, 1] bcast_S16384x8_S16384x8x1_0_1
    (Host.reduceAdd (Host.exp (subf (extractStridedSlice S16384x8x15 ![0, 0, 1] T slices_S16384x8x16_S16384x8x15_0_0_1)
      (broadcastInDim S16384x8x15 ![0, 1, 2] bcast_S16384x8x1_S16384x8x15_0_1_2 (extractStridedSlice S16384x8x1 ![0, 0, 0] T slices_S16384x8x16_S16384x8x1_0_0_0))))
      (constant S_ .f32 0x00000000#32) reducesTo_S16384x8x15_S16384x8_d2 h_S_))

theorem zA_apply (T : FVec Ideal S16384x8x16 .f32) (R : Fin 16384) (h : Fin 8) :
    zA T (ix3 R h 0) = oneE + ∑ k : Fin 15, Ideal.exp (T (ix3 R h ⟨k.val + 1, by omega⟩) - T (ix3 R h 0)) := by
  unfold zA
  pointwise
  refine congrArg (1 + ·) (Finset.sum_congr rfl fun k _ => ?_)
  simp only [Nat.add_comm 1]

/-- The weights. -/
def c1A (S : FVec Ideal S16384x8x128 .f32) (V T : FVec Ideal S16384x8x16 .f32) : FVec Ideal S16384x8x128 .f32 :=
  mulf (Host.exp (subf S (broadcastInDim S16384x8x128 ![0, 1, 2] bcast_S16384x8x1_S16384x8x128_0_1_2 (extractStridedSlice S16384x8x1 ![0, 0, 0] V slices_S16384x8x16_S16384x8x1_0_0_0))))
    (broadcastInDim S16384x8x128 ![0, 1, 2] bcast_S16384x8x1_S16384x8x128_0_1_2 (Host.divf (broadcastInDim S16384x8x1 ![] bcast_S_S16384x8x1 (constant S_ .f32 0x3F000000#32)) (zA T)))

theorem c1A_apply (S : FVec Ideal S16384x8x128 .f32) (V T : FVec Ideal S16384x8x16 .f32) (R : Fin 16384) (h : Fin 8) (n : Fin 128) :
    c1A S V T (ix3 R h n) = Ideal.exp (S (ix3 R h n) - V (ix3 R h 0)) * Ideal.div halfE (zA T (ix3 R h 0)) := by
  unfold c1A
  pointwise

theorem c1_out (S1 S2 : FVec Ideal S16384x8x128 .f32) (R : Fin 16384) (h : Fin 8) (n : Fin 128) :
    c1A S1 (t16A S1) (topA (candA (t16A S1) (t16A S2))) (ix3 R h n) = c1O (ls S1 R h) (ls S2 R h) (S1 (ix3 R h n)) := by
  rw [c1A_apply, zA_apply]
  simp only [t16A_apply, topA_apply]
  rfl

/-- The minimum along the last of four axes. -/
theorem minLast {n0 n1 n2 n3 : ℕ} (L : (⟨4, ![n0, n1, n2, n3]⟩ : Shape).Idx → EReal) (init : S_.Idx → EReal)
    (h : (⟨4, ![n0, n1, n2, n3]⟩ : Shape).ReducesTo [3] ⟨3, ![n0, n1, n2]⟩) (hu : 0 < S_.numel) (a : Fin n0) (b : Fin n1) (c : Fin n2) :
    Host.reduce (FloatOps.minimumf (F := Ideal) (φ := .f32)) L init h hu (ix3 a b c)
      = Finset.univ.fold min (init (Shape.Idx.first hu)) (fun k : Fin n3 => L (ix4 a b c k)) := by
  pointwise

/-- The minimum along the third of four axes. -/
theorem minMid {n0 n1 n2 n3 : ℕ} (L : (⟨4, ![n0, n1, n2, n3]⟩ : Shape).Idx → EReal) (init : S_.Idx → EReal)
    (h : (⟨4, ![n0, n1, n2, n3]⟩ : Shape).ReducesTo [2] ⟨3, ![n0, n1, n3]⟩) (hu : 0 < S_.numel) (a : Fin n0) (b : Fin n1) (c : Fin n3) :
    Host.reduce (FloatOps.minimumf (F := Ideal) (φ := .f32)) L init h hu (ix3 a b c)
      = Finset.univ.fold min (init (Shape.Idx.first hu)) (fun k : Fin n2 => L (ix4 a b k c)) := by
  pointwise

/-- What the inner minimum is of. -/
def needInA (V W T : FVec Ideal S16384x8x16 .f32) : FVec Ideal S16384x8x16x16 .f32 :=
  select (cmpf .oge (pairA V W) (broadcastInDim S16384x8x16x16 ![0, 1, 2, 3] bcast_S16384x8x1x1_S16384x8x16x16_0_1_2_3 (broadcastInDim S16384x8x1x1 ![0, 1, 2] bcast_S16384x8x1_S16384x8x1x1_0_1_2
      (extractStridedSlice S16384x8x1 ![0, 0, 15] T slices_S16384x8x16_S16384x8x1_0_0_15))))
    (broadcastInDim S16384x8x16x16 ![0, 1, 2, 3] bcast_S16384x8x16x1_S16384x8x16x16_0_1_2_3 (broadcastInDim S16384x8x16x1 ![0, 1, 2] bcast_S16384x8x16_S16384x8x16x1_0_1_2 V))
    (broadcastInDim S16384x8x16x16 ![] bcast_S_S16384x8x16x16 (constant S_ .f32 0x7F800000#32))

theorem needInA_apply (V W T : FVec Ideal S16384x8x16 .f32) (R : Fin 16384) (h : Fin 8) (i j : Fin 16) :
    needInA V W T (ix4 R h i j) = if T (ix3 R h 15) ≤ pairA V W (ix4 R h i j) then V (ix3 R h i) else infE := by
  unfold needInA
  pointwise <;> rfl

/-- The least of the first keys' top 16 that goes with each of the second keys'. -/
def needA (V W T : FVec Ideal S16384x8x16 .f32) : FVec Ideal S16384x8x16 .f32 :=
  Host.reduce (FloatOps.minimumf (F := Ideal) (φ := .f32)) (needInA V W T) (constant S_ .f32 0x7F800000#32) reducesTo_S16384x8x16x16_S16384x8x16_d2 h_S_

theorem needA_apply (S1 S2 : FVec Ideal S16384x8x128 .f32) (T : FVec Ideal S16384x8x16 .f32) (R : Fin 16384) (h : Fin 8) (j : Fin 16) :
    needA (t16A S1) (t16A S2) T (ix3 R h j) = needL (top max min 7 (ls S1 R h)) (T (ix3 R h 15)) ((top max min 7 (ls S2 R h)).getD j.val ⊥) := by
  have d1 := desc_top (ls S1 R h) (by simp)
  have e : needA (t16A S1) (t16A S2) T (ix3 R h j) = Finset.univ.fold min infE (fun k : Fin 16 => needInA (t16A S1) (t16A S2) T (ix4 R h k j)) :=
    minMid (n0 := 16384) (n1 := 8) (n2 := 16) (n3 := 16) _ _ _ _ R h j
  rw [e]
  refine eq_of_forall_le_iff fun θ => ?_
  rw [Finset.le_fold_min, le_needL d1, infE_eq]
  simp only [needInA_apply, pairA_apply, t16A_apply, infE_eq, Finset.mem_univ, true_imp_iff, _root_.le_top, true_and]
  refine forall_congr' fun i => ?_
  show _ ↔ (T (ix3 R h 15) ≤ tops (ls S1 R h) i.val + tops (ls S2 R h) j.val → θ ≤ tops (ls S1 R h) i.val)
  split_ifs with hc
  · exact ⟨fun h _ => h, fun h => h hc⟩
  · exact ⟨fun _ h => absurd h hc, fun _ => _root_.le_top⟩

/-- The exponentials of the second keys' top 16. -/
def p2A (W : FVec Ideal S16384x8x16 .f32) : FVec Ideal S16384x8x16 .f32 :=
  Host.exp (subf W (broadcastInDim S16384x8x16 ![0, 1, 2] bcast_S16384x8x1_S16384x8x16_0_1_2 (extractStridedSlice S16384x8x1 ![0, 0, 0] W slices_S16384x8x16_S16384x8x1_0_0_0)))

theorem p2A_apply (W : FVec Ideal S16384x8x16 .f32) (R : Fin 16384) (h : Fin 8) (j : Fin 16) : p2A W (ix3 R h j) = Ideal.exp (W (ix3 R h j) - W (ix3 R h 0)) := by
  unfold p2A
  pointwise

/-- What the outer minimum is of. -/
def thrInA (S : FVec Ideal S16384x8x128 .f32) (N P : FVec Ideal S16384x8x16 .f32) : FVec Ideal S16384x8x128x16 .f32 :=
  select (cmpf .oge (broadcastInDim S16384x8x128x16 ![0, 1, 2, 3] bcast_S16384x8x128x1_S16384x8x128x16_0_1_2_3 (broadcastInDim S16384x8x128x1 ![0, 1, 2] bcast_S16384x8x128_S16384x8x128x1_0_1_2 S))
      (broadcastInDim S16384x8x128x16 ![0, 1, 2, 3] bcast_S16384x8x1x16_S16384x8x128x16_0_1_2_3 (broadcastInDim S16384x8x1x16 ![0, 1, 3] bcast_S16384x8x16_S16384x8x1x16_0_1_3 N)))
    (broadcastInDim S16384x8x128x16 ![0, 1, 2, 3] bcast_S16384x8x1x16_S16384x8x128x16_0_1_2_3 (broadcastInDim S16384x8x1x16 ![0, 1, 3] bcast_S16384x8x16_S16384x8x1x16_0_1_3 P))
    (broadcastInDim S16384x8x128x16 ![] bcast_S_S16384x8x128x16 (constant S_ .f32 0x40000000#32))

theorem thrInA_apply (S : FVec Ideal S16384x8x128 .f32) (N P : FVec Ideal S16384x8x16 .f32) (R : Fin 16384) (h : Fin 8) (n : Fin 128) (j : Fin 16) :
    thrInA S N P (ix4 R h n j) = if N (ix3 R h j) ≤ S (ix3 R h n) then P (ix3 R h j) else twoE := by
  unfold thrInA
  pointwise <;> rfl

/-- The thresholds. -/
def thrA (S : FVec Ideal S16384x8x128 .f32) (N P : FVec Ideal S16384x8x16 .f32) : FVec Ideal S16384x8x128 .f32 :=
  Host.reduce (FloatOps.minimumf (F := Ideal) (φ := .f32)) (thrInA S N P) (constant S_ .f32 0x7F800000#32) reducesTo_S16384x8x128x16_S16384x8x128_d3 h_S_

theorem thr_out (S1 S2 : FVec Ideal S16384x8x128 .f32) (R : Fin 16384) (h : Fin 8) (n : Fin 128) :
    thrA S1 (needA (t16A S1) (t16A S2) (topA (candA (t16A S1) (t16A S2)))) (p2A (t16A S2)) (ix3 R h n) = thrO (ls S1 R h) (ls S2 R h) (S1 (ix3 R h n)) := by
  have d2 := desc_top (ls S2 R h) (by simp)
  have e : ∀ N P : FVec Ideal S16384x8x16 .f32, thrA S1 N P (ix3 R h n) = Finset.univ.fold min infE (fun k : Fin 16 => thrInA S1 N P (ix4 R h n k)) :=
    fun N P => minLast (n0 := 16384) (n1 := 8) (n2 := 128) (n3 := 16) _ _ _ _ R h n
  rw [e]
  refine eq_of_forall_le_iff fun θ => ?_
  unfold thrO
  rw [Finset.le_fold_min, le_thrL d2, infE_eq]
  simp only [thrInA_apply, needA_apply, p2A_apply, topA_apply, Finset.mem_univ, true_imp_iff, _root_.le_top, true_and]
  have et : ∀ j : Fin 16, t16A S2 (ix3 R h j) = (top max min 7 (ls S2 R h)).getD j.val ⊥ := fun j => t16A_apply S2 R h j
  have e15 : (15 : Fin 16).val = 15 := rfl
  have e00 : (0 : Fin 16).val = 0 := rfl
  simp only [et, e15, e00]
  have h2 : ∀ j : Fin 16, Ideal.exp ((top max min 7 (ls S2 R h)).getD j.val ⊥ - (top max min 7 (ls S2 R h)).getD 0 ⊥) ≤ twoE := fun j => exp_sub_le_two (d2.anti 0 j.val (Nat.zero_le _) j.isLt)
  constructor
  · intro H
    constructor
    · have H0 := H 0
      split_ifs at H0 with hc
      · exact H0.trans (h2 0)
      · exact H0
    · intro j hj
      have Hj := H j
      rwa [if_pos hj] at Hj
  · rintro ⟨Ht, H⟩ j
    split_ifs with hc
    · exact H j hc
    · exact Ht

/-- The layout of the results: slab, key and head, token. -/
def slabA (x : FVec Ideal S16384x8x128 .f32) : FVec Ideal S128x1024x128 .f32 :=
  shapeCast S128x1024x128 (transpose S128x128x8x128 [0, 3, 2, 1] (shapeCast S128x128x8x128 x shapeCasts_S16384x8x128_S128x128x8x128) transposes_S128x128x8x128_S128x128x8x128_0_3_2_1) shapeCasts_S128x128x8x128_S128x1024x128

theorem slabA_apply (x : FVec Ideal S16384x8x128 .f32) (a : Fin 128) (p : Fin 1024) (l : Fin 128) : slabA x (ix3 a p l) = x (ix3 (tk a l) (hd p) (kn p)) := by
  unfold slabA
  pointwise
  refine congrArg x ?_
  funext d
  apply Fin.ext
  match d with
  | ⟨0, _⟩ => show a.val * 128 + l.val = 128 * a.val + l.val; omega
  | ⟨1, _⟩ => rfl
  | ⟨2, _⟩ => rfl

/-- The layout of the top 16. -/
def slab16A (x : FVec Ideal S16384x8x16 .f32) : FVec Ideal S128x128x128 .f32 :=
  shapeCast S128x128x128 (transpose S128x16x8x128 [0, 3, 2, 1] (shapeCast S128x128x8x16 x shapeCasts_S16384x8x16_S128x128x8x16) transposes_S128x128x8x16_S128x16x8x128_0_3_2_1) shapeCasts_S128x16x8x128_S128x128x128

theorem slab16A_apply (x : FVec Ideal S16384x8x16 .f32) (a : Fin 128) (p : Fin 128) (l : Fin 128) : slab16A x (ix3 a p l) = x (ix3 (tk a l) (hd p) ⟨p.val / 8, by have := p.isLt; omega⟩) := by
  unfold slab16A
  pointwise
  refine congrArg x ?_
  funext d
  apply Fin.ext
  match d with
  | ⟨0, _⟩ => show a.val * 128 + l.val = 128 * a.val + l.val; omega
  | ⟨1, _⟩ => rfl
  | ⟨2, _⟩ => rfl

/-- The thresholds, as returned. -/
def outThr (x : FVec Ideal S1024x16384 .bf16) (w : FVec Ideal S2048x1024 .bf16) (k1 k2 : FVec Ideal S1x128x128 .f32) : FVec Ideal S128x1024x128 .f32 :=
  slabA (thrA (scA (half1A (qA x w)) k1) (needA (t16A (scA (half1A (qA x w)) k1)) (t16A (scA (halfA (qA x w)) k2)) (topA (candA (t16A (scA (half1A (qA x w)) k1)) (t16A (scA (halfA (qA x w)) k2))))) (p2A (t16A (scA (halfA (qA x w)) k2))))

/-- The weights, as returned. -/
def outC1 (x : FVec Ideal S1024x16384 .bf16) (w : FVec Ideal S2048x1024 .bf16) (k1 k2 : FVec Ideal S1x128x128 .f32) : FVec Ideal S128x1024x128 .f32 :=
  slabA (c1A (scA (half1A (qA x w)) k1) (t16A (scA (half1A (qA x w)) k1)) (topA (candA (t16A (scA (half1A (qA x w)) k1)) (t16A (scA (halfA (qA x w)) k2)))))

/-- The second keys' top 16, as returned. -/
def outV2 (x : FVec Ideal S1024x16384 .bf16) (w : FVec Ideal S2048x1024 .bf16) (k2 : FVec Ideal S1x128x128 .f32) : FVec Ideal S128x128x128 .f32 := slab16A (t16A (scA (halfA (qA x w)) k2))

theorem outThr_apply (x : FVec Ideal S1024x16384 .bf16) (w : FVec Ideal S2048x1024 .bf16) (k1 k2 : FVec Ideal S1x128x128 .f32) (a : Fin 128) (p : Fin 1024) (l : Fin 128) :
    outThr x w k1 k2 (ix3 a p l) = thrO (List.ofFn fun n => score1 (fun j => x (ix2 j (tk a l))) (fun q j => w (ix2 q j)) (fun n d => k1 (ix3 0 n d)) (hd p) n)
      (List.ofFn fun n => score (fun j => x (ix2 j (tk a l))) (fun q j => w (ix2 q j)) (fun n d => k2 (ix3 0 n d)) (hd p) n)
      (score1 (fun j => x (ix2 j (tk a l))) (fun q j => w (ix2 q j)) (fun n d => k1 (ix3 0 n d)) (hd p) (kn p)) := by
  unfold outThr
  rw [slabA_apply, thr_out]
  unfold ls
  simp only [sc1_apply, sc2_apply]

theorem outC1_apply (x : FVec Ideal S1024x16384 .bf16) (w : FVec Ideal S2048x1024 .bf16) (k1 k2 : FVec Ideal S1x128x128 .f32) (a : Fin 128) (p : Fin 1024) (l : Fin 128) :
    outC1 x w k1 k2 (ix3 a p l) = c1O (List.ofFn fun n => score1 (fun j => x (ix2 j (tk a l))) (fun q j => w (ix2 q j)) (fun n d => k1 (ix3 0 n d)) (hd p) n)
      (List.ofFn fun n => score (fun j => x (ix2 j (tk a l))) (fun q j => w (ix2 q j)) (fun n d => k2 (ix3 0 n d)) (hd p) n)
      (score1 (fun j => x (ix2 j (tk a l))) (fun q j => w (ix2 q j)) (fun n d => k1 (ix3 0 n d)) (hd p) (kn p)) := by
  unfold outC1
  rw [slabA_apply, c1_out]
  unfold ls
  simp only [sc1_apply, sc2_apply]

theorem outV2_apply (x : FVec Ideal S1024x16384 .bf16) (w : FVec Ideal S2048x1024 .bf16) (k2 : FVec Ideal S1x128x128 .f32) (a : Fin 128) (p : Fin 128) (l : Fin 128) :
    outV2 x w k2 (ix3 a p l) = tops (List.ofFn fun n => score (fun j => x (ix2 j (tk a l))) (fun q j => w (ix2 q j)) (fun n d => k2 (ix3 0 n d)) (hd p) n) (p.val / 8) := by
  unfold outV2
  rw [slab16A_apply, t16A_apply]
  unfold ls
  simp only [sc2_apply]

end Cert.Reference4Ideal.Body

end
-- ==== Proof.RtValue.lean ====
/- The routing's value: what the kernel writes is what the reference returns. -/
module

public import proofs.«01_k».proof.Defs
public import proofs.«01_k».proof.Proof.RtArr
public import proofs.«01_k».proof.Proof.RtRefTop
public import proofs.«01_k».proof.Proof.Gen.Reference4Ideal.Run

@[expose] public section

set_option maxRecDepth 16384

noncomputable section

namespace Cert.RtValue

open Idealize.ShloMosaic Idealize.ShloMosaic.TcCoe Idealize.ShloMosaic.Tactic

section Kernel
open Cert.Kernel4Ideal Cert.Kernel4Ideal.Gen Cert.Kernel4Ideal.Body

set_option maxHeartbeats 2000000 in
/-- What the kernel's run ends with. -/
theorem kernel_run (m : (ℓ : Loc nD τ Cert.Kernel4Ideal.sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4_0) = arr4 m c
      ∧ r.2.mem ((c.tc : Thread nD τ).loc main_v4_1) = arr5 m c
      ∧ r.2.mem ((c.tc : Thread nD τ).loc main_v4_2) = arr6 m c
      ∧ r.2.mem ((c.tc : Thread nD τ).loc main_v4_3) = arr7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.Kernel4Ideal.Value.run_blocks (F := Ideal) m g)
  obtain ⟨a4, a5, a6, a7, rest⟩ := h c
  exact ⟨a4.trans (final4 m c), a5.trans (final5 m c), a6.trans (final6 m c), a7.trans (final7 m c), rest⟩

end Kernel

section Reference
open Cert.Reference4Ideal Cert.Reference4Ideal.Gen Cert.Reference4Ideal.Body

set_option backward.isDefEq.respectTransparency false in
theorem outThr_eq (m : (ℓ : Loc nD τ Cert.Reference4Ideal.sig) → Buf (Elt Ideal) ℓ) (c : Dev nD) : Cert.Reference4Ideal.Value.res_out0 (F := Ideal) m c = outThr (m ((c.tc : Thread nD τ).loc main_arg0)) (m ((c.tc : Thread nD τ).loc main_arg1)) (m ((c.tc : Thread nD τ).loc main_arg2)) (m ((c.tc : Thread nD τ).loc main_arg3)) := by
  chain_rfl

set_option backward.isDefEq.respectTransparency false in
theorem outC1_eq (m : (ℓ : Loc nD τ Cert.Reference4Ideal.sig) → Buf (Elt Ideal) ℓ) (c : Dev nD) : Cert.Reference4Ideal.Value.res_out1 (F := Ideal) m c = outC1 (m ((c.tc : Thread nD τ).loc main_arg0)) (m ((c.tc : Thread nD τ).loc main_arg1)) (m ((c.tc : Thread nD τ).loc main_arg2)) (m ((c.tc : Thread nD τ).loc main_arg3)) := by
  chain_rfl

set_option maxHeartbeats 2000000 in
/-- What the reference's run ends with. -/
theorem reference_run (m : (ℓ : Loc nD τ Cert.Reference4Ideal.sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v61) = outThr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v64) = outC1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v67) = outV2 (m ((c.tc : Thread nD τ).loc main_arg0)) (m ((c.tc : Thread nD τ).loc main_arg1)) (m ((c.tc : Thread nD τ).loc main_arg3))
      ∧ r.2.mem ((c.tc : Thread nD τ).loc main_v68) = outA (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.Reference4Ideal.Value.run (F := Ideal) m g)
  obtain ⟨a0, a1, a2, a3, rest⟩ := h c
  exact ⟨a0.trans (outThr_eq m c), a1.trans (outC1_eq m c), a2.trans rfl, a3.trans rfl, rest⟩

end Reference

open Cert.Kernel4Ideal Cert.Kernel4Ideal.Gen Cert.Kernel4Ideal.Body
open Cert.Reference4Ideal.Body (outA outA_apply outThr outThr_apply outC1 outC1_apply outV2 outV2_apply)

section eqs
variable (m : (ℓ : Loc nD τ Cert.Kernel4Ideal.sig) → Buf (Elt Ideal) ℓ) (c : Dev nD)

theorem eq4 : outThr (m ((c.tc : Thread nD τ).loc main_arg0)) (m ((c.tc : Thread nD τ).loc main_arg1)) (m ((c.tc : Thread nD τ).loc main_arg2)) (m ((c.tc : Thread nD τ).loc main_arg3)) = arr4 m c := by
  funext j
  obtain ⟨a, p, l, rfl⟩ : ∃ (a : Fin 128) (b : Fin 1024) (d : Fin 128), j = ix3 a b d := ⟨j 0, j 1, j 2, eq_ix3 j⟩
  exact outThr_apply _ _ _ _ a p l

theorem eq5 : outC1 (m ((c.tc : Thread nD τ).loc main_arg0)) (m ((c.tc : Thread nD τ).loc main_arg1)) (m ((c.tc : Thread nD τ).loc main_arg2)) (m ((c.tc : Thread nD τ).loc main_arg3)) = arr5 m c := by
  funext j
  obtain ⟨a, p, l, rfl⟩ : ∃ (a : Fin 128) (b : Fin 1024) (d : Fin 128), j = ix3 a b d := ⟨j 0, j 1, j 2, eq_ix3 j⟩
  exact outC1_apply _ _ _ _ a p l

theorem eq6 : outV2 (m ((c.tc : Thread nD τ).loc main_arg0)) (m ((c.tc : Thread nD τ).loc main_arg1)) (m ((c.tc : Thread nD τ).loc main_arg3)) = arr6 m c := by
  funext j
  obtain ⟨a, p, l, rfl⟩ : ∃ (a : Fin 128) (b : Fin 128) (d : Fin 128), j = ix3 a b d := ⟨j 0, j 1, j 2, eq_ix3 j⟩
  exact outV2_apply _ _ _ a p l

theorem eq7 : outA (m ((c.tc : Thread nD τ).loc main_arg0)) (m ((c.tc : Thread nD τ).loc main_arg1)) (m ((c.tc : Thread nD τ).loc main_arg3)) = arr7 m c := by
  funext j
  obtain ⟨h, n, R, rfl⟩ : ∃ (a : Fin 8) (b : Fin 128) (d : Fin 16384), j = ix3 a b d := ⟨j 0, j 1, j 2, eq_ix3 j⟩
  exact outA_apply _ _ _ h n R

end eqs

attribute [local instance] Cert.Kernel4Ideal.Gen.facts Cert.Reference4Ideal.Gen.facts

set_option maxHeartbeats 2000000 in
/-- The value claim. -/
theorem value : Cert.algebraic_Kernel4Ideal_Reference4Ideal := by
  intro m g m' g' _ hagree
  refine ⟨fun c => arr4 m c, fun c => arr5 m c, fun c => arr6 m c, fun c => arr7 m c, kernel_run m g, ?_⟩
  refine (θ_run Cert.Reference4Ideal.defs _ _).mono (fun r h c => ?_) (reference_run m' g')
  obtain ⟨a0, a1, a2, a3, rest⟩ := h c
  obtain ⟨e0, e1, e2, e3⟩ := hagree c
  rw [e0, e1, e2, e3] at a0 a1
  rw [e0, e1, e3] at a2 a3
  exact ⟨a0.trans (eq4 m c), a1.trans (eq5 m c), a2.trans (eq6 m c), a3.trans (eq7 m c), rest⟩

end Cert.RtValue

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_logits_finite
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.NatFrame
public import proofs.«01_k».proof.Proof.NatSame
public import proofs.«01_k».proof.Proof.NatValue
public import proofs.«01_k».proof.Proof.InSame
public import proofs.«01_k».proof.Proof.InValue
public import proofs.«01_k».proof.Proof.MixSame
public import proofs.«01_k».proof.Proof.MixValue
public import proofs.«01_k».proof.Proof.RtSame
public import proofs.«01_k».proof.Proof.RtValue
public import Idealize.ShloMosaic.Adequacy
public import Idealize.ShloMosaic.Init

@[expose] public section

noncomputable section

namespace Cert.Proof

open Idealize.ShloMosaic Idealize.SL.Sem

theorem frame_kernelIdeal : Cert.quiescent_KernelIdeal (hKernelIdeal := Cert.KernelIdeal.Gen.facts) := fun m ρ _ =>
  Cert.KernelIdeal.Body.frame_any (F := Ideal) m ρ

theorem frame_referenceIdeal : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_kernelIdeal_pre : Cert.quiescent_KernelIdeal_pre_logits_finite (hKernelIdeal := Cert.KernelIdeal.Gen.facts)
    (hPre_logits_finite := Cert.Pre_logits_finite.Gen.facts) := fun m ρ _ => Cert.KernelIdeal.Body.frame_any (F := Ideal) m ρ

theorem frame_referenceIdeal_pre : Cert.quiescent_ReferenceIdeal_pre_logits_finite (hReferenceIdeal := Cert.ReferenceIdeal.Gen.facts)
    (hPre_logits_finite := Cert.Pre_logits_finite.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_kernel2Ideal : Cert.quiescent_Kernel2Ideal (hKernel2Ideal := Cert.Kernel2Ideal.Gen.facts) := fun m ρ _ =>
  Cert.Kernel2Ideal.Gen.frame (F := Ideal) m ρ

theorem frame_reference2Ideal : Cert.quiescent_Reference2Ideal (hReference2Ideal := Cert.Reference2Ideal.Gen.facts) := fun m ρ _ =>
  (θ_run Cert.Reference2Ideal.defs _ _).mono (fun r h => ⟨fun c => (h c).2.2.2.2.2, Idealize.ShloMosaic.sem_eq_zero_of_no_sems (by decide) r.2⟩)
    (Cert.Reference2Ideal.Value.run (F := Ideal) m ρ)

theorem frame_kernel3Ideal : Cert.quiescent_Kernel3Ideal (hKernel3Ideal := Cert.Kernel3Ideal.Gen.facts) := fun m ρ _ =>
  Cert.Kernel3Ideal.Gen.frame (F := Ideal) m ρ

theorem frame_reference3Ideal : Cert.quiescent_Reference3Ideal (hReference3Ideal := Cert.Reference3Ideal.Gen.facts) := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

theorem frame_kernel4Ideal : Cert.quiescent_Kernel4Ideal (hKernel4Ideal := Cert.Kernel4Ideal.Gen.facts) := fun m ρ _ =>
  Cert.Kernel4Ideal.Gen.frame (F := Ideal) m ρ

theorem frame_reference4Ideal : Cert.quiescent_Reference4Ideal (hReference4Ideal := Cert.Reference4Ideal.Gen.facts) := fun m ρ _ =>
  (θ_run Cert.Reference4Ideal.defs _ _).mono (fun r h => ⟨fun c => (h c).2.2.2.2, Idealize.ShloMosaic.sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_logits_finite.Gen.facts,
  frame_kernel, frame_kernelIdeal, frame_kernelIdeal_pre, frame_referenceIdeal, frame_referenceIdeal_pre,
  frame_kernel2, frame_kernel2Ideal, frame_reference2Ideal, frame_kernel3, frame_kernel3Ideal, frame_reference3Ideal,
  frame_kernel4, frame_kernel4Ideal, frame_reference4Ideal,
  trivial, NatValue.value, trivial, InValue.value, trivial, MixValue.value, trivial, RtValue.value⟩

end Cert.Proof

end
